-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S4x2048x8 : Shape := ⟨3, ![4, 2048, 8]⟩
abbrev S8x1024x128 : Shape := ⟨3, ![8, 1024, 128]⟩
abbrev S_ : Shape := ⟨0, ![]⟩

class Facts : Prop where
  bcast_S_S4x2048x8 : S_.BroadcastsInDim S4x2048x8 (![] : Fin 0 → Fin S4x2048x8.rank)

variable [Facts]

def fn {F : FTy → Type} [FloatOps F] (main_arg0 : IVec S4x2048x8 32) (main_arg1 : FVec F S8x1024x128 .f32) : IVec S4x2048x8 1 :=
  let main_c : IVec S_ 32 := constantI S_ 32 0#32
  let main_v0 : IVec S4x2048x8 32 := broadcastInDim S4x2048x8 ![] bcast_S_S4x2048x8 main_c
  let main_v1 : IVec S4x2048x8 1 := cmpi .sge main_arg0 main_v0
  let main_c_0 : IVec S_ 32 := constantI S_ 32 1024#32
  let main_v2 : IVec S4x2048x8 32 := broadcastInDim S4x2048x8 ![] bcast_S_S4x2048x8 main_c_0
  let main_v3 : IVec S4x2048x8 1 := cmpi .slt main_arg0 main_v2
  let main_v4 : IVec S4x2048x8 1 := andi main_v1 main_v3
  main_v4
-- ==== Kernel.lean ====
abbrev S4x2048x8 : Shape := ⟨3, ![4, 2048, 8]⟩
abbrev S8x1024x128 : Shape := ⟨3, ![8, 1024, 128]⟩
abbrev S8192x8 : Shape := ⟨2, ![8192, 8]⟩
abbrev S8x8192 : Shape := ⟨2, ![8, 8192]⟩
abbrev S_ : Shape := ⟨0, ![]⟩
abbrev S8x1024 : Shape := ⟨2, ![8, 1024]⟩
abbrev S8x1x1024 : Shape := ⟨3, ![8, 1, 1024]⟩
abbrev S1 : Shape := ⟨1, ![1]⟩
abbrev S2 : Shape := ⟨1, ![2]⟩
abbrev S1x1x1 : Shape := ⟨3, ![1, 1, 1]⟩
abbrev S8x2048 : Shape := ⟨2, ![8, 2048]⟩
abbrev S8x2048x1 : Shape := ⟨3, ![8, 2048, 1]⟩
abbrev S8 : Shape := ⟨1, ![8]⟩
abbrev S64x1x256 : Shape := ⟨3, ![64, 1, 256]⟩
abbrev S1x1x256 : Shape := ⟨3, ![1, 1, 256]⟩
abbrev S1x1x1024 : Shape := ⟨3, ![1, 1, 1024]⟩
abbrev S1x1024x128 : Shape := ⟨3, ![1, 1024, 128]⟩
abbrev S256 : Shape := ⟨1, ![256]⟩
abbrev S1024x128 : Shape := ⟨2, ![1024, 128]⟩
abbrev S1024 : Shape := ⟨1, ![1024]⟩
abbrev S256x1024 : Shape := ⟨2, ![256, 1024]⟩
abbrev S256x1 : Shape := ⟨2, ![256, 1]⟩
abbrev S256x128 : Shape := ⟨2, ![256, 128]⟩
abbrev S1x1024 : Shape := ⟨2, ![1, 1024]⟩
abbrev S8x1 : Shape := ⟨2, ![8, 1]⟩
abbrev S8x2048x2 : Shape := ⟨3, ![8, 2048, 2]⟩

abbrev nBuf : Space → Nat
  | .hbm => 360
  | .vmem => 10
  | .smem => 1
  | _ => 0

abbrev hbmTy0_0 (i : Nat) : BufTy := match i % 128 with
  | 0 => ⟨S4x2048x8, .i32⟩
  | 1 => ⟨S8x1024x128, .f32⟩
  | 2 => ⟨S8192x8, .i32⟩
  | 3 => ⟨S8x8192, .i32⟩
  | 4 => ⟨S8x1024x128, .f32⟩
  | 5 => ⟨S_, .f32⟩
  | 6 => ⟨S8x1024, .f32⟩
  | 7 => ⟨S8x1x1024, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1x1, .f32⟩
  | 23 => ⟨S1x1x1, .f32⟩
  | 24 => ⟨S1, .i32⟩
  | 25 => ⟨S_, .i32⟩
  | 26 => ⟨S1, .i32⟩
  | 27 => ⟨S_, .i32⟩
  | 28 => ⟨S4x2048x8, .i64⟩
  | 29 => ⟨S4x2048x8, .i64⟩
  | 30 => ⟨S4x2048x8, .i64⟩
  | 31 => ⟨S_, .i64⟩
  | 32 => ⟨S4x2048x8, .i64⟩
  | 33 => ⟨S4x2048x8, .i64⟩
  | 34 => ⟨S_, .i64⟩
  | 35 => ⟨S4x2048x8, .i64⟩
  | 36 => ⟨S4x2048x8, .i64⟩
  | 37 => ⟨S_, .i64⟩
  | 38 => ⟨S4x2048x8, .i64⟩
  | 39 => ⟨S4x2048x8, .i64⟩
  | 40 => ⟨S4x2048x8, .i64⟩
  | 41 => ⟨S4x2048x8, .i64⟩
  | 42 => ⟨S_, .i64⟩
  | 43 => ⟨S4x2048x8, .i64⟩
  | 44 => ⟨S4x2048x8, .i64⟩
  | 45 => ⟨S4x2048x8, .i32⟩
  | 46 => ⟨S4x2048x8, .i32⟩
  | 47 => ⟨S_, .i32⟩
  | 48 => ⟨S_, .i32⟩
  | 49 => ⟨S_, .i32⟩
  | 50 => ⟨S4x2048x8, .i32⟩
  | 51 => ⟨S4x2048x8, .i32⟩
  | 52 => ⟨S4x2048x8, .i32⟩
  | 53 => ⟨S4x2048x8, .i32⟩
  | 54 => ⟨S4x2048x8, .i32⟩
  | 55 => ⟨S_, .i32⟩
  | 56 => ⟨S4x2048x8, .i32⟩
  | 57 => ⟨S4x2048x8, .i32⟩
  | 58 => ⟨S_, .i32⟩
  | 59 => ⟨S4x2048x8, .i32⟩
  | 60 => ⟨S4x2048x8, .i32⟩
  | 61 => ⟨S4x2048x8, .i32⟩
  | 62 => ⟨S4x2048x8, .i32⟩
  | 63 => ⟨S4x2048x8, .i32⟩
  | 64 => ⟨S_, .i32⟩
  | 65 => ⟨S4x2048x8, .i32⟩
  | 66 => ⟨S4x2048x8, .i32⟩
  | 67 => ⟨S_, .i32⟩
  | 68 => ⟨S4x2048x8, .i32⟩
  | 69 => ⟨S4x2048x8, .i32⟩
  | 70 => ⟨S4x2048x8, .i32⟩
  | 71 => ⟨S4x2048x8, .i32⟩
  | 72 => ⟨S4x2048x8, .i32⟩
  | 73 => ⟨S_, .i32⟩
  | 74 => ⟨S4x2048x8, .i32⟩
  | 75 => ⟨S4x2048x8, .i32⟩
  | 76 => ⟨S_, .i32⟩
  | 77 => ⟨S4x2048x8, .i32⟩
  | 78 => ⟨S4x2048x8, .i32⟩
  | 79 => ⟨S4x2048x8, .i32⟩
  | 80 => ⟨S4x2048x8, .i32⟩
  | 81 => ⟨S4x2048x8, .i32⟩
  | 82 => ⟨S_, .i32⟩
  | 83 => ⟨S4x2048x8, .i32⟩
  | 84 => ⟨S4x2048x8, .i32⟩
  | 85 => ⟨S_, .i32⟩
  | 86 => ⟨S4x2048x8, .i32⟩
  | 87 => ⟨S4x2048x8, .i32⟩
  | 88 => ⟨S4x2048x8, .i32⟩
  | 89 => ⟨S4x2048x8, .i32⟩
  | 90 => ⟨S4x2048x8, .i32⟩
  | 91 => ⟨S4x2048x8, .i32⟩
  | 92 => ⟨S4x2048x8, .i32⟩
  | 93 => ⟨S4x2048x8, .i32⟩
  | 94 => ⟨S_, .i32⟩
  | 95 => ⟨S4x2048x8, .i32⟩
  | 96 => ⟨S4x2048x8, .i32⟩
  | 97 => ⟨S4x2048x8, .i32⟩
  | 98 => ⟨S_, .i32⟩
  | 99 => ⟨S4x2048x8, .i32⟩
  | 100 => ⟨S4x2048x8, .i32⟩
  | 101 => ⟨S_, .i32⟩
  | 102 => ⟨S4x2048x8, .i32⟩
  | 103 => ⟨S4x2048x8, .i32⟩
  | 104 => ⟨S4x2048x8, .i32⟩
  | 105 => ⟨S4x2048x8, .i32⟩
  | 106 => ⟨S4x2048x8, .i32⟩
  | 107 => ⟨S_, .i32⟩
  | 108 => ⟨S4x2048x8, .i32⟩
  | 109 => ⟨S4x2048x8, .i32⟩
  | 110 => ⟨S_, .i32⟩
  | 111 => ⟨S4x2048x8, .i32⟩
  | 112 => ⟨S4x2048x8, .i32⟩
  | 113 => ⟨S4x2048x8, .i32⟩
  | 114 => ⟨S4x2048x8, .i32⟩
  | 115 => ⟨S4x2048x8, .i32⟩
  | 116 => ⟨S_, .i32⟩
  | 117 => ⟨S4x2048x8, .i32⟩
  | 118 => ⟨S4x2048x8, .i32⟩
  | 119 => ⟨S_, .i32⟩
  | 120 => ⟨S4x2048x8, .i32⟩
  | 121 => ⟨S4x2048x8, .i32⟩
  | 122 => ⟨S4x2048x8, .i32⟩
  | 123 => ⟨S4x2048x8, .i32⟩
  | 124 => ⟨S4x2048x8, .i32⟩
  | 125 => ⟨S_, .i32⟩
  | 126 => ⟨S4x2048x8, .i32⟩
  | 127 => ⟨S4x2048x8, .i32⟩
  | _ => ⟨S4x2048x8, .i32⟩

abbrev hbmTy0_1 (i : Nat) : BufTy := match i % 128 with
  | 0 => ⟨S_, .i32⟩
  | 1 => ⟨S4x2048x8, .i32⟩
  | 2 => ⟨S4x2048x8, .i32⟩
  | 3 => ⟨S4x2048x8, .i32⟩
  | 4 => ⟨S4x2048x8, .i32⟩
  | 5 => ⟨S4x2048x8, .i32⟩
  | 6 => ⟨S4x2048x8, .i32⟩
  | 7 => ⟨S4x2048x8, .i32⟩
  | 8 => ⟨S4x2048x8, .i32⟩
  | 9 => ⟨S_, .i32⟩
  | 10 => ⟨S4x2048x8, .i32⟩
  | 11 => ⟨S4x2048x8, .i32⟩
  | 12 => ⟨S4x2048x8, .i32⟩
  | 13 => ⟨S_, .i32⟩
  | 14 => ⟨S4x2048x8, .i32⟩
  | 15 => ⟨S4x2048x8, .i32⟩
  | 16 => ⟨S_, .i32⟩
  | 17 => ⟨S4x2048x8, .i32⟩
  | 18 => ⟨S4x2048x8, .i32⟩
  | 19 => ⟨S4x2048x8, .i32⟩
  | 20 => ⟨S4x2048x8, .i32⟩
  | 21 => ⟨S4x2048x8, .i32⟩
  | 22 => ⟨S_, .i32⟩
  | 23 => ⟨S4x2048x8, .i32⟩
  | 24 => ⟨S4x2048x8, .i32⟩
  | 25 => ⟨S_, .i32⟩
  | 26 => ⟨S4x2048x8, .i32⟩
  | 27 => ⟨S4x2048x8, .i32⟩
  | 28 => ⟨S4x2048x8, .i32⟩
  | 29 => ⟨S4x2048x8, .i32⟩
  | 30 => ⟨S4x2048x8, .i32⟩
  | 31 => ⟨S_, .i32⟩
  | 32 => ⟨S4x2048x8, .i32⟩
  | 33 => ⟨S4x2048x8, .i32⟩
  | 34 => ⟨S_, .i32⟩
  | 35 => ⟨S4x2048x8, .i32⟩
  | 36 => ⟨S4x2048x8, .i32⟩
  | 37 => ⟨S4x2048x8, .i32⟩
  | 38 => ⟨S4x2048x8, .i32⟩
  | 39 => ⟨S4x2048x8, .i32⟩
  | 40 => ⟨S_, .i32⟩
  | 41 => ⟨S4x2048x8, .i32⟩
  | 42 => ⟨S4x2048x8, .i32⟩
  | 43 => ⟨S_, .i32⟩
  | 44 => ⟨S4x2048x8, .i32⟩
  | 45 => ⟨S4x2048x8, .i32⟩
  | 46 => ⟨S4x2048x8, .i32⟩
  | 47 => ⟨S4x2048x8, .i32⟩
  | 48 => ⟨S4x2048x8, .i32⟩
  | 49 => ⟨S4x2048x8, .i32⟩
  | 50 => ⟨S4x2048x8, .i32⟩
  | 51 => ⟨S4x2048x8, .i32⟩
  | 52 => ⟨S_, .i32⟩
  | 53 => ⟨S4x2048x8, .i32⟩
  | 54 => ⟨S4x2048x8, .i32⟩
  | 55 => ⟨S4x2048x8, .i32⟩
  | 56 => ⟨S_, .i32⟩
  | 57 => ⟨S4x2048x8, .i32⟩
  | 58 => ⟨S4x2048x8, .i32⟩
  | 59 => ⟨S_, .i32⟩
  | 60 => ⟨S4x2048x8, .i32⟩
  | 61 => ⟨S4x2048x8, .i32⟩
  | 62 => ⟨S4x2048x8, .i32⟩
  | 63 => ⟨S4x2048x8, .i32⟩
  | 64 => ⟨S4x2048x8, .i32⟩
  | 65 => ⟨S_, .i32⟩
  | 66 => ⟨S4x2048x8, .i32⟩
  | 67 => ⟨S4x2048x8, .i32⟩
  | 68 => ⟨S_, .i32⟩
  | 69 => ⟨S4x2048x8, .i32⟩
  | 70 => ⟨S4x2048x8, .i32⟩
  | 71 => ⟨S4x2048x8, .i32⟩
  | 72 => ⟨S4x2048x8, .i32⟩
  | 73 => ⟨S4x2048x8, .i32⟩
  | 74 => ⟨S_, .i32⟩
  | 75 => ⟨S4x2048x8, .i32⟩
  | 76 => ⟨S4x2048x8, .i32⟩
  | 77 => ⟨S_, .i32⟩
  | 78 => ⟨S4x2048x8, .i32⟩
  | 79 => ⟨S4x2048x8, .i32⟩
  | 80 => ⟨S4x2048x8, .i32⟩
  | 81 => ⟨S4x2048x8, .i32⟩
  | 82 => ⟨S4x2048x8, .i32⟩
  | 83 => ⟨S_, .i32⟩
  | 84 => ⟨S4x2048x8, .i32⟩
  | 85 => ⟨S4x2048x8, .i32⟩
  | 86 => ⟨S_, .i32⟩
  | 87 => ⟨S4x2048x8, .i32⟩
  | 88 => ⟨S4x2048x8, .i32⟩
  | 89 => ⟨S4x2048x8, .i32⟩
  | 90 => ⟨S4x2048x8, .i32⟩
  | 91 => ⟨S4x2048x8, .i32⟩
  | 92 => ⟨S4x2048x8, .i32⟩
  | 93 => ⟨S4x2048x8, .i32⟩
  | 94 => ⟨S4x2048x8, .i32⟩
  | 95 => ⟨S_, .i32⟩
  | 96 => ⟨S4x2048x8, .i32⟩
  | 97 => ⟨S4x2048x8, .i32⟩
  | 98 => ⟨S4x2048x8, .i32⟩
  | 99 => ⟨S_, .i32⟩
  | 100 => ⟨S4x2048x8, .i32⟩
  | 101 => ⟨S4x2048x8, .i32⟩
  | 102 => ⟨S_, .i32⟩
  | 103 => ⟨S4x2048x8, .i32⟩
  | 104 => ⟨S4x2048x8, .i32⟩
  | 105 => ⟨S4x2048x8, .i32⟩
  | 106 => ⟨S4x2048x8, .i32⟩
  | 107 => ⟨S4x2048x8, .i32⟩
  | 108 => ⟨S_, .i32⟩
  | 109 => ⟨S4x2048x8, .i32⟩
  | 110 => ⟨S4x2048x8, .i32⟩
  | 111 => ⟨S_, .i32⟩
  | 112 => ⟨S4x2048x8, .i32⟩
  | 113 => ⟨S4x2048x8, .i32⟩
  | 114 => ⟨S4x2048x8, .i32⟩
  | 115 => ⟨S4x2048x8, .i32⟩
  | 116 => ⟨S4x2048x8, .i32⟩
  | 117 => ⟨S_, .i32⟩
  | 118 => ⟨S4x2048x8, .i32⟩
  | 119 => ⟨S4x2048x8, .i32⟩
  | 120 => ⟨S_, .i32⟩
  | 121 => ⟨S4x2048x8, .i32⟩
  | 122 => ⟨S4x2048x8, .i32⟩
  | 123 => ⟨S4x2048x8, .i32⟩
  | 124 => ⟨S4x2048x8, .i32⟩
  | 125 => ⟨S4x2048x8, .i32⟩
  | 126 => ⟨S_, .i32⟩
  | 127 => ⟨S4x2048x8, .i32⟩
  | _ => ⟨S4x2048x8, .i32⟩

abbrev hbmTy0_2 (i : Nat) : BufTy := match i % 128 with
  | 0 => ⟨S4x2048x8, .i32⟩
  | 1 => ⟨S_, .i32⟩
  | 2 => ⟨S4x2048x8, .i32⟩
  | 3 => ⟨S4x2048x8, .i32⟩
  | 4 => ⟨S4x2048x8, .i32⟩
  | 5 => ⟨S4x2048x8, .i32⟩
  | 6 => ⟨S4x2048x8, .i32⟩
  | 7 => ⟨S4x2048x8, .i32⟩
  | 8 => ⟨S4x2048x8, .i32⟩
  | 9 => ⟨S4x2048x8, .i32⟩
  | 10 => ⟨S_, .i32⟩
  | 11 => ⟨S4x2048x8, .i32⟩
  | 12 => ⟨S4x2048x8, .i32⟩
  | 13 => ⟨S4x2048x8, .i32⟩
  | 14 => ⟨S_, .i32⟩
  | 15 => ⟨S4x2048x8, .i32⟩
  | 16 => ⟨S4x2048x8, .i32⟩
  | 17 => ⟨S_, .i32⟩
  | 18 => ⟨S4x2048x8, .i32⟩
  | 19 => ⟨S4x2048x8, .i32⟩
  | 20 => ⟨S4x2048x8, .f32⟩
  | 21 => ⟨S_, .f32⟩
  | 22 => ⟨S4x2048x8, .f32⟩
  | 23 => ⟨S4x2048x8, .f32⟩
  | 24 => ⟨S1x1x1, .f32⟩
  | 25 => ⟨S4x2048x8, .f32⟩
  | 26 => ⟨S4x2048x8, .f32⟩
  | 27 => ⟨S4x2048x8, .f32⟩
  | 28 => ⟨S4x2048x8, .f32⟩
  | 29 => ⟨S4x2048x8, .f32⟩
  | 30 => ⟨S4x2048x8, .f32⟩
  | 31 => ⟨S_, .f32⟩
  | 32 => ⟨S4x2048x8, .f32⟩
  | 33 => ⟨S4x2048x8, .i1⟩
  | 34 => ⟨S8192x8, .i1⟩
  | 35 => ⟨S8x8192, .i1⟩
  | 36 => ⟨S8x8192, .i32⟩
  | 37 => ⟨S_, .i32⟩
  | 38 => ⟨S8x8192, .i32⟩
  | 39 => ⟨S8x8192, .i32⟩
  | 40 => ⟨S8x8192, .i32⟩
  | 41 => ⟨S8x8192, .i32⟩
  | 42 => ⟨S8x2048, .i32⟩
  | 43 => ⟨S_, .i32⟩
  | 44 => ⟨S8x2048, .i32⟩
  | 45 => ⟨S8x2048, .i32⟩
  | 46 => ⟨S_, .i32⟩
  | 47 => ⟨S8x2048, .i32⟩
  | 48 => ⟨S8x2048, .i1⟩
  | 49 => ⟨S_, .i32⟩
  | 50 => ⟨S8x2048, .i32⟩
  | 51 => ⟨S8x2048, .i1⟩
  | 52 => ⟨S_, .i32⟩
  | 53 => ⟨S8x2048, .i32⟩
  | 54 => ⟨S8x2048, .i32⟩
  | 55 => ⟨S8x2048, .i32⟩
  | 56 => ⟨S8x2048x1, .i32⟩
  | 57 => ⟨S1, .i32⟩
  | 58 => ⟨S_, .i32⟩
  | 59 => ⟨S8x2048x1, .i32⟩
  | 60 => ⟨S8x2048x1, .i1⟩
  | 61 => ⟨S1x1x1, .i32⟩
  | 62 => ⟨S8x2048x1, .i32⟩
  | 63 => ⟨S8x2048x1, .i1⟩
  | 64 => ⟨S8x2048x1, .i1⟩
  | 65 => ⟨S_, .i1⟩
  | 66 => ⟨S8x2048, .i1⟩
  | 67 => ⟨S8x2048, .i32⟩
  | 68 => ⟨S_, .i32⟩
  | 69 => ⟨S8x2048, .i32⟩
  | 70 => ⟨S8x2048, .i32⟩
  | 71 => ⟨S8x8192, .i32⟩
  | 72 => ⟨S_, .i32⟩
  | 73 => ⟨S64x1x256, .i32⟩
  | 74 => ⟨S64x1x256, .i32⟩
  | 75 => ⟨S64x1x256, .i32⟩
  | 76 => ⟨S8x2048, .i32⟩
  | 77 => ⟨S_, .i32⟩
  | 78 => ⟨S_, .i32⟩
  | 79 => ⟨S8x2048, .i32⟩
  | 80 => ⟨S8x2048, .i32⟩
  | 81 => ⟨S8, .i32⟩
  | 82 => ⟨S8x1, .i32⟩
  | 83 => ⟨S_, .i32⟩
  | 84 => ⟨S8x1, .i32⟩
  | 85 => ⟨S8x1, .i1⟩
  | 86 => ⟨S_, .i32⟩
  | 87 => ⟨S8x1, .i32⟩
  | 88 => ⟨S8x1, .i32⟩
  | 89 => ⟨S8x1, .i32⟩
  | 90 => ⟨S_, .i32⟩
  | 91 => ⟨S8x2048, .i32⟩
  | 92 => ⟨S8x2048, .i1⟩
  | 93 => ⟨S_, .i32⟩
  | 94 => ⟨S8x2048, .i32⟩
  | 95 => ⟨S8x2048, .i32⟩
  | 96 => ⟨S8x2048, .i32⟩
  | 97 => ⟨S8x2048, .i32⟩
  | 98 => ⟨S8x2048x1, .i32⟩
  | 99 => ⟨S8x2048x1, .i32⟩
  | 100 => ⟨S8x2048x2, .i32⟩
  | 101 => ⟨S8x8192, .i32⟩
  | 102 => ⟨S8192x8, .i32⟩
  | 103 => ⟨S4x2048x8, .i32⟩
  | _ => ⟨S4x2048x8, .i32⟩

abbrev hbmTy (i : Nat) : BufTy := match i / 128 with
  | 0 => hbmTy0_0 i
  | 1 => hbmTy0_1 i
  | 2 => hbmTy0_2 i
  | _ => ⟨S4x2048x8, .i32⟩

abbrev bufTy : (tb : Table) → Fin (tcTables nBuf tb) → BufTy
  | .hbm, ⟨i, _⟩ => hbmTy i
  | .local _ .vmem, ⟨0, _⟩ => ⟨S1x1x256, .i32⟩
  | .local _ .vmem, ⟨1, _⟩ => ⟨S1x1x256, .i32⟩
  | .local _ .vmem, ⟨2, _⟩ => ⟨S1x1x256, .i32⟩
  | .local _ .vmem, ⟨3, _⟩ => ⟨S1x1x256, .i32⟩
  | .local _ .vmem, ⟨4, _⟩ => ⟨S1x1x1024, .f32⟩
  | .local _ .vmem, ⟨5, _⟩ => ⟨S1x1x1024, .f32⟩
  | .local _ .vmem, ⟨6, _⟩ => ⟨S1x1024x128, .f32⟩
  | .local _ .vmem, ⟨7, _⟩ => ⟨S1x1024x128, .f32⟩
  | .local _ .vmem, ⟨8, _⟩ => ⟨S1x1x256, .i32⟩
  | .local _ .vmem, ⟨9, _⟩ => ⟨S1x1x256, .i32⟩
  | .local _ .smem, ⟨0, _⟩ => ⟨S8, .i32⟩
  | _, _ => ⟨S4x2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c : Ref sig .tc := ⟨.hbm, 31, rfl⟩
abbrev main_call0_v11 : Ref sig .tc := ⟨.hbm, 32, rfl⟩
abbrev main_call0_v12 : Ref sig .tc := ⟨.hbm, 33, rfl⟩
abbrev main_call0_c_0 : Ref sig .tc := ⟨.hbm, 34, rfl⟩
abbrev main_call0_v13 : Ref sig .tc := ⟨.hbm, 35, rfl⟩
abbrev main_call0_v14 : Ref sig .tc := ⟨.hbm, 36, rfl⟩
abbrev main_call0_c_1 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_c_2 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_call0_v0 : Ref sig .tc := ⟨.hbm, 47, rfl⟩
abbrev main_call0_call0_c : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_c_0 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_c_1 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_v12 : Ref sig .tc := ⟨.hbm, 62, rfl⟩
abbrev main_call0_call0_v13 : Ref sig .tc := ⟨.hbm, 63, rfl⟩
abbrev main_call0_call0_c_2 : Ref sig .tc := ⟨.hbm, 64, rfl⟩
abbrev main_call0_call0_v14 : Ref sig .tc := ⟨.hbm, 65, rfl⟩
abbrev main_call0_call0_v15 : Ref sig .tc := ⟨.hbm, 66, rfl⟩
abbrev main_call0_call0_c_3 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_v18 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_c_4 : Ref sig .tc := ⟨.hbm, 73, rfl⟩
abbrev main_call0_call0_v21 : Ref sig .tc := ⟨.hbm, 74, rfl⟩
abbrev main_call0_call0_v22 : Ref sig .tc := ⟨.hbm, 75, rfl⟩
abbrev main_call0_call0_c_5 : Ref sig .tc := ⟨.hbm, 76, rfl⟩
abbrev main_call0_call0_v23 : Ref sig .tc := ⟨.hbm, 77, rfl⟩
abbrev main_call0_call0_v24 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_v27 : Ref sig .tc := ⟨.hbm, 81, rfl⟩
abbrev main_call0_call0_c_6 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_c_7 : Ref sig .tc := ⟨.hbm, 85, rfl⟩
abbrev main_call0_call0_v30 : Ref sig .tc := ⟨.hbm, 86, rfl⟩
abbrev main_call0_call0_v31 : Ref sig .tc := ⟨.hbm, 87, rfl⟩
abbrev main_call0_call0_v32 : Ref sig .tc := ⟨.hbm, 88, rfl⟩
abbrev main_call0_call0_v33 : Ref sig .tc := ⟨.hbm, 89, rfl⟩
abbrev main_call0_call0_v34 : Ref sig .tc := ⟨.hbm, 90, rfl⟩
abbrev main_call0_call0_v35 : Ref sig .tc := ⟨.hbm, 91, rfl⟩
abbrev main_call0_call0_v36 : Ref sig .tc := ⟨.hbm, 92, rfl⟩
abbrev main_call0_call0_v37 : Ref sig .tc := ⟨.hbm, 93, rfl⟩
abbrev main_call0_call0_c_8 : Ref sig .tc := ⟨.hbm, 94, rfl⟩
abbrev main_call0_call0_v38 : Ref sig .tc := ⟨.hbm, 95, rfl⟩
abbrev main_call0_call0_v39 : Ref sig .tc := ⟨.hbm, 96, rfl⟩
abbrev main_call0_call0_v40 : Ref sig .tc := ⟨.hbm, 97, rfl⟩
abbrev main_call0_call0_c_9 : Ref sig .tc := ⟨.hbm, 98, rfl⟩
abbrev main_call0_call0_v41 : Ref sig .tc := ⟨.hbm, 99, rfl⟩
abbrev main_call0_call0_v42 : Ref sig .tc := ⟨.hbm, 100, rfl⟩
abbrev main_call0_call0_c_10 : Ref sig .tc := ⟨.hbm, 101, rfl⟩
abbrev main_call0_call0_v43 : Ref sig .tc := ⟨.hbm, 102, rfl⟩
abbrev main_call0_call0_v44 : Ref sig .tc := ⟨.hbm, 103, rfl⟩
abbrev main_call0_call0_v45 : Ref sig .tc := ⟨.hbm, 104, rfl⟩
abbrev main_call0_call0_v46 : Ref sig .tc := ⟨.hbm, 105, rfl⟩
abbrev main_call0_call0_v47 : Ref sig .tc := ⟨.hbm, 106, rfl⟩
abbrev main_call0_call0_c_11 : Ref sig .tc := ⟨.hbm, 107, rfl⟩
abbrev main_call0_call0_v48 : Ref sig .tc := ⟨.hbm, 108, rfl⟩
abbrev main_call0_call0_v49 : Ref sig .tc := ⟨.hbm, 109, rfl⟩
abbrev main_call0_call0_c_12 : Ref sig .tc := ⟨.hbm, 110, rfl⟩
abbrev main_call0_call0_v50 : Ref sig .tc := ⟨.hbm, 111, rfl⟩
abbrev main_call0_call0_v51 : Ref sig .tc := ⟨.hbm, 112, rfl⟩
abbrev main_call0_call0_v52 : Ref sig .tc := ⟨.hbm, 113, rfl⟩
abbrev main_call0_call0_v53 : Ref sig .tc := ⟨.hbm, 114, rfl⟩
abbrev main_call0_call0_v54 : Ref sig .tc := ⟨.hbm, 115, rfl⟩
abbrev main_call0_call0_c_13 : Ref sig .tc := ⟨.hbm, 116, rfl⟩
abbrev main_call0_call0_v55 : Ref sig .tc := ⟨.hbm, 117, rfl⟩
abbrev main_call0_call0_v56 : Ref sig .tc := ⟨.hbm, 118, rfl⟩
abbrev main_call0_call0_c_14 : Ref sig .tc := ⟨.hbm, 119, rfl⟩
abbrev main_call0_call0_v57 : Ref sig .tc := ⟨.hbm, 120, rfl⟩
abbrev main_call0_call0_v58 : Ref sig .tc := ⟨.hbm, 121, rfl⟩
abbrev main_call0_call0_v59 : Ref sig .tc := ⟨.hbm, 122, rfl⟩
abbrev main_call0_call0_v60 : Ref sig .tc := ⟨.hbm, 123, rfl⟩
abbrev main_call0_call0_v61 : Ref sig .tc := ⟨.hbm, 124, rfl⟩
abbrev main_call0_call0_c_15 : Ref sig .tc := ⟨.hbm, 125, rfl⟩
abbrev main_call0_call0_v62 : Ref sig .tc := ⟨.hbm, 126, rfl⟩
abbrev main_call0_call0_v63 : Ref sig .tc := ⟨.hbm, 127, rfl⟩
abbrev main_call0_call0_c_16 : Ref sig .tc := ⟨.hbm, 128, rfl⟩
abbrev main_call0_call0_v64 : Ref sig .tc := ⟨.hbm, 129, rfl⟩
abbrev main_call0_call0_v65 : Ref sig .tc := ⟨.hbm, 130, rfl⟩
abbrev main_call0_call0_v66 : Ref sig .tc := ⟨.hbm, 131, rfl⟩
abbrev main_call0_call0_v67 : Ref sig .tc := ⟨.hbm, 132, rfl⟩
abbrev main_call0_call0_v68 : Ref sig .tc := ⟨.hbm, 133, rfl⟩
abbrev main_call0_call0_v69 : Ref sig .tc := ⟨.hbm, 134, rfl⟩
abbrev main_call0_call0_v70 : Ref sig .tc := ⟨.hbm, 135, rfl⟩
abbrev main_call0_call0_v71 : Ref sig .tc := ⟨.hbm, 136, rfl⟩
abbrev main_call0_call0_c_17 : Ref sig .tc := ⟨.hbm, 137, rfl⟩
abbrev main_call0_call0_v72 : Ref sig .tc := ⟨.hbm, 138, rfl⟩
abbrev main_call0_call0_v73 : Ref sig .tc := ⟨.hbm, 139, rfl⟩
abbrev main_call0_call0_v74 : Ref sig .tc := ⟨.hbm, 140, rfl⟩
abbrev main_call0_call0_c_18 : Ref sig .tc := ⟨.hbm, 141, rfl⟩
abbrev main_call0_call0_v75 : Ref sig .tc := ⟨.hbm, 142, rfl⟩
abbrev main_call0_call0_v76 : Ref sig .tc := ⟨.hbm, 143, rfl⟩
abbrev main_call0_call0_c_19 : Ref sig .tc := ⟨.hbm, 144, rfl⟩
abbrev main_call0_call0_v77 : Ref sig .tc := ⟨.hbm, 145, rfl⟩
abbrev main_call0_call0_v78 : Ref sig .tc := ⟨.hbm, 146, rfl⟩
abbrev main_call0_call0_v79 : Ref sig .tc := ⟨.hbm, 147, rfl⟩
abbrev main_call0_call0_v80 : Ref sig .tc := ⟨.hbm, 148, rfl⟩
abbrev main_call0_call0_v81 : Ref sig .tc := ⟨.hbm, 149, rfl⟩
abbrev main_call0_call0_c_20 : Ref sig .tc := ⟨.hbm, 150, rfl⟩
abbrev main_call0_call0_v82 : Ref sig .tc := ⟨.hbm, 151, rfl⟩
abbrev main_call0_call0_v83 : Ref sig .tc := ⟨.hbm, 152, rfl⟩
abbrev main_call0_call0_c_21 : Ref sig .tc := ⟨.hbm, 153, rfl⟩
abbrev main_call0_call0_v84 : Ref sig .tc := ⟨.hbm, 154, rfl⟩
abbrev main_call0_call0_v85 : Ref sig .tc := ⟨.hbm, 155, rfl⟩
abbrev main_call0_call0_v86 : Ref sig .tc := ⟨.hbm, 156, rfl⟩
abbrev main_call0_call0_v87 : Ref sig .tc := ⟨.hbm, 157, rfl⟩
abbrev main_call0_call0_v88 : Ref sig .tc := ⟨.hbm, 158, rfl⟩
abbrev main_call0_call0_c_22 : Ref sig .tc := ⟨.hbm, 159, rfl⟩
abbrev main_call0_call0_v89 : Ref sig .tc := ⟨.hbm, 160, rfl⟩
abbrev main_call0_call0_v90 : Ref sig .tc := ⟨.hbm, 161, rfl⟩
abbrev main_call0_call0_c_23 : Ref sig .tc := ⟨.hbm, 162, rfl⟩
abbrev main_call0_call0_v91 : Ref sig .tc := ⟨.hbm, 163, rfl⟩
abbrev main_call0_call0_v92 : Ref sig .tc := ⟨.hbm, 164, rfl⟩
abbrev main_call0_call0_v93 : Ref sig .tc := ⟨.hbm, 165, rfl⟩
abbrev main_call0_call0_v94 : Ref sig .tc := ⟨.hbm, 166, rfl⟩
abbrev main_call0_call0_v95 : Ref sig .tc := ⟨.hbm, 167, rfl⟩
abbrev main_call0_call0_c_24 : Ref sig .tc := ⟨.hbm, 168, rfl⟩
abbrev main_call0_call0_v96 : Ref sig .tc := ⟨.hbm, 169, rfl⟩
abbrev main_call0_call0_v97 : Ref sig .tc := ⟨.hbm, 170, rfl⟩
abbrev main_call0_call0_c_25 : Ref sig .tc := ⟨.hbm, 171, rfl⟩
abbrev main_call0_call0_v98 : Ref sig .tc := ⟨.hbm, 172, rfl⟩
abbrev main_call0_call0_v99 : Ref sig .tc := ⟨.hbm, 173, rfl⟩
abbrev main_call0_call0_v100 : Ref sig .tc := ⟨.hbm, 174, rfl⟩
abbrev main_call0_call0_v101 : Ref sig .tc := ⟨.hbm, 175, rfl⟩
abbrev main_call0_call0_v102 : Ref sig .tc := ⟨.hbm, 176, rfl⟩
abbrev main_call0_call0_v103 : Ref sig .tc := ⟨.hbm, 177, rfl⟩
abbrev main_call0_call0_v104 : Ref sig .tc := ⟨.hbm, 178, rfl⟩
abbrev main_call0_call0_v105 : Ref sig .tc := ⟨.hbm, 179, rfl⟩
abbrev main_call0_call0_c_26 : Ref sig .tc := ⟨.hbm, 180, rfl⟩
abbrev main_call0_call0_v106 : Ref sig .tc := ⟨.hbm, 181, rfl⟩
abbrev main_call0_call0_v107 : Ref sig .tc := ⟨.hbm, 182, rfl⟩
abbrev main_call0_call0_v108 : Ref sig .tc := ⟨.hbm, 183, rfl⟩
abbrev main_call0_call0_c_27 : Ref sig .tc := ⟨.hbm, 184, rfl⟩
abbrev main_call0_call0_v109 : Ref sig .tc := ⟨.hbm, 185, rfl⟩
abbrev main_call0_call0_v110 : Ref sig .tc := ⟨.hbm, 186, rfl⟩
abbrev main_call0_call0_c_28 : Ref sig .tc := ⟨.hbm, 187, rfl⟩
abbrev main_call0_call0_v111 : Ref sig .tc := ⟨.hbm, 188, rfl⟩
abbrev main_call0_call0_v112 : Ref sig .tc := ⟨.hbm, 189, rfl⟩
abbrev main_call0_call0_v113 : Ref sig .tc := ⟨.hbm, 190, rfl⟩
abbrev main_call0_call0_v114 : Ref sig .tc := ⟨.hbm, 191, rfl⟩
abbrev main_call0_call0_v115 : Ref sig .tc := ⟨.hbm, 192, rfl⟩
abbrev main_call0_call0_c_29 : Ref sig .tc := ⟨.hbm, 193, rfl⟩
abbrev main_call0_call0_v116 : Ref sig .tc := ⟨.hbm, 194, rfl⟩
abbrev main_call0_call0_v117 : Ref sig .tc := ⟨.hbm, 195, rfl⟩
abbrev main_call0_call0_c_30 : Ref sig .tc := ⟨.hbm, 196, rfl⟩
abbrev main_call0_call0_v118 : Ref sig .tc := ⟨.hbm, 197, rfl⟩
abbrev main_call0_call0_v119 : Ref sig .tc := ⟨.hbm, 198, rfl⟩
abbrev main_call0_call0_v120 : Ref sig .tc := ⟨.hbm, 199, rfl⟩
abbrev main_call0_call0_v121 : Ref sig .tc := ⟨.hbm, 200, rfl⟩
abbrev main_call0_call0_v122 : Ref sig .tc := ⟨.hbm, 201, rfl⟩
abbrev main_call0_call0_c_31 : Ref sig .tc := ⟨.hbm, 202, rfl⟩
abbrev main_call0_call0_v123 : Ref sig .tc := ⟨.hbm, 203, rfl⟩
abbrev main_call0_call0_v124 : Ref sig .tc := ⟨.hbm, 204, rfl⟩
abbrev main_call0_call0_c_32 : Ref sig .tc := ⟨.hbm, 205, rfl⟩
abbrev main_call0_call0_v125 : Ref sig .tc := ⟨.hbm, 206, rfl⟩
abbrev main_call0_call0_v126 : Ref sig .tc := ⟨.hbm, 207, rfl⟩
abbrev main_call0_call0_v127 : Ref sig .tc := ⟨.hbm, 208, rfl⟩
abbrev main_call0_call0_v128 : Ref sig .tc := ⟨.hbm, 209, rfl⟩
abbrev main_call0_call0_v129 : Ref sig .tc := ⟨.hbm, 210, rfl⟩
abbrev main_call0_call0_c_33 : Ref sig .tc := ⟨.hbm, 211, rfl⟩
abbrev main_call0_call0_v130 : Ref sig .tc := ⟨.hbm, 212, rfl⟩
abbrev main_call0_call0_v131 : Ref sig .tc := ⟨.hbm, 213, rfl⟩
abbrev main_call0_call0_c_34 : Ref sig .tc := ⟨.hbm, 214, rfl⟩
abbrev main_call0_call0_v132 : Ref sig .tc := ⟨.hbm, 215, rfl⟩
abbrev main_call0_call0_v133 : Ref sig .tc := ⟨.hbm, 216, rfl⟩
abbrev main_call0_call0_v134 : Ref sig .tc := ⟨.hbm, 217, rfl⟩
abbrev main_call0_call0_v135 : Ref sig .tc := ⟨.hbm, 218, rfl⟩
abbrev main_call0_call0_v136 : Ref sig .tc := ⟨.hbm, 219, rfl⟩
abbrev main_call0_call0_v137 : Ref sig .tc := ⟨.hbm, 220, rfl⟩
abbrev main_call0_call0_v138 : Ref sig .tc := ⟨.hbm, 221, rfl⟩
abbrev main_call0_call0_v139 : Ref sig .tc := ⟨.hbm, 222, rfl⟩
abbrev main_call0_call0_c_35 : Ref sig .tc := ⟨.hbm, 223, rfl⟩
abbrev main_call0_call0_v140 : Ref sig .tc := ⟨.hbm, 224, rfl⟩
abbrev main_call0_call0_v141 : Ref sig .tc := ⟨.hbm, 225, rfl⟩
abbrev main_call0_call0_v142 : Ref sig .tc := ⟨.hbm, 226, rfl⟩
abbrev main_call0_call0_c_36 : Ref sig .tc := ⟨.hbm, 227, rfl⟩
abbrev main_call0_call0_v143 : Ref sig .tc := ⟨.hbm, 228, rfl⟩
abbrev main_call0_call0_v144 : Ref sig .tc := ⟨.hbm, 229, rfl⟩
abbrev main_call0_call0_c_37 : Ref sig .tc := ⟨.hbm, 230, rfl⟩
abbrev main_call0_call0_v145 : Ref sig .tc := ⟨.hbm, 231, rfl⟩
abbrev main_call0_call0_v146 : Ref sig .tc := ⟨.hbm, 232, rfl⟩
abbrev main_call0_call0_v147 : Ref sig .tc := ⟨.hbm, 233, rfl⟩
abbrev main_call0_call0_v148 : Ref sig .tc := ⟨.hbm, 234, rfl⟩
abbrev main_call0_call0_v149 : Ref sig .tc := ⟨.hbm, 235, rfl⟩
abbrev main_call0_call0_c_38 : Ref sig .tc := ⟨.hbm, 236, rfl⟩
abbrev main_call0_call0_v150 : Ref sig .tc := ⟨.hbm, 237, rfl⟩
abbrev main_call0_call0_v151 : Ref sig .tc := ⟨.hbm, 238, rfl⟩
abbrev main_call0_call0_c_39 : Ref sig .tc := ⟨.hbm, 239, rfl⟩
abbrev main_call0_call0_v152 : Ref sig .tc := ⟨.hbm, 240, rfl⟩
abbrev main_call0_call0_v153 : Ref sig .tc := ⟨.hbm, 241, rfl⟩
abbrev main_call0_call0_v154 : Ref sig .tc := ⟨.hbm, 242, rfl⟩
abbrev main_call0_call0_v155 : Ref sig .tc := ⟨.hbm, 243, rfl⟩
abbrev main_call0_call0_v156 : Ref sig .tc := ⟨.hbm, 244, rfl⟩
abbrev main_call0_call0_c_40 : Ref sig .tc := ⟨.hbm, 245, rfl⟩
abbrev main_call0_call0_v157 : Ref sig .tc := ⟨.hbm, 246, rfl⟩
abbrev main_call0_call0_v158 : Ref sig .tc := ⟨.hbm, 247, rfl⟩
abbrev main_call0_call0_c_41 : Ref sig .tc := ⟨.hbm, 248, rfl⟩
abbrev main_call0_call0_v159 : Ref sig .tc := ⟨.hbm, 249, rfl⟩
abbrev main_call0_call0_v160 : Ref sig .tc := ⟨.hbm, 250, rfl⟩
abbrev main_call0_call0_v161 : Ref sig .tc := ⟨.hbm, 251, rfl⟩
abbrev main_call0_call0_v162 : Ref sig .tc := ⟨.hbm, 252, rfl⟩
abbrev main_call0_call0_v163 : Ref sig .tc := ⟨.hbm, 253, rfl⟩
abbrev main_call0_call0_c_42 : Ref sig .tc := ⟨.hbm, 254, rfl⟩
abbrev main_call0_call0_v164 : Ref sig .tc := ⟨.hbm, 255, rfl⟩
abbrev main_call0_call0_v165 : Ref sig .tc := ⟨.hbm, 256, rfl⟩
abbrev main_call0_call0_c_43 : Ref sig .tc := ⟨.hbm, 257, rfl⟩
abbrev main_call0_call0_v166 : Ref sig .tc := ⟨.hbm, 258, rfl⟩
abbrev main_call0_call0_v167 : Ref sig .tc := ⟨.hbm, 259, rfl⟩
abbrev main_call0_call0_v168 : Ref sig .tc := ⟨.hbm, 260, rfl⟩
abbrev main_call0_call0_v169 : Ref sig .tc := ⟨.hbm, 261, rfl⟩
abbrev main_call0_call0_v170 : Ref sig .tc := ⟨.hbm, 262, rfl⟩
abbrev main_call0_v23_0 : Ref sig .tc := ⟨.hbm, 263, rfl⟩
abbrev main_call0_call0_v172 : Ref sig .tc := ⟨.hbm, 264, rfl⟩
abbrev main_call0_call0_v173 : Ref sig .tc := ⟨.hbm, 265, rfl⟩
abbrev main_call0_call0_c_44 : Ref sig .tc := ⟨.hbm, 266, rfl⟩
abbrev main_call0_call0_v174 : Ref sig .tc := ⟨.hbm, 267, rfl⟩
abbrev main_call0_v23_1 : Ref sig .tc := ⟨.hbm, 268, rfl⟩
abbrev main_call0_v24 : Ref sig .tc := ⟨.hbm, 269, rfl⟩
abbrev main_call0_c_3 : Ref sig .tc := ⟨.hbm, 270, rfl⟩
abbrev main_call0_v25 : Ref sig .tc := ⟨.hbm, 271, rfl⟩
abbrev main_call0_v26 : Ref sig .tc := ⟨.hbm, 272, rfl⟩
abbrev main_call0_c_4 : Ref sig .tc := ⟨.hbm, 273, rfl⟩
abbrev main_call0_v27 : Ref sig .tc := ⟨.hbm, 274, rfl⟩
abbrev main_call0_v28 : Ref sig .tc := ⟨.hbm, 275, rfl⟩
abbrev main_call0_v29 : Ref sig .tc := ⟨.hbm, 276, rfl⟩
abbrev main_call0_cst : Ref sig .tc := ⟨.hbm, 277, rfl⟩
abbrev main_call0_v30 : Ref sig .tc := ⟨.hbm, 278, rfl⟩
abbrev main_call0_v31 : Ref sig .tc := ⟨.hbm, 279, rfl⟩
abbrev main_call0_v32 : Ref sig .tc := ⟨.hbm, 280, rfl⟩
abbrev main_call0_v33 : Ref sig .tc := ⟨.hbm, 281, rfl⟩
abbrev main_call0_v34 : Ref sig .tc := ⟨.hbm, 282, rfl⟩
abbrev main_call0_v35 : Ref sig .tc := ⟨.hbm, 283, rfl⟩
abbrev main_call0_v36 : Ref sig .tc := ⟨.hbm, 284, rfl⟩
abbrev main_call0_v37 : Ref sig .tc := ⟨.hbm, 285, rfl⟩
abbrev main_v12 : Ref sig .tc := ⟨.hbm, 286, rfl⟩
abbrev main_cst_4 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_c_5 : Ref sig .tc := ⟨.hbm, 293, rfl⟩
abbrev main_v18 : Ref sig .tc := ⟨.hbm, 294, rfl⟩
abbrev main_v19 : Ref sig .tc := ⟨.hbm, 295, rfl⟩
abbrev main_v20 : Ref sig .tc := ⟨.hbm, 296, rfl⟩
abbrev main_v21 : Ref sig .tc := ⟨.hbm, 297, rfl⟩
abbrev main_v22 : Ref sig .tc := ⟨.hbm, 298, rfl⟩
abbrev main_c_6 : Ref sig .tc := ⟨.hbm, 299, rfl⟩
abbrev main_v23 : Ref sig .tc := ⟨.hbm, 300, rfl⟩
abbrev main_v24 : Ref sig .tc := ⟨.hbm, 301, rfl⟩
abbrev main_c_7 : Ref sig .tc := ⟨.hbm, 302, rfl⟩
abbrev main_v25 : Ref sig .tc := ⟨.hbm, 303, rfl⟩
abbrev main_v26 : Ref sig .tc := ⟨.hbm, 304, rfl⟩
abbrev main_call2_c : Ref sig .tc := ⟨.hbm, 305, rfl⟩
abbrev main_call2_v0 : Ref sig .tc := ⟨.hbm, 306, rfl⟩
abbrev main_call2_v1 : Ref sig .tc := ⟨.hbm, 307, rfl⟩
abbrev main_call2_c_0 : Ref sig .tc := ⟨.hbm, 308, rfl⟩
abbrev main_call2_v2 : Ref sig .tc := ⟨.hbm, 309, rfl⟩
abbrev main_call2_v3 : Ref sig .tc := ⟨.hbm, 310, rfl⟩
abbrev main_call2_v4 : Ref sig .tc := ⟨.hbm, 311, rfl⟩
abbrev main_call2_v5 : Ref sig .tc := ⟨.hbm, 312, rfl⟩
abbrev main_call2_c_1 : Ref sig .tc := ⟨.hbm, 313, rfl⟩
abbrev main_call2_c_2 : Ref sig .tc := ⟨.hbm, 314, rfl⟩
abbrev main_call2_v6 : Ref sig .tc := ⟨.hbm, 315, rfl⟩
abbrev main_call2_v7 : Ref sig .tc := ⟨.hbm, 316, rfl⟩
abbrev main_call2_v8 : Ref sig .tc := ⟨.hbm, 317, rfl⟩
abbrev main_call2_v9 : Ref sig .tc := ⟨.hbm, 318, rfl⟩
abbrev main_call2_v10 : Ref sig .tc := ⟨.hbm, 319, rfl⟩
abbrev main_call2_v11 : Ref sig .tc := ⟨.hbm, 320, rfl⟩
abbrev main_call2_c_3 : Ref sig .tc := ⟨.hbm, 321, rfl⟩
abbrev main_call2_v12 : Ref sig .tc := ⟨.hbm, 322, rfl⟩
abbrev main_call2_v13 : Ref sig .tc := ⟨.hbm, 323, rfl⟩
abbrev main_call2_c_4 : Ref sig .tc := ⟨.hbm, 324, rfl⟩
abbrev main_call2_v14 : Ref sig .tc := ⟨.hbm, 325, rfl⟩
abbrev main_v27 : Ref sig .tc := ⟨.hbm, 326, rfl⟩
abbrev main_v28 : Ref sig .tc := ⟨.hbm, 327, rfl⟩
abbrev main_c_8 : Ref sig .tc := ⟨.hbm, 328, rfl⟩
abbrev main_v30 : Ref sig .tc := ⟨.hbm, 329, rfl⟩
abbrev main_v31 : Ref sig .tc := ⟨.hbm, 330, rfl⟩
abbrev main_v32 : Ref sig .tc := ⟨.hbm, 331, rfl⟩
abbrev main_v33 : Ref sig .tc := ⟨.hbm, 332, rfl⟩
abbrev main_c_9 : Ref sig .tc := ⟨.hbm, 333, rfl⟩
abbrev main_call3_v0 : Ref sig .tc := ⟨.hbm, 334, rfl⟩
abbrev main_call3_v1 : Ref sig .tc := ⟨.hbm, 335, rfl⟩
abbrev main_v34 : Ref sig .tc := ⟨.hbm, 336, rfl⟩
abbrev main_v35 : Ref sig .tc := ⟨.hbm, 337, rfl⟩
abbrev main_v36 : Ref sig .tc := ⟨.hbm, 338, rfl⟩
abbrev main_c_10 : Ref sig .tc := ⟨.hbm, 339, rfl⟩
abbrev main_v37 : Ref sig .tc := ⟨.hbm, 340, rfl⟩
abbrev main_v38 : Ref sig .tc := ⟨.hbm, 341, rfl⟩
abbrev main_c_11 : Ref sig .tc := ⟨.hbm, 342, rfl⟩
abbrev main_v39 : Ref sig .tc := ⟨.hbm, 343, rfl⟩
abbrev main_v40 : Ref sig .tc := ⟨.hbm, 344, rfl⟩
abbrev main_v41 : Ref sig .tc := ⟨.hbm, 345, rfl⟩
abbrev main_c_12 : Ref sig .tc := ⟨.hbm, 346, rfl⟩
abbrev main_v42 : Ref sig .tc := ⟨.hbm, 347, rfl⟩
abbrev main_v43 : Ref sig .tc := ⟨.hbm, 348, rfl⟩
abbrev main_c_13 : Ref sig .tc := ⟨.hbm, 349, rfl⟩
abbrev main_v44 : Ref sig .tc := ⟨.hbm, 350, rfl⟩
abbrev main_v45 : Ref sig .tc := ⟨.hbm, 351, rfl⟩
abbrev main_v46 : Ref sig .tc := ⟨.hbm, 352, rfl⟩
abbrev main_v47 : Ref sig .tc := ⟨.hbm, 353, rfl⟩
abbrev main_v48 : Ref sig .tc := ⟨.hbm, 354, rfl⟩
abbrev main_v49 : Ref sig .tc := ⟨.hbm, 355, rfl⟩
abbrev main_v50 : Ref sig .tc := ⟨.hbm, 356, rfl⟩
abbrev main_v51 : Ref sig .tc := ⟨.hbm, 357, rfl⟩
abbrev main_v52 : Ref sig .tc := ⟨.hbm, 358, rfl⟩
abbrev main_v53 : Ref sig .tc := ⟨.hbm, 359, rfl⟩
abbrev main_v29 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v3 : BitVec 1 := Scalar.cmpi .slt v0 v2
  let v4 : BitVec 32 := Scalar.extui v3
  let c0_i32 : BitVec 32 := 0#32
  let v5 : BitVec 1 := Scalar.cmpi .ne v4 c0_i32
  v5

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x8 : Shape := ⟨3, ![4, 2048, 8]⟩
abbrev S8x1024x128 : Shape := ⟨3, ![8, 1024, 128]⟩
abbrev S8192x8 : Shape := ⟨2, ![8192, 8]⟩
abbrev S8x8192 : Shape := ⟨2, ![8, 8192]⟩
abbrev S_ : Shape := ⟨0, ![]⟩
abbrev S8x1024 : Shape := ⟨2, ![8, 1024]⟩
abbrev S8x1024x1024 : Shape := ⟨3, ![8, 1024, 1024]⟩
abbrev S8x1024x1 : Shape := ⟨3, ![8, 1024, 1]⟩
abbrev S8x1x1024 : Shape := ⟨3, ![8, 1, 1024]⟩
abbrev S1024x1024 : Shape := ⟨2, ![1024, 1024]⟩
abbrev S1x1024x1024 : Shape := ⟨3, ![1, 1024, 1024]⟩
abbrev S8x8192x1 : Shape := ⟨3, ![8, 8192, 1]⟩
abbrev S1 : Shape := ⟨1, ![1]⟩
abbrev S1x1x1 : Shape := ⟨3, ![1, 1, 1]⟩
abbrev S8x8192x1024 : Shape := ⟨3, ![8, 8192, 1024]⟩
abbrev S2 : Shape := ⟨1, ![2]⟩
abbrev S65536x1024 : Shape := ⟨2, ![65536, 1024]⟩
abbrev S1x1 : Shape := ⟨2, ![1, 1]⟩
abbrev S65536 : Shape := ⟨1, ![65536]⟩

abbrev nBuf : Space → Nat
  | .hbm => 630
  | .vmem => 0
  | .smem => 0
  | _ => 0

abbrev hbmTy0_0 (i : Nat) : BufTy := match i % 128 with
  | 0 => ⟨S4x2048x8, .i32⟩
  | 1 => ⟨S8x1024x128, .f32⟩
  | 2 => ⟨S8192x8, .i32⟩
  | 3 => ⟨S8x8192, .i32⟩
  | 4 => ⟨S8x1024x128, .f32⟩
  | 5 => ⟨S_, .f32⟩
  | 6 => ⟨S8x1024, .f32⟩
  | 7 => ⟨S8x1024x1024, .f32⟩
  | 8 => ⟨S8x1024x1, .f32⟩
  | 9 => ⟨S8x1x1024, .f32⟩
  | 10 => ⟨S8x1024x1024, .f32⟩
  | 11 => ⟨S8x1024x1024, .f32⟩
  | 12 => ⟨S8x1024x1024, .f32⟩
  | 13 => ⟨S_, .f32⟩
  | 14 => ⟨S8x1024x1024, .f32⟩
  | 15 => ⟨S8x1024x1024, .f32⟩
  | 16 => ⟨S8x1024x1024, .f32⟩
  | 17 => ⟨S_, .f32⟩
  | 18 => ⟨S8x1024x1024, .f32⟩
  | 19 => ⟨S8x1024x1024, .f32⟩
  | 20 => ⟨S8x1024x1024, .f32⟩
  | 21 => ⟨S8x1024x1024, .f32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i1⟩
  | 28 => ⟨S1x1024x1024, .i1⟩
  | 29 => ⟨S_, .f32⟩
  | 30 => ⟨S_, .f32⟩
  | 31 => ⟨S8x1024x1024, .i1⟩
  | 32 => ⟨S8x1024x1024, .f32⟩
  | 33 => ⟨S8x1024x1024, .f32⟩
  | 34 => ⟨S8x8192x1, .i32⟩
  | 35 => ⟨S_, .i32⟩
  | 36 => ⟨S8x8192x1, .i32⟩
  | 37 => ⟨S8x8192x1, .i1⟩
  | 38 => ⟨S_, .i32⟩
  | 39 => ⟨S8x8192x1, .i32⟩
  | 40 => ⟨S8x8192x1, .i32⟩
  | 41 => ⟨S8x8192x1, .i32⟩
  | 42 => ⟨S1, .i32⟩
  | 43 => ⟨S_, .i32⟩
  | 44 => ⟨S8x8192x1, .i32⟩
  | 45 => ⟨S8x8192x1, .i1⟩
  | 46 => ⟨S1x1x1, .i32⟩
  | 47 => ⟨S8x8192x1, .i32⟩
  | 48 => ⟨S8x8192x1, .i1⟩
  | 49 => ⟨S8x8192x1, .i1⟩
  | 50 => ⟨S_, .i1⟩
  | 51 => ⟨S8x8192, .i1⟩
  | 52 => ⟨S8x8192x1024, .f32⟩
  | 53 => ⟨S8x8192x1024, .i1⟩
  | 54 => ⟨S_, .f32⟩
  | 55 => ⟨S8x8192x1024, .f32⟩
  | 56 => ⟨S8x8192x1024, .f32⟩
  | 57 => ⟨S_, .i32⟩
  | 58 => ⟨S_, .i32⟩
  | 59 => ⟨S_, .i32⟩
  | 60 => ⟨S_, .i32⟩
  | 61 => ⟨S1, .i32⟩
  | 62 => ⟨S_, .i32⟩
  | 63 => ⟨S_, .i32⟩
  | 64 => ⟨S_, .i32⟩
  | 65 => ⟨S1, .i32⟩
  | 66 => ⟨S2, .i32⟩
  | 67 => ⟨S65536x1024, .f32⟩
  | 68 => ⟨S_, .f32⟩
  | 69 => ⟨S65536x1024, .f32⟩
  | 70 => ⟨S65536x1024, .f32⟩
  | 71 => ⟨S_, .f32⟩
  | 72 => ⟨S_, .f32⟩
  | 73 => ⟨S_, .f32⟩
  | 74 => ⟨S1x1, .f32⟩
  | 75 => ⟨S1x1, .f32⟩
  | 76 => ⟨S1, .i32⟩
  | 77 => ⟨S_, .i32⟩
  | 78 => ⟨S1, .i32⟩
  | 79 => ⟨S_, .i32⟩
  | 80 => ⟨S65536x1024, .i64⟩
  | 81 => ⟨S65536x1024, .i64⟩
  | 82 => ⟨S_, .i64⟩
  | 83 => ⟨S65536x1024, .i64⟩
  | 84 => ⟨S65536x1024, .i64⟩
  | 85 => ⟨S_, .i64⟩
  | 86 => ⟨S65536x1024, .i64⟩
  | 87 => ⟨S65536x1024, .i64⟩
  | 88 => ⟨S65536x1024, .i64⟩
  | 89 => ⟨S_, .i64⟩
  | 90 => ⟨S65536x1024, .i64⟩
  | 91 => ⟨S65536x1024, .i64⟩
  | 92 => ⟨S65536x1024, .i32⟩
  | 93 => ⟨S65536x1024, .i32⟩
  | 94 => ⟨S_, .i32⟩
  | 95 => ⟨S_, .i32⟩
  | 96 => ⟨S_, .i32⟩
  | 97 => ⟨S65536x1024, .i32⟩
  | 98 => ⟨S65536x1024, .i32⟩
  | 99 => ⟨S65536x1024, .i32⟩
  | 100 => ⟨S65536x1024, .i32⟩
  | 101 => ⟨S65536x1024, .i32⟩
  | 102 => ⟨S_, .i32⟩
  | 103 => ⟨S65536x1024, .i32⟩
  | 104 => ⟨S65536x1024, .i32⟩
  | 105 => ⟨S_, .i32⟩
  | 106 => ⟨S65536x1024, .i32⟩
  | 107 => ⟨S65536x1024, .i32⟩
  | 108 => ⟨S65536x1024, .i32⟩
  | 109 => ⟨S65536x1024, .i32⟩
  | 110 => ⟨S65536x1024, .i32⟩
  | 111 => ⟨S_, .i32⟩
  | 112 => ⟨S65536x1024, .i32⟩
  | 113 => ⟨S65536x1024, .i32⟩
  | 114 => ⟨S_, .i32⟩
  | 115 => ⟨S65536x1024, .i32⟩
  | 116 => ⟨S65536x1024, .i32⟩
  | 117 => ⟨S65536x1024, .i32⟩
  | 118 => ⟨S65536x1024, .i32⟩
  | 119 => ⟨S65536x1024, .i32⟩
  | 120 => ⟨S_, .i32⟩
  | 121 => ⟨S65536x1024, .i32⟩
  | 122 => ⟨S65536x1024, .i32⟩
  | 123 => ⟨S_, .i32⟩
  | 124 => ⟨S65536x1024, .i32⟩
  | 125 => ⟨S65536x1024, .i32⟩
  | 126 => ⟨S65536x1024, .i32⟩
  | 127 => ⟨S65536x1024, .i32⟩
  | _ => ⟨S4x2048x8, .i32⟩

abbrev hbmTy0_1 (i : Nat) : BufTy := match i % 128 with
  | 0 => ⟨S65536x1024, .i32⟩
  | 1 => ⟨S_, .i32⟩
  | 2 => ⟨S65536x1024, .i32⟩
  | 3 => ⟨S65536x1024, .i32⟩
  | 4 => ⟨S_, .i32⟩
  | 5 => ⟨S65536x1024, .i32⟩
  | 6 => ⟨S65536x1024, .i32⟩
  | 7 => ⟨S65536x1024, .i32⟩
  | 8 => ⟨S65536x1024, .i32⟩
  | 9 => ⟨S65536x1024, .i32⟩
  | 10 => ⟨S65536x1024, .i32⟩
  | 11 => ⟨S65536x1024, .i32⟩
  | 12 => ⟨S65536x1024, .i32⟩
  | 13 => ⟨S_, .i32⟩
  | 14 => ⟨S65536x1024, .i32⟩
  | 15 => ⟨S65536x1024, .i32⟩
  | 16 => ⟨S65536x1024, .i32⟩
  | 17 => ⟨S_, .i32⟩
  | 18 => ⟨S65536x1024, .i32⟩
  | 19 => ⟨S65536x1024, .i32⟩
  | 20 => ⟨S_, .i32⟩
  | 21 => ⟨S65536x1024, .i32⟩
  | 22 => ⟨S65536x1024, .i32⟩
  | 23 => ⟨S65536x1024, .i32⟩
  | 24 => ⟨S65536x1024, .i32⟩
  | 25 => ⟨S65536x1024, .i32⟩
  | 26 => ⟨S_, .i32⟩
  | 27 => ⟨S65536x1024, .i32⟩
  | 28 => ⟨S65536x1024, .i32⟩
  | 29 => ⟨S_, .i32⟩
  | 30 => ⟨S65536x1024, .i32⟩
  | 31 => ⟨S65536x1024, .i32⟩
  | 32 => ⟨S65536x1024, .i32⟩
  | 33 => ⟨S65536x1024, .i32⟩
  | 34 => ⟨S65536x1024, .i32⟩
  | 35 => ⟨S_, .i32⟩
  | 36 => ⟨S65536x1024, .i32⟩
  | 37 => ⟨S65536x1024, .i32⟩
  | 38 => ⟨S_, .i32⟩
  | 39 => ⟨S65536x1024, .i32⟩
  | 40 => ⟨S65536x1024, .i32⟩
  | 41 => ⟨S65536x1024, .i32⟩
  | 42 => ⟨S65536x1024, .i32⟩
  | 43 => ⟨S65536x1024, .i32⟩
  | 44 => ⟨S_, .i32⟩
  | 45 => ⟨S65536x1024, .i32⟩
  | 46 => ⟨S65536x1024, .i32⟩
  | 47 => ⟨S_, .i32⟩
  | 48 => ⟨S65536x1024, .i32⟩
  | 49 => ⟨S65536x1024, .i32⟩
  | 50 => ⟨S65536x1024, .i32⟩
  | 51 => ⟨S65536x1024, .i32⟩
  | 52 => ⟨S65536x1024, .i32⟩
  | 53 => ⟨S65536x1024, .i32⟩
  | 54 => ⟨S65536x1024, .i32⟩
  | 55 => ⟨S65536x1024, .i32⟩
  | 56 => ⟨S_, .i32⟩
  | 57 => ⟨S65536x1024, .i32⟩
  | 58 => ⟨S65536x1024, .i32⟩
  | 59 => ⟨S65536x1024, .i32⟩
  | 60 => ⟨S_, .i32⟩
  | 61 => ⟨S65536x1024, .i32⟩
  | 62 => ⟨S65536x1024, .i32⟩
  | 63 => ⟨S_, .i32⟩
  | 64 => ⟨S65536x1024, .i32⟩
  | 65 => ⟨S65536x1024, .i32⟩
  | 66 => ⟨S65536x1024, .i32⟩
  | 67 => ⟨S65536x1024, .i32⟩
  | 68 => ⟨S65536x1024, .i32⟩
  | 69 => ⟨S_, .i32⟩
  | 70 => ⟨S65536x1024, .i32⟩
  | 71 => ⟨S65536x1024, .i32⟩
  | 72 => ⟨S_, .i32⟩
  | 73 => ⟨S65536x1024, .i32⟩
  | 74 => ⟨S65536x1024, .i32⟩
  | 75 => ⟨S65536x1024, .i32⟩
  | 76 => ⟨S65536x1024, .i32⟩
  | 77 => ⟨S65536x1024, .i32⟩
  | 78 => ⟨S_, .i32⟩
  | 79 => ⟨S65536x1024, .i32⟩
  | 80 => ⟨S65536x1024, .i32⟩
  | 81 => ⟨S_, .i32⟩
  | 82 => ⟨S65536x1024, .i32⟩
  | 83 => ⟨S65536x1024, .i32⟩
  | 84 => ⟨S65536x1024, .i32⟩
  | 85 => ⟨S65536x1024, .i32⟩
  | 86 => ⟨S65536x1024, .i32⟩
  | 87 => ⟨S_, .i32⟩
  | 88 => ⟨S65536x1024, .i32⟩
  | 89 => ⟨S65536x1024, .i32⟩
  | 90 => ⟨S_, .i32⟩
  | 91 => ⟨S65536x1024, .i32⟩
  | 92 => ⟨S65536x1024, .i32⟩
  | 93 => ⟨S65536x1024, .i32⟩
  | 94 => ⟨S65536x1024, .i32⟩
  | 95 => ⟨S65536x1024, .i32⟩
  | 96 => ⟨S65536x1024, .i32⟩
  | 97 => ⟨S65536x1024, .i32⟩
  | 98 => ⟨S65536x1024, .i32⟩
  | 99 => ⟨S_, .i32⟩
  | 100 => ⟨S65536x1024, .i32⟩
  | 101 => ⟨S65536x1024, .i32⟩
  | 102 => ⟨S65536x1024, .i32⟩
  | 103 => ⟨S_, .i32⟩
  | 104 => ⟨S65536x1024, .i32⟩
  | 105 => ⟨S65536x1024, .i32⟩
  | 106 => ⟨S_, .i32⟩
  | 107 => ⟨S65536x1024, .i32⟩
  | 108 => ⟨S65536x1024, .i32⟩
  | 109 => ⟨S65536x1024, .i32⟩
  | 110 => ⟨S65536x1024, .i32⟩
  | 111 => ⟨S65536x1024, .i32⟩
  | 112 => ⟨S_, .i32⟩
  | 113 => ⟨S65536x1024, .i32⟩
  | 114 => ⟨S65536x1024, .i32⟩
  | 115 => ⟨S_, .i32⟩
  | 116 => ⟨S65536x1024, .i32⟩
  | 117 => ⟨S65536x1024, .i32⟩
  | 118 => ⟨S65536x1024, .i32⟩
  | 119 => ⟨S65536x1024, .i32⟩
  | 120 => ⟨S65536x1024, .i32⟩
  | 121 => ⟨S_, .i32⟩
  | 122 => ⟨S65536x1024, .i32⟩
  | 123 => ⟨S65536x1024, .i32⟩
  | 124 => ⟨S_, .i32⟩
  | 125 => ⟨S65536x1024, .i32⟩
  | 126 => ⟨S65536x1024, .i32⟩
  | 127 => ⟨S65536x1024, .i32⟩
  | _ => ⟨S4x2048x8, .i32⟩

abbrev hbmTy0_2 (i : Nat) : BufTy := match i % 128 with
  | 0 => ⟨S65536x1024, .i32⟩
  | 1 => ⟨S65536x1024, .i32⟩
  | 2 => ⟨S_, .i32⟩
  | 3 => ⟨S65536x1024, .i32⟩
  | 4 => ⟨S65536x1024, .i32⟩
  | 5 => ⟨S_, .i32⟩
  | 6 => ⟨S65536x1024, .i32⟩
  | 7 => ⟨S65536x1024, .i32⟩
  | 8 => ⟨S65536x1024, .i32⟩
  | 9 => ⟨S65536x1024, .i32⟩
  | 10 => ⟨S65536x1024, .i32⟩
  | 11 => ⟨S65536x1024, .i32⟩
  | 12 => ⟨S65536x1024, .i32⟩
  | 13 => ⟨S65536x1024, .i32⟩
  | 14 => ⟨S_, .i32⟩
  | 15 => ⟨S65536x1024, .i32⟩
  | 16 => ⟨S65536x1024, .i32⟩
  | 17 => ⟨S65536x1024, .i32⟩
  | 18 => ⟨S_, .i32⟩
  | 19 => ⟨S65536x1024, .i32⟩
  | 20 => ⟨S65536x1024, .i32⟩
  | 21 => ⟨S_, .i32⟩
  | 22 => ⟨S65536x1024, .i32⟩
  | 23 => ⟨S65536x1024, .i32⟩
  | 24 => ⟨S65536x1024, .i32⟩
  | 25 => ⟨S65536x1024, .i32⟩
  | 26 => ⟨S65536x1024, .i32⟩
  | 27 => ⟨S_, .i32⟩
  | 28 => ⟨S65536x1024, .i32⟩
  | 29 => ⟨S65536x1024, .i32⟩
  | 30 => ⟨S_, .i32⟩
  | 31 => ⟨S65536x1024, .i32⟩
  | 32 => ⟨S65536x1024, .i32⟩
  | 33 => ⟨S65536x1024, .i32⟩
  | 34 => ⟨S65536x1024, .i32⟩
  | 35 => ⟨S65536x1024, .i32⟩
  | 36 => ⟨S_, .i32⟩
  | 37 => ⟨S65536x1024, .i32⟩
  | 38 => ⟨S65536x1024, .i32⟩
  | 39 => ⟨S_, .i32⟩
  | 40 => ⟨S65536x1024, .i32⟩
  | 41 => ⟨S65536x1024, .i32⟩
  | 42 => ⟨S65536x1024, .i32⟩
  | 43 => ⟨S65536x1024, .i32⟩
  | 44 => ⟨S65536x1024, .i32⟩
  | 45 => ⟨S_, .i32⟩
  | 46 => ⟨S65536x1024, .i32⟩
  | 47 => ⟨S65536x1024, .i32⟩
  | 48 => ⟨S_, .i32⟩
  | 49 => ⟨S65536x1024, .i32⟩
  | 50 => ⟨S65536x1024, .i32⟩
  | 51 => ⟨S65536x1024, .i32⟩
  | 52 => ⟨S65536x1024, .i32⟩
  | 53 => ⟨S65536x1024, .i32⟩
  | 54 => ⟨S65536x1024, .i32⟩
  | 55 => ⟨S65536x1024, .i32⟩
  | 56 => ⟨S65536x1024, .i32⟩
  | 57 => ⟨S_, .i32⟩
  | 58 => ⟨S65536x1024, .i32⟩
  | 59 => ⟨S65536x1024, .i32⟩
  | 60 => ⟨S65536x1024, .i32⟩
  | 61 => ⟨S_, .i32⟩
  | 62 => ⟨S65536x1024, .i32⟩
  | 63 => ⟨S65536x1024, .i32⟩
  | 64 => ⟨S_, .i32⟩
  | 65 => ⟨S65536x1024, .i32⟩
  | 66 => ⟨S65536x1024, .i32⟩
  | 67 => ⟨S65536x1024, .f32⟩
  | 68 => ⟨S_, .f32⟩
  | 69 => ⟨S65536x1024, .f32⟩
  | 70 => ⟨S65536x1024, .f32⟩
  | 71 => ⟨S1x1, .f32⟩
  | 72 => ⟨S65536x1024, .f32⟩
  | 73 => ⟨S65536x1024, .f32⟩
  | 74 => ⟨S65536x1024, .f32⟩
  | 75 => ⟨S65536x1024, .f32⟩
  | 76 => ⟨S65536x1024, .f32⟩
  | 77 => ⟨S65536x1024, .f32⟩
  | 78 => ⟨S65536x1024, .f32⟩
  | 79 => ⟨S65536x1024, .f32⟩
  | 80 => ⟨S65536x1024, .f32⟩
  | 81 => ⟨S65536x1024, .f32⟩
  | 82 => ⟨S65536x1024, .f32⟩
  | 83 => ⟨S65536x1024, .i32⟩
  | 84 => ⟨S_, .f32⟩
  | 85 => ⟨S_, .i32⟩
  | 86 => ⟨S65536, .f32⟩
  | 87 => ⟨S65536, .i32⟩
  | 88 => ⟨S8x8192, .i32⟩
  | 89 => ⟨S8192x8, .i32⟩
  | 90 => ⟨S4x2048x8, .i32⟩
  | 91 => ⟨S_, .i32⟩
  | 92 => ⟨S_, .i32⟩
  | 93 => ⟨S_, .i32⟩
  | 94 => ⟨S_, .i32⟩
  | 95 => ⟨S1, .i32⟩
  | 96 => ⟨S_, .i32⟩
  | 97 => ⟨S_, .i32⟩
  | 98 => ⟨S_, .i32⟩
  | 99 => ⟨S1, .i32⟩
  | 100 => ⟨S2, .i32⟩
  | 101 => ⟨S_, .f32⟩
  | 102 => ⟨S_, .f32⟩
  | 103 => ⟨S_, .f32⟩
  | 104 => ⟨S_, .f32⟩
  | 105 => ⟨S1x1x1, .f32⟩
  | 106 => ⟨S1x1x1, .f32⟩
  | 107 => ⟨S1, .i32⟩
  | 108 => ⟨S_, .i32⟩
  | 109 => ⟨S1, .i32⟩
  | 110 => ⟨S_, .i32⟩
  | 111 => ⟨S4x2048x8, .i64⟩
  | 112 => ⟨S4x2048x8, .i64⟩
  | 113 => ⟨S4x2048x8, .i64⟩
  | 114 => ⟨S_, .i64⟩
  | 115 => ⟨S4x2048x8, .i64⟩
  | 116 => ⟨S4x2048x8, .i64⟩
  | 117 => ⟨S_, .i64⟩
  | 118 => ⟨S4x2048x8, .i64⟩
  | 119 => ⟨S4x2048x8, .i64⟩
  | 120 => ⟨S_, .i64⟩
  | 121 => ⟨S4x2048x8, .i64⟩
  | 122 => ⟨S4x2048x8, .i64⟩
  | 123 => ⟨S4x2048x8, .i64⟩
  | 124 => ⟨S4x2048x8, .i64⟩
  | 125 => ⟨S_, .i64⟩
  | 126 => ⟨S4x2048x8, .i64⟩
  | 127 => ⟨S4x2048x8, .i64⟩
  | _ => ⟨S4x2048x8, .i32⟩

abbrev hbmTy0_3 (i : Nat) : BufTy := match i % 128 with
  | 0 => ⟨S4x2048x8, .i32⟩
  | 1 => ⟨S4x2048x8, .i32⟩
  | 2 => ⟨S_, .i32⟩
  | 3 => ⟨S_, .i32⟩
  | 4 => ⟨S_, .i32⟩
  | 5 => ⟨S4x2048x8, .i32⟩
  | 6 => ⟨S4x2048x8, .i32⟩
  | 7 => ⟨S4x2048x8, .i32⟩
  | 8 => ⟨S4x2048x8, .i32⟩
  | 9 => ⟨S4x2048x8, .i32⟩
  | 10 => ⟨S_, .i32⟩
  | 11 => ⟨S4x2048x8, .i32⟩
  | 12 => ⟨S4x2048x8, .i32⟩
  | 13 => ⟨S_, .i32⟩
  | 14 => ⟨S4x2048x8, .i32⟩
  | 15 => ⟨S4x2048x8, .i32⟩
  | 16 => ⟨S4x2048x8, .i32⟩
  | 17 => ⟨S4x2048x8, .i32⟩
  | 18 => ⟨S4x2048x8, .i32⟩
  | 19 => ⟨S_, .i32⟩
  | 20 => ⟨S4x2048x8, .i32⟩
  | 21 => ⟨S4x2048x8, .i32⟩
  | 22 => ⟨S_, .i32⟩
  | 23 => ⟨S4x2048x8, .i32⟩
  | 24 => ⟨S4x2048x8, .i32⟩
  | 25 => ⟨S4x2048x8, .i32⟩
  | 26 => ⟨S4x2048x8, .i32⟩
  | 27 => ⟨S4x2048x8, .i32⟩
  | 28 => ⟨S_, .i32⟩
  | 29 => ⟨S4x2048x8, .i32⟩
  | 30 => ⟨S4x2048x8, .i32⟩
  | 31 => ⟨S_, .i32⟩
  | 32 => ⟨S4x2048x8, .i32⟩
  | 33 => ⟨S4x2048x8, .i32⟩
  | 34 => ⟨S4x2048x8, .i32⟩
  | 35 => ⟨S4x2048x8, .i32⟩
  | 36 => ⟨S4x2048x8, .i32⟩
  | 37 => ⟨S_, .i32⟩
  | 38 => ⟨S4x2048x8, .i32⟩
  | 39 => ⟨S4x2048x8, .i32⟩
  | 40 => ⟨S_, .i32⟩
  | 41 => ⟨S4x2048x8, .i32⟩
  | 42 => ⟨S4x2048x8, .i32⟩
  | 43 => ⟨S4x2048x8, .i32⟩
  | 44 => ⟨S4x2048x8, .i32⟩
  | 45 => ⟨S4x2048x8, .i32⟩
  | 46 => ⟨S4x2048x8, .i32⟩
  | 47 => ⟨S4x2048x8, .i32⟩
  | 48 => ⟨S4x2048x8, .i32⟩
  | 49 => ⟨S_, .i32⟩
  | 50 => ⟨S4x2048x8, .i32⟩
  | 51 => ⟨S4x2048x8, .i32⟩
  | 52 => ⟨S4x2048x8, .i32⟩
  | 53 => ⟨S_, .i32⟩
  | 54 => ⟨S4x2048x8, .i32⟩
  | 55 => ⟨S4x2048x8, .i32⟩
  | 56 => ⟨S_, .i32⟩
  | 57 => ⟨S4x2048x8, .i32⟩
  | 58 => ⟨S4x2048x8, .i32⟩
  | 59 => ⟨S4x2048x8, .i32⟩
  | 60 => ⟨S4x2048x8, .i32⟩
  | 61 => ⟨S4x2048x8, .i32⟩
  | 62 => ⟨S_, .i32⟩
  | 63 => ⟨S4x2048x8, .i32⟩
  | 64 => ⟨S4x2048x8, .i32⟩
  | 65 => ⟨S_, .i32⟩
  | 66 => ⟨S4x2048x8, .i32⟩
  | 67 => ⟨S4x2048x8, .i32⟩
  | 68 => ⟨S4x2048x8, .i32⟩
  | 69 => ⟨S4x2048x8, .i32⟩
  | 70 => ⟨S4x2048x8, .i32⟩
  | 71 => ⟨S_, .i32⟩
  | 72 => ⟨S4x2048x8, .i32⟩
  | 73 => ⟨S4x2048x8, .i32⟩
  | 74 => ⟨S_, .i32⟩
  | 75 => ⟨S4x2048x8, .i32⟩
  | 76 => ⟨S4x2048x8, .i32⟩
  | 77 => ⟨S4x2048x8, .i32⟩
  | 78 => ⟨S4x2048x8, .i32⟩
  | 79 => ⟨S4x2048x8, .i32⟩
  | 80 => ⟨S_, .i32⟩
  | 81 => ⟨S4x2048x8, .i32⟩
  | 82 => ⟨S4x2048x8, .i32⟩
  | 83 => ⟨S_, .i32⟩
  | 84 => ⟨S4x2048x8, .i32⟩
  | 85 => ⟨S4x2048x8, .i32⟩
  | 86 => ⟨S4x2048x8, .i32⟩
  | 87 => ⟨S4x2048x8, .i32⟩
  | 88 => ⟨S4x2048x8, .i32⟩
  | 89 => ⟨S4x2048x8, .i32⟩
  | 90 => ⟨S4x2048x8, .i32⟩
  | 91 => ⟨S4x2048x8, .i32⟩
  | 92 => ⟨S_, .i32⟩
  | 93 => ⟨S4x2048x8, .i32⟩
  | 94 => ⟨S4x2048x8, .i32⟩
  | 95 => ⟨S4x2048x8, .i32⟩
  | 96 => ⟨S_, .i32⟩
  | 97 => ⟨S4x2048x8, .i32⟩
  | 98 => ⟨S4x2048x8, .i32⟩
  | 99 => ⟨S_, .i32⟩
  | 100 => ⟨S4x2048x8, .i32⟩
  | 101 => ⟨S4x2048x8, .i32⟩
  | 102 => ⟨S4x2048x8, .i32⟩
  | 103 => ⟨S4x2048x8, .i32⟩
  | 104 => ⟨S4x2048x8, .i32⟩
  | 105 => ⟨S_, .i32⟩
  | 106 => ⟨S4x2048x8, .i32⟩
  | 107 => ⟨S4x2048x8, .i32⟩
  | 108 => ⟨S_, .i32⟩
  | 109 => ⟨S4x2048x8, .i32⟩
  | 110 => ⟨S4x2048x8, .i32⟩
  | 111 => ⟨S4x2048x8, .i32⟩
  | 112 => ⟨S4x2048x8, .i32⟩
  | 113 => ⟨S4x2048x8, .i32⟩
  | 114 => ⟨S_, .i32⟩
  | 115 => ⟨S4x2048x8, .i32⟩
  | 116 => ⟨S4x2048x8, .i32⟩
  | 117 => ⟨S_, .i32⟩
  | 118 => ⟨S4x2048x8, .i32⟩
  | 119 => ⟨S4x2048x8, .i32⟩
  | 120 => ⟨S4x2048x8, .i32⟩
  | 121 => ⟨S4x2048x8, .i32⟩
  | 122 => ⟨S4x2048x8, .i32⟩
  | 123 => ⟨S_, .i32⟩
  | 124 => ⟨S4x2048x8, .i32⟩
  | 125 => ⟨S4x2048x8, .i32⟩
  | 126 => ⟨S_, .i32⟩
  | 127 => ⟨S4x2048x8, .i32⟩
  | _ => ⟨S4x2048x8, .i32⟩

abbrev hbmTy0_4 (i : Nat) : BufTy := match i % 128 with
  | 0 => ⟨S4x2048x8, .i32⟩
  | 1 => ⟨S4x2048x8, .i32⟩
  | 2 => ⟨S4x2048x8, .i32⟩
  | 3 => ⟨S4x2048x8, .i32⟩
  | 4 => ⟨S4x2048x8, .i32⟩
  | 5 => ⟨S4x2048x8, .i32⟩
  | 6 => ⟨S4x2048x8, .i32⟩
  | 7 => ⟨S_, .i32⟩
  | 8 => ⟨S4x2048x8, .i32⟩
  | 9 => ⟨S4x2048x8, .i32⟩
  | 10 => ⟨S4x2048x8, .i32⟩
  | 11 => ⟨S_, .i32⟩
  | 12 => ⟨S4x2048x8, .i32⟩
  | 13 => ⟨S4x2048x8, .i32⟩
  | 14 => ⟨S_, .i32⟩
  | 15 => ⟨S4x2048x8, .i32⟩
  | 16 => ⟨S4x2048x8, .i32⟩
  | 17 => ⟨S4x2048x8, .i32⟩
  | 18 => ⟨S4x2048x8, .i32⟩
  | 19 => ⟨S4x2048x8, .i32⟩
  | 20 => ⟨S_, .i32⟩
  | 21 => ⟨S4x2048x8, .i32⟩
  | 22 => ⟨S4x2048x8, .i32⟩
  | 23 => ⟨S_, .i32⟩
  | 24 => ⟨S4x2048x8, .i32⟩
  | 25 => ⟨S4x2048x8, .i32⟩
  | 26 => ⟨S4x2048x8, .i32⟩
  | 27 => ⟨S4x2048x8, .i32⟩
  | 28 => ⟨S4x2048x8, .i32⟩
  | 29 => ⟨S_, .i32⟩
  | 30 => ⟨S4x2048x8, .i32⟩
  | 31 => ⟨S4x2048x8, .i32⟩
  | 32 => ⟨S_, .i32⟩
  | 33 => ⟨S4x2048x8, .i32⟩
  | 34 => ⟨S4x2048x8, .i32⟩
  | 35 => ⟨S4x2048x8, .i32⟩
  | 36 => ⟨S4x2048x8, .i32⟩
  | 37 => ⟨S4x2048x8, .i32⟩
  | 38 => ⟨S_, .i32⟩
  | 39 => ⟨S4x2048x8, .i32⟩
  | 40 => ⟨S4x2048x8, .i32⟩
  | 41 => ⟨S_, .i32⟩
  | 42 => ⟨S4x2048x8, .i32⟩
  | 43 => ⟨S4x2048x8, .i32⟩
  | 44 => ⟨S4x2048x8, .i32⟩
  | 45 => ⟨S4x2048x8, .i32⟩
  | 46 => ⟨S4x2048x8, .i32⟩
  | 47 => ⟨S4x2048x8, .i32⟩
  | 48 => ⟨S4x2048x8, .i32⟩
  | 49 => ⟨S4x2048x8, .i32⟩
  | 50 => ⟨S_, .i32⟩
  | 51 => ⟨S4x2048x8, .i32⟩
  | 52 => ⟨S4x2048x8, .i32⟩
  | 53 => ⟨S4x2048x8, .i32⟩
  | 54 => ⟨S_, .i32⟩
  | 55 => ⟨S4x2048x8, .i32⟩
  | 56 => ⟨S4x2048x8, .i32⟩
  | 57 => ⟨S_, .i32⟩
  | 58 => ⟨S4x2048x8, .i32⟩
  | 59 => ⟨S4x2048x8, .i32⟩
  | 60 => ⟨S4x2048x8, .i32⟩
  | 61 => ⟨S4x2048x8, .i32⟩
  | 62 => ⟨S4x2048x8, .i32⟩
  | 63 => ⟨S_, .i32⟩
  | 64 => ⟨S4x2048x8, .i32⟩
  | 65 => ⟨S4x2048x8, .i32⟩
  | 66 => ⟨S_, .i32⟩
  | 67 => ⟨S4x2048x8, .i32⟩
  | 68 => ⟨S4x2048x8, .i32⟩
  | 69 => ⟨S4x2048x8, .i32⟩
  | 70 => ⟨S4x2048x8, .i32⟩
  | 71 => ⟨S4x2048x8, .i32⟩
  | 72 => ⟨S_, .i32⟩
  | 73 => ⟨S4x2048x8, .i32⟩
  | 74 => ⟨S4x2048x8, .i32⟩
  | 75 => ⟨S_, .i32⟩
  | 76 => ⟨S4x2048x8, .i32⟩
  | 77 => ⟨S4x2048x8, .i32⟩
  | 78 => ⟨S4x2048x8, .i32⟩
  | 79 => ⟨S4x2048x8, .i32⟩
  | 80 => ⟨S4x2048x8, .i32⟩
  | 81 => ⟨S_, .i32⟩
  | 82 => ⟨S4x2048x8, .i32⟩
  | 83 => ⟨S4x2048x8, .i32⟩
  | 84 => ⟨S_, .i32⟩
  | 85 => ⟨S4x2048x8, .i32⟩
  | 86 => ⟨S4x2048x8, .i32⟩
  | 87 => ⟨S4x2048x8, .i32⟩
  | 88 => ⟨S4x2048x8, .i32⟩
  | 89 => ⟨S4x2048x8, .i32⟩
  | 90 => ⟨S4x2048x8, .i32⟩
  | 91 => ⟨S4x2048x8, .i32⟩
  | 92 => ⟨S4x2048x8, .i32⟩
  | 93 => ⟨S_, .i32⟩
  | 94 => ⟨S4x2048x8, .i32⟩
  | 95 => ⟨S4x2048x8, .i32⟩
  | 96 => ⟨S4x2048x8, .i32⟩
  | 97 => ⟨S_, .i32⟩
  | 98 => ⟨S4x2048x8, .i32⟩
  | 99 => ⟨S4x2048x8, .i32⟩
  | 100 => ⟨S_, .i32⟩
  | 101 => ⟨S4x2048x8, .i32⟩
  | 102 => ⟨S4x2048x8, .i32⟩
  | 103 => ⟨S4x2048x8, .f32⟩
  | 104 => ⟨S_, .f32⟩
  | 105 => ⟨S4x2048x8, .f32⟩
  | 106 => ⟨S4x2048x8, .f32⟩
  | 107 => ⟨S1x1x1, .f32⟩
  | 108 => ⟨S4x2048x8, .f32⟩
  | 109 => ⟨S4x2048x8, .f32⟩
  | 110 => ⟨S4x2048x8, .f32⟩
  | 111 => ⟨S4x2048x8, .f32⟩
  | 112 => ⟨S4x2048x8, .f32⟩
  | 113 => ⟨S4x2048x8, .f32⟩
  | 114 => ⟨S_, .f32⟩
  | 115 => ⟨S4x2048x8, .f32⟩
  | 116 => ⟨S4x2048x8, .i1⟩
  | 117 => ⟨S4x2048x8, .i32⟩
  | _ => ⟨S4x2048x8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x8, .i32⟩

abbrev bufTy : (tb : Table) → Fin (tcTables nBuf tb) → BufTy
  | .hbm, ⟨i, _⟩ => hbmTy i
  | _, _ => ⟨S4x2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_v24 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v25 : Ref sig .tc := ⟨.hbm, 56, rfl⟩
abbrev main_c_3 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_call2_cst : Ref sig .tc := ⟨.hbm, 71, rfl⟩
abbrev main_call2_cst_0 : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_c : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_c_0 : Ref sig .tc := ⟨.hbm, 85, rfl⟩
abbrev main_call2_call0_v11 : Ref sig .tc := ⟨.hbm, 86, rfl⟩
abbrev main_call2_call0_v12 : Ref sig .tc := ⟨.hbm, 87, rfl⟩
abbrev main_call2_call0_v13 : Ref sig .tc := ⟨.hbm, 88, rfl⟩
abbrev main_call2_call0_c_1 : Ref sig .tc := ⟨.hbm, 89, rfl⟩
abbrev main_call2_call0_v14 : Ref sig .tc := ⟨.hbm, 90, rfl⟩
abbrev main_call2_call0_v15 : Ref sig .tc := ⟨.hbm, 91, rfl⟩
abbrev main_call2_call0_v16 : Ref sig .tc := ⟨.hbm, 92, rfl⟩
abbrev main_call2_call0_v17 : Ref sig .tc := ⟨.hbm, 93, rfl⟩
abbrev main_call2_call0_call0_v0 : Ref sig .tc := ⟨.hbm, 94, rfl⟩
abbrev main_call2_call0_call0_c : Ref sig .tc := ⟨.hbm, 95, rfl⟩
abbrev main_call2_call0_call0_v1 : Ref sig .tc := ⟨.hbm, 96, rfl⟩
abbrev main_call2_call0_call0_v2 : Ref sig .tc := ⟨.hbm, 97, rfl⟩
abbrev main_call2_call0_call0_v3 : Ref sig .tc := ⟨.hbm, 98, rfl⟩
abbrev main_call2_call0_call0_v4 : Ref sig .tc := ⟨.hbm, 99, rfl⟩
abbrev main_call2_call0_call0_v5 : Ref sig .tc := ⟨.hbm, 100, rfl⟩
abbrev main_call2_call0_call0_v6 : Ref sig .tc := ⟨.hbm, 101, rfl⟩
abbrev main_call2_call0_call0_c_0 : Ref sig .tc := ⟨.hbm, 102, rfl⟩
abbrev main_call2_call0_call0_v7 : Ref sig .tc := ⟨.hbm, 103, rfl⟩
abbrev main_call2_call0_call0_v8 : Ref sig .tc := ⟨.hbm, 104, rfl⟩
abbrev main_call2_call0_call0_c_1 : Ref sig .tc := ⟨.hbm, 105, rfl⟩
abbrev main_call2_call0_call0_v9 : Ref sig .tc := ⟨.hbm, 106, rfl⟩
abbrev main_call2_call0_call0_v10 : Ref sig .tc := ⟨.hbm, 107, rfl⟩
abbrev main_call2_call0_call0_v11 : Ref sig .tc := ⟨.hbm, 108, rfl⟩
abbrev main_call2_call0_call0_v12 : Ref sig .tc := ⟨.hbm, 109, rfl⟩
abbrev main_call2_call0_call0_v13 : Ref sig .tc := ⟨.hbm, 110, rfl⟩
abbrev main_call2_call0_call0_c_2 : Ref sig .tc := ⟨.hbm, 111, rfl⟩
abbrev main_call2_call0_call0_v14 : Ref sig .tc := ⟨.hbm, 112, rfl⟩
abbrev main_call2_call0_call0_v15 : Ref sig .tc := ⟨.hbm, 113, rfl⟩
abbrev main_call2_call0_call0_c_3 : Ref sig .tc := ⟨.hbm, 114, rfl⟩
abbrev main_call2_call0_call0_v16 : Ref sig .tc := ⟨.hbm, 115, rfl⟩
abbrev main_call2_call0_call0_v17 : Ref sig .tc := ⟨.hbm, 116, rfl⟩
abbrev main_call2_call0_call0_v18 : Ref sig .tc := ⟨.hbm, 117, rfl⟩
abbrev main_call2_call0_call0_v19 : Ref sig .tc := ⟨.hbm, 118, rfl⟩
abbrev main_call2_call0_call0_v20 : Ref sig .tc := ⟨.hbm, 119, rfl⟩
abbrev main_call2_call0_call0_c_4 : Ref sig .tc := ⟨.hbm, 120, rfl⟩
abbrev main_call2_call0_call0_v21 : Ref sig .tc := ⟨.hbm, 121, rfl⟩
abbrev main_call2_call0_call0_v22 : Ref sig .tc := ⟨.hbm, 122, rfl⟩
abbrev main_call2_call0_call0_c_5 : Ref sig .tc := ⟨.hbm, 123, rfl⟩
abbrev main_call2_call0_call0_v23 : Ref sig .tc := ⟨.hbm, 124, rfl⟩
abbrev main_call2_call0_call0_v24 : Ref sig .tc := ⟨.hbm, 125, rfl⟩
abbrev main_call2_call0_call0_v25 : Ref sig .tc := ⟨.hbm, 126, rfl⟩
abbrev main_call2_call0_call0_v26 : Ref sig .tc := ⟨.hbm, 127, rfl⟩
abbrev main_call2_call0_call0_v27 : Ref sig .tc := ⟨.hbm, 128, rfl⟩
abbrev main_call2_call0_call0_c_6 : Ref sig .tc := ⟨.hbm, 129, rfl⟩
abbrev main_call2_call0_call0_v28 : Ref sig .tc := ⟨.hbm, 130, rfl⟩
abbrev main_call2_call0_call0_v29 : Ref sig .tc := ⟨.hbm, 131, rfl⟩
abbrev main_call2_call0_call0_c_7 : Ref sig .tc := ⟨.hbm, 132, rfl⟩
abbrev main_call2_call0_call0_v30 : Ref sig .tc := ⟨.hbm, 133, rfl⟩
abbrev main_call2_call0_call0_v31 : Ref sig .tc := ⟨.hbm, 134, rfl⟩
abbrev main_call2_call0_call0_v32 : Ref sig .tc := ⟨.hbm, 135, rfl⟩
abbrev main_call2_call0_call0_v33 : Ref sig .tc := ⟨.hbm, 136, rfl⟩
abbrev main_call2_call0_call0_v34 : Ref sig .tc := ⟨.hbm, 137, rfl⟩
abbrev main_call2_call0_call0_v35 : Ref sig .tc := ⟨.hbm, 138, rfl⟩
abbrev main_call2_call0_call0_v36 : Ref sig .tc := ⟨.hbm, 139, rfl⟩
abbrev main_call2_call0_call0_v37 : Ref sig .tc := ⟨.hbm, 140, rfl⟩
abbrev main_call2_call0_call0_c_8 : Ref sig .tc := ⟨.hbm, 141, rfl⟩
abbrev main_call2_call0_call0_v38 : Ref sig .tc := ⟨.hbm, 142, rfl⟩
abbrev main_call2_call0_call0_v39 : Ref sig .tc := ⟨.hbm, 143, rfl⟩
abbrev main_call2_call0_call0_v40 : Ref sig .tc := ⟨.hbm, 144, rfl⟩
abbrev main_call2_call0_call0_c_9 : Ref sig .tc := ⟨.hbm, 145, rfl⟩
abbrev main_call2_call0_call0_v41 : Ref sig .tc := ⟨.hbm, 146, rfl⟩
abbrev main_call2_call0_call0_v42 : Ref sig .tc := ⟨.hbm, 147, rfl⟩
abbrev main_call2_call0_call0_c_10 : Ref sig .tc := ⟨.hbm, 148, rfl⟩
abbrev main_call2_call0_call0_v43 : Ref sig .tc := ⟨.hbm, 149, rfl⟩
abbrev main_call2_call0_call0_v44 : Ref sig .tc := ⟨.hbm, 150, rfl⟩
abbrev main_call2_call0_call0_v45 : Ref sig .tc := ⟨.hbm, 151, rfl⟩
abbrev main_call2_call0_call0_v46 : Ref sig .tc := ⟨.hbm, 152, rfl⟩
abbrev main_call2_call0_call0_v47 : Ref sig .tc := ⟨.hbm, 153, rfl⟩
abbrev main_call2_call0_call0_c_11 : Ref sig .tc := ⟨.hbm, 154, rfl⟩
abbrev main_call2_call0_call0_v48 : Ref sig .tc := ⟨.hbm, 155, rfl⟩
abbrev main_call2_call0_call0_v49 : Ref sig .tc := ⟨.hbm, 156, rfl⟩
abbrev main_call2_call0_call0_c_12 : Ref sig .tc := ⟨.hbm, 157, rfl⟩
abbrev main_call2_call0_call0_v50 : Ref sig .tc := ⟨.hbm, 158, rfl⟩
abbrev main_call2_call0_call0_v51 : Ref sig .tc := ⟨.hbm, 159, rfl⟩
abbrev main_call2_call0_call0_v52 : Ref sig .tc := ⟨.hbm, 160, rfl⟩
abbrev main_call2_call0_call0_v53 : Ref sig .tc := ⟨.hbm, 161, rfl⟩
abbrev main_call2_call0_call0_v54 : Ref sig .tc := ⟨.hbm, 162, rfl⟩
abbrev main_call2_call0_call0_c_13 : Ref sig .tc := ⟨.hbm, 163, rfl⟩
abbrev main_call2_call0_call0_v55 : Ref sig .tc := ⟨.hbm, 164, rfl⟩
abbrev main_call2_call0_call0_v56 : Ref sig .tc := ⟨.hbm, 165, rfl⟩
abbrev main_call2_call0_call0_c_14 : Ref sig .tc := ⟨.hbm, 166, rfl⟩
abbrev main_call2_call0_call0_v57 : Ref sig .tc := ⟨.hbm, 167, rfl⟩
abbrev main_call2_call0_call0_v58 : Ref sig .tc := ⟨.hbm, 168, rfl⟩
abbrev main_call2_call0_call0_v59 : Ref sig .tc := ⟨.hbm, 169, rfl⟩
abbrev main_call2_call0_call0_v60 : Ref sig .tc := ⟨.hbm, 170, rfl⟩
abbrev main_call2_call0_call0_v61 : Ref sig .tc := ⟨.hbm, 171, rfl⟩
abbrev main_call2_call0_call0_c_15 : Ref sig .tc := ⟨.hbm, 172, rfl⟩
abbrev main_call2_call0_call0_v62 : Ref sig .tc := ⟨.hbm, 173, rfl⟩
abbrev main_call2_call0_call0_v63 : Ref sig .tc := ⟨.hbm, 174, rfl⟩
abbrev main_call2_call0_call0_c_16 : Ref sig .tc := ⟨.hbm, 175, rfl⟩
abbrev main_call2_call0_call0_v64 : Ref sig .tc := ⟨.hbm, 176, rfl⟩
abbrev main_call2_call0_call0_v65 : Ref sig .tc := ⟨.hbm, 177, rfl⟩
abbrev main_call2_call0_call0_v66 : Ref sig .tc := ⟨.hbm, 178, rfl⟩
abbrev main_call2_call0_call0_v67 : Ref sig .tc := ⟨.hbm, 179, rfl⟩
abbrev main_call2_call0_call0_v68 : Ref sig .tc := ⟨.hbm, 180, rfl⟩
abbrev main_call2_call0_call0_v69 : Ref sig .tc := ⟨.hbm, 181, rfl⟩
abbrev main_call2_call0_call0_v70 : Ref sig .tc := ⟨.hbm, 182, rfl⟩
abbrev main_call2_call0_call0_v71 : Ref sig .tc := ⟨.hbm, 183, rfl⟩
abbrev main_call2_call0_call0_c_17 : Ref sig .tc := ⟨.hbm, 184, rfl⟩
abbrev main_call2_call0_call0_v72 : Ref sig .tc := ⟨.hbm, 185, rfl⟩
abbrev main_call2_call0_call0_v73 : Ref sig .tc := ⟨.hbm, 186, rfl⟩
abbrev main_call2_call0_call0_v74 : Ref sig .tc := ⟨.hbm, 187, rfl⟩
abbrev main_call2_call0_call0_c_18 : Ref sig .tc := ⟨.hbm, 188, rfl⟩
abbrev main_call2_call0_call0_v75 : Ref sig .tc := ⟨.hbm, 189, rfl⟩
abbrev main_call2_call0_call0_v76 : Ref sig .tc := ⟨.hbm, 190, rfl⟩
abbrev main_call2_call0_call0_c_19 : Ref sig .tc := ⟨.hbm, 191, rfl⟩
abbrev main_call2_call0_call0_v77 : Ref sig .tc := ⟨.hbm, 192, rfl⟩
abbrev main_call2_call0_call0_v78 : Ref sig .tc := ⟨.hbm, 193, rfl⟩
abbrev main_call2_call0_call0_v79 : Ref sig .tc := ⟨.hbm, 194, rfl⟩
abbrev main_call2_call0_call0_v80 : Ref sig .tc := ⟨.hbm, 195, rfl⟩
abbrev main_call2_call0_call0_v81 : Ref sig .tc := ⟨.hbm, 196, rfl⟩
abbrev main_call2_call0_call0_c_20 : Ref sig .tc := ⟨.hbm, 197, rfl⟩
abbrev main_call2_call0_call0_v82 : Ref sig .tc := ⟨.hbm, 198, rfl⟩
abbrev main_call2_call0_call0_v83 : Ref sig .tc := ⟨.hbm, 199, rfl⟩
abbrev main_call2_call0_call0_c_21 : Ref sig .tc := ⟨.hbm, 200, rfl⟩
abbrev main_call2_call0_call0_v84 : Ref sig .tc := ⟨.hbm, 201, rfl⟩
abbrev main_call2_call0_call0_v85 : Ref sig .tc := ⟨.hbm, 202, rfl⟩
abbrev main_call2_call0_call0_v86 : Ref sig .tc := ⟨.hbm, 203, rfl⟩
abbrev main_call2_call0_call0_v87 : Ref sig .tc := ⟨.hbm, 204, rfl⟩
abbrev main_call2_call0_call0_v88 : Ref sig .tc := ⟨.hbm, 205, rfl⟩
abbrev main_call2_call0_call0_c_22 : Ref sig .tc := ⟨.hbm, 206, rfl⟩
abbrev main_call2_call0_call0_v89 : Ref sig .tc := ⟨.hbm, 207, rfl⟩
abbrev main_call2_call0_call0_v90 : Ref sig .tc := ⟨.hbm, 208, rfl⟩
abbrev main_call2_call0_call0_c_23 : Ref sig .tc := ⟨.hbm, 209, rfl⟩
abbrev main_call2_call0_call0_v91 : Ref sig .tc := ⟨.hbm, 210, rfl⟩
abbrev main_call2_call0_call0_v92 : Ref sig .tc := ⟨.hbm, 211, rfl⟩
abbrev main_call2_call0_call0_v93 : Ref sig .tc := ⟨.hbm, 212, rfl⟩
abbrev main_call2_call0_call0_v94 : Ref sig .tc := ⟨.hbm, 213, rfl⟩
abbrev main_call2_call0_call0_v95 : Ref sig .tc := ⟨.hbm, 214, rfl⟩
abbrev main_call2_call0_call0_c_24 : Ref sig .tc := ⟨.hbm, 215, rfl⟩
abbrev main_call2_call0_call0_v96 : Ref sig .tc := ⟨.hbm, 216, rfl⟩
abbrev main_call2_call0_call0_v97 : Ref sig .tc := ⟨.hbm, 217, rfl⟩
abbrev main_call2_call0_call0_c_25 : Ref sig .tc := ⟨.hbm, 218, rfl⟩
abbrev main_call2_call0_call0_v98 : Ref sig .tc := ⟨.hbm, 219, rfl⟩
abbrev main_call2_call0_call0_v99 : Ref sig .tc := ⟨.hbm, 220, rfl⟩
abbrev main_call2_call0_call0_v100 : Ref sig .tc := ⟨.hbm, 221, rfl⟩
abbrev main_call2_call0_call0_v101 : Ref sig .tc := ⟨.hbm, 222, rfl⟩
abbrev main_call2_call0_call0_v102 : Ref sig .tc := ⟨.hbm, 223, rfl⟩
abbrev main_call2_call0_call0_v103 : Ref sig .tc := ⟨.hbm, 224, rfl⟩
abbrev main_call2_call0_call0_v104 : Ref sig .tc := ⟨.hbm, 225, rfl⟩
abbrev main_call2_call0_call0_v105 : Ref sig .tc := ⟨.hbm, 226, rfl⟩
abbrev main_call2_call0_call0_c_26 : Ref sig .tc := ⟨.hbm, 227, rfl⟩
abbrev main_call2_call0_call0_v106 : Ref sig .tc := ⟨.hbm, 228, rfl⟩
abbrev main_call2_call0_call0_v107 : Ref sig .tc := ⟨.hbm, 229, rfl⟩
abbrev main_call2_call0_call0_v108 : Ref sig .tc := ⟨.hbm, 230, rfl⟩
abbrev main_call2_call0_call0_c_27 : Ref sig .tc := ⟨.hbm, 231, rfl⟩
abbrev main_call2_call0_call0_v109 : Ref sig .tc := ⟨.hbm, 232, rfl⟩
abbrev main_call2_call0_call0_v110 : Ref sig .tc := ⟨.hbm, 233, rfl⟩
abbrev main_call2_call0_call0_c_28 : Ref sig .tc := ⟨.hbm, 234, rfl⟩
abbrev main_call2_call0_call0_v111 : Ref sig .tc := ⟨.hbm, 235, rfl⟩
abbrev main_call2_call0_call0_v112 : Ref sig .tc := ⟨.hbm, 236, rfl⟩
abbrev main_call2_call0_call0_v113 : Ref sig .tc := ⟨.hbm, 237, rfl⟩
abbrev main_call2_call0_call0_v114 : Ref sig .tc := ⟨.hbm, 238, rfl⟩
abbrev main_call2_call0_call0_v115 : Ref sig .tc := ⟨.hbm, 239, rfl⟩
abbrev main_call2_call0_call0_c_29 : Ref sig .tc := ⟨.hbm, 240, rfl⟩
abbrev main_call2_call0_call0_v116 : Ref sig .tc := ⟨.hbm, 241, rfl⟩
abbrev main_call2_call0_call0_v117 : Ref sig .tc := ⟨.hbm, 242, rfl⟩
abbrev main_call2_call0_call0_c_30 : Ref sig .tc := ⟨.hbm, 243, rfl⟩
abbrev main_call2_call0_call0_v118 : Ref sig .tc := ⟨.hbm, 244, rfl⟩
abbrev main_call2_call0_call0_v119 : Ref sig .tc := ⟨.hbm, 245, rfl⟩
abbrev main_call2_call0_call0_v120 : Ref sig .tc := ⟨.hbm, 246, rfl⟩
abbrev main_call2_call0_call0_v121 : Ref sig .tc := ⟨.hbm, 247, rfl⟩
abbrev main_call2_call0_call0_v122 : Ref sig .tc := ⟨.hbm, 248, rfl⟩
abbrev main_call2_call0_call0_c_31 : Ref sig .tc := ⟨.hbm, 249, rfl⟩
abbrev main_call2_call0_call0_v123 : Ref sig .tc := ⟨.hbm, 250, rfl⟩
abbrev main_call2_call0_call0_v124 : Ref sig .tc := ⟨.hbm, 251, rfl⟩
abbrev main_call2_call0_call0_c_32 : Ref sig .tc := ⟨.hbm, 252, rfl⟩
abbrev main_call2_call0_call0_v125 : Ref sig .tc := ⟨.hbm, 253, rfl⟩
abbrev main_call2_call0_call0_v126 : Ref sig .tc := ⟨.hbm, 254, rfl⟩
abbrev main_call2_call0_call0_v127 : Ref sig .tc := ⟨.hbm, 255, rfl⟩
abbrev main_call2_call0_call0_v128 : Ref sig .tc := ⟨.hbm, 256, rfl⟩
abbrev main_call2_call0_call0_v129 : Ref sig .tc := ⟨.hbm, 257, rfl⟩
abbrev main_call2_call0_call0_c_33 : Ref sig .tc := ⟨.hbm, 258, rfl⟩
abbrev main_call2_call0_call0_v130 : Ref sig .tc := ⟨.hbm, 259, rfl⟩
abbrev main_call2_call0_call0_v131 : Ref sig .tc := ⟨.hbm, 260, rfl⟩
abbrev main_call2_call0_call0_c_34 : Ref sig .tc := ⟨.hbm, 261, rfl⟩
abbrev main_call2_call0_call0_v132 : Ref sig .tc := ⟨.hbm, 262, rfl⟩
abbrev main_call2_call0_call0_v133 : Ref sig .tc := ⟨.hbm, 263, rfl⟩
abbrev main_call2_call0_call0_v134 : Ref sig .tc := ⟨.hbm, 264, rfl⟩
abbrev main_call2_call0_call0_v135 : Ref sig .tc := ⟨.hbm, 265, rfl⟩
abbrev main_call2_call0_call0_v136 : Ref sig .tc := ⟨.hbm, 266, rfl⟩
abbrev main_call2_call0_call0_v137 : Ref sig .tc := ⟨.hbm, 267, rfl⟩
abbrev main_call2_call0_call0_v138 : Ref sig .tc := ⟨.hbm, 268, rfl⟩
abbrev main_call2_call0_call0_v139 : Ref sig .tc := ⟨.hbm, 269, rfl⟩
abbrev main_call2_call0_call0_c_35 : Ref sig .tc := ⟨.hbm, 270, rfl⟩
abbrev main_call2_call0_call0_v140 : Ref sig .tc := ⟨.hbm, 271, rfl⟩
abbrev main_call2_call0_call0_v141 : Ref sig .tc := ⟨.hbm, 272, rfl⟩
abbrev main_call2_call0_call0_v142 : Ref sig .tc := ⟨.hbm, 273, rfl⟩
abbrev main_call2_call0_call0_c_36 : Ref sig .tc := ⟨.hbm, 274, rfl⟩
abbrev main_call2_call0_call0_v143 : Ref sig .tc := ⟨.hbm, 275, rfl⟩
abbrev main_call2_call0_call0_v144 : Ref sig .tc := ⟨.hbm, 276, rfl⟩
abbrev main_call2_call0_call0_c_37 : Ref sig .tc := ⟨.hbm, 277, rfl⟩
abbrev main_call2_call0_call0_v145 : Ref sig .tc := ⟨.hbm, 278, rfl⟩
abbrev main_call2_call0_call0_v146 : Ref sig .tc := ⟨.hbm, 279, rfl⟩
abbrev main_call2_call0_call0_v147 : Ref sig .tc := ⟨.hbm, 280, rfl⟩
abbrev main_call2_call0_call0_v148 : Ref sig .tc := ⟨.hbm, 281, rfl⟩
abbrev main_call2_call0_call0_v149 : Ref sig .tc := ⟨.hbm, 282, rfl⟩
abbrev main_call2_call0_call0_c_38 : Ref sig .tc := ⟨.hbm, 283, rfl⟩
abbrev main_call2_call0_call0_v150 : Ref sig .tc := ⟨.hbm, 284, rfl⟩
abbrev main_call2_call0_call0_v151 : Ref sig .tc := ⟨.hbm, 285, rfl⟩
abbrev main_call2_call0_call0_c_39 : Ref sig .tc := ⟨.hbm, 286, rfl⟩
abbrev main_call2_call0_call0_v152 : Ref sig .tc := ⟨.hbm, 287, rfl⟩
abbrev main_call2_call0_call0_v153 : Ref sig .tc := ⟨.hbm, 288, rfl⟩
abbrev main_call2_call0_call0_v154 : Ref sig .tc := ⟨.hbm, 289, rfl⟩
abbrev main_call2_call0_call0_v155 : Ref sig .tc := ⟨.hbm, 290, rfl⟩
abbrev main_call2_call0_call0_v156 : Ref sig .tc := ⟨.hbm, 291, rfl⟩
abbrev main_call2_call0_call0_c_40 : Ref sig .tc := ⟨.hbm, 292, rfl⟩
abbrev main_call2_call0_call0_v157 : Ref sig .tc := ⟨.hbm, 293, rfl⟩
abbrev main_call2_call0_call0_v158 : Ref sig .tc := ⟨.hbm, 294, rfl⟩
abbrev main_call2_call0_call0_c_41 : Ref sig .tc := ⟨.hbm, 295, rfl⟩
abbrev main_call2_call0_call0_v159 : Ref sig .tc := ⟨.hbm, 296, rfl⟩
abbrev main_call2_call0_call0_v160 : Ref sig .tc := ⟨.hbm, 297, rfl⟩
abbrev main_call2_call0_call0_v161 : Ref sig .tc := ⟨.hbm, 298, rfl⟩
abbrev main_call2_call0_call0_v162 : Ref sig .tc := ⟨.hbm, 299, rfl⟩
abbrev main_call2_call0_call0_v163 : Ref sig .tc := ⟨.hbm, 300, rfl⟩
abbrev main_call2_call0_call0_c_42 : Ref sig .tc := ⟨.hbm, 301, rfl⟩
abbrev main_call2_call0_call0_v164 : Ref sig .tc := ⟨.hbm, 302, rfl⟩
abbrev main_call2_call0_call0_v165 : Ref sig .tc := ⟨.hbm, 303, rfl⟩
abbrev main_call2_call0_call0_c_43 : Ref sig .tc := ⟨.hbm, 304, rfl⟩
abbrev main_call2_call0_call0_v166 : Ref sig .tc := ⟨.hbm, 305, rfl⟩
abbrev main_call2_call0_call0_v167 : Ref sig .tc := ⟨.hbm, 306, rfl⟩
abbrev main_call2_call0_call0_v168 : Ref sig .tc := ⟨.hbm, 307, rfl⟩
abbrev main_call2_call0_call0_v169 : Ref sig .tc := ⟨.hbm, 308, rfl⟩
abbrev main_call2_call0_call0_v170 : Ref sig .tc := ⟨.hbm, 309, rfl⟩
abbrev main_call2_call0_v18_0 : Ref sig .tc := ⟨.hbm, 310, rfl⟩
abbrev main_call2_call0_call0_v172 : Ref sig .tc := ⟨.hbm, 311, rfl⟩
abbrev main_call2_call0_call0_v173 : Ref sig .tc := ⟨.hbm, 312, rfl⟩
abbrev main_call2_call0_call0_c_44 : Ref sig .tc := ⟨.hbm, 313, rfl⟩
abbrev main_call2_call0_call0_v174 : Ref sig .tc := ⟨.hbm, 314, rfl⟩
abbrev main_call2_call0_v18_1 : Ref sig .tc := ⟨.hbm, 315, rfl⟩
abbrev main_call2_call0_v19 : Ref sig .tc := ⟨.hbm, 316, rfl⟩
abbrev main_call2_call0_c_2 : Ref sig .tc := ⟨.hbm, 317, rfl⟩
abbrev main_call2_call0_v20 : Ref sig .tc := ⟨.hbm, 318, rfl⟩
abbrev main_call2_call0_v21 : Ref sig .tc := ⟨.hbm, 319, rfl⟩
abbrev main_call2_call0_c_3 : Ref sig .tc := ⟨.hbm, 320, rfl⟩
abbrev main_call2_call0_v22 : Ref sig .tc := ⟨.hbm, 321, rfl⟩
abbrev main_call2_call0_v23 : Ref sig .tc := ⟨.hbm, 322, rfl⟩
abbrev main_call2_call0_v24 : Ref sig .tc := ⟨.hbm, 323, rfl⟩
abbrev main_call2_call0_cst : Ref sig .tc := ⟨.hbm, 324, rfl⟩
abbrev main_call2_call0_v25 : Ref sig .tc := ⟨.hbm, 325, rfl⟩
abbrev main_call2_call0_v26 : Ref sig .tc := ⟨.hbm, 326, rfl⟩
abbrev main_call2_call0_v27 : Ref sig .tc := ⟨.hbm, 327, rfl⟩
abbrev main_call2_call0_v28 : Ref sig .tc := ⟨.hbm, 328, rfl⟩
abbrev main_call2_call0_v29 : Ref sig .tc := ⟨.hbm, 329, rfl⟩
abbrev main_call2_call0_v30 : Ref sig .tc := ⟨.hbm, 330, rfl⟩
abbrev main_call2_call0_v31 : Ref sig .tc := ⟨.hbm, 331, rfl⟩
abbrev main_call2_call0_v32 : Ref sig .tc := ⟨.hbm, 332, rfl⟩
abbrev main_call2_v0 : Ref sig .tc := ⟨.hbm, 333, rfl⟩
abbrev main_call2_v1 : Ref sig .tc := ⟨.hbm, 334, rfl⟩
abbrev main_call2_v2 : Ref sig .tc := ⟨.hbm, 335, rfl⟩
abbrev main_call2_v3 : Ref sig .tc := ⟨.hbm, 336, rfl⟩
abbrev main_v36 : Ref sig .tc := ⟨.hbm, 337, rfl⟩
abbrev main_v37 : Ref sig .tc := ⟨.hbm, 338, rfl⟩
abbrev main_call3_v0 : Ref sig .tc := ⟨.hbm, 339, rfl⟩
abbrev main_call3_cst : Ref sig .tc := ⟨.hbm, 340, rfl⟩
abbrev main_call3_c : Ref sig .tc := ⟨.hbm, 341, rfl⟩
abbrev main_call3_v1_0 : Ref sig .tc := ⟨.hbm, 342, rfl⟩
abbrev main_v38 : Ref sig .tc := ⟨.hbm, 343, rfl⟩
abbrev main_v39 : Ref sig .tc := ⟨.hbm, 344, rfl⟩
abbrev main_v40 : Ref sig .tc := ⟨.hbm, 345, rfl⟩
abbrev main_v41 : Ref sig .tc := ⟨.hbm, 346, rfl⟩
abbrev main_c_7 : Ref sig .tc := ⟨.hbm, 347, rfl⟩
abbrev main_c_8 : Ref sig .tc := ⟨.hbm, 348, rfl⟩
abbrev main_v42 : Ref sig .tc := ⟨.hbm, 349, rfl⟩
abbrev main_v43 : Ref sig .tc := ⟨.hbm, 350, rfl⟩
abbrev main_v44 : Ref sig .tc := ⟨.hbm, 351, rfl⟩
abbrev main_c_9 : Ref sig .tc := ⟨.hbm, 352, rfl⟩
abbrev main_v45 : Ref sig .tc := ⟨.hbm, 353, rfl⟩
abbrev main_v46 : Ref sig .tc := ⟨.hbm, 354, rfl⟩
abbrev main_v47 : Ref sig .tc := ⟨.hbm, 355, rfl⟩
abbrev main_v48 : Ref sig .tc := ⟨.hbm, 356, rfl⟩
abbrev main_cst_10 : Ref sig .tc := ⟨.hbm, 357, rfl⟩
abbrev main_cst_11 : Ref sig .tc := ⟨.hbm, 358, rfl⟩
abbrev main_call4_v0 : Ref sig .tc := ⟨.hbm, 359, rfl⟩
abbrev main_call4_v1 : Ref sig .tc := ⟨.hbm, 360, rfl⟩
abbrev main_call4_v2 : Ref sig .tc := ⟨.hbm, 361, rfl⟩
abbrev main_call4_v3 : Ref sig .tc := ⟨.hbm, 362, rfl⟩
abbrev main_call4_v4 : Ref sig .tc := ⟨.hbm, 363, rfl⟩
abbrev main_call4_v5 : Ref sig .tc := ⟨.hbm, 364, rfl⟩
abbrev main_call4_v6 : Ref sig .tc := ⟨.hbm, 365, rfl⟩
abbrev main_call4_v7 : Ref sig .tc := ⟨.hbm, 366, rfl⟩
abbrev main_call4_v8 : Ref sig .tc := ⟨.hbm, 367, rfl⟩
abbrev main_call4_v9 : Ref sig .tc := ⟨.hbm, 368, rfl⟩
abbrev main_call4_v10 : Ref sig .tc := ⟨.hbm, 369, rfl⟩
abbrev main_call4_c : Ref sig .tc := ⟨.hbm, 370, rfl⟩
abbrev main_call4_v11 : Ref sig .tc := ⟨.hbm, 371, rfl⟩
abbrev main_call4_v12 : Ref sig .tc := ⟨.hbm, 372, rfl⟩
abbrev main_call4_c_0 : Ref sig .tc := ⟨.hbm, 373, rfl⟩
abbrev main_call4_v13 : Ref sig .tc := ⟨.hbm, 374, rfl⟩
abbrev main_call4_v14 : Ref sig .tc := ⟨.hbm, 375, rfl⟩
abbrev main_call4_c_1 : Ref sig .tc := ⟨.hbm, 376, rfl⟩
abbrev main_call4_v15 : Ref sig .tc := ⟨.hbm, 377, rfl⟩
abbrev main_call4_v16 : Ref sig .tc := ⟨.hbm, 378, rfl⟩
abbrev main_call4_v17 : Ref sig .tc := ⟨.hbm, 379, rfl⟩
abbrev main_call4_v18 : Ref sig .tc := ⟨.hbm, 380, rfl⟩
abbrev main_call4_c_2 : Ref sig .tc := ⟨.hbm, 381, rfl⟩
abbrev main_call4_v19 : Ref sig .tc := ⟨.hbm, 382, rfl⟩
abbrev main_call4_v20 : Ref sig .tc := ⟨.hbm, 383, rfl⟩
abbrev main_call4_v21 : Ref sig .tc := ⟨.hbm, 384, rfl⟩
abbrev main_call4_v22 : Ref sig .tc := ⟨.hbm, 385, rfl⟩
abbrev main_call4_call0_v0 : Ref sig .tc := ⟨.hbm, 386, rfl⟩
abbrev main_call4_call0_c : Ref sig .tc := ⟨.hbm, 387, rfl⟩
abbrev main_call4_call0_v1 : Ref sig .tc := ⟨.hbm, 388, rfl⟩
abbrev main_call4_call0_v2 : Ref sig .tc := ⟨.hbm, 389, rfl⟩
abbrev main_call4_call0_v3 : Ref sig .tc := ⟨.hbm, 390, rfl⟩
abbrev main_call4_call0_v4 : Ref sig .tc := ⟨.hbm, 391, rfl⟩
abbrev main_call4_call0_v5 : Ref sig .tc := ⟨.hbm, 392, rfl⟩
abbrev main_call4_call0_v6 : Ref sig .tc := ⟨.hbm, 393, rfl⟩
abbrev main_call4_call0_c_0 : Ref sig .tc := ⟨.hbm, 394, rfl⟩
abbrev main_call4_call0_v7 : Ref sig .tc := ⟨.hbm, 395, rfl⟩
abbrev main_call4_call0_v8 : Ref sig .tc := ⟨.hbm, 396, rfl⟩
abbrev main_call4_call0_c_1 : Ref sig .tc := ⟨.hbm, 397, rfl⟩
abbrev main_call4_call0_v9 : Ref sig .tc := ⟨.hbm, 398, rfl⟩
abbrev main_call4_call0_v10 : Ref sig .tc := ⟨.hbm, 399, rfl⟩
abbrev main_call4_call0_v11 : Ref sig .tc := ⟨.hbm, 400, rfl⟩
abbrev main_call4_call0_v12 : Ref sig .tc := ⟨.hbm, 401, rfl⟩
abbrev main_call4_call0_v13 : Ref sig .tc := ⟨.hbm, 402, rfl⟩
abbrev main_call4_call0_c_2 : Ref sig .tc := ⟨.hbm, 403, rfl⟩
abbrev main_call4_call0_v14 : Ref sig .tc := ⟨.hbm, 404, rfl⟩
abbrev main_call4_call0_v15 : Ref sig .tc := ⟨.hbm, 405, rfl⟩
abbrev main_call4_call0_c_3 : Ref sig .tc := ⟨.hbm, 406, rfl⟩
abbrev main_call4_call0_v16 : Ref sig .tc := ⟨.hbm, 407, rfl⟩
abbrev main_call4_call0_v17 : Ref sig .tc := ⟨.hbm, 408, rfl⟩
abbrev main_call4_call0_v18 : Ref sig .tc := ⟨.hbm, 409, rfl⟩
abbrev main_call4_call0_v19 : Ref sig .tc := ⟨.hbm, 410, rfl⟩
abbrev main_call4_call0_v20 : Ref sig .tc := ⟨.hbm, 411, rfl⟩
abbrev main_call4_call0_c_4 : Ref sig .tc := ⟨.hbm, 412, rfl⟩
abbrev main_call4_call0_v21 : Ref sig .tc := ⟨.hbm, 413, rfl⟩
abbrev main_call4_call0_v22 : Ref sig .tc := ⟨.hbm, 414, rfl⟩
abbrev main_call4_call0_c_5 : Ref sig .tc := ⟨.hbm, 415, rfl⟩
abbrev main_call4_call0_v23 : Ref sig .tc := ⟨.hbm, 416, rfl⟩
abbrev main_call4_call0_v24 : Ref sig .tc := ⟨.hbm, 417, rfl⟩
abbrev main_call4_call0_v25 : Ref sig .tc := ⟨.hbm, 418, rfl⟩
abbrev main_call4_call0_v26 : Ref sig .tc := ⟨.hbm, 419, rfl⟩
abbrev main_call4_call0_v27 : Ref sig .tc := ⟨.hbm, 420, rfl⟩
abbrev main_call4_call0_c_6 : Ref sig .tc := ⟨.hbm, 421, rfl⟩
abbrev main_call4_call0_v28 : Ref sig .tc := ⟨.hbm, 422, rfl⟩
abbrev main_call4_call0_v29 : Ref sig .tc := ⟨.hbm, 423, rfl⟩
abbrev main_call4_call0_c_7 : Ref sig .tc := ⟨.hbm, 424, rfl⟩
abbrev main_call4_call0_v30 : Ref sig .tc := ⟨.hbm, 425, rfl⟩
abbrev main_call4_call0_v31 : Ref sig .tc := ⟨.hbm, 426, rfl⟩
abbrev main_call4_call0_v32 : Ref sig .tc := ⟨.hbm, 427, rfl⟩
abbrev main_call4_call0_v33 : Ref sig .tc := ⟨.hbm, 428, rfl⟩
abbrev main_call4_call0_v34 : Ref sig .tc := ⟨.hbm, 429, rfl⟩
abbrev main_call4_call0_v35 : Ref sig .tc := ⟨.hbm, 430, rfl⟩
abbrev main_call4_call0_v36 : Ref sig .tc := ⟨.hbm, 431, rfl⟩
abbrev main_call4_call0_v37 : Ref sig .tc := ⟨.hbm, 432, rfl⟩
abbrev main_call4_call0_c_8 : Ref sig .tc := ⟨.hbm, 433, rfl⟩
abbrev main_call4_call0_v38 : Ref sig .tc := ⟨.hbm, 434, rfl⟩
abbrev main_call4_call0_v39 : Ref sig .tc := ⟨.hbm, 435, rfl⟩
abbrev main_call4_call0_v40 : Ref sig .tc := ⟨.hbm, 436, rfl⟩
abbrev main_call4_call0_c_9 : Ref sig .tc := ⟨.hbm, 437, rfl⟩
abbrev main_call4_call0_v41 : Ref sig .tc := ⟨.hbm, 438, rfl⟩
abbrev main_call4_call0_v42 : Ref sig .tc := ⟨.hbm, 439, rfl⟩
abbrev main_call4_call0_c_10 : Ref sig .tc := ⟨.hbm, 440, rfl⟩
abbrev main_call4_call0_v43 : Ref sig .tc := ⟨.hbm, 441, rfl⟩
abbrev main_call4_call0_v44 : Ref sig .tc := ⟨.hbm, 442, rfl⟩
abbrev main_call4_call0_v45 : Ref sig .tc := ⟨.hbm, 443, rfl⟩
abbrev main_call4_call0_v46 : Ref sig .tc := ⟨.hbm, 444, rfl⟩
abbrev main_call4_call0_v47 : Ref sig .tc := ⟨.hbm, 445, rfl⟩
abbrev main_call4_call0_c_11 : Ref sig .tc := ⟨.hbm, 446, rfl⟩
abbrev main_call4_call0_v48 : Ref sig .tc := ⟨.hbm, 447, rfl⟩
abbrev main_call4_call0_v49 : Ref sig .tc := ⟨.hbm, 448, rfl⟩
abbrev main_call4_call0_c_12 : Ref sig .tc := ⟨.hbm, 449, rfl⟩
abbrev main_call4_call0_v50 : Ref sig .tc := ⟨.hbm, 450, rfl⟩
abbrev main_call4_call0_v51 : Ref sig .tc := ⟨.hbm, 451, rfl⟩
abbrev main_call4_call0_v52 : Ref sig .tc := ⟨.hbm, 452, rfl⟩
abbrev main_call4_call0_v53 : Ref sig .tc := ⟨.hbm, 453, rfl⟩
abbrev main_call4_call0_v54 : Ref sig .tc := ⟨.hbm, 454, rfl⟩
abbrev main_call4_call0_c_13 : Ref sig .tc := ⟨.hbm, 455, rfl⟩
abbrev main_call4_call0_v55 : Ref sig .tc := ⟨.hbm, 456, rfl⟩
abbrev main_call4_call0_v56 : Ref sig .tc := ⟨.hbm, 457, rfl⟩
abbrev main_call4_call0_c_14 : Ref sig .tc := ⟨.hbm, 458, rfl⟩
abbrev main_call4_call0_v57 : Ref sig .tc := ⟨.hbm, 459, rfl⟩
abbrev main_call4_call0_v58 : Ref sig .tc := ⟨.hbm, 460, rfl⟩
abbrev main_call4_call0_v59 : Ref sig .tc := ⟨.hbm, 461, rfl⟩
abbrev main_call4_call0_v60 : Ref sig .tc := ⟨.hbm, 462, rfl⟩
abbrev main_call4_call0_v61 : Ref sig .tc := ⟨.hbm, 463, rfl⟩
abbrev main_call4_call0_c_15 : Ref sig .tc := ⟨.hbm, 464, rfl⟩
abbrev main_call4_call0_v62 : Ref sig .tc := ⟨.hbm, 465, rfl⟩
abbrev main_call4_call0_v63 : Ref sig .tc := ⟨.hbm, 466, rfl⟩
abbrev main_call4_call0_c_16 : Ref sig .tc := ⟨.hbm, 467, rfl⟩
abbrev main_call4_call0_v64 : Ref sig .tc := ⟨.hbm, 468, rfl⟩
abbrev main_call4_call0_v65 : Ref sig .tc := ⟨.hbm, 469, rfl⟩
abbrev main_call4_call0_v66 : Ref sig .tc := ⟨.hbm, 470, rfl⟩
abbrev main_call4_call0_v67 : Ref sig .tc := ⟨.hbm, 471, rfl⟩
abbrev main_call4_call0_v68 : Ref sig .tc := ⟨.hbm, 472, rfl⟩
abbrev main_call4_call0_v69 : Ref sig .tc := ⟨.hbm, 473, rfl⟩
abbrev main_call4_call0_v70 : Ref sig .tc := ⟨.hbm, 474, rfl⟩
abbrev main_call4_call0_v71 : Ref sig .tc := ⟨.hbm, 475, rfl⟩
abbrev main_call4_call0_c_17 : Ref sig .tc := ⟨.hbm, 476, rfl⟩
abbrev main_call4_call0_v72 : Ref sig .tc := ⟨.hbm, 477, rfl⟩
abbrev main_call4_call0_v73 : Ref sig .tc := ⟨.hbm, 478, rfl⟩
abbrev main_call4_call0_v74 : Ref sig .tc := ⟨.hbm, 479, rfl⟩
abbrev main_call4_call0_c_18 : Ref sig .tc := ⟨.hbm, 480, rfl⟩
abbrev main_call4_call0_v75 : Ref sig .tc := ⟨.hbm, 481, rfl⟩
abbrev main_call4_call0_v76 : Ref sig .tc := ⟨.hbm, 482, rfl⟩
abbrev main_call4_call0_c_19 : Ref sig .tc := ⟨.hbm, 483, rfl⟩
abbrev main_call4_call0_v77 : Ref sig .tc := ⟨.hbm, 484, rfl⟩
abbrev main_call4_call0_v78 : Ref sig .tc := ⟨.hbm, 485, rfl⟩
abbrev main_call4_call0_v79 : Ref sig .tc := ⟨.hbm, 486, rfl⟩
abbrev main_call4_call0_v80 : Ref sig .tc := ⟨.hbm, 487, rfl⟩
abbrev main_call4_call0_v81 : Ref sig .tc := ⟨.hbm, 488, rfl⟩
abbrev main_call4_call0_c_20 : Ref sig .tc := ⟨.hbm, 489, rfl⟩
abbrev main_call4_call0_v82 : Ref sig .tc := ⟨.hbm, 490, rfl⟩
abbrev main_call4_call0_v83 : Ref sig .tc := ⟨.hbm, 491, rfl⟩
abbrev main_call4_call0_c_21 : Ref sig .tc := ⟨.hbm, 492, rfl⟩
abbrev main_call4_call0_v84 : Ref sig .tc := ⟨.hbm, 493, rfl⟩
abbrev main_call4_call0_v85 : Ref sig .tc := ⟨.hbm, 494, rfl⟩
abbrev main_call4_call0_v86 : Ref sig .tc := ⟨.hbm, 495, rfl⟩
abbrev main_call4_call0_v87 : Ref sig .tc := ⟨.hbm, 496, rfl⟩
abbrev main_call4_call0_v88 : Ref sig .tc := ⟨.hbm, 497, rfl⟩
abbrev main_call4_call0_c_22 : Ref sig .tc := ⟨.hbm, 498, rfl⟩
abbrev main_call4_call0_v89 : Ref sig .tc := ⟨.hbm, 499, rfl⟩
abbrev main_call4_call0_v90 : Ref sig .tc := ⟨.hbm, 500, rfl⟩
abbrev main_call4_call0_c_23 : Ref sig .tc := ⟨.hbm, 501, rfl⟩
abbrev main_call4_call0_v91 : Ref sig .tc := ⟨.hbm, 502, rfl⟩
abbrev main_call4_call0_v92 : Ref sig .tc := ⟨.hbm, 503, rfl⟩
abbrev main_call4_call0_v93 : Ref sig .tc := ⟨.hbm, 504, rfl⟩
abbrev main_call4_call0_v94 : Ref sig .tc := ⟨.hbm, 505, rfl⟩
abbrev main_call4_call0_v95 : Ref sig .tc := ⟨.hbm, 506, rfl⟩
abbrev main_call4_call0_c_24 : Ref sig .tc := ⟨.hbm, 507, rfl⟩
abbrev main_call4_call0_v96 : Ref sig .tc := ⟨.hbm, 508, rfl⟩
abbrev main_call4_call0_v97 : Ref sig .tc := ⟨.hbm, 509, rfl⟩
abbrev main_call4_call0_c_25 : Ref sig .tc := ⟨.hbm, 510, rfl⟩
abbrev main_call4_call0_v98 : Ref sig .tc := ⟨.hbm, 511, rfl⟩
abbrev main_call4_call0_v99 : Ref sig .tc := ⟨.hbm, 512, rfl⟩
abbrev main_call4_call0_v100 : Ref sig .tc := ⟨.hbm, 513, rfl⟩
abbrev main_call4_call0_v101 : Ref sig .tc := ⟨.hbm, 514, rfl⟩
abbrev main_call4_call0_v102 : Ref sig .tc := ⟨.hbm, 515, rfl⟩
abbrev main_call4_call0_v103 : Ref sig .tc := ⟨.hbm, 516, rfl⟩
abbrev main_call4_call0_v104 : Ref sig .tc := ⟨.hbm, 517, rfl⟩
abbrev main_call4_call0_v105 : Ref sig .tc := ⟨.hbm, 518, rfl⟩
abbrev main_call4_call0_c_26 : Ref sig .tc := ⟨.hbm, 519, rfl⟩
abbrev main_call4_call0_v106 : Ref sig .tc := ⟨.hbm, 520, rfl⟩
abbrev main_call4_call0_v107 : Ref sig .tc := ⟨.hbm, 521, rfl⟩
abbrev main_call4_call0_v108 : Ref sig .tc := ⟨.hbm, 522, rfl⟩
abbrev main_call4_call0_c_27 : Ref sig .tc := ⟨.hbm, 523, rfl⟩
abbrev main_call4_call0_v109 : Ref sig .tc := ⟨.hbm, 524, rfl⟩
abbrev main_call4_call0_v110 : Ref sig .tc := ⟨.hbm, 525, rfl⟩
abbrev main_call4_call0_c_28 : Ref sig .tc := ⟨.hbm, 526, rfl⟩
abbrev main_call4_call0_v111 : Ref sig .tc := ⟨.hbm, 527, rfl⟩
abbrev main_call4_call0_v112 : Ref sig .tc := ⟨.hbm, 528, rfl⟩
abbrev main_call4_call0_v113 : Ref sig .tc := ⟨.hbm, 529, rfl⟩
abbrev main_call4_call0_v114 : Ref sig .tc := ⟨.hbm, 530, rfl⟩
abbrev main_call4_call0_v115 : Ref sig .tc := ⟨.hbm, 531, rfl⟩
abbrev main_call4_call0_c_29 : Ref sig .tc := ⟨.hbm, 532, rfl⟩
abbrev main_call4_call0_v116 : Ref sig .tc := ⟨.hbm, 533, rfl⟩
abbrev main_call4_call0_v117 : Ref sig .tc := ⟨.hbm, 534, rfl⟩
abbrev main_call4_call0_c_30 : Ref sig .tc := ⟨.hbm, 535, rfl⟩
abbrev main_call4_call0_v118 : Ref sig .tc := ⟨.hbm, 536, rfl⟩
abbrev main_call4_call0_v119 : Ref sig .tc := ⟨.hbm, 537, rfl⟩
abbrev main_call4_call0_v120 : Ref sig .tc := ⟨.hbm, 538, rfl⟩
abbrev main_call4_call0_v121 : Ref sig .tc := ⟨.hbm, 539, rfl⟩
abbrev main_call4_call0_v122 : Ref sig .tc := ⟨.hbm, 540, rfl⟩
abbrev main_call4_call0_c_31 : Ref sig .tc := ⟨.hbm, 541, rfl⟩
abbrev main_call4_call0_v123 : Ref sig .tc := ⟨.hbm, 542, rfl⟩
abbrev main_call4_call0_v124 : Ref sig .tc := ⟨.hbm, 543, rfl⟩
abbrev main_call4_call0_c_32 : Ref sig .tc := ⟨.hbm, 544, rfl⟩
abbrev main_call4_call0_v125 : Ref sig .tc := ⟨.hbm, 545, rfl⟩
abbrev main_call4_call0_v126 : Ref sig .tc := ⟨.hbm, 546, rfl⟩
abbrev main_call4_call0_v127 : Ref sig .tc := ⟨.hbm, 547, rfl⟩
abbrev main_call4_call0_v128 : Ref sig .tc := ⟨.hbm, 548, rfl⟩
abbrev main_call4_call0_v129 : Ref sig .tc := ⟨.hbm, 549, rfl⟩
abbrev main_call4_call0_c_33 : Ref sig .tc := ⟨.hbm, 550, rfl⟩
abbrev main_call4_call0_v130 : Ref sig .tc := ⟨.hbm, 551, rfl⟩
abbrev main_call4_call0_v131 : Ref sig .tc := ⟨.hbm, 552, rfl⟩
abbrev main_call4_call0_c_34 : Ref sig .tc := ⟨.hbm, 553, rfl⟩
abbrev main_call4_call0_v132 : Ref sig .tc := ⟨.hbm, 554, rfl⟩
abbrev main_call4_call0_v133 : Ref sig .tc := ⟨.hbm, 555, rfl⟩
abbrev main_call4_call0_v134 : Ref sig .tc := ⟨.hbm, 556, rfl⟩
abbrev main_call4_call0_v135 : Ref sig .tc := ⟨.hbm, 557, rfl⟩
abbrev main_call4_call0_v136 : Ref sig .tc := ⟨.hbm, 558, rfl⟩
abbrev main_call4_call0_v137 : Ref sig .tc := ⟨.hbm, 559, rfl⟩
abbrev main_call4_call0_v138 : Ref sig .tc := ⟨.hbm, 560, rfl⟩
abbrev main_call4_call0_v139 : Ref sig .tc := ⟨.hbm, 561, rfl⟩
abbrev main_call4_call0_c_35 : Ref sig .tc := ⟨.hbm, 562, rfl⟩
abbrev main_call4_call0_v140 : Ref sig .tc := ⟨.hbm, 563, rfl⟩
abbrev main_call4_call0_v141 : Ref sig .tc := ⟨.hbm, 564, rfl⟩
abbrev main_call4_call0_v142 : Ref sig .tc := ⟨.hbm, 565, rfl⟩
abbrev main_call4_call0_c_36 : Ref sig .tc := ⟨.hbm, 566, rfl⟩
abbrev main_call4_call0_v143 : Ref sig .tc := ⟨.hbm, 567, rfl⟩
abbrev main_call4_call0_v144 : Ref sig .tc := ⟨.hbm, 568, rfl⟩
abbrev main_call4_call0_c_37 : Ref sig .tc := ⟨.hbm, 569, rfl⟩
abbrev main_call4_call0_v145 : Ref sig .tc := ⟨.hbm, 570, rfl⟩
abbrev main_call4_call0_v146 : Ref sig .tc := ⟨.hbm, 571, rfl⟩
abbrev main_call4_call0_v147 : Ref sig .tc := ⟨.hbm, 572, rfl⟩
abbrev main_call4_call0_v148 : Ref sig .tc := ⟨.hbm, 573, rfl⟩
abbrev main_call4_call0_v149 : Ref sig .tc := ⟨.hbm, 574, rfl⟩
abbrev main_call4_call0_c_38 : Ref sig .tc := ⟨.hbm, 575, rfl⟩
abbrev main_call4_call0_v150 : Ref sig .tc := ⟨.hbm, 576, rfl⟩
abbrev main_call4_call0_v151 : Ref sig .tc := ⟨.hbm, 577, rfl⟩
abbrev main_call4_call0_c_39 : Ref sig .tc := ⟨.hbm, 578, rfl⟩
abbrev main_call4_call0_v152 : Ref sig .tc := ⟨.hbm, 579, rfl⟩
abbrev main_call4_call0_v153 : Ref sig .tc := ⟨.hbm, 580, rfl⟩
abbrev main_call4_call0_v154 : Ref sig .tc := ⟨.hbm, 581, rfl⟩
abbrev main_call4_call0_v155 : Ref sig .tc := ⟨.hbm, 582, rfl⟩
abbrev main_call4_call0_v156 : Ref sig .tc := ⟨.hbm, 583, rfl⟩
abbrev main_call4_call0_c_40 : Ref sig .tc := ⟨.hbm, 584, rfl⟩
abbrev main_call4_call0_v157 : Ref sig .tc := ⟨.hbm, 585, rfl⟩
abbrev main_call4_call0_v158 : Ref sig .tc := ⟨.hbm, 586, rfl⟩
abbrev main_call4_call0_c_41 : Ref sig .tc := ⟨.hbm, 587, rfl⟩
abbrev main_call4_call0_v159 : Ref sig .tc := ⟨.hbm, 588, rfl⟩
abbrev main_call4_call0_v160 : Ref sig .tc := ⟨.hbm, 589, rfl⟩
abbrev main_call4_call0_v161 : Ref sig .tc := ⟨.hbm, 590, rfl⟩
abbrev main_call4_call0_v162 : Ref sig .tc := ⟨.hbm, 591, rfl⟩
abbrev main_call4_call0_v163 : Ref sig .tc := ⟨.hbm, 592, rfl⟩
abbrev main_call4_call0_c_42 : Ref sig .tc := ⟨.hbm, 593, rfl⟩
abbrev main_call4_call0_v164 : Ref sig .tc := ⟨.hbm, 594, rfl⟩
abbrev main_call4_call0_v165 : Ref sig .tc := ⟨.hbm, 595, rfl⟩
abbrev main_call4_call0_c_43 : Ref sig .tc := ⟨.hbm, 596, rfl⟩
abbrev main_call4_call0_v166 : Ref sig .tc := ⟨.hbm, 597, rfl⟩
abbrev main_call4_call0_v167 : Ref sig .tc := ⟨.hbm, 598, rfl⟩
abbrev main_call4_call0_v168 : Ref sig .tc := ⟨.hbm, 599, rfl⟩
abbrev main_call4_call0_v169 : Ref sig .tc := ⟨.hbm, 600, rfl⟩
abbrev main_call4_call0_v170 : Ref sig .tc := ⟨.hbm, 601, rfl⟩
abbrev main_call4_v23_0 : Ref sig .tc := ⟨.hbm, 602, rfl⟩
abbrev main_call4_call0_v172 : Ref sig .tc := ⟨.hbm, 603, rfl⟩
abbrev main_call4_call0_v173 : Ref sig .tc := ⟨.hbm, 604, rfl⟩
abbrev main_call4_call0_c_44 : Ref sig .tc := ⟨.hbm, 605, rfl⟩
abbrev main_call4_call0_v174 : Ref sig .tc := ⟨.hbm, 606, rfl⟩
abbrev main_call4_v23_1 : Ref sig .tc := ⟨.hbm, 607, rfl⟩
abbrev main_call4_v24 : Ref sig .tc := ⟨.hbm, 608, rfl⟩
abbrev main_call4_c_3 : Ref sig .tc := ⟨.hbm, 609, rfl⟩
abbrev main_call4_v25 : Ref sig .tc := ⟨.hbm, 610, rfl⟩
abbrev main_call4_v26 : Ref sig .tc := ⟨.hbm, 611, rfl⟩
abbrev main_call4_c_4 : Ref sig .tc := ⟨.hbm, 612, rfl⟩
abbrev main_call4_v27 : Ref sig .tc := ⟨.hbm, 613, rfl⟩
abbrev main_call4_v28 : Ref sig .tc := ⟨.hbm, 614, rfl⟩
abbrev main_call4_v29 : Ref sig .tc := ⟨.hbm, 615, rfl⟩
abbrev main_call4_cst : Ref sig .tc := ⟨.hbm, 616, rfl⟩
abbrev main_call4_v30 : Ref sig .tc := ⟨.hbm, 617, rfl⟩
abbrev main_call4_v31 : Ref sig .tc := ⟨.hbm, 618, rfl⟩
abbrev main_call4_v32 : Ref sig .tc := ⟨.hbm, 619, rfl⟩
abbrev main_call4_v33 : Ref sig .tc := ⟨.hbm, 620, rfl⟩
abbrev main_call4_v34 : Ref sig .tc := ⟨.hbm, 621, rfl⟩
abbrev main_call4_v35 : Ref sig .tc := ⟨.hbm, 622, rfl⟩
abbrev main_call4_v36 : Ref sig .tc := ⟨.hbm, 623, rfl⟩
abbrev main_call4_v37 : Ref sig .tc := ⟨.hbm, 624, rfl⟩
abbrev main_v49 : Ref sig .tc := ⟨.hbm, 625, rfl⟩
abbrev main_cst_12 : Ref sig .tc := ⟨.hbm, 626, rfl⟩
abbrev main_v50 : Ref sig .tc := ⟨.hbm, 627, rfl⟩
abbrev main_v51 : Ref sig .tc := ⟨.hbm, 628, rfl⟩
abbrev main_v52 : Ref sig .tc := ⟨.hbm, 629, rfl⟩

abbrev nD : Nat := 1
abbrev τ : Topo := Topo.v7x

variable {F : FTy → Type} [FloatOps F]
-- ==== Proof.Ssa.lean ====
module

public import Idealize.ShloMosaic.Lib.StableHlo.Run

/-! # Straight lines of host operations in single-assignment order

A printed host line writes every buffer once, in increasing order of the buffer's number, and reads only buffers with
smaller numbers. So the final contents of the buffers satisfy one equation per operation: the contents of the result
are the operation's function of the contents of its operands, all taken at the END of the line. -/

@[expose] public section

noncomputable section

namespace Cert.Ssa

open Idealize.ShloMosaic Idealize.ShloMosaic.StableHlo

variable {τ : Topo} {sig : RefSig} {Val : EltTy → Type}

variable (key : Ref sig .tc → Nat)

/-- The operation writes `y` alone and computes it from buffers with smaller numbers. -/
structure Ok (key : Ref sig .tc → Nat) (op : HloOp τ sig Val) (y : Ref sig .tc) : Prop where
  writes : op.writes = {(Proc.devRef .tc y : DevRef τ sig)}
  fresh : op.fresh = ∅
  sub : op.bufs ⊆ tcRefs τ sig
  dep : ∀ F G : Valuation τ sig Val,
    (∀ r : Ref sig .tc, key r < key y → F (Proc.devRef .tc r) = G (Proc.devRef .tc r)) →
    op.result F (Proc.devRef .tc y) = op.result G (Proc.devRef .tc y)

section Builders

variable {key} {x a b c e y : Ref sig .tc}

theorem nullary_ok (v : y.ty.Contents Val) (hy) : Ok key (nullary (τ := τ) y v hy) y :=
  ⟨rfl, rfl, nullary_bufs_sub .., fun F G _ => by rw [nullary_result', nullary_result']⟩

theorem unary_ok (f : x.ty.Contents Val → y.ty.Contents Val) (hx hy) (h : key x < key y) :
    Ok key (unary (τ := τ) x y f hx hy) y :=
  ⟨rfl, rfl, unary_bufs_sub .., fun F G H => by rw [unary_result', unary_result', H x h]⟩

theorem binary_ok (f : a.ty.Contents Val → b.ty.Contents Val → y.ty.Contents Val) (ha hb hy)
    (h : key a < key y) (h' : key b < key y) : Ok key (binary (τ := τ) a b y f ha hb hy) y :=
  ⟨rfl, rfl, binary_bufs_sub .., fun F G H => by rw [binary_result', binary_result', H a h, H b h']⟩

theorem ternary_ok (f : c.ty.Contents Val → a.ty.Contents Val → b.ty.Contents Val → y.ty.Contents Val) (hc ha hb hy)
    (h : key c < key y) (h' : key a < key y) (h'' : key b < key y) : Ok key (ternary (τ := τ) c a b y f hc ha hb hy) y :=
  ⟨rfl, rfl, ternary_bufs_sub .., fun F G H => by rw [ternary_result', ternary_result', H c h, H a h', H b h'']⟩

theorem quaternary_ok
    (f : a.ty.Contents Val → b.ty.Contents Val → c.ty.Contents Val → e.ty.Contents Val → y.ty.Contents Val) (ha hb hc he hy)
    (h : key a < key y) (h' : key b < key y) (h'' : key c < key y) (h''' : key e < key y) :
    Ok key (quaternary (τ := τ) a b c e y f ha hb hc he hy) y :=
  ⟨rfl, rfl, quaternary_bufs_sub .., fun F G H => by rw [quaternary_result', quaternary_result', H a h, H b h', H c h'', H e h''']⟩

theorem reshape_ok (he hn hx hy) (h : key x < key y) : Ok key (reshape (τ := τ) (Val := Val) x y he hn hx hy) y :=
  ⟨rfl, rfl, reshape_bufs_sub .., fun F G H => by rw [reshape_result', reshape_result', H x h]⟩

end Builders

/-- The operations write buffers with increasing numbers from `n` on and below `m`. -/
inductive Line (key : Ref sig .tc → Nat) : Nat → List (HloOp τ sig Val) → Nat → Prop where
  | nil (n : Nat) : Line key n [] n
  | cons {n m : Nat} {op : HloOp τ sig Val} {ops : List (HloOp τ sig Val)} (y : Ref sig .tc) (h : Ok key op y)
      (hn : Nat.ble n (key y) = true) (t : Line key (key y + 1) ops m) : Line key n (op :: ops) m

variable {key}

theorem Line.append {n : Nat} {l : List (HloOp τ sig Val)} {m : Nat} (h : Line key n l m) {l' : List (HloOp τ sig Val)} {k : Nat}
    (h' : Line key m l' k) : Line key n (l ++ l') k := by
  induction h with
  | nil n => exact h'
  | cons y h hn _ ih => exact .cons y h hn (ih h')

theorem Line.start {n n' : Nat} {l : List (HloOp τ sig Val)} {m : Nat} (h : Line key n l m) (hl : l ≠ [])
    (hn : Nat.ble n' n = true) : Line key n' l m := by
  cases h with
  | nil => exact absurd rfl hl
  | cons y h h1 t => exact .cons y h (Nat.ble_eq_true_of_le (le_trans (Nat.le_of_ble_eq_true hn) (Nat.le_of_ble_eq_true h1))) t

theorem devRef_ne {r y : Ref sig .tc} (h : key r ≠ key y) :
    (Proc.devRef .tc r : DevRef τ sig) ≠ Proc.devRef .tc y :=
  fun e => h (by rw [Proc.devRef_injective _ e])

theorem Ok.keep {op : HloOp τ sig Val} {y r : Ref sig .tc} (h : Ok key op y) (hr : key r ≠ key y) (V : Valuation τ sig Val) :
    op.result V (Proc.devRef .tc r) = V (Proc.devRef .tc r) :=
  op.result_of_not_mem V (by rw [h.writes]; exact fun hm => devRef_ne hr (Finset.mem_singleton.mp hm))

/-- A buffer whose number is smaller than all those written keeps its contents. -/
theorem Line.keep {n m : Nat} {ops : List (HloOp τ sig Val)} (h : Line key n ops m) (V : Valuation τ sig Val)
    {r : Ref sig .tc} (hr : key r < n) : after ops V (Proc.devRef .tc r) = V (Proc.devRef .tc r) := by
  induction h generalizing V with
  | nil => rfl
  | @cons n _ op ops y h hn t ih =>
    have hn := Nat.le_of_ble_eq_true hn
    rw [after_cons, ih _ (by omega), h.keep (by omega)]

theorem Line.not_written {n m : Nat} {ops : List (HloOp τ sig Val)} (h : Line key n ops m)
    {r : Ref sig .tc} (hr : key r < n) : ∀ op ∈ ops, (Proc.devRef .tc r : DevRef τ sig) ∉ op.writes := by
  induction h with
  | nil => intro op ho; cases ho
  | @cons n _ op ops y h hn t ih =>
    have hn := Nat.le_of_ble_eq_true hn
    intro o ho
    rcases List.mem_cons.mp ho with rfl | ho
    · rw [h.writes]; exact fun hm => devRef_ne (key := key) (by omega) (Finset.mem_singleton.mp hm)
    · exact ih (by omega) o ho

theorem Line.fresh {n m : Nat} {ops : List (HloOp τ sig Val)} (h : Line key n ops m) : ∀ op ∈ ops, op.fresh = ∅ := by
  induction h with
  | nil => intro op ho; cases ho
  | @cons n _ op ops y h hn t ih =>
    intro o ho
    rcases List.mem_cons.mp ho with rfl | ho
    · exact h.fresh
    · exact ih o ho

theorem Line.sub {n m : Nat} {ops : List (HloOp τ sig Val)} (h : Line key n ops m) : ops.Forall fun op => op.bufs ⊆ tcRefs τ sig := by
  refine List.forall_iff_forall_mem.mpr ?_
  induction h with
  | nil => intro op ho; cases ho
  | @cons n _ op ops y h hn t ih =>
    intro o ho
    rcases List.mem_cons.mp ho with rfl | ho
    · exact h.sub
    · exact ih o ho

/-- What an operation of the line leaves in its result, from the contents at the end. -/
theorem Line.get {n m : Nat} {ops : List (HloOp τ sig Val)} (h : Line key n ops m) (V : Valuation τ sig Val)
    {i : Nat} {op : HloOp τ sig Val} (hi : ops[i]? = some op) {y : Ref sig .tc} (hop : Ok key op y) :
    after ops V (Proc.devRef .tc y) = op.result (after ops V) (Proc.devRef .tc y) := by
  induction h generalizing V i with
  | nil => simp at hi
  | @cons n m op' ops y' h hn t ih =>
    rw [after_cons]
    cases i with
    | succ i => exact ih _ (by simpa using hi)
    | zero =>
      obtain rfl : op' = op := by simpa using hi
      have hy : (Proc.devRef .tc y : DevRef τ sig) = Proc.devRef .tc y' := by
        have := h.writes.symm.trans hop.writes
        exact (Finset.singleton_injective this).symm
      obtain rfl := Proc.devRef_injective _ hy
      rw [t.keep _ (by omega)]
      refine hop.dep _ _ fun r hr => ?_
      rw [t.keep _ (by omega), hop.keep (by omega)]

section Reads

variable {x a b c e y : Ref sig .tc} {n m : Nat} {ops : List (HloOp τ sig Val)}

theorem Line.nullary (h : Line key n ops m) (V : Valuation τ sig Val) (i : Nat) {v : y.ty.Contents Val} {hy}
    (hi : ops[i]? = some (StableHlo.nullary (τ := τ) y v hy)) : after ops V (Proc.devRef .tc y) = v :=
  (h.get V hi (nullary_ok v hy)).trans (nullary_result' ..)

theorem Line.unary (h : Line key n ops m) (V : Valuation τ sig Val) (i : Nat) {f : x.ty.Contents Val → y.ty.Contents Val} {hx hy}
    (hi : ops[i]? = some (StableHlo.unary (τ := τ) x y f hx hy)) (hk : Nat.blt (key x) (key y) = true) :
    after ops V (Proc.devRef .tc y) = f (after ops V (Proc.devRef .tc x)) :=
  (h.get V hi (unary_ok f hx hy (Nat.le_of_ble_eq_true hk))).trans (unary_result' ..)

theorem Line.binary (h : Line key n ops m) (V : Valuation τ sig Val) (i : Nat)
    {f : a.ty.Contents Val → b.ty.Contents Val → y.ty.Contents Val} {ha hb hy}
    (hi : ops[i]? = some (StableHlo.binary (τ := τ) a b y f ha hb hy))
    (hk : (Nat.blt (key a) (key y) && Nat.blt (key b) (key y)) = true) :
    after ops V (Proc.devRef .tc y) = f (after ops V (Proc.devRef .tc a)) (after ops V (Proc.devRef .tc b)) := by
  rw [Bool.and_eq_true] at hk
  exact (h.get V hi (binary_ok f ha hb hy (Nat.le_of_ble_eq_true hk.1) (Nat.le_of_ble_eq_true hk.2))).trans (binary_result' ..)

theorem Line.ternary (h : Line key n ops m) (V : Valuation τ sig Val) (i : Nat)
    {f : c.ty.Contents Val → a.ty.Contents Val → b.ty.Contents Val → y.ty.Contents Val} {hc ha hb hy}
    (hi : ops[i]? = some (StableHlo.ternary (τ := τ) c a b y f hc ha hb hy))
    (hk : (Nat.blt (key c) (key y) && Nat.blt (key a) (key y) && Nat.blt (key b) (key y)) = true) :
    after ops V (Proc.devRef .tc y)
      = f (after ops V (Proc.devRef .tc c)) (after ops V (Proc.devRef .tc a)) (after ops V (Proc.devRef .tc b)) := by
  rw [Bool.and_eq_true, Bool.and_eq_true] at hk
  exact (h.get V hi (ternary_ok f hc ha hb hy (Nat.le_of_ble_eq_true hk.1.1) (Nat.le_of_ble_eq_true hk.1.2)
    (Nat.le_of_ble_eq_true hk.2))).trans (ternary_result' ..)

theorem Line.quaternary (h : Line key n ops m) (V : Valuation τ sig Val) (i : Nat)
    {f : a.ty.Contents Val → b.ty.Contents Val → c.ty.Contents Val → e.ty.Contents Val → y.ty.Contents Val} {ha hb hc he hy}
    (hi : ops[i]? = some (StableHlo.quaternary (τ := τ) a b c e y f ha hb hc he hy))
    (hk : (Nat.blt (key a) (key y) && Nat.blt (key b) (key y) && Nat.blt (key c) (key y) && Nat.blt (key e) (key y)) = true) :
    after ops V (Proc.devRef .tc y)
      = f (after ops V (Proc.devRef .tc a)) (after ops V (Proc.devRef .tc b)) (after ops V (Proc.devRef .tc c))
          (after ops V (Proc.devRef .tc e)) := by
  rw [Bool.and_eq_true, Bool.and_eq_true, Bool.and_eq_true] at hk
  exact (h.get V hi (quaternary_ok f ha hb hc he hy (Nat.le_of_ble_eq_true hk.1.1.1) (Nat.le_of_ble_eq_true hk.1.1.2)
    (Nat.le_of_ble_eq_true hk.1.2) (Nat.le_of_ble_eq_true hk.2))).trans (quaternary_result' ..)

theorem Line.reshape (h : Line key n ops m) (V : Valuation τ sig Val) (i : Nat) {he : x.ty.elt = y.ty.elt} {hn hx hy}
    (hi : ops[i]? = some (StableHlo.reshape (τ := τ) (Val := Val) x y he hn hx hy)) (hk : Nat.blt (key x) (key y) = true) :
    after ops V (Proc.devRef .tc y) = fun i => he ▸ shapeCast y.ty.shape (after ops V (Proc.devRef .tc x)) hn i :=
  (h.get V hi (reshape_ok he hn hx hy (Nat.le_of_ble_eq_true hk))).trans (reshape_result' ..)

/-- What a typed reference's buffer holds. -/
def val {T : BufTy} (W : Valuation τ sig Val) (x : TRef sig T) : T.Contents Val := x.ofBuf (W (Proc.devRef .tc x.ref))

theorem val_eq {T : BufTy} {W : Valuation τ sig Val} {x : TRef sig T} {v : T.Contents Val}
    (h : W (Proc.devRef .tc x.ref) = x.toBuf v) : val W x = v := by
  rw [val, h, TRef.ofBuf, TRef.toBuf, cast_cast, cast_eq]

variable {Ta Tb Tc Te Ty : BufTy} {a' : TRef sig Ta} {b' : TRef sig Tb} {c' : TRef sig Tc} {e' : TRef sig Te} {y' : TRef sig Ty}

theorem Line.tnullary (h : Line key n ops m) (V : Valuation τ sig Val) (i : Nat) {v : Ty.Contents Val}
    (hi : ops[i]? = some (TRef.nullary (τ := τ) y' v)) : val (after ops V) y' = v :=
  val_eq (h.nullary V i hi)

theorem Line.tunary (h : Line key n ops m) (V : Valuation τ sig Val) (i : Nat) {f : Ta.Contents Val → Ty.Contents Val}
    (hi : ops[i]? = some (TRef.unary (τ := τ) a' y' f)) (hk : Nat.blt (key a'.ref) (key y'.ref) = true) :
    val (after ops V) y' = f (val (after ops V) a') :=
  val_eq (h.unary V i hi hk)

theorem Line.tbinary (h : Line key n ops m) (V : Valuation τ sig Val) (i : Nat)
    {f : Ta.Contents Val → Tb.Contents Val → Ty.Contents Val}
    (hi : ops[i]? = some (TRef.binary (τ := τ) a' b' y' f))
    (hk : (Nat.blt (key a'.ref) (key y'.ref) && Nat.blt (key b'.ref) (key y'.ref)) = true) :
    val (after ops V) y' = f (val (after ops V) a') (val (after ops V) b') :=
  val_eq (h.binary V i hi hk)

theorem Line.tternary (h : Line key n ops m) (V : Valuation τ sig Val) (i : Nat)
    {f : Tc.Contents Val → Ta.Contents Val → Tb.Contents Val → Ty.Contents Val}
    (hi : ops[i]? = some (TRef.ternary (τ := τ) c' a' b' y' f))
    (hk : (Nat.blt (key c'.ref) (key y'.ref) && Nat.blt (key a'.ref) (key y'.ref) && Nat.blt (key b'.ref) (key y'.ref)) = true) :
    val (after ops V) y' = f (val (after ops V) c') (val (after ops V) a') (val (after ops V) b') :=
  val_eq (h.ternary V i hi hk)

theorem Line.tquaternary (h : Line key n ops m) (V : Valuation τ sig Val) (i : Nat)
    {f : Ta.Contents Val → Tb.Contents Val → Tc.Contents Val → Te.Contents Val → Ty.Contents Val}
    (hi : ops[i]? = some (TRef.quaternary (τ := τ) a' b' c' e' y' f))
    (hk : (Nat.blt (key a'.ref) (key y'.ref) && Nat.blt (key b'.ref) (key y'.ref) && Nat.blt (key c'.ref) (key y'.ref)
      && Nat.blt (key e'.ref) (key y'.ref)) = true) :
    val (after ops V) y' = f (val (after ops V) a') (val (after ops V) b') (val (after ops V) c') (val (after ops V) e') :=
  val_eq (h.quaternary V i hi hk)

theorem Line.treshape (h : Line key n ops m) (V : Valuation τ sig Val) (i : Nat) {he : Ta.elt = Ty.elt}
    {hn : Ta.shape.ShapeCasts Ty.shape} (hi : ops[i]? = some (TRef.reshape (τ := τ) (Val := Val) a' y' he hn))
    (hk : Nat.blt (key a'.ref) (key y'.ref) = true) :
    val (after ops V) y' = fun i => he ▸ shapeCast Ty.shape (val (after ops V) a') hn i := by
  obtain ⟨ra, rfl, _, _⟩ := a'
  obtain ⟨ry, rfl, _, _⟩ := y'
  exact h.reshape V i hi hk

end Reads

end Cert.Ssa

end
-- ==== Proof.IdealBody.lean ====
/-
  One grid point of the sampling kernel: what the body leaves in its output block.

  The body reads the codebook's count from scalar memory. Where the tile begins below the count it loads the tile's tokens
  and positions, the codebook's embeddings and their squared norms, and stores the sampled tokens over the whole output
  block; otherwise it leaves the block as it found it.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The random bits' keyed rounds, the second part of the body: both words after the first rounds. -/
def mid (v9 : IVec S256 32) (v44 : IVec S256 32) : IVec S256x1024 32 × IVec S256x1024 32 :=
  let v14 : IVec S256x1024 32 := iota .tc S256x1024 32 [1] iota_S256x1024_d1_w32
  let v52 : BitVec 32 := Scalar.xori (Scalar.xori 0#32 42#32) 466688986#32
  let v87 := k0_pay12 v9 v14 v44
  let v88 := k0_pay13 v9 v14 v44
  (k0_pay23 v52 v87 v88 17#32, k0_pay24 v52 v87 v88 17#32)

/-- The random words of the tile, shifted to their upper twenty-three bits. -/
def bits (v9 : IVec S256 32) (v44 : IVec S256 32) : IVec S256x1024 32 :=
  let v52 : BitVec 32 := Scalar.xori (Scalar.xori 0#32 42#32) 466688986#32
  k0_pay38 v52 (k0_pay34 (mid v9 v44).1 (mid v9 v44).2) (k0_pay35 (mid v9 v44).1 (mid v9 v44).2)
    (k0_pay36 (mid v9 v44).1 (mid v9 v44).2) k0_pay37

/-- What a live grid point stores: the sampled tokens, from the tile's tokens, its positions, the squared norms and the
    embeddings of the codebook. -/
def out (i : grid0.Coords) (toks : Vec F S1x1x256 .i32) (idx : Vec F S1x1x256 .i32) (sq : Vec F S1x1x1024 .f32)
    (embs : Vec F S1x1024x128 .f32) : Vec F S1x1x256 .i32 :=
  k0_pay1 (iota .tc S256x1024 32 [1] iota_S256x1024_d1_w32) (k0_pay3 toks embs sq)
    (bits (k0_pay2 idx) (k0_pay4 (BitVec.ofNat 32 (i 0).val))) 1065353216#32

/-- The table of counts, whole, as the body is handed it. -/
abbrev tbM : Memref sig .tc .smem S8 .i32 := Memref.whole main_v29

/-- The count the body reads at a grid point, out of the table's contents. -/
def word (i : grid0.Coords) (T : S8.Idx → Elt F .i32) : Elt F .i32 :=
  tbM.view.readAt (Elt F) (Rect.unit (s := S8) (k0_off1 i) S1.size (k0_off1_inb i)).toLoadRect T
    (Shape.Idx.first (s := (Rect.unit (s := S8) (k0_off1 i) S1.size (k0_off1_inb i)).shape) (by rw [show (Rect.unit (s := S8) (k0_off1 i) S1.size (k0_off1_inb i)).shape.numel = 1 from numel1_S1]; exact Nat.one_pos))

/-- The body at one grid point: the table and the four input blocks come back as they were; where the tile is live the
    output block holds `out` of the inputs. -/
theorem kernelRun (c : Dev nD) (i : grid0.Coords)
    (arg3 : Memref sig .tc .vmem S1x1x256 .i32) (harg3 : arg3.IsWhole) (arg4 : Memref sig .tc .vmem S1x1x256 .i32) (harg4 : arg4.IsWhole)
    (arg5 : Memref sig .tc .vmem S1x1x1024 .f32) (harg5 : arg5.IsWhole) (arg6 : Memref sig .tc .vmem S1x1024x128 .f32) (harg6 : arg6.IsWhole)
    (arg7 : Memref sig .tc .vmem S1x1x256 .i32) (harg7 : arg7.IsWhole)
    (T : Buf (Elt F) (tbM.view.loc (c : Thread nD τ))) (q : PosShare TreeShare)
    (X3 : Vec F S1x1x256 .i32) (X4 : Vec F S1x1x256 .i32) (X5 : Vec F S1x1x1024 .f32) (X6 : Vec F S1x1024x128 .f32) (X7 : Vec F S1x1x256 .i32)
    (K : PUnit → sProp 𝕄) :
    iprop((tbM.view.loc (c : Thread nD τ) ↦{q} T)
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare X7
        ∗ (iprop((tbM.view.loc (c : Thread nD τ) ↦{q} T)
            ∗ owns (c : Thread nD τ) arg3 fullShare X3 ∗ owns (c : Thread nD τ) arg4 fullShare X4
            ∗ owns (c : Thread nD τ) arg5 fullShare X5 ∗ owns (c : Thread nD τ) arg6 fullShare X6
            ∗ ∃ X, ⌜k0_cond1 i (word i T) = 1#1 → X = out i X3 X4 X5 X6⌝ ∗ owns (c : Thread nD τ) arg7 fullShare X) -∗ K ⟨⟩))
      ⊢ wp frame (wpE (defs₀ (F := F)) Variants.none c none) Set.univ
          (cc0__sample_kernel i tbM (Memref.isWhole_whole _) arg3 harg3 arg4 harg4 arg5 harg5 arg6 harg6 arg7 harg7) K := by
  rw [cc0__sample_kernel_eq_skeleton]; unfold cc0__sample_kernel_skel
  unfold owns
  iintro ⟨HT, ⟨%f3, %h3, H3⟩, ⟨%f4, %h4, H4⟩, ⟨%f5, %h5, H5⟩, ⟨%f6, %h6, H6⟩, ⟨%f7, %h7, H7⟩, Hk⟩
  sl_exec
  sl_step
  iapply Hk
  isplitl [HT]; · iexact HT
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  iexists _
  isplitr
  swap
  · iexists _
    isplitr
    swap
    · iexact H7
    · ipureintro; rfl
  · ipureintro
    intro hlive
    rw [dif_pos (show k0_cond1 i (kernelRun.sl.r c i T) = 1#1 from hlive)]
    have hz : (![0, 0, 0] : Fin 3 → Nat) = fun _ => 0 := by decide
    rw [View.read_writes_eq_canon _ _ _ (fun y => ⟨_, List.mem_singleton_self _, View.mem_set_unit_zero hz inb_S1x1x256_S1x1x256_0_0_0 y⟩),
      View.canon_unit_zero hz]
    have l1 (X : Vec F S1x1x256 .i32) : View.ld X (Rect.unit (s := S1x1x256) ![0, 0, 0] S1x1x256.size inb_S1x1x256_S1x1x256_0_0_0) = X :=
      View.ld_unit_zero hz _ X
    have l2 (X : Vec F S1x1x1024 .f32) : View.ld X (Rect.unit (s := S1x1x1024) ![0, 0, 0] S1x1x1024.size inb_S1x1x1024_S1x1x1024_0_0_0) = X :=
      View.ld_unit_zero hz _ X
    have l3 (X : Vec F S1x1024x128 .f32) : View.ld X (Rect.unit (s := S1x1024x128) ![0, 0, 0] S1x1024x128.size inb_S1x1024x128_S1x1024x128_0_0_0) = X :=
      View.ld_unit_zero hz _ X
    have e3 : kernelRun.sl.r_2 c arg3 arg5 arg6 f3 f5 f6 = k0_pay3 X3 X6 X5 := by
      rw [← h3, ← h5, ← h6]; unfold kernelRun.sl.r_2; rw [View.readAt_eq_ld, View.readAt_eq_ld, View.readAt_eq_ld, l1, l2, l3]
    have e4 : kernelRun.sl.v226 c i arg4 f4 = bits (k0_pay2 X4) (k0_pay4 (BitVec.ofNat 32 (i 0).val)) := by
      rw [← h4]
      have e : kernelRun.sl.r_1 c arg4 f4 = k0_pay2 (View.read (Elt F) arg4.view f4) := by
        unfold kernelRun.sl.r_1; rw [View.readAt_eq_ld, l1]
      rw [← e]
      rfl
    rw [e3, e4]
    rfl

end Cert.KernelIdeal.Body
-- ==== Proof.Around.lean ====
/-
  The launch theorem of a kernel whose output blocks are not all named, and whose result is then computed by host lines.

  The proof data of the region are relational: they say what the output array MAY hold at the end. The host lines after the
  region read that array, so what they leave is a function of it. `θ_run_around_rel` therefore ends with: on each core there
  are arrays `A`, each something its window's array may hold after every write-back, such that every bypassing buffer holds
  what the host lines leave from the region-entry contents with the arrays at `A`.
-/
module

public import Idealize.ShloMosaic.Lib.Pipeline.FrameSuffix

@[expose] public section

noncomputable section

namespace Cert.Around

open Idealize.ShloMosaic Idealize.ShloMosaic.Pipeline Idealize.ShloMosaic.Rounds Idealize.ShloMosaic.TcCoe
open Idealize.SL Idealize.SL.RA
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- What the run leaves: every window's array holds something it may hold, and there are such arrays `A` from which the
    host lines computed every buffer that bypasses the region. -/
def Post (pcs : P → PCfg sig Λ₀ Val) (a : (p : P) → (pcs p).Adm) (p : P)
    (rdat : (c : Dev nD) → RDat τ Val Unit ℕ (UR sig nD τ) ℕ (pin pcs a p) c)
    (V₀ : Dev nD → Valuation τ sig Val) (opss : List (List (HloOp τ sig Val))) (r : PUnit × MemSt nD τ sig Val) : Prop :=
  ∀ c : Dev nD, (∀ w, (rdat c).ArrAt w (pin pcs a p).N (r.2.mem (((pin pcs a p).spec w).arr.view.loc (c.tc : Thread nD τ))))
    ∧ ∃ A : (w : Fin (pin pcs a p).W) → Buf Val (((pin pcs a p).win w).arr.view.loc (c.tc : Thread nD τ)),
        (∀ w, (rdat c).ArrAt w (pin pcs a p).N (A w))
        ∧ ∀ b ∈ restRefsP sig (pcs p).pre (pin pcs a p).spec, r.2.mem ((c.tc : Thread nD τ).loc b)
            = StableHlo.after opss.flatten (withArrays (pin pcs a p).spec c (V₀ c) A) (Proc.devRef .tc b)

section

variable (pcs : P → PCfg sig Λ₀ Val) (a : (p : P) → (pcs p).Adm) (p : P)
  (kit : PLaunchFacts (nD := nD) (τ := τ) pcs p) (defs₀ : Defs nD τ sig Val Λ₀) (𝒱₀ : Variants)

/-- Holding the arrays after `n` write-backs is holding them at SOME contents they may have then, one choice for all windows. -/
theorem arraysAt_iff {c : Dev nD} (rd : RDat τ Val Unit ℕ (UR sig nD τ) ℕ (pin pcs a p) c) (n : Nat) :
    (rd.arraysAt n : sProp 𝕄) ⊢ iprop(∃ A, ⌜∀ w, rd.ArrAt w n (A w)⌝ ∗ rd.arrays A) := by
  classical
  unfold RDat.arraysAt RDat.arrays
  iintro H
  ihave H := (BI.bigSep_exists_pi Finset.univ (fun w F => iprop(⌜rd.ArrAt w n F⌝
    ∗ ((pin pcs a p).win w).arr.view.loc (c.tc : Thread nD τ) ↦[((pin pcs a p).win w).arr.view.set]{rd.share w} F))) $$ H
  icases H with ⟨%A, H⟩
  ihave H := (BI.bigSep_pure_sep Finset.univ (fun w => rd.ArrAt w n (A w))
    (fun w => ((pin pcs a p).win w).arr.view.loc (c.tc : Thread nD τ) ↦[((pin pcs a p).win w).arr.view.set]{rd.share w} A w)) $$ H
  icases H with ⟨%hA, H⟩
  iexists A
  isplitr
  · ipureintro; exact fun w => hA w (Finset.mem_univ w)
  · iexact H

/-- The converse: contents each array may have make up the arrays after `n` write-backs. -/
theorem arraysAt_intro {c : Dev nD} (rd : RDat τ Val Unit ℕ (UR sig nD τ) ℕ (pin pcs a p) c) (n : Nat)
    (A : (w : Fin (pin pcs a p).W) → Buf Val (((pin pcs a p).win w).arr.view.loc (c.tc : Thread nD τ))) (hA : ∀ w, rd.ArrAt w n (A w)) :
    (rd.arrays A : sProp 𝕄) ⊢ rd.arraysAt n := by
  unfold RDat.arraysAt RDat.arrays
  refine BI.bigSep_mono fun w _ => ?_
  show (((pin pcs a p).win w).arr.view.loc (c.tc : Thread nD τ) ↦[((pin pcs a p).win w).arr.view.set]{rd.share w} A w : sProp 𝕄)
    ⊢ iprop(∃ F, ⌜rd.ArrAt w n F⌝ ∗ ((pin pcs a p).win w).arr.view.loc (c.tc : Thread nD τ) ↦[((pin pcs a p).win w).arr.view.set]{rd.share w} F)
  iintro H
  iexists (A w)
  isplitr
  · ipureintro; exact hA w
  · iexact H

include kit in
/-- A kernel with prefetched tables between host lines, its proof data relational: every run ends at `Post`, every semaphore
    counter at zero. -/
theorem θ_run_around_rel (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hΦ : ∀ c t, (rdat c).Φ t = iprop(ΦA (pin pcs a p).spec c ∗ ΦT (pcs p).pre (a p).1 c)) :
    θ_run (Pipeline.defs pcs defs₀) (onTc main) ⟨m, fun _ => 0, g⟩ fun r => Post pcs a p rdat V₀ opss r ∧ r.2.sem = fun _ => 0 := by
  classical
  have hq : ∀ c w, ((pin pcs a p).spec w).isOut = false → (rdat c).q w = shareOf (pin pcs a p).spec w := fun c w hw =>
    (rdat c).q_eq_shareOf_of_share_full kit.win.arr_inj (hshare c) w hw
  have k₀ := kit.to₀
  have hself : ∀ c, RDat.familyOf pcs a p rdat p c = rdat c := fun c => by rw [RDat.familyOf_self]
  -- the arrays at contents they may hold, as the buffers behind them
  have hB : ∀ c A, (∀ w, (rdat c).ArrAt w (pin pcs a p).N (A w)) → ((rdat c).arrays A : sProp 𝕄)
      = arrBufs (pin pcs a p).spec c (fun b => withArrays (pin pcs a p).spec c (V₀ c) A (Proc.devRef .tc b)) := fun c A hA' =>
    ((rdat c).arrBufs_eq_arrays k₀.sharedIn k₀.arr_whole (hq c) _ A fun w =>
      (withArrays_arr_shared (pin pcs a p).spec c (V₀ c) A
        ((rdat c).ArrAt_sharedIn k₀.sharedIn (V₀ c) (hA c) (pin pcs a p).N A hA') w).symm).symm
  exact RDat.θ_run_region_pf_tail_quiescent pcs a (RDat.familyOf pcs a p rdat) () (k₀.cellOf_inj a) p k₀.win
    (OwnSemFacts.none (pin pcs a p).spec) k₀.pre emb₁ defs₀ 𝒱₀ m g main (fun _ => chain (opss.map StableHlo.seq))
    (fun c => by rw [hself]; exact hbody c) k₀.block_pos k₀.arr_whole k₀.stage_whole (fun c t => by rw [hself]; exact howed c t)
    (G := fun _ => iprop(emp))
    (u₀ := initOf (cells (pin pcs a) (k₀.cellOf_inj a)) (launchToks (pin pcs a) (k₀.cellOf_inj a)))
    (hu₀ := by
      iintro Hu; imodintro
      isplitl [Hu]
      · iapply (show (ownU _ : sProp 𝕄)
          ⊢ BI.own (emb₁ (initOf (cells (pin pcs a) (k₀.cellOf_inj a)) (launchToks (pin pcs a) (k₀.cellOf_inj a)))) from .rfl)
        iexact Hu
      · iapply (show (BI.emp : sProp 𝕄) ⊢ bigSep Finset.univ (fun _ : Dev nD => (BI.emp : sProp 𝕄)) from by
          rw [BI.bigSep_emp_const])
        iempintro)
    (V := fun c b => V₀ c (Proc.devRef .tc b)) (hmain := hmain)
    (hsplit := fun c => by
      rw [hself]; exact (rdat c).arrays_split_shared k₀.sharedIn k₀.arr_whole (hq c) _ _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => iprop(∃ A : (w : Fin (pin pcs a p).W) → Buf Val (((pin pcs a p).win w).arr.view.loc (c.tc : Thread nD τ)),
      ⌜∀ w, (rdat c).ArrAt w (pin pcs a p).N (A w)⌝
      ∗ unscopedRestP (Ix := Unit) (Name := ℕ) (U := UR sig nD τ) (Lvl := ℕ) (pcs p).pre (pin pcs a p).spec c
          (fun b => StableHlo.after opss.flatten (withArrays (pin pcs a p).spec c (V₀ c) A) (Proc.devRef .tc b))))
    (hX := fun c => by
      iintro ⟨HU, -, -, Hp, -⟩; imodintro
      isplitl [Hp]
      · iexists _; iexact Hp
      · iexact HU)
    (hin := fun c => by
      rw [hself, hΦ]
      unfold ΦA ΦT
      iintro ⟨Hp, Ht, Hr⟩
      isplitr [Ht]
      · isplitl [Hr] <;> iassumption
      · iexact Ht)
    (hout := fun c => by
      rw [hself, hΦ, ownSems0_none]
      unfold ΦA
      iintro ⟨⟨Hr, Hp⟩, -⟩
      isplitl [Hp]
      · iexact Hp
      isplitr
      · iempintro
      · iexact Hr)
    (htail := fun c Q' => by
      rw [hself]
      iintro ⟨Hk, Hb, Ha, HZ⟩
      ihave Ha := (arraysAt_iff pcs a p (rdat c) (pin pcs a p).N) $$ Ha
      icases Ha with ⟨%A, %hA', Ha⟩
      iapply (tail_seqs_bufs_b pcs defs₀ 𝒱₀ (pcs p).pre (pin pcs a p).spec c (V₀ c) A opss hsub hfresh hkeep Q')
      isplitl [Hk]
      · iintro ⟨Hb, Ha, Hu⟩
        iapply Hk
        isplitl [Hb]
        · iexact Hb
        isplitl [Ha]
        · iapply (arraysAt_intro pcs a p (rdat c) (pin pcs a p).N A hA')
          iapply (Entails.of_eq (hB c A hA').symm)
          iexact Ha
        · iexists A
          isplitr
          · ipureintro; exact hA'
          · iexact Hu
      · isplitl [Hb]
        · iexact Hb
        isplitl [Ha]
        · iapply (Entails.of_eq (hB c A hA')); iexact Ha
        · iexact HZ)
    (QY := fun c s => ∃ A : (w : Fin (pin pcs a p).W) → Buf Val (((pin pcs a p).win w).arr.view.loc (c.tc : Thread nD τ)),
      (∀ w, (rdat c).ArrAt w (pin pcs a p).N (A w))
      ∧ ∀ b ∈ restRefsP sig (pcs p).pre (pin pcs a p).spec, s.mem ((c.tc : Thread nD τ).loc b)
          = StableHlo.after opss.flatten (withArrays (pin pcs a p).spec c (V₀ c) A) (Proc.devRef .tc b))
    (hY := fun c s' => by
      iintro ⟨-, HZ, HSI⟩
      icases HZ with ⟨%A, %hA', HZ⟩
      unfold unscopedRestP
      ihave HZ := (pointsTo_read_all (restRefsP sig (pcs p).pre (pin pcs a p).spec) (fun b => (c.tc : Thread nD τ).loc b)
        (fun b => StableHlo.after opss.flatten (withArrays (pin pcs a p).spec c (V₀ c) A) (Proc.devRef .tc b)) s') $$ [HZ HSI]
      · isplitl [HZ] <;> iassumption
      icases HZ with ⟨%hZ, HSI⟩
      imodintro
      isplitr
      · ipureintro; exact ⟨A, hA', hZ⟩
      · iexact HSI)
    (hQ := fun s h hz => ⟨fun c => ⟨fun w => by simpa only [hself] using (h c).1 w, (h c).2.2⟩, hz⟩)

end

end Cert.Around

end
-- ==== Proof.IdealRun.lean ====
/-
  The whole run of the kernel program: the host lines before the region, the region, the host lines after it.
-/
module

public import proofs.«01_k».proof.Proof.IdealBody
public import proofs.«01_k».proof.Proof.Around
public import Idealize.ShloMosaic.Lib.Pipeline.DatRel
public import Idealize.ShloMosaic.Lib.Pipeline.ArrRel

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F] [∀ e, Nonempty (Elt F e)]

local notation "𝕄" => MT nD τ sig Unit (Elt F) ℕ (UR sig nD τ) ℕ

/-- The host lines before the region, and after it. -/
abbrev before : List (List (HloOp τ sig (Elt F))) := [hostOps0, hostOps0_1, hostOps0_2, hostOps0_3, hostOps0_4, hostOps0_5, hostOps0_6]
abbrev later : List (List (HloOp τ sig (Elt F))) := [hostOps1, hostOps1_1, hostOps1_2]

/-- Every buffer as the region finds it, from the launch memory. -/
def V₀ (m : (ℓ : Loc nD τ sig) → Buf (Elt F) ℓ) (c : Dev nD) : Valuation τ sig (Elt F) :=
  StableHlo.after (before (F := F)).flatten (fun b => m (c, b))

/-! The region, entered with the buffers at any contents `V`. -/

variable (V : Dev nD → Valuation τ sig (Elt F))

/-- The table of counts as the region finds it (there is one device). -/
def adm : (p : Fin 1) → (pcfgs (F := F) p).Adm
  | 0 => ⟨fun k => V 0 (Proc.devRef .tc (pre0.ref k)), trivial⟩
  | ⟨_ + 1, h⟩ => absurd h (Nat.not_lt.2 (Nat.le_add_left _ _))

/-- The region's configuration at that table. -/
abbrev cfgm : Pipeline.Cfg sig Λ₀ := Pipeline.pin (pcfgs (F := F)) (adm V) 0

/-- The block of window `w` at grid point `t`, out of the array as the region finds it. -/
def blk0 (c : Dev nD) (t : Fin (cfgm V).N) : Vec F S1x1x256 .i32 :=
  (((cfgm V).win 0).blk t).view.read (Elt F) (V c (Proc.devRef .tc (Pipeline.arrRef spec0 0)))
def blk1 (c : Dev nD) (t : Fin (cfgm V).N) : Vec F S1x1x256 .i32 :=
  (((cfgm V).win 1).blk t).view.read (Elt F) (V c (Proc.devRef .tc (Pipeline.arrRef spec0 1)))
def blk2 (c : Dev nD) (t : Fin (cfgm V).N) : Vec F S1x1x1024 .f32 :=
  (((cfgm V).win 2).blk t).view.read (Elt F) (V c (Proc.devRef .tc (Pipeline.arrRef spec0 2)))
def blk3 (c : Dev nD) (t : Fin (cfgm V).N) : Vec F S1x1024x128 .f32 :=
  (((cfgm V).win 3).blk t).view.read (Elt F) (V c (Proc.devRef .tc (Pipeline.arrRef spec0 3)))

/-- The proof data on core `c`. -/
def dat (c : Dev nD) : Dat τ (Elt F) Unit ℕ (UR sig nD τ) ℕ (cfgm V) c where
  A w := V c (Proc.devRef .tc (Pipeline.arrRef spec0 w))
  after w t := match w with
    | 0 => blk0 V c t
    | 1 => blk1 V c t
    | 2 => blk2 V c t
    | 3 => blk3 V c t
    | 4 => Pipeline.Dat.unnamed (cfg := cfgm V) 4 t
  Φ _ := iprop(Pipeline.ΦA spec0 c ∗ Pipeline.ΦT pre0 (adm V 0).1 c)
  q _ := fullShare
  owed _ := 0

/-- The counts as the body reads them. -/
def tbl (c : Dev nD) : S8.Idx → Elt F .i32 := V c (Proc.devRef .tc main_v29)

/-- The output window alone is marked. -/
def fgt : Fin 5 → Bool := fun w => w == 4

/-- What a live point leaves in the output block. -/
def Rl (c : Dev nD) (w : Fin (cfgm V).W) (t : Fin (cfgm V).N) (X : ((cfgm V).win w).block.Idx → Elt F ((cfgm V).win w).elt) : Prop :=
  match w, X with
  | 4, X => k0_cond1 (grid0.coords t) (word (grid0.coords t) (tbl V c)) = 1#1
      → X = out (grid0.coords t) (blk0 V c t) (blk1 V c t) (blk2 V c t) (blk3 V c t)
  | _, _ => True

/-- The relational data: inputs exact, the output held to `Rl`. -/
def rdat (c : Dev nD) : RDat τ (Elt F) Unit ℕ (UR sig nD τ) ℕ (cfgm V) c := (dat V c).toRRel fgt (Rl V c)

theorem before_0 (c : Dev nD) (t : Fin (cfgm V).N) (d) : (dat V c).before 0 t d = blk0 V c t :=
  ((dat V c).before_in_eq_fetched 0 rfl (fun _ => rfl) (fun _ _ _ => rfl) (fun _ => rfl) t d).trans rfl
theorem before_1 (c : Dev nD) (t : Fin (cfgm V).N) (d) : (dat V c).before 1 t d = blk1 V c t :=
  ((dat V c).before_in_eq_fetched 1 rfl (fun _ => rfl) (fun _ _ _ => rfl) (fun _ => rfl) t d).trans rfl
theorem before_2 (c : Dev nD) (t : Fin (cfgm V).N) (d) : (dat V c).before 2 t d = blk2 V c t :=
  ((dat V c).before_in_eq_fetched 2 rfl (fun _ => rfl) (fun _ _ _ => rfl) (fun _ => rfl) t d).trans rfl
theorem before_3 (c : Dev nD) (t : Fin (cfgm V).N) (d) : (dat V c).before 3 t d = blk3 V c t :=
  ((dat V c).before_in_eq_fetched 3 rfl (fun _ => rfl) (fun _ _ _ => rfl) (fun _ => rfl) t d).trans rfl

/-- The body as the table calls it at a point. -/
abbrev bodyAt (t : Fin (cfgm V).N) : Prog (TpuEff nD τ sig (Elt F) Λ₀ .tc) PUnit :=
  cc0__sample_kernel (grid0.coords t) tbM (Memref.isWhole_whole _)
    (((cfgm V).win 0).stage ((cfgm V).slots t 0)) (stage_whole0 0 _) (((cfgm V).win 1).stage ((cfgm V).slots t 1)) (stage_whole0 1 _)
    (((cfgm V).win 2).stage ((cfgm V).slots t 2)) (stage_whole0 2 _) (((cfgm V).win 3).stage ((cfgm V).slots t 3)) (stage_whole0 3 _)
    (((cfgm V).win 4).stage ((cfgm V).slots t 4)) (stage_whole0 4 _)

theorem defs₀_row (t : Fin (cfgm V).N) : defs₀ (F := F) .tc (cfgm V).body ((cfgm V).bodyArgs t ((cfgm V).slots t)) = bodyAt V t := by
  unfold defs₀; rw [Defs.onTc_tc]; rfl

/-- The tables' share the body is lent. -/
theorem phiT_eq (c : Dev nD) : (Pipeline.ΦT pre0 (adm V 0).1 c : sProp 𝕄)
    = iprop(tbM.view.loc (c : Thread nD τ) ↦{fullShare.right} tbl V c) := by
  obtain rfl : c = 0 := Subsingleton.elim _ _
  unfold Pipeline.ΦT Pipeline.prefHeld
  rw [show (Finset.univ : Finset (Fin pre0.K)) = {0} from rfl, bigSep_singleton]
  rfl

theorem triple (c : Dev nD) (t : Fin (cfgm V).N) :
    iprop((dat V c).Φ t.castSucc ∗ (dat V c).owesAt () t.castSucc
        ∗ (∃ d, owns (c : Thread nD τ) (((cfgm V).win 0).stage ((cfgm V).slots t 0)) fullShare ((dat V c).before 0 t d))
        ∗ (∃ d, owns (c : Thread nD τ) (((cfgm V).win 1).stage ((cfgm V).slots t 1)) fullShare ((dat V c).before 1 t d))
        ∗ (∃ d, owns (c : Thread nD τ) (((cfgm V).win 2).stage ((cfgm V).slots t 2)) fullShare ((dat V c).before 2 t d))
        ∗ (∃ d, owns (c : Thread nD τ) (((cfgm V).win 3).stage ((cfgm V).slots t 3)) fullShare ((dat V c).before 3 t d))
        ∗ (∃ Y, ⌜((dat V c).toRRel fgt (Rl V c)).Finds 4 t Y⌝ ∗ owns (c : Thread nD τ) (((cfgm V).win 4).stage ((cfgm V).slots t 4)) fullShare Y))
      ⊢ wp frame (wpE (defs₀ (F := F)) Variants.none c none) Set.univ (bodyAt V t) fun _ =>
        iprop((dat V c).Φ t.succ ∗ (dat V c).owesAt () t.succ
          ∗ owns (c : Thread nD τ) (((cfgm V).win 0).stage ((cfgm V).slots t 0)) fullShare (blk0 V c t)
          ∗ owns (c : Thread nD τ) (((cfgm V).win 1).stage ((cfgm V).slots t 1)) fullShare (blk1 V c t)
          ∗ owns (c : Thread nD τ) (((cfgm V).win 2).stage ((cfgm V).slots t 2)) fullShare (blk2 V c t)
          ∗ owns (c : Thread nD τ) (((cfgm V).win 3).stage ((cfgm V).slots t 3)) fullShare (blk3 V c t)
          ∗ (∃ X, ⌜Rl V c 4 t X⌝ ∗ owns (c : Thread nD τ) (((cfgm V).win 4).stage ((cfgm V).slots t 4)) fullShare X)) := by
  rw [show (dat V c).Φ t.castSucc = iprop(Pipeline.ΦA spec0 c ∗ Pipeline.ΦT pre0 (adm V 0).1 c) from rfl,
    show (dat V c).Φ t.succ = iprop(Pipeline.ΦA spec0 c ∗ Pipeline.ΦT pre0 (adm V 0).1 c) from rfl,
    show (dat V c).owesAt () t.succ = (dat V c).owesAt () t.castSucc from rfl, phiT_eq]
  simp only [before_0, before_1, before_2, before_3]
  iintro ⟨⟨HA, HT⟩, HO, ⟨%d0, H0⟩, ⟨%d1, H1⟩, ⟨%d2, H2⟩, ⟨%d3, H3⟩, ⟨%Y, -, H4⟩⟩
  iapply (kernelRun c (grid0.coords t) _ _ _ _ _ _ _ _ _ _ (tbl V c) _ (blk0 V c t) (blk1 V c t) (blk2 V c t) (blk3 V c t) Y _)
  isplitl [HT]; · iexact HT
  isplitl [H0]; · iexact H0
  isplitl [H1]; · iexact H1
  isplitl [H2]; · iexact H2
  isplitl [H3]; · iexact H3
  isplitl [H4]; · iexact H4
  iintro ⟨HT, H0, H1, H2, H3, ⟨%X, %hX, H4⟩⟩
  isplitl [HA HT]
  · isplitl [HA]; · iexact HA
    iexact HT
  isplitl [HO]; · iexact HO
  isplitl [H0]; · iexact H0
  isplitl [H1]; · iexact H1
  isplitl [H2]; · iexact H2
  isplitl [H3]; · iexact H3
  iexists X
  isplitr
  · ipureintro; exact hX
  · iexact H4

theorem obligation (c : Dev nD) : BodyObligationRel (dat V c) (defs₀ (F := F)) Variants.none () Set.univ fgt (Rl V c) := fun t => by
  rw [Gen.bigSep_W0, Gen.bigSep_W0, defs₀_row]
  exact triple V c t

end Cert.KernelIdeal.Run
-- ==== Proof.IdealLines.lean ====
module

public import proofs.«01_k».proof.Proof.Ssa
public import proofs.«01_k».proof.Proof.IdealRun

/-! # The host lines of the kernel's program are in single-assignment order -/

set_option maxRecDepth 16384

@[expose] public section

noncomputable section

namespace Cert.KernelIdeal.Lines

open Idealize.ShloMosaic Idealize.ShloMosaic.StableHlo Cert.Ssa
open Cert.KernelIdeal.Gen

variable {F : FTy → Type} [FloatOps F]

/-- The buffers in the order in which the program writes them (the kernel's table lies in its own memory). -/
def kkey (r : Ref sig .tc) : Nat := match r.space with | .hbm => 2 * r.idx.val | _ => 657

set_option maxHeartbeats 40000000 in
theorem line_hostOps0 : Line kkey 4 (hostOps0 : List (HloOp τ sig (Elt F))) 39 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_1 : Line kkey 40 (hostOps0_1 : List (HloOp τ sig (Elt F))) 573 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_2 : Line kkey 574 (hostOps0_2 : List (HloOp τ sig (Elt F))) 591 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_3 : Line kkey 592 (hostOps0_3 : List (HloOp τ sig (Elt F))) 593 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_4 : Line kkey 594 (hostOps0_4 : List (HloOp τ sig (Elt F))) 609 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_5 : Line kkey 610 (hostOps0_5 : List (HloOp τ sig (Elt F))) 653 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps0_6 : Line kkey 654 (hostOps0_6 : List (HloOp τ sig (Elt F))) 661 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps1 : Line kkey 664 (hostOps1 : List (HloOp τ sig (Elt F))) 667 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps1_1 : Line kkey 668 (hostOps1_1 : List (HloOp τ sig (Elt F))) 673 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

set_option maxHeartbeats 40000000 in
theorem line_hostOps1_2 : Line kkey 674 (hostOps1_2 : List (HloOp τ sig (Elt F))) 719 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
  exact .nil _

theorem line_before : Line kkey 4 (Cert.KernelIdeal.Run.before (F := F)).flatten 661 :=
  line_hostOps0.append ((line_hostOps0_1.start (by exact List.cons_ne_nil _ _) rfl).append ((line_hostOps0_2.start (by exact List.cons_ne_nil _ _) rfl).append ((line_hostOps0_3.start (by exact List.cons_ne_nil _ _) rfl).append ((line_hostOps0_4.start (by exact List.cons_ne_nil _ _) rfl).append ((line_hostOps0_5.start (by exact List.cons_ne_nil _ _) rfl).append ((line_hostOps0_6.start (by exact List.cons_ne_nil _ _) rfl).append (.nil _)))))))

theorem line_later : Line kkey 664 (Cert.KernelIdeal.Run.later (F := F)).flatten 719 :=
  line_hostOps1.append ((line_hostOps1_1.start (by exact List.cons_ne_nil _ _) rfl).append ((line_hostOps1_2.start (by exact List.cons_ne_nil _ _) rfl).append (.nil _)))

end Cert.KernelIdeal.Lines

end
-- ==== Proof.IdealFrame.lean ====
/-
  What a run of the kernel program leaves in the buffers, for any launch memory.
-/
module

public import proofs.«01_k».proof.Proof.IdealLines

@[expose] public section

set_option maxRecDepth 16384

noncomputable section

namespace Cert.KernelIdeal.Frame

open Cert.KernelIdeal Cert.KernelIdeal.Gen Cert.KernelIdeal.Body Cert.KernelIdeal.Run Cert.KernelIdeal.Lines
open Idealize.ShloMosaic Idealize.ShloMosaic.TcCoe
open Idealize.SL.Sem

variable {F : FTy → Type} [FloatOps F] [∀ e, Nonempty (Elt F e)]

theorem later_sub : ∀ ops ∈ later (F := F), ∀ op ∈ ops, op.bufs ⊆ Pipeline.tailRefs sig pre0 spec0 := by
  have h₁ : ∀ ops ∈ later (F := F), ∀ op ∈ ops, op.bufs ⊆ StableHlo.tcRefs τ sig := by
    intro ops ho op h
    simp only [later, List.mem_cons, List.not_mem_nil, or_false] at ho
    rcases ho with rfl | rfl | rfl
    · exact List.forall_iff_forall_mem.mp hostOps1_sub op h
    · exact List.forall_iff_forall_mem.mp hostOps1_1_sub op h
    · exact List.forall_iff_forall_mem.mp hostOps1_2_sub op h
  have h₂ : ∀ ops ∈ later (F := F), ∀ op ∈ ops, (Proc.devRef .tc main_v29 : DevRef τ sig) ∉ op.bufs := by
    intro ops ho op h
    simp only [later, List.mem_cons, List.not_mem_nil, or_false] at ho
    have ne : ∀ r : Ref sig .tc, kkey r ≠ 657 → (Proc.devRef .tc main_v29 : DevRef τ sig) ≠ Proc.devRef .tc r :=
      fun r hr => Ssa.devRef_ne (key := kkey) (fun e => hr e.symm)
    rcases ho with rfl | rfl | rfl
    all_goals
      revert op h
      refine List.forall_iff_forall_mem.mp ?_
      simp only [List.forall_cons, List.Forall, StableHlo.reshape, StableHlo.unary, StableHlo.binary, StableHlo.ternary, StableHlo.nullary,
        StableHlo.TRef.unary, StableHlo.TRef.binary, StableHlo.TRef.ternary, StableHlo.TRef.nullary,
        Finset.mem_insert, Finset.mem_singleton, not_or]
      repeat' refine And.intro ?_ ?_
      all_goals first | exact ne _ (by decide) | exact trivial
  exact fun ops ho op h => Pipeline.sub_tailRefs pre0 spec0 op (h₁ ops ho op h) fun k => by
    obtain rfl : k = 0 := Subsingleton.elim _ _
    exact h₂ ops ho op h

theorem later_ok {ops : List (HloOp τ sig (Elt F))} (ho : ops ∈ later (F := F)) {op : HloOp τ sig (Elt F)} (h : op ∈ ops) :
    op ∈ (later (F := F)).flatten := List.mem_flatten.mpr ⟨ops, ho, h⟩

theorem win_lt : ∀ w : Fin 5, kkey (Pipeline.arrRef spec0 w) < 664 := by decide

theorem share_full (V : Dev nD → Valuation τ sig (Elt F)) (c : Dev nD) (w : Fin (cfgm V).W) :
    (rdat V c).share w = Idealize.SL.RA.fullShare := by
  simp only [rdat, Pipeline.Dat.toRRel_share]
  show (if ((cfgm V).win w).isOut then Idealize.SL.RA.fullShare else (dat V c).q w) = _
  split <;> rfl

/-- What the run leaves, over the contents `V₀ m` at the region's entry. -/
theorem run (m : (ℓ : Loc nD τ sig) → Buf (Elt F) ℓ) (g : Dev nD → PrngReg) :
    θ_run (Pipeline.defs (pcfgs (F := F)) defs₀) (onTc (τ := τ) (main (F := F))) ⟨m, fun _ => 0, g⟩ fun r =>
      Around.Post (pcfgs (F := F)) (adm (V₀ m)) 0 (rdat (V₀ m)) (V₀ m) (later (F := F)) r ∧ r.2.sem = fun _ => 0 :=
  Around.θ_run_around_rel (pcfgs (F := F)) (adm (V₀ m)) 0 launch0 defs₀ Variants.none (rdat (V₀ m)) m g main
    (fun c => (obligation (V₀ m) c).toRRel) (share_full (V₀ m)) (fun c t => rfl) (V₀ m) later
    later_sub (fun ops ho op h => line_later.fresh op (later_ok ho h))
    (fun ops ho op h w => line_later.not_written (r := Pipeline.arrRef spec0 w) (win_lt w) op (later_ok ho h))
    (Pipeline.hmainP_around (pcfgs (F := F)) 0 defs₀ Variants.none m main before later
      (by exact ⟨hostOps0_sub, hostOps0_1_sub, hostOps0_2_sub, hostOps0_3_sub, hostOps0_4_sub, hostOps0_5_sub, hostOps0_6_sub⟩)
      (List.forall_iff_forall_mem.mpr fun ops ho => List.forall_iff_forall_mem.mpr fun op h =>
        line_before.fresh op (List.mem_flatten.mpr ⟨ops, ho, h⟩)) main_chain)
    (fun c w => rfl) (fun c k => by obtain rfl : c = 0 := Subsingleton.elim _ _; rfl) (fun c t => rfl)

theorem rest_v53 : main_v53 ∈ Pipeline.restRefsP sig pre0 spec0 := by
  simp only [Pipeline.restRefsP, Pipeline.restRefs, Finset.mem_sdiff, Finset.mem_filter, Finset.mem_univ, true_and, Finset.mem_image]
  decide

theorem rest_arg0 : main_arg0 ∈ Pipeline.restRefsP sig pre0 spec0 := by
  simp only [Pipeline.restRefsP, Pipeline.restRefs, Finset.mem_sdiff, Finset.mem_filter, Finset.mem_univ, true_and, Finset.mem_image]
  decide

/-- The contents at the end, read off: the arguments kept, and the result computed by the later host lines from contents that
    differ from those at the region's entry in the region's result alone. -/
theorem ends (m : (ℓ : Loc nD τ sig) → Buf (Elt F) ℓ) (r : PUnit × MemSt nD τ sig (Elt F))
    (h : Around.Post (pcfgs (F := F)) (adm (V₀ m)) 0 (rdat (V₀ m)) (V₀ m) (later (F := F)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ ∃ U : Valuation τ sig (Elt F),
        (rdat (V₀ m) c).ArrAt 4 (cfgm (V₀ m)).N (U (Proc.devRef .tc main_v32))
        ∧ (∀ b : Ref sig .tc, b ≠ main_v32 → U (Proc.devRef .tc b) = V₀ m c (Proc.devRef .tc b))
        ∧ r.2.mem ((c.tc : Thread nD τ).loc main_v53) = StableHlo.after (later (F := F)).flatten U (Proc.devRef .tc main_v53) := by
  obtain ⟨hw, A, hA, hr⟩ := h c
  have hin : ∀ w : Fin 5, w ≠ 4 → ∀ X, (rdat (V₀ m) c).ArrAt w (cfgm (V₀ m)).N X → X = V₀ m c (Proc.devRef .tc (Pipeline.arrRef spec0 w)) := by
    intro w hw X hX
    have hi : ((cfgm (V₀ m)).win w).isOut = false := by
      revert hw; fin_cases w <;> first | exact fun _ => rfl | exact fun h => absurd rfl h
    rw [(rdat (V₀ m) c).ArrAt_in w hi] at hX
    exact hX
  have hU : ∀ b : Ref sig .tc, b ≠ main_v32 →
      Pipeline.withArrays spec0 c (V₀ m c) A (Proc.devRef .tc b) = V₀ m c (Proc.devRef .tc b) := by
    intro b hb
    by_cases hx : ∃ w, Pipeline.arrRef spec0 w = b
    · obtain ⟨w, rfl⟩ := hx
      rw [Pipeline.withArrays_arr spec0 winFacts0.arr_inj]
      refine hin w ?_ _ (hA w)
      rintro rfl
      exact hb rfl
    · exact Pipeline.withArrays_of_ne _ _ _ _ _ fun w e => hx ⟨w, e⟩
  have hv : ∀ b : Ref sig .tc, kkey b < 4 → V₀ m c (Proc.devRef .tc b) = m (c, Proc.devRef .tc b) := fun b hb =>
    line_before.keep _ hb
  refine ⟨?_, ?_, Pipeline.withArrays spec0 c (V₀ m c) A, ?_, hU, hr main_v53 rest_v53⟩
  · rw [hr main_arg0 rest_arg0, line_later.keep _ (by decide), hU _ (by decide), hv _ (by decide)]
  · exact (hin 3 (by decide) _ (hw 3)).trans (hv main_arg1 (by decide))
  · have := Pipeline.withArrays_arr spec0 winFacts0.arr_inj c (V₀ m c) A 4
    exact this.symm ▸ hA 4

/-- The program runs, keeps its arguments and ends with every counter at zero. -/
theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c => ⟨(ends m r h.1 c).1, (ends m r h.1 c).2.1⟩, h.2⟩) (run m g)

end Cert.KernelIdeal.Frame
-- ==== Proof.RefOps.lean ====
module

public import proofs.«01_k».proof.Proof.Ssa
public import proofs.«01_k».proof.Proof.Gen.ReferenceIdeal
public import Idealize.ShloMosaic.Lib.StableHlo.RunHlo
public import Idealize.ShloMosaic.Lib.Quiescent

/-! # The operations of the reference program, the calls written out -/

set_option maxRecDepth 16384

@[expose] public section

noncomputable section

namespace Cert.ReferenceIdeal.Lines

open Cert.ReferenceIdeal Cert.ReferenceIdeal.Gen
open Idealize.ShloMosaic Idealize.ShloMosaic.TcCoe Idealize.ShloMosaic.StableHlo Cert.Ssa
open Idealize.SL.Sem

variable {F : FTy → Type} [FloatOps F]

abbrev l0 : List (HloOp τ sig (Elt F)) :=
  [ StableHlo.reshape main_arg0 main_v0 (rfl : (.i32 : EltTy) = .i32) shapeCasts_S4x2048x8_S8192x8,
    StableHlo.unary main_v0 main_v1 ((transpose S8x8192 [1, 0] · transposes_S8192x8_S8x8192_1_0) : (⟨S8192x8, .i32⟩ : BufTy).Contents (Elt F) → (⟨S8x8192, .i32⟩ : BufTy).Contents (Elt F)),
    StableHlo.binary main_arg1 main_arg1 main_v2 (mulf : (⟨S8x1024x128, .f32⟩ : BufTy).Contents (Elt F) → (⟨S8x1024x128, .f32⟩ : BufTy).Contents (Elt F) → (⟨S8x1024x128, .f32⟩ : BufTy).Contents (Elt F)),
    StableHlo.nullary main_cst (constant S_ .f32 0x00000000#32),
    StableHlo.binary main_v2 main_cst main_v3 ((fun x v => Host.reduceAdd x v reducesTo_S8x1024x128_S8x1024_d2 h_S_) : (⟨S8x1024x128, .f32⟩ : BufTy).Contents (Elt F) → (⟨S_, .f32⟩ : BufTy).Contents (Elt F) → (⟨S8x1024, .f32⟩ : BufTy).Contents (Elt F)),
    StableHlo.binary main_arg1 main_arg1 main_v4 ((fun l r => Host.dotGeneral dot_S8x1024x128_S8x1024x128_S8x1024x1024_2_2_1_1_0_0 none l r) : (⟨S8x1024x128, .f32⟩ : BufTy).Contents (Elt F) → (⟨S8x1024x128, .f32⟩ : BufTy).Contents (Elt F) → (⟨S8x1024x1024, .f32⟩ : BufTy).Contents (Elt F)),
    StableHlo.unary main_v3 main_v5 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v3 main_v6 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_v5 main_v7 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    StableHlo.unary main_v6 main_v8 (broadcastInDim S8x1024x1024 ![0, 1, 2] bcast_S8x1x1024_S8x1024x1024_0_1_2 : (⟨S8x1x1024, .f32⟩ : BufTy).Contents (Elt F) → (⟨S8x1024x1024, .f32⟩ : BufTy).Contents (Elt F)),
    StableHlo.binary main_v7 main_v8 main_v9 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_0 (constant S_ .f32 0x40000000#32),
    StableHlo.unary main_cst_0 main_v10 (broadcastInDim S8x1024x1024 ![] bcast_S_S8x1024x1024 : (⟨S_, .f32⟩ : BufTy).Contents (Elt F) → (⟨S8x1024x1024, .f32⟩ : BufTy).Contents (Elt F)),
    StableHlo.binary main_v10 main_v4 main_v11 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v9 main_v11 main_v12 (subf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_1 (constant S_ .f32 0x00000000#32),
    StableHlo.unary main_cst_1 main_v13 (broadcastInDim S8x1024x1024 ![] bcast_S_S8x1024x1024 : (⟨S_, .f32⟩ : BufTy).Contents (Elt F) → (⟨S8x1024x1024, .f32⟩ : BufTy).Contents (Elt F)),
    StableHlo.binary main_v12 main_v13 main_v14 (maximumf : (⟨S8x1024x1024, .f32⟩ : BufTy).Contents (Elt F) → (⟨S8x1024x1024, .f32⟩ : BufTy).Contents (Elt F) → (⟨S8x1024x1024, .f32⟩ : BufTy).Contents (Elt F)),
    StableHlo.unary main_v14 main_v15 (Host.sqrt : (⟨S8x1024x1024, .f32⟩ : BufTy).Contents (Elt F) → (⟨S8x1024x1024, .f32⟩ : BufTy).Contents (Elt F)),
    StableHlo.unary main_v15 main_v16 (Host.negf : (⟨S8x1024x1024, .f32⟩ : BufTy).Contents (Elt F) → (⟨S8x1024x1024, .f32⟩ : BufTy).Contents (Elt F)),
    StableHlo.nullary main_v17 (iotaInDim S1024x1024 32 0),
    StableHlo.nullary main_v18 (iotaInDim S1024x1024 32 1),
    StableHlo.nullary main_c (constantI S_ 32 0#32),
    StableHlo.unary main_c main_v19 (broadcastInDim S1024x1024 ![] bcast_S_S1024x1024 : (⟨S_, .i32⟩ : BufTy).Contents (Elt F) → (⟨S1024x1024, .i32⟩ : BufTy).Contents (Elt F)),
    StableHlo.binary main_v17 main_v19 main_v20 (addi : (⟨S1024x1024, .i32⟩ : BufTy).Contents (Elt F) → (⟨S1024x1024, .i32⟩ : BufTy).Contents (Elt F) → (⟨S1024x1024, .i32⟩ : BufTy).Contents (Elt F)),
    StableHlo.binary main_v20 main_v18 main_v21 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v21 main_v22 (broadcastInDim S1x1024x1024 ![1, 2] bcast_S1024x1024_S1x1024x1024_1_2 : (⟨S1024x1024, .i1⟩ : BufTy).Contents (Elt F) → (⟨S1x1024x1024, .i1⟩ : BufTy).Contents (Elt F)),
    StableHlo.nullary main_cst_2 (constant S_ .f32 0xFF800000#32) ]

abbrev l1 : List (HloOp τ sig (Elt F)) :=
  [ StableHlo.TRef.unary (.of main_cst_2 : StableHlo.TRef sig ⟨S_, .f32⟩) main_call0.v0 id,
    StableHlo.TRef.unary (.of main_v22 : StableHlo.TRef sig ⟨S1x1024x1024, .i1⟩) main_call0.v1 (broadcastInDim S8x1024x1024 ![0, 1, 2] bcast_S1x1024x1024_S8x1024x1024_0_1_2),
    StableHlo.TRef.unary main_call0.v0 main_call0.v2 (broadcastInDim S8x1024x1024 ![] bcast_S_S8x1024x1024),
    StableHlo.TRef.ternary main_call0.v1 main_call0.v2 (.of main_v16 : StableHlo.TRef sig ⟨S8x1024x1024, .f32⟩) main_call0.v3 select ]

abbrev l2 : List (HloOp τ sig (Elt F)) :=
  [ StableHlo.unary main_v1 main_v24 (broadcastInDim S8x8192x1 ![0, 1] bcast_S8x8192_S8x8192x1_0_1 : (⟨S8x8192, .i32⟩ : BufTy).Contents (Elt F) → (⟨S8x8192x1, .i32⟩ : BufTy).Contents (Elt F)) ]

abbrev l3 : List (HloOp τ sig (Elt F)) :=
  [ StableHlo.TRef.nullary main_call1.c (constantI S_ 32 0#32),
    StableHlo.TRef.unary main_call1.c main_call1.v0 (broadcastInDim S8x8192x1 ![] bcast_S_S8x8192x1),
    StableHlo.TRef.binary (.of main_v24 : StableHlo.TRef sig ⟨S8x8192x1, .i32⟩) main_call1.v0 main_call1.v1 (cmpi .slt),
    StableHlo.TRef.nullary main_call1.c_0 (constantI S_ 32 1024#32),
    StableHlo.TRef.unary main_call1.c_0 main_call1.v2 (broadcastInDim S8x8192x1 ![] bcast_S_S8x8192x1),
    StableHlo.TRef.binary (.of main_v24 : StableHlo.TRef sig ⟨S8x8192x1, .i32⟩) main_call1.v2 main_call1.v3 addi,
    StableHlo.TRef.ternary main_call1.v1 main_call1.v3 (.of main_v24 : StableHlo.TRef sig ⟨S8x8192x1, .i32⟩) main_call1.v4 select,
    StableHlo.TRef.nullary main_call1.c_1 (constantI S1 32 1023#32),
    StableHlo.TRef.nullary main_call1.c_2 (constantI S_ 32 0#32),
    StableHlo.TRef.unary main_call1.c_2 main_call1.v5 (broadcastInDim S8x8192x1 ![] bcast_S_S8x8192x1),
    StableHlo.TRef.binary main_call1.v4 main_call1.v5 main_call1.v6 (cmpi .sge),
    StableHlo.TRef.unary main_call1.c_1 main_call1.v7 (broadcastInDim S1x1x1 ![2] bcast_S1_S1x1x1_2),
    StableHlo.TRef.unary main_call1.v7 main_call1.v8 (broadcastInDim S8x8192x1 ![0, 1, 2] bcast_S1x1x1_S8x8192x1_0_1_2),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S8x8192x1_S8x8192_d2 h_S_),
    StableHlo.TRef.binary (.of main_v23 : StableHlo.TRef sig ⟨S8x1024x1024, .f32⟩) main_call1.v4 main_call1.v12 (fun x i => Host.gather gather_S8x1024x1024_S8x8192x1_S8x8192x1024_2_1_0_0_1_2_111024 x i),
    StableHlo.TRef.unary main_call1.v11 main_call1.v13 (broadcastInDim S8x8192x1024 ![0, 1] bcast_S8x8192_S8x8192x1024_0_1),
    StableHlo.TRef.nullary main_call1.cst (constant S_ .f32 0x7FC00000#32),
    StableHlo.TRef.unary main_call1.cst main_call1.v14 (broadcastInDim S8x8192x1024 ![] bcast_S_S8x8192x1024),
    StableHlo.TRef.ternary main_call1.v13 main_call1.v12 main_call1.v14 main_call1.v15 select ]

abbrev l4 : List (HloOp τ sig (Elt F)) :=
  [ StableHlo.nullary main_c_3 (constantI S_ 32 42#32),
    StableHlo.nullary main_c_4 (constantI S_ 32 32#32),
    StableHlo.binary main_c_3 main_c_4 main_v26 (Host.shrui : (⟨S_, .i32⟩ : BufTy).Contents (Elt F) → (⟨S_, .i32⟩ : BufTy).Contents (Elt F) → (⟨S_, .i32⟩ : BufTy).Contents (Elt F)),
    StableHlo.unary main_v26 main_v27 (id : (⟨S_, .i32⟩ : BufTy).Contents (Elt F) → (⟨S_, .i32⟩ : BufTy).Contents (Elt F)),
    StableHlo.unary main_v27 main_v28 (broadcastInDim S1 ![] bcast_S_S1 : (⟨S_, .i32⟩ : BufTy).Contents (Elt F) → (⟨S1, .i32⟩ : BufTy).Contents (Elt F)),
    StableHlo.nullary main_c_5 (constantI S_ 32 4294967295#32),
    StableHlo.binary main_c_3 main_c_5 main_v29 (andi : (⟨S_, .i32⟩ : BufTy).Contents (Elt F) → (⟨S_, .i32⟩ : BufTy).Contents (Elt F) → (⟨S_, .i32⟩ : BufTy).Contents (Elt F)),
    StableHlo.unary main_v29 main_v30 (id : (⟨S_, .i32⟩ : BufTy).Contents (Elt F) → (⟨S_, .i32⟩ : BufTy).Contents (Elt F)),
    StableHlo.unary main_v30 main_v31 (broadcastInDim S1 ![] bcast_S_S1 : (⟨S_, .i32⟩ : BufTy).Contents (Elt F) → (⟨S1, .i32⟩ : BufTy).Contents (Elt F)),
    StableHlo.binary main_v28 main_v31 main_v32 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.reshape main_v25 main_v33 (rfl : (.f32 : EltTy) = .f32) shapeCasts_S8x8192x1024_S65536x1024,
    StableHlo.nullary main_cst_6 (constant S_ .f32 0x3F800000#32),
    StableHlo.unary main_cst_6 main_v34 (broadcastInDim S65536x1024 ![] bcast_S_S65536x1024 : (⟨S_, .f32⟩ : BufTy).Contents (Elt F) → (⟨S65536x1024, .f32⟩ : BufTy).Contents (Elt F)),
    StableHlo.binary main_v33 main_v34 main_v35 (Host.divf : (⟨S65536x1024, .f32⟩ : BufTy).Contents (Elt F) → (⟨S65536x1024, .f32⟩ : BufTy).Contents (Elt F) → (⟨S65536x1024, .f32⟩ : BufTy).Contents (Elt F)) ]

abbrev l5 : List (HloOp τ sig (Elt F)) :=
  [ StableHlo.TRef.nullary main_call2.cst (constant S_ .f32 0x3F800000#32),
    StableHlo.TRef.nullary main_call2.cst_0 (constant S_ .f32 0x00800000#32) ]

abbrev l6 : List (HloOp τ sig (Elt F)) :=
  [ StableHlo.TRef.unary main_call2.cst main_call2_call0.v0 id,
    StableHlo.TRef.unary main_call2.cst_0 main_call2_call0.v1 (broadcastInDim S1x1 ![] bcast_S_S1x1),
    StableHlo.TRef.unary main_call2_call0.v0 main_call2_call0.v2 (broadcastInDim S1x1 ![] bcast_S_S1x1),
    StableHlo.TRef.unary (.of main_v32 : StableHlo.TRef sig ⟨S2, .i32⟩) main_call2_call0.v3 (extractStridedSlice S1 ![0] · slices_S2_S1_0),
    StableHlo.TRef.reshape main_call2_call0.v3 main_call2_call0.v4 (rfl : (.i32 : EltTy) = .i32) shapeCasts_S1_S_,
    StableHlo.TRef.unary (.of main_v32 : StableHlo.TRef sig ⟨S2, .i32⟩) main_call2_call0.v5 (extractStridedSlice S1 ![1] · slices_S2_S1_1),
    StableHlo.TRef.reshape main_call2_call0.v5 main_call2_call0.v6 (rfl : (.i32 : EltTy) = .i32) shapeCasts_S1_S_,
    StableHlo.TRef.nullary main_call2_call0.v7 (iotaInDim S65536x1024 64 0),
    StableHlo.TRef.nullary main_call2_call0.v8 (iotaInDim S65536x1024 64 1),
    StableHlo.TRef.nullary main_call2_call0.c (constantI S_ 64 1024#64),
    StableHlo.TRef.unary main_call2_call0.c main_call2_call0.v9 (broadcastInDim S65536x1024 ![] bcast_S_S65536x1024),
    StableHlo.TRef.binary main_call2_call0.v9 main_call2_call0.v7 main_call2_call0.v10 muli,
    StableHlo.TRef.nullary main_call2_call0.c_0 (constantI S_ 64 1#64),
    StableHlo.TRef.unary main_call2_call0.c_0 main_call2_call0.v11 (broadcastInDim S65536x1024 ![] bcast_S_S65536x1024),
    StableHlo.TRef.binary main_call2_call0.v11 main_call2_call0.v8 main_call2_call0.v12 muli,
    StableHlo.TRef.binary main_call2_call0.v10 main_call2_call0.v12 main_call2_call0.v13 addi,
    StableHlo.TRef.nullary main_call2_call0.c_1 (constantI S_ 64 32#64),
    StableHlo.TRef.unary main_call2_call0.c_1 main_call2_call0.v14 (broadcastInDim S65536x1024 ![] bcast_S_S65536x1024),
    StableHlo.TRef.binary main_call2_call0.v13 main_call2_call0.v14 main_call2_call0.v15 Host.shrui,
    StableHlo.TRef.unary main_call2_call0.v13 main_call2_call0.v16 (trunci 32 · natLt_32_64),
    StableHlo.TRef.unary main_call2_call0.v15 main_call2_call0.v17 (trunci 32 · natLt_32_64) ]

abbrev l7 : List (HloOp τ sig (Elt F)) :=
  [ StableHlo.TRef.binary main_call2_call0.v4 main_call2_call0.v6 main_call2_call0_call0.v0 xori,
    StableHlo.TRef.nullary main_call2_call0_call0.c (constantI S_ 32 466688986#32),
    StableHlo.TRef.binary main_call2_call0_call0.v0 main_call2_call0_call0.c main_call2_call0_call0.v1 xori,
    StableHlo.TRef.unary main_call2_call0.v4 main_call2_call0_call0.v2 (broadcastInDim S65536x1024 ![] bcast_S_S65536x1024),
    StableHlo.TRef.binary main_call2_call0.v17 main_call2_call0_call0.v2 main_call2_call0_call0.v3 addi,
    StableHlo.TRef.unary main_call2_call0.v6 main_call2_call0_call0.v4 (broadcastInDim S65536x1024 ![] bcast_S_S65536x1024),
    StableHlo.TRef.binary main_call2_call0.v16 main_call2_call0_call0.v4 main_call2_call0_call0.v5 addi,
    StableHlo.TRef.binary main_call2_call0_call0.v3 main_call2_call0_call0.v5 main_call2_call0_call0.v6 addi,
    StableHlo.TRef.nullary main_call2_call0_call0.c_0 (constantI S_ 32 13#32),
    StableHlo.TRef.unary main_call2_call0_call0.c_0 main_call2_call0_call0.v7 (broadcastInDim S65536x1024 ![] bcast_S_S65536x1024),
    StableHlo.TRef.binary main_call2_call0_call0.v5 main_call2_call0_call0.v7 main_call2_call0_call0.v8 Host.shli,
    StableHlo.TRef.nullary main_call2_call0_call0.c_1 (constantI S_ 32 19#32),
    StableHlo.TRef.unary main_call2_call0_call0.c_1 main_call2_call0_call0.v9 (broadcastInDim S65536x1024 ![] bcast_S_S65536x1024),
    StableHlo.TRef.binary main_call2_call0_call0.v5 main_call2_call0_call0.v9 main_call2_call0_call0.v10 Host.shrui,
    StableHlo.TRef.binary main_call2_call0_call0.v8 main_call2_call0_call0.v10 main_call2_call0_call0.v11 ori,
    StableHlo.TRef.binary main_call2_call0_call0.v6 main_call2_call0_call0.v11 main_call2_call0_call0.v12 xori,
    StableHlo.TRef.binary main_call2_call0_call0.v6 main_call2_call0_call0.v12 main_call2_call0_call0.v13 addi,
    StableHlo.TRef.nullary main_call2_call0_call0.c_2 (constantI S_ 32 15#32),
    StableHlo.TRef.unary main_call2_call0_call0.c_2 main_call2_call0_call0.v14 (broadcastInDim S65536x1024 ![] bcast_S_S65536x1024),
    StableHlo.TRef.binary main_call2_call0_call0.v12 main_call2_call0_call0.v14 main_call2_call0_call0.v15 Host.shli,
    StableHlo.TRef.nullary main_call2_call0_call0.c_3 (constantI S_ 32 17#32),
    StableHlo.TRef.unary main_call2_call0_call0.c_3 main_call2_call0_call0.v16 (broadcastInDim S65536x1024 ![] bcast_S_S65536x1024),
    StableHlo.TRef.binary main_call2_call0_call0.v12 main_call2_call0_call0.v16 main_call2_call0_call0.v17 Host.shrui,
    StableHlo.TRef.binary main_call2_call0_call0.v15 main_call2_call0_call0.v17 main_call2_call0_call0.v18 ori,
    StableHlo.TRef.binary main_call2_call0_call0.v13 main_call2_call0_call0.v18 main_call2_call0_call0.v19 xori,
    StableHlo.TRef.binary main_call2_call0_call0.v13 main_call2_call0_call0.v19 main_call2_call0_call0.v20 addi,
    StableHlo.TRef.nullary main_call2_call0_call0.c_4 (constantI S_ 32 26#32),
    StableHlo.TRef.unary main_call2_call0_call0.c_4 main_call2_call0_call0.v21 (broadcastInDim S65536x1024 ![] bcast_S_S65536x1024),
    StableHlo.TRef.binary main_call2_call0_call0.v19 main_call2_call0_call0.v21 main_call2_call0_call0.v22 Host.shli,
    StableHlo.TRef.nullary main_call2_call0_call0.c_5 (constantI S_ 32 6#32),
    StableHlo.TRef.unary main_call2_call0_call0.c_5 main_call2_call0_call0.v23 (broadcastInDim S65536x1024 ![] bcast_S_S65536x1024),
    StableHlo.TRef.binary main_call2_call0_call0.v19 main_call2_call0_call0.v23 main_call2_call0_call0.v24 Host.shrui,
    StableHlo.TRef.binary main_call2_call0_call0.v22 main_call2_call0_call0.v24 main_call2_call0_call0.v25 ori,
    StableHlo.TRef.binary main_call2_call0_call0.v20 main_call2_call0_call0.v25 main_call2_call0_call0.v26 xori,
    StableHlo.TRef.binary main_call2_call0_call0.v20 main_call2_call0_call0.v26 main_call2_call0_call0.v27 addi,
    StableHlo.TRef.nullary main_call2_call0_call0.c_6 (constantI S_ 32 6#32),
    StableHlo.TRef.unary main_call2_call0_call0.c_6 main_call2_call0_call0.v28 (broadcastInDim S65536x1024 ![] bcast_S_S65536x1024),
    StableHlo.TRef.binary main_call2_call0_call0.v26 main_call2_call0_call0.v28 main_call2_call0_call0.v29 Host.shli,
    StableHlo.TRef.nullary main_call2_call0_call0.c_7 (constantI S_ 32 26#32),
    StableHlo.TRef.unary main_call2_call0_call0.c_7 main_call2_call0_call0.v30 (broadcastInDim S65536x1024 ![] bcast_S_S65536x1024),
    StableHlo.TRef.binary main_call2_call0_call0.v26 main_call2_call0_call0.v30 main_call2_call0_call0.v31 Host.shrui,
    StableHlo.TRef.binary main_call2_call0_call0.v29 main_call2_call0_call0.v31 main_call2_call0_call0.v32 ori,
    StableHlo.TRef.binary main_call2_call0_call0.v27 main_call2_call0_call0.v32 main_call2_call0_call0.v33 xori,
    StableHlo.TRef.unary main_call2_call0.v6 main_call2_call0_call0.v34 (broadcastInDim S65536x1024 ![] bcast_S_S65536x1024),
    StableHlo.TRef.binary main_call2_call0_call0.v27 main_call2_call0_call0.v34 main_call2_call0_call0.v35 addi,
    StableHlo.TRef.unary main_call2_call0_call0.v1 main_call2_call0_call0.v36 (broadcastInDim S65536x1024 ![] bcast_S_S65536x1024),
    StableHlo.TRef.binary main_call2_call0_call0.v33 main_call2_call0_call0.v36 main_call2_call0_call0.v37 addi,
    StableHlo.TRef.nullary main_call2_call0_call0.c_8 (constantI S_ 32 1#32),
    StableHlo.TRef.unary main_call2_call0_call0.c_8 main_call2_call0_call0.v38 (broadcastInDim S65536x1024 ![] bcast_S_S65536x1024),
    StableHlo.TRef.binary main_call2_call0_call0.v37 main_call2_call0_call0.v38 main_call2_call0_call0.v39 addi,
    StableHlo.TRef.binary main_call2_call0_call0.v35 main_call2_call0_call0.v39 main_call2_call0_call0.v40 addi,
    StableHlo.TRef.nullary main_call2_call0_call0.c_9 (constantI S_ 32 17#32),
    StableHlo.TRef.unary main_call2_call0_call0.c_9 main_call2_call0_call0.v41 (broadcastInDim S65536x1024 ![] bcast_S_S65536x1024),
    StableHlo.TRef.binary main_call2_call0_call0.v39 main_call2_call0_call0.v41 main_call2_call0_call0.v42 Host.shli,
    StableHlo.TRef.nullary main_call2_call0_call0.c_10 (constantI S_ 32 15#32),
    StableHlo.TRef.unary main_call2_call0_call0.c_10 main_call2_call0_call0.v43 (broadcastInDim S65536x1024 ![] bcast_S_S65536x1024),
    StableHlo.TRef.binary main_call2_call0_call0.v39 main_call2_call0_call0.v43 main_call2_call0_call0.v44 Host.shrui,
    StableHlo.TRef.binary main_call2_call0_call0.v42 main_call2_call0_call0.v44 main_call2_call0_call0.v45 ori,
    StableHlo.TRef.binary main_call2_call0_call0.v40 main_call2_call0_call0.v45 main_call2_call0_call0.v46 xori,
    StableHlo.TRef.binary main_call2_call0_call0.v40 main_call2_call0_call0.v46 main_call2_call0_call0.v47 addi ]

abbrev l8 : List (HloOp τ sig (Elt F)) :=
  [ StableHlo.TRef.nullary main_call2_call0_call0.c_11 (constantI S_ 32 29#32),
    StableHlo.TRef.unary main_call2_call0_call0.c_11 main_call2_call0_call0.v48 (broadcastInDim S65536x1024 ![] bcast_S_S65536x1024),
    StableHlo.TRef.binary main_call2_call0_call0.v46 main_call2_call0_call0.v48 main_call2_call0_call0.v49 Host.shli,
    StableHlo.TRef.nullary main_call2_call0_call0.c_12 (constantI S_ 32 3#32),
    StableHlo.TRef.unary main_call2_call0_call0.c_12 main_call2_call0_call0.v50 (broadcastInDim S65536x1024 ![] bcast_S_S65536x1024),
    StableHlo.TRef.binary main_call2_call0_call0.v46 main_call2_call0_call0.v50 main_call2_call0_call0.v51 Host.shrui,
    StableHlo.TRef.binary main_call2_call0_call0.v49 main_call2_call0_call0.v51 main_call2_call0_call0.v52 ori,
    StableHlo.TRef.binary main_call2_call0_call0.v47 main_call2_call0_call0.v52 main_call2_call0_call0.v53 xori,
    StableHlo.TRef.binary main_call2_call0_call0.v47 main_call2_call0_call0.v53 main_call2_call0_call0.v54 addi,
    StableHlo.TRef.nullary main_call2_call0_call0.c_13 (constantI S_ 32 16#32),
    StableHlo.TRef.unary main_call2_call0_call0.c_13 main_call2_call0_call0.v55 (broadcastInDim S65536x1024 ![] bcast_S_S65536x1024),
    StableHlo.TRef.binary main_call2_call0_call0.v53 main_call2_call0_call0.v55 main_call2_call0_call0.v56 Host.shli,
    StableHlo.TRef.nullary main_call2_call0_call0.c_14 (constantI S_ 32 16#32),
    StableHlo.TRef.unary main_call2_call0_call0.c_14 main_call2_call0_call0.v57 (broadcastInDim S65536x1024 ![] bcast_S_S65536x1024),
    StableHlo.TRef.binary main_call2_call0_call0.v53 main_call2_call0_call0.v57 main_call2_call0_call0.v58 Host.shrui,
    StableHlo.TRef.binary main_call2_call0_call0.v56 main_call2_call0_call0.v58 main_call2_call0_call0.v59 ori,
    StableHlo.TRef.binary main_call2_call0_call0.v54 main_call2_call0_call0.v59 main_call2_call0_call0.v60 xori,
    StableHlo.TRef.binary main_call2_call0_call0.v54 main_call2_call0_call0.v60 main_call2_call0_call0.v61 addi,
    StableHlo.TRef.nullary main_call2_call0_call0.c_15 (constantI S_ 32 24#32),
    StableHlo.TRef.unary main_call2_call0_call0.c_15 main_call2_call0_call0.v62 (broadcastInDim S65536x1024 ![] bcast_S_S65536x1024),
    StableHlo.TRef.binary main_call2_call0_call0.v60 main_call2_call0_call0.v62 main_call2_call0_call0.v63 Host.shli,
    StableHlo.TRef.nullary main_call2_call0_call0.c_16 (constantI S_ 32 8#32),
    StableHlo.TRef.unary main_call2_call0_call0.c_16 main_call2_call0_call0.v64 (broadcastInDim S65536x1024 ![] bcast_S_S65536x1024),
    StableHlo.TRef.binary main_call2_call0_call0.v60 main_call2_call0_call0.v64 main_call2_call0_call0.v65 Host.shrui,
    StableHlo.TRef.binary main_call2_call0_call0.v63 main_call2_call0_call0.v65 main_call2_call0_call0.v66 ori,
    StableHlo.TRef.binary main_call2_call0_call0.v61 main_call2_call0_call0.v66 main_call2_call0_call0.v67 xori,
    StableHlo.TRef.unary main_call2_call0_call0.v1 main_call2_call0_call0.v68 (broadcastInDim S65536x1024 ![] bcast_S_S65536x1024),
    StableHlo.TRef.binary main_call2_call0_call0.v61 main_call2_call0_call0.v68 main_call2_call0_call0.v69 addi,
    StableHlo.TRef.unary main_call2_call0.v4 main_call2_call0_call0.v70 (broadcastInDim S65536x1024 ![] bcast_S_S65536x1024),
    StableHlo.TRef.binary main_call2_call0_call0.v67 main_call2_call0_call0.v70 main_call2_call0_call0.v71 addi,
    StableHlo.TRef.nullary main_call2_call0_call0.c_17 (constantI S_ 32 2#32),
    StableHlo.TRef.unary main_call2_call0_call0.c_17 main_call2_call0_call0.v72 (broadcastInDim S65536x1024 ![] bcast_S_S65536x1024),
    StableHlo.TRef.binary main_call2_call0_call0.v71 main_call2_call0_call0.v72 main_call2_call0_call0.v73 addi,
    StableHlo.TRef.binary main_call2_call0_call0.v69 main_call2_call0_call0.v73 main_call2_call0_call0.v74 addi,
    StableHlo.TRef.nullary main_call2_call0_call0.c_18 (constantI S_ 32 13#32),
    StableHlo.TRef.unary main_call2_call0_call0.c_18 main_call2_call0_call0.v75 (broadcastInDim S65536x1024 ![] bcast_S_S65536x1024),
    StableHlo.TRef.binary main_call2_call0_call0.v73 main_call2_call0_call0.v75 main_call2_call0_call0.v76 Host.shli,
    StableHlo.TRef.nullary main_call2_call0_call0.c_19 (constantI S_ 32 19#32),
    StableHlo.TRef.unary main_call2_call0_call0.c_19 main_call2_call0_call0.v77 (broadcastInDim S65536x1024 ![] bcast_S_S65536x1024),
    StableHlo.TRef.binary main_call2_call0_call0.v73 main_call2_call0_call0.v77 main_call2_call0_call0.v78 Host.shrui,
    StableHlo.TRef.binary main_call2_call0_call0.v76 main_call2_call0_call0.v78 main_call2_call0_call0.v79 ori,
    StableHlo.TRef.binary main_call2_call0_call0.v74 main_call2_call0_call0.v79 main_call2_call0_call0.v80 xori,
    StableHlo.TRef.binary main_call2_call0_call0.v74 main_call2_call0_call0.v80 main_call2_call0_call0.v81 addi,
    StableHlo.TRef.nullary main_call2_call0_call0.c_20 (constantI S_ 32 15#32),
    StableHlo.TRef.unary main_call2_call0_call0.c_20 main_call2_call0_call0.v82 (broadcastInDim S65536x1024 ![] bcast_S_S65536x1024),
    StableHlo.TRef.binary main_call2_call0_call0.v80 main_call2_call0_call0.v82 main_call2_call0_call0.v83 Host.shli,
    StableHlo.TRef.nullary main_call2_call0_call0.c_21 (constantI S_ 32 17#32),
    StableHlo.TRef.unary main_call2_call0_call0.c_21 main_call2_call0_call0.v84 (broadcastInDim S65536x1024 ![] bcast_S_S65536x1024),
    StableHlo.TRef.binary main_call2_call0_call0.v80 main_call2_call0_call0.v84 main_call2_call0_call0.v85 Host.shrui,
    StableHlo.TRef.binary main_call2_call0_call0.v83 main_call2_call0_call0.v85 main_call2_call0_call0.v86 ori,
    StableHlo.TRef.binary main_call2_call0_call0.v81 main_call2_call0_call0.v86 main_call2_call0_call0.v87 xori,
    StableHlo.TRef.binary main_call2_call0_call0.v81 main_call2_call0_call0.v87 main_call2_call0_call0.v88 addi,
    StableHlo.TRef.nullary main_call2_call0_call0.c_22 (constantI S_ 32 26#32),
    StableHlo.TRef.unary main_call2_call0_call0.c_22 main_call2_call0_call0.v89 (broadcastInDim S65536x1024 ![] bcast_S_S65536x1024),
    StableHlo.TRef.binary main_call2_call0_call0.v87 main_call2_call0_call0.v89 main_call2_call0_call0.v90 Host.shli,
    StableHlo.TRef.nullary main_call2_call0_call0.c_23 (constantI S_ 32 6#32),
    StableHlo.TRef.unary main_call2_call0_call0.c_23 main_call2_call0_call0.v91 (broadcastInDim S65536x1024 ![] bcast_S_S65536x1024),
    StableHlo.TRef.binary main_call2_call0_call0.v87 main_call2_call0_call0.v91 main_call2_call0_call0.v92 Host.shrui,
    StableHlo.TRef.binary main_call2_call0_call0.v90 main_call2_call0_call0.v92 main_call2_call0_call0.v93 ori,
    StableHlo.TRef.binary main_call2_call0_call0.v88 main_call2_call0_call0.v93 main_call2_call0_call0.v94 xori ]

abbrev l9 : List (HloOp τ sig (Elt F)) :=
  [ StableHlo.TRef.binary main_call2_call0_call0.v88 main_call2_call0_call0.v94 main_call2_call0_call0.v95 addi,
    StableHlo.TRef.nullary main_call2_call0_call0.c_24 (constantI S_ 32 6#32),
    StableHlo.TRef.unary main_call2_call0_call0.c_24 main_call2_call0_call0.v96 (broadcastInDim S65536x1024 ![] bcast_S_S65536x1024),
    StableHlo.TRef.binary main_call2_call0_call0.v94 main_call2_call0_call0.v96 main_call2_call0_call0.v97 Host.shli,
    StableHlo.TRef.nullary main_call2_call0_call0.c_25 (constantI S_ 32 26#32),
    StableHlo.TRef.unary main_call2_call0_call0.c_25 main_call2_call0_call0.v98 (broadcastInDim S65536x1024 ![] bcast_S_S65536x1024),
    StableHlo.TRef.binary main_call2_call0_call0.v94 main_call2_call0_call0.v98 main_call2_call0_call0.v99 Host.shrui,
    StableHlo.TRef.binary main_call2_call0_call0.v97 main_call2_call0_call0.v99 main_call2_call0_call0.v100 ori,
    StableHlo.TRef.binary main_call2_call0_call0.v95 main_call2_call0_call0.v100 main_call2_call0_call0.v101 xori,
    StableHlo.TRef.unary main_call2_call0.v4 main_call2_call0_call0.v102 (broadcastInDim S65536x1024 ![] bcast_S_S65536x1024),
    StableHlo.TRef.binary main_call2_call0_call0.v95 main_call2_call0_call0.v102 main_call2_call0_call0.v103 addi,
    StableHlo.TRef.unary main_call2_call0.v6 main_call2_call0_call0.v104 (broadcastInDim S65536x1024 ![] bcast_S_S65536x1024),
    StableHlo.TRef.binary main_call2_call0_call0.v101 main_call2_call0_call0.v104 main_call2_call0_call0.v105 addi,
    StableHlo.TRef.nullary main_call2_call0_call0.c_26 (constantI S_ 32 3#32),
    StableHlo.TRef.unary main_call2_call0_call0.c_26 main_call2_call0_call0.v106 (broadcastInDim S65536x1024 ![] bcast_S_S65536x1024),
    StableHlo.TRef.binary main_call2_call0_call0.v105 main_call2_call0_call0.v106 main_call2_call0_call0.v107 addi,
    StableHlo.TRef.binary main_call2_call0_call0.v103 main_call2_call0_call0.v107 main_call2_call0_call0.v108 addi,
    StableHlo.TRef.nullary main_call2_call0_call0.c_27 (constantI S_ 32 17#32),
    StableHlo.TRef.unary main_call2_call0_call0.c_27 main_call2_call0_call0.v109 (broadcastInDim S65536x1024 ![] bcast_S_S65536x1024),
    StableHlo.TRef.binary main_call2_call0_call0.v107 main_call2_call0_call0.v109 main_call2_call0_call0.v110 Host.shli,
    StableHlo.TRef.nullary main_call2_call0_call0.c_28 (constantI S_ 32 15#32),
    StableHlo.TRef.unary main_call2_call0_call0.c_28 main_call2_call0_call0.v111 (broadcastInDim S65536x1024 ![] bcast_S_S65536x1024),
    StableHlo.TRef.binary main_call2_call0_call0.v107 main_call2_call0_call0.v111 main_call2_call0_call0.v112 Host.shrui,
    StableHlo.TRef.binary main_call2_call0_call0.v110 main_call2_call0_call0.v112 main_call2_call0_call0.v113 ori,
    StableHlo.TRef.binary main_call2_call0_call0.v108 main_call2_call0_call0.v113 main_call2_call0_call0.v114 xori,
    StableHlo.TRef.binary main_call2_call0_call0.v108 main_call2_call0_call0.v114 main_call2_call0_call0.v115 addi,
    StableHlo.TRef.nullary main_call2_call0_call0.c_29 (constantI S_ 32 29#32),
    StableHlo.TRef.unary main_call2_call0_call0.c_29 main_call2_call0_call0.v116 (broadcastInDim S65536x1024 ![] bcast_S_S65536x1024),
    StableHlo.TRef.binary main_call2_call0_call0.v114 main_call2_call0_call0.v116 main_call2_call0_call0.v117 Host.shli,
    StableHlo.TRef.nullary main_call2_call0_call0.c_30 (constantI S_ 32 3#32),
    StableHlo.TRef.unary main_call2_call0_call0.c_30 main_call2_call0_call0.v118 (broadcastInDim S65536x1024 ![] bcast_S_S65536x1024),
    StableHlo.TRef.binary main_call2_call0_call0.v114 main_call2_call0_call0.v118 main_call2_call0_call0.v119 Host.shrui,
    StableHlo.TRef.binary main_call2_call0_call0.v117 main_call2_call0_call0.v119 main_call2_call0_call0.v120 ori,
    StableHlo.TRef.binary main_call2_call0_call0.v115 main_call2_call0_call0.v120 main_call2_call0_call0.v121 xori,
    StableHlo.TRef.binary main_call2_call0_call0.v115 main_call2_call0_call0.v121 main_call2_call0_call0.v122 addi,
    StableHlo.TRef.nullary main_call2_call0_call0.c_31 (constantI S_ 32 16#32),
    StableHlo.TRef.unary main_call2_call0_call0.c_31 main_call2_call0_call0.v123 (broadcastInDim S65536x1024 ![] bcast_S_S65536x1024),
    StableHlo.TRef.binary main_call2_call0_call0.v121 main_call2_call0_call0.v123 main_call2_call0_call0.v124 Host.shli,
    StableHlo.TRef.nullary main_call2_call0_call0.c_32 (constantI S_ 32 16#32),
    StableHlo.TRef.unary main_call2_call0_call0.c_32 main_call2_call0_call0.v125 (broadcastInDim S65536x1024 ![] bcast_S_S65536x1024),
    StableHlo.TRef.binary main_call2_call0_call0.v121 main_call2_call0_call0.v125 main_call2_call0_call0.v126 Host.shrui,
    StableHlo.TRef.binary main_call2_call0_call0.v124 main_call2_call0_call0.v126 main_call2_call0_call0.v127 ori,
    StableHlo.TRef.binary main_call2_call0_call0.v122 main_call2_call0_call0.v127 main_call2_call0_call0.v128 xori,
    StableHlo.TRef.binary main_call2_call0_call0.v122 main_call2_call0_call0.v128 main_call2_call0_call0.v129 addi,
    StableHlo.TRef.nullary main_call2_call0_call0.c_33 (constantI S_ 32 24#32),
    StableHlo.TRef.unary main_call2_call0_call0.c_33 main_call2_call0_call0.v130 (broadcastInDim S65536x1024 ![] bcast_S_S65536x1024),
    StableHlo.TRef.binary main_call2_call0_call0.v128 main_call2_call0_call0.v130 main_call2_call0_call0.v131 Host.shli,
    StableHlo.TRef.nullary main_call2_call0_call0.c_34 (constantI S_ 32 8#32),
    StableHlo.TRef.unary main_call2_call0_call0.c_34 main_call2_call0_call0.v132 (broadcastInDim S65536x1024 ![] bcast_S_S65536x1024),
    StableHlo.TRef.binary main_call2_call0_call0.v128 main_call2_call0_call0.v132 main_call2_call0_call0.v133 Host.shrui,
    StableHlo.TRef.binary main_call2_call0_call0.v131 main_call2_call0_call0.v133 main_call2_call0_call0.v134 ori,
    StableHlo.TRef.binary main_call2_call0_call0.v129 main_call2_call0_call0.v134 main_call2_call0_call0.v135 xori,
    StableHlo.TRef.unary main_call2_call0.v6 main_call2_call0_call0.v136 (broadcastInDim S65536x1024 ![] bcast_S_S65536x1024),
    StableHlo.TRef.binary main_call2_call0_call0.v129 main_call2_call0_call0.v136 main_call2_call0_call0.v137 addi,
    StableHlo.TRef.unary main_call2_call0_call0.v1 main_call2_call0_call0.v138 (broadcastInDim S65536x1024 ![] bcast_S_S65536x1024),
    StableHlo.TRef.binary main_call2_call0_call0.v135 main_call2_call0_call0.v138 main_call2_call0_call0.v139 addi,
    StableHlo.TRef.nullary main_call2_call0_call0.c_35 (constantI S_ 32 4#32),
    StableHlo.TRef.unary main_call2_call0_call0.c_35 main_call2_call0_call0.v140 (broadcastInDim S65536x1024 ![] bcast_S_S65536x1024),
    StableHlo.TRef.binary main_call2_call0_call0.v139 main_call2_call0_call0.v140 main_call2_call0_call0.v141 addi,
    StableHlo.TRef.binary main_call2_call0_call0.v137 main_call2_call0_call0.v141 main_call2_call0_call0.v142 addi ]

abbrev l10 : List (HloOp τ sig (Elt F)) :=
  [ StableHlo.TRef.nullary main_call2_call0_call0.c_36 (constantI S_ 32 13#32),
    StableHlo.TRef.unary main_call2_call0_call0.c_36 main_call2_call0_call0.v143 (broadcastInDim S65536x1024 ![] bcast_S_S65536x1024),
    StableHlo.TRef.binary main_call2_call0_call0.v141 main_call2_call0_call0.v143 main_call2_call0_call0.v144 Host.shli,
    StableHlo.TRef.nullary main_call2_call0_call0.c_37 (constantI S_ 32 19#32),
    StableHlo.TRef.unary main_call2_call0_call0.c_37 main_call2_call0_call0.v145 (broadcastInDim S65536x1024 ![] bcast_S_S65536x1024),
    StableHlo.TRef.binary main_call2_call0_call0.v141 main_call2_call0_call0.v145 main_call2_call0_call0.v146 Host.shrui,
    StableHlo.TRef.binary main_call2_call0_call0.v144 main_call2_call0_call0.v146 main_call2_call0_call0.v147 ori,
    StableHlo.TRef.binary main_call2_call0_call0.v142 main_call2_call0_call0.v147 main_call2_call0_call0.v148 xori,
    StableHlo.TRef.binary main_call2_call0_call0.v142 main_call2_call0_call0.v148 main_call2_call0_call0.v149 addi,
    StableHlo.TRef.nullary main_call2_call0_call0.c_38 (constantI S_ 32 15#32),
    StableHlo.TRef.unary main_call2_call0_call0.c_38 main_call2_call0_call0.v150 (broadcastInDim S65536x1024 ![] bcast_S_S65536x1024),
    StableHlo.TRef.binary main_call2_call0_call0.v148 main_call2_call0_call0.v150 main_call2_call0_call0.v151 Host.shli,
    StableHlo.TRef.nullary main_call2_call0_call0.c_39 (constantI S_ 32 17#32),
    StableHlo.TRef.unary main_call2_call0_call0.c_39 main_call2_call0_call0.v152 (broadcastInDim S65536x1024 ![] bcast_S_S65536x1024),
    StableHlo.TRef.binary main_call2_call0_call0.v148 main_call2_call0_call0.v152 main_call2_call0_call0.v153 Host.shrui,
    StableHlo.TRef.binary main_call2_call0_call0.v151 main_call2_call0_call0.v153 main_call2_call0_call0.v154 ori,
    StableHlo.TRef.binary main_call2_call0_call0.v149 main_call2_call0_call0.v154 main_call2_call0_call0.v155 xori,
    StableHlo.TRef.binary main_call2_call0_call0.v149 main_call2_call0_call0.v155 main_call2_call0_call0.v156 addi,
    StableHlo.TRef.nullary main_call2_call0_call0.c_40 (constantI S_ 32 26#32),
    StableHlo.TRef.unary main_call2_call0_call0.c_40 main_call2_call0_call0.v157 (broadcastInDim S65536x1024 ![] bcast_S_S65536x1024),
    StableHlo.TRef.binary main_call2_call0_call0.v155 main_call2_call0_call0.v157 main_call2_call0_call0.v158 Host.shli,
    StableHlo.TRef.nullary main_call2_call0_call0.c_41 (constantI S_ 32 6#32),
    StableHlo.TRef.unary main_call2_call0_call0.c_41 main_call2_call0_call0.v159 (broadcastInDim S65536x1024 ![] bcast_S_S65536x1024),
    StableHlo.TRef.binary main_call2_call0_call0.v155 main_call2_call0_call0.v159 main_call2_call0_call0.v160 Host.shrui,
    StableHlo.TRef.binary main_call2_call0_call0.v158 main_call2_call0_call0.v160 main_call2_call0_call0.v161 ori,
    StableHlo.TRef.binary main_call2_call0_call0.v156 main_call2_call0_call0.v161 main_call2_call0_call0.v162 xori,
    StableHlo.TRef.binary main_call2_call0_call0.v156 main_call2_call0_call0.v162 main_call2_call0_call0.v163 addi,
    StableHlo.TRef.nullary main_call2_call0_call0.c_42 (constantI S_ 32 6#32),
    StableHlo.TRef.unary main_call2_call0_call0.c_42 main_call2_call0_call0.v164 (broadcastInDim S65536x1024 ![] bcast_S_S65536x1024),
    StableHlo.TRef.binary main_call2_call0_call0.v162 main_call2_call0_call0.v164 main_call2_call0_call0.v165 Host.shli,
    StableHlo.TRef.nullary main_call2_call0_call0.c_43 (constantI S_ 32 26#32),
    StableHlo.TRef.unary main_call2_call0_call0.c_43 main_call2_call0_call0.v166 (broadcastInDim S65536x1024 ![] bcast_S_S65536x1024),
    StableHlo.TRef.binary main_call2_call0_call0.v162 main_call2_call0_call0.v166 main_call2_call0_call0.v167 Host.shrui,
    StableHlo.TRef.binary main_call2_call0_call0.v165 main_call2_call0_call0.v167 main_call2_call0_call0.v168 ori,
    StableHlo.TRef.binary main_call2_call0_call0.v163 main_call2_call0_call0.v168 main_call2_call0_call0.v169 xori,
    StableHlo.TRef.unary main_call2_call0_call0.v1 main_call2_call0_call0.v170 (broadcastInDim S65536x1024 ![] bcast_S_S65536x1024),
    StableHlo.TRef.binary main_call2_call0_call0.v163 main_call2_call0_call0.v170 main_call2_call0_call0.v171 addi,
    StableHlo.TRef.unary main_call2_call0.v4 main_call2_call0_call0.v172 (broadcastInDim S65536x1024 ![] bcast_S_S65536x1024),
    StableHlo.TRef.binary main_call2_call0_call0.v169 main_call2_call0_call0.v172 main_call2_call0_call0.v173 addi,
    StableHlo.TRef.nullary main_call2_call0_call0.c_44 (constantI S_ 32 5#32),
    StableHlo.TRef.unary main_call2_call0_call0.c_44 main_call2_call0_call0.v174 (broadcastInDim S65536x1024 ![] bcast_S_S65536x1024),
    StableHlo.TRef.binary main_call2_call0_call0.v173 main_call2_call0_call0.v174 main_call2_call0_call0.v175 addi ]

abbrev l11 : List (HloOp τ sig (Elt F)) :=
  [ StableHlo.TRef.binary main_call2_call0_call0.v171 main_call2_call0_call0.v175 main_call2_call0.v19 xori,
    StableHlo.TRef.nullary main_call2_call0.c_2 (constantI S_ 32 9#32),
    StableHlo.TRef.unary main_call2_call0.c_2 main_call2_call0.v20 (broadcastInDim S65536x1024 ![] bcast_S_S65536x1024),
    StableHlo.TRef.binary main_call2_call0.v19 main_call2_call0.v20 main_call2_call0.v21 Host.shrui,
    StableHlo.TRef.nullary main_call2_call0.c_3 (constantI S_ 32 1065353216#32),
    StableHlo.TRef.unary main_call2_call0.c_3 main_call2_call0.v22 (broadcastInDim S65536x1024 ![] bcast_S_S65536x1024),
    StableHlo.TRef.binary main_call2_call0.v21 main_call2_call0.v22 main_call2_call0.v23 ori,
    StableHlo.TRef.unary main_call2_call0.v23 main_call2_call0.v24 (bitcastToFloat .f32),
    StableHlo.TRef.nullary main_call2_call0.cst (constant S_ .f32 0x3F800000#32),
    StableHlo.TRef.unary main_call2_call0.cst main_call2_call0.v25 (broadcastInDim S65536x1024 ![] bcast_S_S65536x1024),
    StableHlo.TRef.binary main_call2_call0.v24 main_call2_call0.v25 main_call2_call0.v26 subf,
    StableHlo.TRef.binary main_call2_call0.v2 main_call2_call0.v1 main_call2_call0.v27 subf,
    StableHlo.TRef.unary main_call2_call0.v27 main_call2_call0.v28 (broadcastInDim S65536x1024 ![0, 1] bcast_S1x1_S65536x1024_0_1),
    StableHlo.TRef.binary main_call2_call0.v26 main_call2_call0.v28 main_call2_call0.v29 mulf,
    StableHlo.TRef.unary main_call2_call0.v1 main_call2_call0.v30 (broadcastInDim S65536x1024 ![0, 1] bcast_S1x1_S65536x1024_0_1),
    StableHlo.TRef.binary main_call2_call0.v29 main_call2_call0.v30 main_call2_call0.v31 addf,
    StableHlo.TRef.unary main_call2_call0.v1 main_call2_call0.v32 (broadcastInDim S65536x1024 ![0, 1] bcast_S1x1_S65536x1024_0_1),
    StableHlo.TRef.binary main_call2_call0.v32 main_call2_call0.v31 main_call2_call0.v33 maximumf ]

abbrev l12 : List (HloOp τ sig (Elt F)) :=
  [ StableHlo.TRef.unary main_call2_call0.v33 main_call2.v1 Host.log,
    StableHlo.TRef.unary main_call2.v1 main_call2.v2 Host.negf,
    StableHlo.TRef.unary main_call2.v2 main_call2.v3 Host.log,
    StableHlo.TRef.unary main_call2.v3 main_call2.v4 Host.negf ]

abbrev l13 : List (HloOp τ sig (Elt F)) :=
  [ StableHlo.binary main_v36 main_v35 main_v37 (addf : (⟨S65536x1024, .f32⟩ : BufTy).Contents (Elt F) → (⟨S65536x1024, .f32⟩ : BufTy).Contents (Elt F) → (⟨S65536x1024, .f32⟩ : BufTy).Contents (Elt F)) ]

abbrev l14 : List (HloOp τ sig (Elt F)) :=
  [ StableHlo.TRef.nullary main_call3.v0 (iotaInDim S65536x1024 32 1),
    StableHlo.TRef.nullary main_call3.cst (constant S_ .f32 0xFF800000#32),
    StableHlo.TRef.nullary main_call3.c (constantI S_ 32 0#32),
    StableHlo.TRef.quaternary (.of main_v37 : StableHlo.TRef sig ⟨S65536x1024, .f32⟩) main_call3.v0 main_call3.cst main_call3.c main_call3.v1_0 (fun x y u v j => (Host.argReduce reducer_argmax_f32_i32 x y u v reducesTo_S65536x1024_S65536_d1 h_S_ j).1),
    StableHlo.TRef.quaternary (.of main_v37 : StableHlo.TRef sig ⟨S65536x1024, .f32⟩) main_call3.v0 main_call3.cst main_call3.c main_call3.v1_1 (fun x y u v j => (Host.argReduce reducer_argmax_f32_i32 x y u v reducesTo_S65536x1024_S65536_d1 h_S_ j).2) ]

abbrev l15 : List (HloOp τ sig (Elt F)) :=
  [ StableHlo.reshape main_v38 main_v39 (rfl : (.i32 : EltTy) = .i32) shapeCasts_S65536_S8x8192,
    StableHlo.unary main_v39 main_v40 ((transpose S8192x8 [1, 0] · transposes_S8x8192_S8192x8_1_0) : (⟨S8x8192, .i32⟩ : BufTy).Contents (Elt F) → (⟨S8192x8, .i32⟩ : BufTy).Contents (Elt F)),
    StableHlo.reshape main_v40 main_v41 (rfl : (.i32 : EltTy) = .i32) shapeCasts_S8192x8_S4x2048x8,
    StableHlo.nullary main_c_7 (constantI S_ 32 7#32),
    StableHlo.nullary main_c_8 (constantI S_ 32 32#32),
    StableHlo.binary main_c_7 main_c_8 main_v42 (Host.shrui : (⟨S_, .i32⟩ : BufTy).Contents (Elt F) → (⟨S_, .i32⟩ : BufTy).Contents (Elt F) → (⟨S_, .i32⟩ : BufTy).Contents (Elt F)),
    StableHlo.unary main_v42 main_v43 (id : (⟨S_, .i32⟩ : BufTy).Contents (Elt F) → (⟨S_, .i32⟩ : BufTy).Contents (Elt F)),
    StableHlo.unary main_v43 main_v44 (broadcastInDim S1 ![] bcast_S_S1 : (⟨S_, .i32⟩ : BufTy).Contents (Elt F) → (⟨S1, .i32⟩ : BufTy).Contents (Elt F)),
    StableHlo.nullary main_c_9 (constantI S_ 32 4294967295#32),
    StableHlo.binary main_c_7 main_c_9 main_v45 (andi : (⟨S_, .i32⟩ : BufTy).Contents (Elt F) → (⟨S_, .i32⟩ : BufTy).Contents (Elt F) → (⟨S_, .i32⟩ : BufTy).Contents (Elt F)),
    StableHlo.unary main_v45 main_v46 (id : (⟨S_, .i32⟩ : BufTy).Contents (Elt F) → (⟨S_, .i32⟩ : BufTy).Contents (Elt F)),
    StableHlo.unary main_v46 main_v47 (broadcastInDim S1 ![] bcast_S_S1 : (⟨S_, .i32⟩ : BufTy).Contents (Elt F) → (⟨S1, .i32⟩ : BufTy).Contents (Elt F)) ]

abbrev l16 : List (HloOp τ sig (Elt F)) :=
  [ StableHlo.binary main_v44 main_v47 main_v48 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_10 (constant S_ .f32 0x00000000#32),
    StableHlo.nullary main_cst_11 (constant S_ .f32 0x3F800000#32) ]

abbrev l17 : List (HloOp τ sig (Elt F)) :=
  [ StableHlo.TRef.unary (.of main_cst_10 : StableHlo.TRef sig ⟨S_, .f32⟩) main_call4.v0 id,
    StableHlo.TRef.unary (.of main_cst_11 : StableHlo.TRef sig ⟨S_, .f32⟩) main_call4.v1 id,
    StableHlo.TRef.unary main_call4.v0 main_call4.v2 (broadcastInDim S1x1x1 ![] bcast_S_S1x1x1),
    StableHlo.TRef.unary main_call4.v1 main_call4.v3 (broadcastInDim S1x1x1 ![] bcast_S_S1x1x1),
    StableHlo.TRef.unary (.of main_v48 : StableHlo.TRef sig ⟨S2, .i32⟩) main_call4.v4 (extractStridedSlice S1 ![0] · slices_S2_S1_0),
    StableHlo.TRef.reshape main_call4.v4 main_call4.v5 (rfl : (.i32 : EltTy) = .i32) shapeCasts_S1_S_,
    StableHlo.TRef.unary (.of main_v48 : StableHlo.TRef sig ⟨S2, .i32⟩) main_call4.v6 (extractStridedSlice S1 ![1] · slices_S2_S1_1),
    StableHlo.TRef.reshape main_call4.v6 main_call4.v7 (rfl : (.i32 : EltTy) = .i32) shapeCasts_S1_S_,
    StableHlo.TRef.nullary main_call4.v8 (iotaInDim S4x2048x8 64 0),
    StableHlo.TRef.nullary main_call4.v9 (iotaInDim S4x2048x8 64 1),
    StableHlo.TRef.nullary main_call4.v10 (iotaInDim S4x2048x8 64 2),
    StableHlo.TRef.nullary main_call4.c (constantI S_ 64 16384#64),
    StableHlo.TRef.unary main_call4.c main_call4.v11 (broadcastInDim S4x2048x8 ![] bcast_S_S4x2048x8),
    StableHlo.TRef.binary main_call4.v11 main_call4.v8 main_call4.v12 muli,
    StableHlo.TRef.nullary main_call4.c_0 (constantI S_ 64 8#64),
    StableHlo.TRef.unary main_call4.c_0 main_call4.v13 (broadcastInDim S4x2048x8 ![] bcast_S_S4x2048x8),
    StableHlo.TRef.binary main_call4.v13 main_call4.v9 main_call4.v14 muli,
    StableHlo.TRef.nullary main_call4.c_1 (constantI S_ 64 1#64),
    StableHlo.TRef.unary main_call4.c_1 main_call4.v15 (broadcastInDim S4x2048x8 ![] bcast_S_S4x2048x8),
    StableHlo.TRef.binary main_call4.v15 main_call4.v10 main_call4.v16 muli,
    StableHlo.TRef.binary main_call4.v12 main_call4.v14 main_call4.v17 addi,
    StableHlo.TRef.binary main_call4.v17 main_call4.v16 main_call4.v18 addi,
    StableHlo.TRef.nullary main_call4.c_2 (constantI S_ 64 32#64),
    StableHlo.TRef.unary main_call4.c_2 main_call4.v19 (broadcastInDim S4x2048x8 ![] bcast_S_S4x2048x8),
    StableHlo.TRef.binary main_call4.v18 main_call4.v19 main_call4.v20 Host.shrui,
    StableHlo.TRef.unary main_call4.v18 main_call4.v21 (trunci 32 · natLt_32_64),
    StableHlo.TRef.unary main_call4.v20 main_call4.v22 (trunci 32 · natLt_32_64) ]

abbrev l18 : List (HloOp τ sig (Elt F)) :=
  [ StableHlo.TRef.binary main_call4.v5 main_call4.v7 main_call4_call0.v0 xori,
    StableHlo.TRef.nullary main_call4_call0.c (constantI S_ 32 466688986#32),
    StableHlo.TRef.binary main_call4_call0.v0 main_call4_call0.c main_call4_call0.v1 xori,
    StableHlo.TRef.unary main_call4.v5 main_call4_call0.v2 (broadcastInDim S4x2048x8 ![] bcast_S_S4x2048x8),
    StableHlo.TRef.binary main_call4.v22 main_call4_call0.v2 main_call4_call0.v3 addi,
    StableHlo.TRef.unary main_call4.v7 main_call4_call0.v4 (broadcastInDim S4x2048x8 ![] bcast_S_S4x2048x8),
    StableHlo.TRef.binary main_call4.v21 main_call4_call0.v4 main_call4_call0.v5 addi,
    StableHlo.TRef.binary main_call4_call0.v3 main_call4_call0.v5 main_call4_call0.v6 addi,
    StableHlo.TRef.nullary main_call4_call0.c_0 (constantI S_ 32 13#32),
    StableHlo.TRef.unary main_call4_call0.c_0 main_call4_call0.v7 (broadcastInDim S4x2048x8 ![] bcast_S_S4x2048x8),
    StableHlo.TRef.binary main_call4_call0.v5 main_call4_call0.v7 main_call4_call0.v8 Host.shli,
    StableHlo.TRef.nullary main_call4_call0.c_1 (constantI S_ 32 19#32),
    StableHlo.TRef.unary main_call4_call0.c_1 main_call4_call0.v9 (broadcastInDim S4x2048x8 ![] bcast_S_S4x2048x8),
    StableHlo.TRef.binary main_call4_call0.v5 main_call4_call0.v9 main_call4_call0.v10 Host.shrui,
    StableHlo.TRef.binary main_call4_call0.v8 main_call4_call0.v10 main_call4_call0.v11 ori,
    StableHlo.TRef.binary main_call4_call0.v6 main_call4_call0.v11 main_call4_call0.v12 xori,
    StableHlo.TRef.binary main_call4_call0.v6 main_call4_call0.v12 main_call4_call0.v13 addi,
    StableHlo.TRef.nullary main_call4_call0.c_2 (constantI S_ 32 15#32),
    StableHlo.TRef.unary main_call4_call0.c_2 main_call4_call0.v14 (broadcastInDim S4x2048x8 ![] bcast_S_S4x2048x8),
    StableHlo.TRef.binary main_call4_call0.v12 main_call4_call0.v14 main_call4_call0.v15 Host.shli,
    StableHlo.TRef.nullary main_call4_call0.c_3 (constantI S_ 32 17#32),
    StableHlo.TRef.unary main_call4_call0.c_3 main_call4_call0.v16 (broadcastInDim S4x2048x8 ![] bcast_S_S4x2048x8),
    StableHlo.TRef.binary main_call4_call0.v12 main_call4_call0.v16 main_call4_call0.v17 Host.shrui,
    StableHlo.TRef.binary main_call4_call0.v15 main_call4_call0.v17 main_call4_call0.v18 ori,
    StableHlo.TRef.binary main_call4_call0.v13 main_call4_call0.v18 main_call4_call0.v19 xori,
    StableHlo.TRef.binary main_call4_call0.v13 main_call4_call0.v19 main_call4_call0.v20 addi,
    StableHlo.TRef.nullary main_call4_call0.c_4 (constantI S_ 32 26#32),
    StableHlo.TRef.unary main_call4_call0.c_4 main_call4_call0.v21 (broadcastInDim S4x2048x8 ![] bcast_S_S4x2048x8),
    StableHlo.TRef.binary main_call4_call0.v19 main_call4_call0.v21 main_call4_call0.v22 Host.shli,
    StableHlo.TRef.nullary main_call4_call0.c_5 (constantI S_ 32 6#32),
    StableHlo.TRef.unary main_call4_call0.c_5 main_call4_call0.v23 (broadcastInDim S4x2048x8 ![] bcast_S_S4x2048x8),
    StableHlo.TRef.binary main_call4_call0.v19 main_call4_call0.v23 main_call4_call0.v24 Host.shrui,
    StableHlo.TRef.binary main_call4_call0.v22 main_call4_call0.v24 main_call4_call0.v25 ori,
    StableHlo.TRef.binary main_call4_call0.v20 main_call4_call0.v25 main_call4_call0.v26 xori,
    StableHlo.TRef.binary main_call4_call0.v20 main_call4_call0.v26 main_call4_call0.v27 addi,
    StableHlo.TRef.nullary main_call4_call0.c_6 (constantI S_ 32 6#32),
    StableHlo.TRef.unary main_call4_call0.c_6 main_call4_call0.v28 (broadcastInDim S4x2048x8 ![] bcast_S_S4x2048x8),
    StableHlo.TRef.binary main_call4_call0.v26 main_call4_call0.v28 main_call4_call0.v29 Host.shli,
    StableHlo.TRef.nullary main_call4_call0.c_7 (constantI S_ 32 26#32),
    StableHlo.TRef.unary main_call4_call0.c_7 main_call4_call0.v30 (broadcastInDim S4x2048x8 ![] bcast_S_S4x2048x8),
    StableHlo.TRef.binary main_call4_call0.v26 main_call4_call0.v30 main_call4_call0.v31 Host.shrui,
    StableHlo.TRef.binary main_call4_call0.v29 main_call4_call0.v31 main_call4_call0.v32 ori,
    StableHlo.TRef.binary main_call4_call0.v27 main_call4_call0.v32 main_call4_call0.v33 xori,
    StableHlo.TRef.unary main_call4.v7 main_call4_call0.v34 (broadcastInDim S4x2048x8 ![] bcast_S_S4x2048x8),
    StableHlo.TRef.binary main_call4_call0.v27 main_call4_call0.v34 main_call4_call0.v35 addi,
    StableHlo.TRef.unary main_call4_call0.v1 main_call4_call0.v36 (broadcastInDim S4x2048x8 ![] bcast_S_S4x2048x8),
    StableHlo.TRef.binary main_call4_call0.v33 main_call4_call0.v36 main_call4_call0.v37 addi,
    StableHlo.TRef.nullary main_call4_call0.c_8 (constantI S_ 32 1#32),
    StableHlo.TRef.unary main_call4_call0.c_8 main_call4_call0.v38 (broadcastInDim S4x2048x8 ![] bcast_S_S4x2048x8),
    StableHlo.TRef.binary main_call4_call0.v37 main_call4_call0.v38 main_call4_call0.v39 addi,
    StableHlo.TRef.binary main_call4_call0.v35 main_call4_call0.v39 main_call4_call0.v40 addi,
    StableHlo.TRef.nullary main_call4_call0.c_9 (constantI S_ 32 17#32),
    StableHlo.TRef.unary main_call4_call0.c_9 main_call4_call0.v41 (broadcastInDim S4x2048x8 ![] bcast_S_S4x2048x8),
    StableHlo.TRef.binary main_call4_call0.v39 main_call4_call0.v41 main_call4_call0.v42 Host.shli,
    StableHlo.TRef.nullary main_call4_call0.c_10 (constantI S_ 32 15#32),
    StableHlo.TRef.unary main_call4_call0.c_10 main_call4_call0.v43 (broadcastInDim S4x2048x8 ![] bcast_S_S4x2048x8),
    StableHlo.TRef.binary main_call4_call0.v39 main_call4_call0.v43 main_call4_call0.v44 Host.shrui,
    StableHlo.TRef.binary main_call4_call0.v42 main_call4_call0.v44 main_call4_call0.v45 ori,
    StableHlo.TRef.binary main_call4_call0.v40 main_call4_call0.v45 main_call4_call0.v46 xori,
    StableHlo.TRef.binary main_call4_call0.v40 main_call4_call0.v46 main_call4_call0.v47 addi ]

abbrev l19 : List (HloOp τ sig (Elt F)) :=
  [ StableHlo.TRef.nullary main_call4_call0.c_11 (constantI S_ 32 29#32),
    StableHlo.TRef.unary main_call4_call0.c_11 main_call4_call0.v48 (broadcastInDim S4x2048x8 ![] bcast_S_S4x2048x8),
    StableHlo.TRef.binary main_call4_call0.v46 main_call4_call0.v48 main_call4_call0.v49 Host.shli,
    StableHlo.TRef.nullary main_call4_call0.c_12 (constantI S_ 32 3#32),
    StableHlo.TRef.unary main_call4_call0.c_12 main_call4_call0.v50 (broadcastInDim S4x2048x8 ![] bcast_S_S4x2048x8),
    StableHlo.TRef.binary main_call4_call0.v46 main_call4_call0.v50 main_call4_call0.v51 Host.shrui,
    StableHlo.TRef.binary main_call4_call0.v49 main_call4_call0.v51 main_call4_call0.v52 ori,
    StableHlo.TRef.binary main_call4_call0.v47 main_call4_call0.v52 main_call4_call0.v53 xori,
    StableHlo.TRef.binary main_call4_call0.v47 main_call4_call0.v53 main_call4_call0.v54 addi,
    StableHlo.TRef.nullary main_call4_call0.c_13 (constantI S_ 32 16#32),
    StableHlo.TRef.unary main_call4_call0.c_13 main_call4_call0.v55 (broadcastInDim S4x2048x8 ![] bcast_S_S4x2048x8),
    StableHlo.TRef.binary main_call4_call0.v53 main_call4_call0.v55 main_call4_call0.v56 Host.shli,
    StableHlo.TRef.nullary main_call4_call0.c_14 (constantI S_ 32 16#32),
    StableHlo.TRef.unary main_call4_call0.c_14 main_call4_call0.v57 (broadcastInDim S4x2048x8 ![] bcast_S_S4x2048x8),
    StableHlo.TRef.binary main_call4_call0.v53 main_call4_call0.v57 main_call4_call0.v58 Host.shrui,
    StableHlo.TRef.binary main_call4_call0.v56 main_call4_call0.v58 main_call4_call0.v59 ori,
    StableHlo.TRef.binary main_call4_call0.v54 main_call4_call0.v59 main_call4_call0.v60 xori,
    StableHlo.TRef.binary main_call4_call0.v54 main_call4_call0.v60 main_call4_call0.v61 addi,
    StableHlo.TRef.nullary main_call4_call0.c_15 (constantI S_ 32 24#32),
    StableHlo.TRef.unary main_call4_call0.c_15 main_call4_call0.v62 (broadcastInDim S4x2048x8 ![] bcast_S_S4x2048x8),
    StableHlo.TRef.binary main_call4_call0.v60 main_call4_call0.v62 main_call4_call0.v63 Host.shli,
    StableHlo.TRef.nullary main_call4_call0.c_16 (constantI S_ 32 8#32),
    StableHlo.TRef.unary main_call4_call0.c_16 main_call4_call0.v64 (broadcastInDim S4x2048x8 ![] bcast_S_S4x2048x8),
    StableHlo.TRef.binary main_call4_call0.v60 main_call4_call0.v64 main_call4_call0.v65 Host.shrui,
    StableHlo.TRef.binary main_call4_call0.v63 main_call4_call0.v65 main_call4_call0.v66 ori,
    StableHlo.TRef.binary main_call4_call0.v61 main_call4_call0.v66 main_call4_call0.v67 xori,
    StableHlo.TRef.unary main_call4_call0.v1 main_call4_call0.v68 (broadcastInDim S4x2048x8 ![] bcast_S_S4x2048x8),
    StableHlo.TRef.binary main_call4_call0.v61 main_call4_call0.v68 main_call4_call0.v69 addi,
    StableHlo.TRef.unary main_call4.v5 main_call4_call0.v70 (broadcastInDim S4x2048x8 ![] bcast_S_S4x2048x8),
    StableHlo.TRef.binary main_call4_call0.v67 main_call4_call0.v70 main_call4_call0.v71 addi,
    StableHlo.TRef.nullary main_call4_call0.c_17 (constantI S_ 32 2#32),
    StableHlo.TRef.unary main_call4_call0.c_17 main_call4_call0.v72 (broadcastInDim S4x2048x8 ![] bcast_S_S4x2048x8),
    StableHlo.TRef.binary main_call4_call0.v71 main_call4_call0.v72 main_call4_call0.v73 addi,
    StableHlo.TRef.binary main_call4_call0.v69 main_call4_call0.v73 main_call4_call0.v74 addi,
    StableHlo.TRef.nullary main_call4_call0.c_18 (constantI S_ 32 13#32),
    StableHlo.TRef.unary main_call4_call0.c_18 main_call4_call0.v75 (broadcastInDim S4x2048x8 ![] bcast_S_S4x2048x8),
    StableHlo.TRef.binary main_call4_call0.v73 main_call4_call0.v75 main_call4_call0.v76 Host.shli,
    StableHlo.TRef.nullary main_call4_call0.c_19 (constantI S_ 32 19#32),
    StableHlo.TRef.unary main_call4_call0.c_19 main_call4_call0.v77 (broadcastInDim S4x2048x8 ![] bcast_S_S4x2048x8),
    StableHlo.TRef.binary main_call4_call0.v73 main_call4_call0.v77 main_call4_call0.v78 Host.shrui,
    StableHlo.TRef.binary main_call4_call0.v76 main_call4_call0.v78 main_call4_call0.v79 ori,
    StableHlo.TRef.binary main_call4_call0.v74 main_call4_call0.v79 main_call4_call0.v80 xori,
    StableHlo.TRef.binary main_call4_call0.v74 main_call4_call0.v80 main_call4_call0.v81 addi,
    StableHlo.TRef.nullary main_call4_call0.c_20 (constantI S_ 32 15#32),
    StableHlo.TRef.unary main_call4_call0.c_20 main_call4_call0.v82 (broadcastInDim S4x2048x8 ![] bcast_S_S4x2048x8),
    StableHlo.TRef.binary main_call4_call0.v80 main_call4_call0.v82 main_call4_call0.v83 Host.shli,
    StableHlo.TRef.nullary main_call4_call0.c_21 (constantI S_ 32 17#32),
    StableHlo.TRef.unary main_call4_call0.c_21 main_call4_call0.v84 (broadcastInDim S4x2048x8 ![] bcast_S_S4x2048x8),
    StableHlo.TRef.binary main_call4_call0.v80 main_call4_call0.v84 main_call4_call0.v85 Host.shrui,
    StableHlo.TRef.binary main_call4_call0.v83 main_call4_call0.v85 main_call4_call0.v86 ori,
    StableHlo.TRef.binary main_call4_call0.v81 main_call4_call0.v86 main_call4_call0.v87 xori,
    StableHlo.TRef.binary main_call4_call0.v81 main_call4_call0.v87 main_call4_call0.v88 addi,
    StableHlo.TRef.nullary main_call4_call0.c_22 (constantI S_ 32 26#32),
    StableHlo.TRef.unary main_call4_call0.c_22 main_call4_call0.v89 (broadcastInDim S4x2048x8 ![] bcast_S_S4x2048x8),
    StableHlo.TRef.binary main_call4_call0.v87 main_call4_call0.v89 main_call4_call0.v90 Host.shli,
    StableHlo.TRef.nullary main_call4_call0.c_23 (constantI S_ 32 6#32),
    StableHlo.TRef.unary main_call4_call0.c_23 main_call4_call0.v91 (broadcastInDim S4x2048x8 ![] bcast_S_S4x2048x8),
    StableHlo.TRef.binary main_call4_call0.v87 main_call4_call0.v91 main_call4_call0.v92 Host.shrui,
    StableHlo.TRef.binary main_call4_call0.v90 main_call4_call0.v92 main_call4_call0.v93 ori,
    StableHlo.TRef.binary main_call4_call0.v88 main_call4_call0.v93 main_call4_call0.v94 xori ]

abbrev l20 : List (HloOp τ sig (Elt F)) :=
  [ StableHlo.TRef.binary main_call4_call0.v88 main_call4_call0.v94 main_call4_call0.v95 addi,
    StableHlo.TRef.nullary main_call4_call0.c_24 (constantI S_ 32 6#32),
    StableHlo.TRef.unary main_call4_call0.c_24 main_call4_call0.v96 (broadcastInDim S4x2048x8 ![] bcast_S_S4x2048x8),
    StableHlo.TRef.binary main_call4_call0.v94 main_call4_call0.v96 main_call4_call0.v97 Host.shli,
    StableHlo.TRef.nullary main_call4_call0.c_25 (constantI S_ 32 26#32),
    StableHlo.TRef.unary main_call4_call0.c_25 main_call4_call0.v98 (broadcastInDim S4x2048x8 ![] bcast_S_S4x2048x8),
    StableHlo.TRef.binary main_call4_call0.v94 main_call4_call0.v98 main_call4_call0.v99 Host.shrui,
    StableHlo.TRef.binary main_call4_call0.v97 main_call4_call0.v99 main_call4_call0.v100 ori,
    StableHlo.TRef.binary main_call4_call0.v95 main_call4_call0.v100 main_call4_call0.v101 xori,
    StableHlo.TRef.unary main_call4.v5 main_call4_call0.v102 (broadcastInDim S4x2048x8 ![] bcast_S_S4x2048x8),
    StableHlo.TRef.binary main_call4_call0.v95 main_call4_call0.v102 main_call4_call0.v103 addi,
    StableHlo.TRef.unary main_call4.v7 main_call4_call0.v104 (broadcastInDim S4x2048x8 ![] bcast_S_S4x2048x8),
    StableHlo.TRef.binary main_call4_call0.v101 main_call4_call0.v104 main_call4_call0.v105 addi,
    StableHlo.TRef.nullary main_call4_call0.c_26 (constantI S_ 32 3#32),
    StableHlo.TRef.unary main_call4_call0.c_26 main_call4_call0.v106 (broadcastInDim S4x2048x8 ![] bcast_S_S4x2048x8),
    StableHlo.TRef.binary main_call4_call0.v105 main_call4_call0.v106 main_call4_call0.v107 addi,
    StableHlo.TRef.binary main_call4_call0.v103 main_call4_call0.v107 main_call4_call0.v108 addi,
    StableHlo.TRef.nullary main_call4_call0.c_27 (constantI S_ 32 17#32),
    StableHlo.TRef.unary main_call4_call0.c_27 main_call4_call0.v109 (broadcastInDim S4x2048x8 ![] bcast_S_S4x2048x8),
    StableHlo.TRef.binary main_call4_call0.v107 main_call4_call0.v109 main_call4_call0.v110 Host.shli,
    StableHlo.TRef.nullary main_call4_call0.c_28 (constantI S_ 32 15#32),
    StableHlo.TRef.unary main_call4_call0.c_28 main_call4_call0.v111 (broadcastInDim S4x2048x8 ![] bcast_S_S4x2048x8),
    StableHlo.TRef.binary main_call4_call0.v107 main_call4_call0.v111 main_call4_call0.v112 Host.shrui,
    StableHlo.TRef.binary main_call4_call0.v110 main_call4_call0.v112 main_call4_call0.v113 ori,
    StableHlo.TRef.binary main_call4_call0.v108 main_call4_call0.v113 main_call4_call0.v114 xori,
    StableHlo.TRef.binary main_call4_call0.v108 main_call4_call0.v114 main_call4_call0.v115 addi,
    StableHlo.TRef.nullary main_call4_call0.c_29 (constantI S_ 32 29#32),
    StableHlo.TRef.unary main_call4_call0.c_29 main_call4_call0.v116 (broadcastInDim S4x2048x8 ![] bcast_S_S4x2048x8),
    StableHlo.TRef.binary main_call4_call0.v114 main_call4_call0.v116 main_call4_call0.v117 Host.shli,
    StableHlo.TRef.nullary main_call4_call0.c_30 (constantI S_ 32 3#32),
    StableHlo.TRef.unary main_call4_call0.c_30 main_call4_call0.v118 (broadcastInDim S4x2048x8 ![] bcast_S_S4x2048x8),
    StableHlo.TRef.binary main_call4_call0.v114 main_call4_call0.v118 main_call4_call0.v119 Host.shrui,
    StableHlo.TRef.binary main_call4_call0.v117 main_call4_call0.v119 main_call4_call0.v120 ori,
    StableHlo.TRef.binary main_call4_call0.v115 main_call4_call0.v120 main_call4_call0.v121 xori,
    StableHlo.TRef.binary main_call4_call0.v115 main_call4_call0.v121 main_call4_call0.v122 addi,
    StableHlo.TRef.nullary main_call4_call0.c_31 (constantI S_ 32 16#32),
    StableHlo.TRef.unary main_call4_call0.c_31 main_call4_call0.v123 (broadcastInDim S4x2048x8 ![] bcast_S_S4x2048x8),
    StableHlo.TRef.binary main_call4_call0.v121 main_call4_call0.v123 main_call4_call0.v124 Host.shli,
    StableHlo.TRef.nullary main_call4_call0.c_32 (constantI S_ 32 16#32),
    StableHlo.TRef.unary main_call4_call0.c_32 main_call4_call0.v125 (broadcastInDim S4x2048x8 ![] bcast_S_S4x2048x8),
    StableHlo.TRef.binary main_call4_call0.v121 main_call4_call0.v125 main_call4_call0.v126 Host.shrui,
    StableHlo.TRef.binary main_call4_call0.v124 main_call4_call0.v126 main_call4_call0.v127 ori,
    StableHlo.TRef.binary main_call4_call0.v122 main_call4_call0.v127 main_call4_call0.v128 xori,
    StableHlo.TRef.binary main_call4_call0.v122 main_call4_call0.v128 main_call4_call0.v129 addi,
    StableHlo.TRef.nullary main_call4_call0.c_33 (constantI S_ 32 24#32),
    StableHlo.TRef.unary main_call4_call0.c_33 main_call4_call0.v130 (broadcastInDim S4x2048x8 ![] bcast_S_S4x2048x8),
    StableHlo.TRef.binary main_call4_call0.v128 main_call4_call0.v130 main_call4_call0.v131 Host.shli,
    StableHlo.TRef.nullary main_call4_call0.c_34 (constantI S_ 32 8#32),
    StableHlo.TRef.unary main_call4_call0.c_34 main_call4_call0.v132 (broadcastInDim S4x2048x8 ![] bcast_S_S4x2048x8),
    StableHlo.TRef.binary main_call4_call0.v128 main_call4_call0.v132 main_call4_call0.v133 Host.shrui,
    StableHlo.TRef.binary main_call4_call0.v131 main_call4_call0.v133 main_call4_call0.v134 ori,
    StableHlo.TRef.binary main_call4_call0.v129 main_call4_call0.v134 main_call4_call0.v135 xori,
    StableHlo.TRef.unary main_call4.v7 main_call4_call0.v136 (broadcastInDim S4x2048x8 ![] bcast_S_S4x2048x8),
    StableHlo.TRef.binary main_call4_call0.v129 main_call4_call0.v136 main_call4_call0.v137 addi,
    StableHlo.TRef.unary main_call4_call0.v1 main_call4_call0.v138 (broadcastInDim S4x2048x8 ![] bcast_S_S4x2048x8),
    StableHlo.TRef.binary main_call4_call0.v135 main_call4_call0.v138 main_call4_call0.v139 addi,
    StableHlo.TRef.nullary main_call4_call0.c_35 (constantI S_ 32 4#32),
    StableHlo.TRef.unary main_call4_call0.c_35 main_call4_call0.v140 (broadcastInDim S4x2048x8 ![] bcast_S_S4x2048x8),
    StableHlo.TRef.binary main_call4_call0.v139 main_call4_call0.v140 main_call4_call0.v141 addi,
    StableHlo.TRef.binary main_call4_call0.v137 main_call4_call0.v141 main_call4_call0.v142 addi ]

abbrev l21 : List (HloOp τ sig (Elt F)) :=
  [ StableHlo.TRef.nullary main_call4_call0.c_36 (constantI S_ 32 13#32),
    StableHlo.TRef.unary main_call4_call0.c_36 main_call4_call0.v143 (broadcastInDim S4x2048x8 ![] bcast_S_S4x2048x8),
    StableHlo.TRef.binary main_call4_call0.v141 main_call4_call0.v143 main_call4_call0.v144 Host.shli,
    StableHlo.TRef.nullary main_call4_call0.c_37 (constantI S_ 32 19#32),
    StableHlo.TRef.unary main_call4_call0.c_37 main_call4_call0.v145 (broadcastInDim S4x2048x8 ![] bcast_S_S4x2048x8),
    StableHlo.TRef.binary main_call4_call0.v141 main_call4_call0.v145 main_call4_call0.v146 Host.shrui,
    StableHlo.TRef.binary main_call4_call0.v144 main_call4_call0.v146 main_call4_call0.v147 ori,
    StableHlo.TRef.binary main_call4_call0.v142 main_call4_call0.v147 main_call4_call0.v148 xori,
    StableHlo.TRef.binary main_call4_call0.v142 main_call4_call0.v148 main_call4_call0.v149 addi,
    StableHlo.TRef.nullary main_call4_call0.c_38 (constantI S_ 32 15#32),
    StableHlo.TRef.unary main_call4_call0.c_38 main_call4_call0.v150 (broadcastInDim S4x2048x8 ![] bcast_S_S4x2048x8),
    StableHlo.TRef.binary main_call4_call0.v148 main_call4_call0.v150 main_call4_call0.v151 Host.shli,
    StableHlo.TRef.nullary main_call4_call0.c_39 (constantI S_ 32 17#32),
    StableHlo.TRef.unary main_call4_call0.c_39 main_call4_call0.v152 (broadcastInDim S4x2048x8 ![] bcast_S_S4x2048x8),
    StableHlo.TRef.binary main_call4_call0.v148 main_call4_call0.v152 main_call4_call0.v153 Host.shrui,
    StableHlo.TRef.binary main_call4_call0.v151 main_call4_call0.v153 main_call4_call0.v154 ori,
    StableHlo.TRef.binary main_call4_call0.v149 main_call4_call0.v154 main_call4_call0.v155 xori,
    StableHlo.TRef.binary main_call4_call0.v149 main_call4_call0.v155 main_call4_call0.v156 addi,
    StableHlo.TRef.nullary main_call4_call0.c_40 (constantI S_ 32 26#32),
    StableHlo.TRef.unary main_call4_call0.c_40 main_call4_call0.v157 (broadcastInDim S4x2048x8 ![] bcast_S_S4x2048x8),
    StableHlo.TRef.binary main_call4_call0.v155 main_call4_call0.v157 main_call4_call0.v158 Host.shli,
    StableHlo.TRef.nullary main_call4_call0.c_41 (constantI S_ 32 6#32),
    StableHlo.TRef.unary main_call4_call0.c_41 main_call4_call0.v159 (broadcastInDim S4x2048x8 ![] bcast_S_S4x2048x8),
    StableHlo.TRef.binary main_call4_call0.v155 main_call4_call0.v159 main_call4_call0.v160 Host.shrui,
    StableHlo.TRef.binary main_call4_call0.v158 main_call4_call0.v160 main_call4_call0.v161 ori,
    StableHlo.TRef.binary main_call4_call0.v156 main_call4_call0.v161 main_call4_call0.v162 xori,
    StableHlo.TRef.binary main_call4_call0.v156 main_call4_call0.v162 main_call4_call0.v163 addi,
    StableHlo.TRef.nullary main_call4_call0.c_42 (constantI S_ 32 6#32),
    StableHlo.TRef.unary main_call4_call0.c_42 main_call4_call0.v164 (broadcastInDim S4x2048x8 ![] bcast_S_S4x2048x8),
    StableHlo.TRef.binary main_call4_call0.v162 main_call4_call0.v164 main_call4_call0.v165 Host.shli,
    StableHlo.TRef.nullary main_call4_call0.c_43 (constantI S_ 32 26#32),
    StableHlo.TRef.unary main_call4_call0.c_43 main_call4_call0.v166 (broadcastInDim S4x2048x8 ![] bcast_S_S4x2048x8),
    StableHlo.TRef.binary main_call4_call0.v162 main_call4_call0.v166 main_call4_call0.v167 Host.shrui,
    StableHlo.TRef.binary main_call4_call0.v165 main_call4_call0.v167 main_call4_call0.v168 ori,
    StableHlo.TRef.binary main_call4_call0.v163 main_call4_call0.v168 main_call4_call0.v169 xori,
    StableHlo.TRef.unary main_call4_call0.v1 main_call4_call0.v170 (broadcastInDim S4x2048x8 ![] bcast_S_S4x2048x8),
    StableHlo.TRef.binary main_call4_call0.v163 main_call4_call0.v170 main_call4_call0.v171 addi,
    StableHlo.TRef.unary main_call4.v5 main_call4_call0.v172 (broadcastInDim S4x2048x8 ![] bcast_S_S4x2048x8),
    StableHlo.TRef.binary main_call4_call0.v169 main_call4_call0.v172 main_call4_call0.v173 addi,
    StableHlo.TRef.nullary main_call4_call0.c_44 (constantI S_ 32 5#32),
    StableHlo.TRef.unary main_call4_call0.c_44 main_call4_call0.v174 (broadcastInDim S4x2048x8 ![] bcast_S_S4x2048x8),
    StableHlo.TRef.binary main_call4_call0.v173 main_call4_call0.v174 main_call4_call0.v175 addi ]

abbrev l22 : List (HloOp τ sig (Elt F)) :=
  [ StableHlo.TRef.binary main_call4_call0.v171 main_call4_call0.v175 main_call4.v24 xori,
    StableHlo.TRef.nullary main_call4.c_3 (constantI S_ 32 9#32),
    StableHlo.TRef.unary main_call4.c_3 main_call4.v25 (broadcastInDim S4x2048x8 ![] bcast_S_S4x2048x8),
    StableHlo.TRef.binary main_call4.v24 main_call4.v25 main_call4.v26 Host.shrui,
    StableHlo.TRef.nullary main_call4.c_4 (constantI S_ 32 1065353216#32),
    StableHlo.TRef.unary main_call4.c_4 main_call4.v27 (broadcastInDim S4x2048x8 ![] bcast_S_S4x2048x8),
    StableHlo.TRef.binary main_call4.v26 main_call4.v27 main_call4.v28 ori,
    StableHlo.TRef.unary main_call4.v28 main_call4.v29 (bitcastToFloat .f32),
    StableHlo.TRef.nullary main_call4.cst (constant S_ .f32 0x3F800000#32),
    StableHlo.TRef.unary main_call4.cst main_call4.v30 (broadcastInDim S4x2048x8 ![] bcast_S_S4x2048x8),
    StableHlo.TRef.binary main_call4.v29 main_call4.v30 main_call4.v31 subf,
    StableHlo.TRef.binary main_call4.v3 main_call4.v2 main_call4.v32 subf,
    StableHlo.TRef.unary main_call4.v32 main_call4.v33 (broadcastInDim S4x2048x8 ![0, 1, 2] bcast_S1x1x1_S4x2048x8_0_1_2),
    StableHlo.TRef.binary main_call4.v31 main_call4.v33 main_call4.v34 mulf,
    StableHlo.TRef.unary main_call4.v2 main_call4.v35 (broadcastInDim S4x2048x8 ![0, 1, 2] bcast_S1x1x1_S4x2048x8_0_1_2),
    StableHlo.TRef.binary main_call4.v34 main_call4.v35 main_call4.v36 addf,
    StableHlo.TRef.unary main_call4.v2 main_call4.v37 (broadcastInDim S4x2048x8 ![0, 1, 2] bcast_S1x1x1_S4x2048x8_0_1_2),
    StableHlo.TRef.binary main_call4.v37 main_call4.v36 main_call4.v38 maximumf ]

abbrev l23 : List (HloOp τ sig (Elt F)) :=
  [ StableHlo.nullary main_cst_12 (constant S_ .f32 0x3E4CCCCD#32),
    StableHlo.unary main_cst_12 main_v50 (broadcastInDim S4x2048x8 ![] bcast_S_S4x2048x8 : (⟨S_, .f32⟩ : BufTy).Contents (Elt F) → (⟨S4x2048x8, .f32⟩ : BufTy).Contents (Elt F)),
    StableHlo.binary main_v49 main_v50 main_v51 (cmpf .olt : (⟨S4x2048x8, .f32⟩ : BufTy).Contents (Elt F) → (⟨S4x2048x8, .f32⟩ : BufTy).Contents (Elt F) → (⟨S4x2048x8, .i1⟩ : BufTy).Contents (Elt F)) ]

abbrev l24 : List (HloOp τ sig (Elt F)) :=
  [ StableHlo.TRef.ternary (.of main_v51 : StableHlo.TRef sig ⟨S4x2048x8, .i1⟩) (.of main_v41 : StableHlo.TRef sig ⟨S4x2048x8, .i32⟩) (.of main_arg0 : StableHlo.TRef sig ⟨S4x2048x8, .i32⟩) main_call5.v0 select ]

abbrev n0 : List (HloOp τ sig (Elt F)) := l1 ++ []

abbrev n1 : List (HloOp τ sig (Elt F)) := l3 ++ []

abbrev n2 : List (HloOp τ sig (Elt F)) := l7 ++ []

abbrev n3 : List (HloOp τ sig (Elt F)) := l8 ++ []

abbrev n4 : List (HloOp τ sig (Elt F)) := l9 ++ []

abbrev n5 : List (HloOp τ sig (Elt F)) := l10 ++ []

abbrev n6 : List (HloOp τ sig (Elt F)) := n2 ++ (n3 ++ (n4 ++ (n5 ++ [])))

abbrev n7 : List (HloOp τ sig (Elt F)) := l6 ++ (n6 ++ (l11 ++ []))

abbrev n8 : List (HloOp τ sig (Elt F)) := l5 ++ (n7 ++ (l12 ++ []))

abbrev n9 : List (HloOp τ sig (Elt F)) := l14 ++ []

abbrev n10 : List (HloOp τ sig (Elt F)) := l0 ++ (n0 ++ (l2 ++ (n1 ++ (l4 ++ (n8 ++ (l13 ++ (n9 ++ (l15 ++ []))))))))

abbrev n11 : List (HloOp τ sig (Elt F)) := l18 ++ []

abbrev n12 : List (HloOp τ sig (Elt F)) := l19 ++ []

abbrev n13 : List (HloOp τ sig (Elt F)) := l20 ++ []

abbrev n14 : List (HloOp τ sig (Elt F)) := l21 ++ []

abbrev n15 : List (HloOp τ sig (Elt F)) := n11 ++ (n12 ++ (n13 ++ (n14 ++ [])))

abbrev n16 : List (HloOp τ sig (Elt F)) := l17 ++ (n15 ++ (l22 ++ []))

abbrev n17 : List (HloOp τ sig (Elt F)) := l24 ++ []

abbrev n18 : List (HloOp τ sig (Elt F)) := l16 ++ (n16 ++ (l23 ++ (n17 ++ [])))

abbrev n19 : List (HloOp τ sig (Elt F)) := n10 ++ (n18 ++ [])

end Cert.ReferenceIdeal.Lines

end
-- ==== Proof.RefLines.lean ====
module

public import proofs.«01_k».proof.Proof.RefOps

/-! # The reference program is that line, and the line is in single-assignment order -/

set_option maxRecDepth 16384

@[expose] public section

noncomputable section

namespace Cert.ReferenceIdeal.Lines

open Cert.ReferenceIdeal Cert.ReferenceIdeal.Gen
open Idealize.ShloMosaic Idealize.ShloMosaic.TcCoe Idealize.ShloMosaic.StableHlo Cert.Ssa
open Idealize.SL.Sem

variable {F : FTy → Type} [FloatOps F]

/-- The programs of the reference. -/
abbrev PR (F : FTy → Type) [FloatOps F] := Prog (TpuEff nD τ sig (Elt F) (Pipeline.Sig Λ₀ (Fin 0) fun p => (pcfgs (F := F) p).Adm) .tc) PUnit

/-- The buffers in the order in which the program writes them. -/
def rkey (r : Ref sig .tc) : Nat := r.idx.val

theorem seq_op (op : HloOp τ sig (Elt F)) {k : PR F} {l l' : List (HloOp τ sig (Elt F))} (h : k = seq (l ++ l')) :
    ((hlo rfl op fun _ => .ret (⟨⟩ : PUnit)) >>= fun _ => k) = seq ((op :: l) ++ l') := by rw [h]; rfl

theorem seq_done {k : PR F} {l : List (HloOp τ sig (Elt F))} (h : k = seq l) : k = seq ([] ++ l) := h

theorem seq_last (op : HloOp τ sig (Elt F)) : (hlo rfl op (fun _ => .ret (⟨⟩ : PUnit)) : PR F) = seq ([op] ++ []) := rfl

theorem seq_pure : (pure ⟨⟩ : PR F) = seq [] := rfl

theorem seq_call {p k : PR F} {l l' : List (HloOp τ sig (Elt F))} (h : p = seq l) (h' : k = seq l') :
    (p >>= fun _ => k) = seq (l ++ l') := by rw [h, h', seq_append]

theorem seq_end {p : PR F} {l : List (HloOp τ sig (Elt F))} (h : p = seq l) : p = seq (l ++ []) := by rw [List.append_nil]; exact h

set_option maxHeartbeats 4000000 in
theorem seq_n0 : (fn_where.body (F := F) (.of main_v22 : StableHlo.TRef sig ⟨S1x1024x1024, .i1⟩) (.of main_cst_2 : StableHlo.TRef sig ⟨S_, .f32⟩) (.of main_v16 : StableHlo.TRef sig ⟨S8x1024x1024, .f32⟩) main_call0 : PR F) = seq n0 := by
  unfold fn_where.body
  repeat first | exact seq_pure | exact seq_last _ | refine seq_op _ ?_ | refine seq_done ?_

set_option maxHeartbeats 4000000 in
theorem seq_n1 : (fn_take_along_axis.body (F := F) (.of main_v23 : StableHlo.TRef sig ⟨S8x1024x1024, .f32⟩) (.of main_v24 : StableHlo.TRef sig ⟨S8x8192x1, .i32⟩) main_call1 : PR F) = seq n1 := by
  unfold fn_take_along_axis.body
  repeat first | exact seq_pure | exact seq_last _ | refine seq_op _ ?_ | refine seq_done ?_

set_option maxHeartbeats 4000000 in
theorem seq_n2 : (fn_threefry2x32.body_part0 (F := F) main_call2_call0.v4 main_call2_call0.v6 main_call2_call0.v17 main_call2_call0.v16 main_call2_call0_call0 : PR F) = seq n2 := by
  unfold fn_threefry2x32.body_part0
  repeat first | exact seq_pure | exact seq_last _ | refine seq_op _ ?_ | refine seq_done ?_

set_option maxHeartbeats 4000000 in
theorem seq_n3 : (fn_threefry2x32.body_part1 (F := F) main_call2_call0.v4 main_call2_call0.v6 main_call2_call0.v17 main_call2_call0.v16 main_call2_call0_call0 : PR F) = seq n3 := by
  unfold fn_threefry2x32.body_part1
  repeat first | exact seq_pure | exact seq_last _ | refine seq_op _ ?_ | refine seq_done ?_

set_option maxHeartbeats 4000000 in
theorem seq_n4 : (fn_threefry2x32.body_part2 (F := F) main_call2_call0.v4 main_call2_call0.v6 main_call2_call0.v17 main_call2_call0.v16 main_call2_call0_call0 : PR F) = seq n4 := by
  unfold fn_threefry2x32.body_part2
  repeat first | exact seq_pure | exact seq_last _ | refine seq_op _ ?_ | refine seq_done ?_

set_option maxHeartbeats 4000000 in
theorem seq_n5 : (fn_threefry2x32.body_part3 (F := F) main_call2_call0.v4 main_call2_call0.v6 main_call2_call0.v17 main_call2_call0.v16 main_call2_call0_call0 : PR F) = seq n5 := by
  unfold fn_threefry2x32.body_part3
  repeat first | exact seq_pure | exact seq_last _ | refine seq_op _ ?_ | refine seq_done ?_

set_option maxHeartbeats 4000000 in
theorem seq_n6 : (fn_threefry2x32.body (F := F) main_call2_call0.v4 main_call2_call0.v6 main_call2_call0.v17 main_call2_call0.v16 main_call2_call0_call0 : PR F) = seq n6 := by
  unfold fn_threefry2x32.body
  repeat first | exact seq_pure | exact seq_last _ | exact seq_end (seq_n2) | refine seq_call (seq_n2) ?_ | exact seq_end (seq_n3) | refine seq_call (seq_n3) ?_ | exact seq_end (seq_n4) | refine seq_call (seq_n4) ?_ | exact seq_end (seq_n5) | refine seq_call (seq_n5) ?_ | refine seq_op _ ?_ | refine seq_done ?_

set_option maxHeartbeats 4000000 in
theorem seq_n7 : (fn_uniform.body (F := F) (.of main_v32 : StableHlo.TRef sig ⟨S2, .i32⟩) main_call2.cst main_call2.cst_0 main_call2_call0 : PR F) = seq n7 := by
  unfold fn_uniform.body
  repeat first | exact seq_pure | exact seq_last _ | exact seq_end (seq_n6) | refine seq_call (seq_n6) ?_ | refine seq_op _ ?_ | refine seq_done ?_

set_option maxHeartbeats 4000000 in
theorem seq_n8 : (fn_gumbel.body (F := F) (.of main_v32 : StableHlo.TRef sig ⟨S2, .i32⟩) main_call2 : PR F) = seq n8 := by
  unfold fn_gumbel.body
  repeat first | exact seq_pure | exact seq_last _ | exact seq_end (seq_n7) | refine seq_call (seq_n7) ?_ | refine seq_op _ ?_ | refine seq_done ?_

set_option maxHeartbeats 4000000 in
theorem seq_n9 : (fn_argmax.body (F := F) (.of main_v37 : StableHlo.TRef sig ⟨S65536x1024, .f32⟩) main_call3 : PR F) = seq n9 := by
  unfold fn_argmax.body
  repeat first | exact seq_pure | exact seq_last _ | refine seq_op _ ?_ | refine seq_done ?_

set_option maxHeartbeats 4000000 in
theorem seq_n10 (d : Dev nD) : (main_part0 (F := F) d : PR F) = seq n10 := by
  unfold main_part0
  repeat first | exact seq_pure | exact seq_last _ | exact seq_end (seq_n0) | refine seq_call (seq_n0) ?_ | exact seq_end (seq_n1) | refine seq_call (seq_n1) ?_ | exact seq_end (seq_n8) | refine seq_call (seq_n8) ?_ | exact seq_end (seq_n9) | refine seq_call (seq_n9) ?_ | refine seq_op _ ?_ | refine seq_done ?_

set_option maxHeartbeats 4000000 in
theorem seq_n11 : (fn_threefry2x32_1.body_part0 (F := F) main_call4.v5 main_call4.v7 main_call4.v22 main_call4.v21 main_call4_call0 : PR F) = seq n11 := by
  unfold fn_threefry2x32_1.body_part0
  repeat first | exact seq_pure | exact seq_last _ | refine seq_op _ ?_ | refine seq_done ?_

set_option maxHeartbeats 4000000 in
theorem seq_n12 : (fn_threefry2x32_1.body_part1 (F := F) main_call4.v5 main_call4.v7 main_call4.v22 main_call4.v21 main_call4_call0 : PR F) = seq n12 := by
  unfold fn_threefry2x32_1.body_part1
  repeat first | exact seq_pure | exact seq_last _ | refine seq_op _ ?_ | refine seq_done ?_

set_option maxHeartbeats 4000000 in
theorem seq_n13 : (fn_threefry2x32_1.body_part2 (F := F) main_call4.v5 main_call4.v7 main_call4.v22 main_call4.v21 main_call4_call0 : PR F) = seq n13 := by
  unfold fn_threefry2x32_1.body_part2
  repeat first | exact seq_pure | exact seq_last _ | refine seq_op _ ?_ | refine seq_done ?_

set_option maxHeartbeats 4000000 in
theorem seq_n14 : (fn_threefry2x32_1.body_part3 (F := F) main_call4.v5 main_call4.v7 main_call4.v22 main_call4.v21 main_call4_call0 : PR F) = seq n14 := by
  unfold fn_threefry2x32_1.body_part3
  repeat first | exact seq_pure | exact seq_last _ | refine seq_op _ ?_ | refine seq_done ?_

set_option maxHeartbeats 4000000 in
theorem seq_n15 : (fn_threefry2x32_1.body (F := F) main_call4.v5 main_call4.v7 main_call4.v22 main_call4.v21 main_call4_call0 : PR F) = seq n15 := by
  unfold fn_threefry2x32_1.body
  repeat first | exact seq_pure | exact seq_last _ | exact seq_end (seq_n11) | refine seq_call (seq_n11) ?_ | exact seq_end (seq_n12) | refine seq_call (seq_n12) ?_ | exact seq_end (seq_n13) | refine seq_call (seq_n13) ?_ | exact seq_end (seq_n14) | refine seq_call (seq_n14) ?_ | refine seq_op _ ?_ | refine seq_done ?_

set_option maxHeartbeats 4000000 in
theorem seq_n16 : (fn_uniform_0.body (F := F) (.of main_v48 : StableHlo.TRef sig ⟨S2, .i32⟩) (.of main_cst_10 : StableHlo.TRef sig ⟨S_, .f32⟩) (.of main_cst_11 : StableHlo.TRef sig ⟨S_, .f32⟩) main_call4 : PR F) = seq n16 := by
  unfold fn_uniform_0.body
  repeat first | exact seq_pure | exact seq_last _ | exact seq_end (seq_n15) | refine seq_call (seq_n15) ?_ | refine seq_op _ ?_ | refine seq_done ?_

set_option maxHeartbeats 4000000 in
theorem seq_n17 : (fn_where_2.body (F := F) (.of main_v51 : StableHlo.TRef sig ⟨S4x2048x8, .i1⟩) (.of main_v41 : StableHlo.TRef sig ⟨S4x2048x8, .i32⟩) (.of main_arg0 : StableHlo.TRef sig ⟨S4x2048x8, .i32⟩) main_call5 : PR F) = seq n17 := by
  unfold fn_where_2.body
  repeat first | exact seq_pure | exact seq_last _ | refine seq_op _ ?_ | refine seq_done ?_

set_option maxHeartbeats 4000000 in
theorem seq_n18 (d : Dev nD) : (main_part1 (F := F) d : PR F) = seq n18 := by
  unfold main_part1
  repeat first | exact seq_pure | exact seq_last _ | exact seq_end (seq_n16) | refine seq_call (seq_n16) ?_ | exact seq_end (seq_n17) | refine seq_call (seq_n17) ?_ | refine seq_op _ ?_ | refine seq_done ?_

set_option maxHeartbeats 4000000 in
theorem seq_n19 (d : Dev nD) : (main (F := F) d : PR F) = seq n19 := by
  unfold main
  repeat first | exact seq_pure | exact seq_last _ | exact seq_end (seq_n10 d) | refine seq_call (seq_n10 d) ?_ | exact seq_end (seq_n18 d) | refine seq_call (seq_n18 d) ?_ | refine seq_op _ ?_ | refine seq_done ?_

theorem line_l0 : Line rkey 2 (l0 : List (HloOp τ sig (Elt F))) 30 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l1 : Line rkey 30 (l1 : List (HloOp τ sig (Elt F))) 34 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l2 : Line rkey 34 (l2 : List (HloOp τ sig (Elt F))) 35 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l3 : Line rkey 35 (l3 : List (HloOp τ sig (Elt F))) 57 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l4 : Line rkey 57 (l4 : List (HloOp τ sig (Elt F))) 71 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l5 : Line rkey 71 (l5 : List (HloOp τ sig (Elt F))) 73 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l6 : Line rkey 73 (l6 : List (HloOp τ sig (Elt F))) 94 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l7 : Line rkey 94 (l7 : List (HloOp τ sig (Elt F))) 154 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l8 : Line rkey 154 (l8 : List (HloOp τ sig (Elt F))) 214 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l9 : Line rkey 214 (l9 : List (HloOp τ sig (Elt F))) 274 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l10 : Line rkey 274 (l10 : List (HloOp τ sig (Elt F))) 316 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l11 : Line rkey 316 (l11 : List (HloOp τ sig (Elt F))) 334 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l12 : Line rkey 334 (l12 : List (HloOp τ sig (Elt F))) 338 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l13 : Line rkey 338 (l13 : List (HloOp τ sig (Elt F))) 339 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l14 : Line rkey 339 (l14 : List (HloOp τ sig (Elt F))) 344 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l15 : Line rkey 344 (l15 : List (HloOp τ sig (Elt F))) 356 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l16 : Line rkey 356 (l16 : List (HloOp τ sig (Elt F))) 359 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l17 : Line rkey 359 (l17 : List (HloOp τ sig (Elt F))) 386 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l18 : Line rkey 386 (l18 : List (HloOp τ sig (Elt F))) 446 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l19 : Line rkey 446 (l19 : List (HloOp τ sig (Elt F))) 506 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l20 : Line rkey 506 (l20 : List (HloOp τ sig (Elt F))) 566 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l21 : Line rkey 566 (l21 : List (HloOp τ sig (Elt F))) 608 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l22 : Line rkey 608 (l22 : List (HloOp τ sig (Elt F))) 626 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l23 : Line rkey 626 (l23 : List (HloOp τ sig (Elt F))) 629 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_l24 : Line rkey 629 (l24 : List (HloOp τ sig (Elt F))) 630 := by
  repeat first
    | refine .cons _ (nullary_ok _ _) rfl ?_
    | refine .cons _ (unary_ok _ _ _ (Nat.le_of_ble_eq_true rfl)) rfl ?_
    | refine .cons _ (binary_ok _ _ _ _ (Nat.le_of_ble_eq_true rfl) (Nat.le_of_ble_eq_true rfl)) rfl ?_
    | refine .cons _ (reshape_ok _ _ _ _ (Nat.le_of_ble_eq_true rfl)) rfl ?_
    | refine .cons _ (ternary_ok _ _ _ _ _ (Nat.le_of_ble_eq_true rfl) (Nat.le_of_ble_eq_true rfl) (Nat.le_of_ble_eq_true rfl)) rfl ?_
    | refine .cons _ (quaternary_ok _ _ _ _ _ _ (Nat.le_of_ble_eq_true rfl) (Nat.le_of_ble_eq_true rfl) (Nat.le_of_ble_eq_true rfl) (Nat.le_of_ble_eq_true rfl)) rfl ?_
  exact .nil _

theorem line_n0 : Line rkey 30 (n0 : List (HloOp τ sig (Elt F))) 34 := line_l1.append (.nil _)

theorem line_n1 : Line rkey 35 (n1 : List (HloOp τ sig (Elt F))) 57 := line_l3.append (.nil _)

theorem line_n2 : Line rkey 94 (n2 : List (HloOp τ sig (Elt F))) 154 := line_l7.append (.nil _)

theorem line_n3 : Line rkey 154 (n3 : List (HloOp τ sig (Elt F))) 214 := line_l8.append (.nil _)

theorem line_n4 : Line rkey 214 (n4 : List (HloOp τ sig (Elt F))) 274 := line_l9.append (.nil _)

theorem line_n5 : Line rkey 274 (n5 : List (HloOp τ sig (Elt F))) 316 := line_l10.append (.nil _)

theorem line_n6 : Line rkey 94 (n6 : List (HloOp τ sig (Elt F))) 316 := line_n2.append (line_n3.append (line_n4.append (line_n5.append (.nil _))))

theorem line_n7 : Line rkey 73 (n7 : List (HloOp τ sig (Elt F))) 334 := line_l6.append (line_n6.append (line_l11.append (.nil _)))

theorem line_n8 : Line rkey 71 (n8 : List (HloOp τ sig (Elt F))) 338 := line_l5.append (line_n7.append (line_l12.append (.nil _)))

theorem line_n9 : Line rkey 339 (n9 : List (HloOp τ sig (Elt F))) 344 := line_l14.append (.nil _)

theorem line_n10 : Line rkey 2 (n10 : List (HloOp τ sig (Elt F))) 356 := line_l0.append (line_n0.append (line_l2.append (line_n1.append (line_l4.append (line_n8.append (line_l13.append (line_n9.append (line_l15.append (.nil _)))))))))

theorem line_n11 : Line rkey 386 (n11 : List (HloOp τ sig (Elt F))) 446 := line_l18.append (.nil _)

theorem line_n12 : Line rkey 446 (n12 : List (HloOp τ sig (Elt F))) 506 := line_l19.append (.nil _)

theorem line_n13 : Line rkey 506 (n13 : List (HloOp τ sig (Elt F))) 566 := line_l20.append (.nil _)

theorem line_n14 : Line rkey 566 (n14 : List (HloOp τ sig (Elt F))) 608 := line_l21.append (.nil _)

theorem line_n15 : Line rkey 386 (n15 : List (HloOp τ sig (Elt F))) 608 := line_n11.append (line_n12.append (line_n13.append (line_n14.append (.nil _))))

theorem line_n16 : Line rkey 359 (n16 : List (HloOp τ sig (Elt F))) 626 := line_l17.append (line_n15.append (line_l22.append (.nil _)))

theorem line_n17 : Line rkey 629 (n17 : List (HloOp τ sig (Elt F))) 630 := line_l24.append (.nil _)

theorem line_n18 : Line rkey 356 (n18 : List (HloOp τ sig (Elt F))) 630 := line_l16.append (line_n16.append (line_l23.append (line_n17.append (.nil _))))

theorem line_n19 : Line rkey 2 (n19 : List (HloOp τ sig (Elt F))) 630 := line_n10.append (line_n18.append (.nil _))

theorem main_seq (d : Dev nD) : IsSeq (main (F := F) d) n19 := seq_n19 d

theorem run [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ (d : Dev nD) (b : Ref sig .tc), r.2.mem ((d.tc : Thread nD τ).loc b)
        = after (n19 : List (HloOp τ sig (Elt F))) (launchContents m d) (Proc.devRef .tc b)) ∧ r.2.sem = fun _ => 0 :=
  (θ_run _ _ _).mono (fun r h => ⟨h, sem_eq_zero_of_no_sems rfl _⟩)
    (run_hlo (defs (F := F)) main main_seq (by decide) (by decide) line_n19.sub line_n19.fresh m g)

theorem frame [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c => ⟨(h.1 c _).trans (line_n19.keep _ (by decide)),
    (h.1 c _).trans (line_n19.keep _ (by decide))⟩, h.2⟩) (run m g)

end Cert.ReferenceIdeal.Lines

end
-- ==== Proof.Threefry.lean ====
module

public import Mathlib.Algebra.BigOperators.Intervals
public import Mathlib.Data.Nat.Bitwise
public import Mathlib.Tactic.Ring
public import Mathlib.Tactic.NormNum

/-! # The threefry hash, and many of them at once in one natural number

`tf k0 k1 c0 c1` is the twenty-round threefry hash of the counter `(c0, c1)` under the key `(k0, k1)`, on 32-bit words.
`pack f N` lays the numbers `f 0, …, f (N - 1)` side by side in one natural number, 64 bits apart; sums, exclusive ors and
rotations of all of them are then a few operations on that number. -/

@[expose] public section

namespace Cert.Threefry

abbrev W := BitVec 32

/-- Rotation to the left. -/
def rot (r : Nat) (x : W) : W := x <<< r ||| x >>> (32 - r)

/-- One round. -/
def rnd (r : Nat) (p : W × W) : W × W := (p.1 + p.2, rot r p.2 ^^^ (p.1 + p.2))

/-- Adding a part of the key. -/
def inj (a b : W) (p : W × W) : W × W := (p.1 + a, p.2 + b)

def four (r s t u : Nat) (p : W × W) : W × W := rnd u (rnd t (rnd s (rnd r p)))

def even (p : W × W) : W × W := four 13 15 26 6 p
def odd (p : W × W) : W × W := four 17 29 16 24 p

/-- The third word of the key. -/
def key2 (k0 k1 : W) : W := k0 ^^^ k1 ^^^ 466688986#32

/-- The hash. -/
def tf (k0 k1 c0 c1 : W) : W × W :=
  inj (key2 k0 k1) (k0 + 5#32) (even (inj k1 (key2 k0 k1 + 4#32) (odd (inj k0 (k1 + 3#32) (even (inj (key2 k0 k1) (k0 + 2#32)
    (odd (inj k1 (key2 k0 k1 + 1#32) (even (inj k0 k1 (c0, c1)))))))))))

/-- The random word at a counter: the two words of the hash, exclusive or. -/
def word (k1 c : W) : W := (tf 0#32 k1 0#32 c).1 ^^^ (tf 0#32 k1 0#32 c).2

/-! ## Packed numbers -/

/-- The numbers `f 0, …, f (N - 1)`, 64 bits apart. -/
def pack (f : Nat → Nat) : Nat → Nat
  | 0 => 0
  | N + 1 => pack f N + 2 ^ (64 * N) * f N

theorem pack_congr {f g : Nat → Nat} {N : Nat} (h : ∀ i < N, f i = g i) : pack f N = pack g N := by
  induction N with
  | zero => rfl
  | succ N ih => rw [pack, pack, ih fun i hi => h i (by omega), h N (by omega)]

theorem pack_add (f g : Nat → Nat) (N : Nat) : pack f N + pack g N = pack (fun i => f i + g i) N := by
  induction N with
  | zero => rfl
  | succ N ih => simp only [pack]; rw [← ih]; ring

theorem pack_mul (f : Nat → Nat) (c N : Nat) : pack f N * c = pack (fun i => f i * c) N := by
  induction N with
  | zero => simp [pack]
  | succ N ih => simp only [pack]; rw [← ih]; ring

theorem pack_append (f : Nat → Nat) (M N : Nat) : pack f (M + N) = pack f M + 2 ^ (64 * M) * pack (fun i => f (i + M)) N := by
  induction N with
  | zero => simp [pack]
  | succ N ih =>
    rw [← Nat.add_assoc]; simp only [pack]; rw [ih, Nat.add_comm M N, Nat.mul_add 64 N M, pow_add]; ring

theorem pack_lt {f : Nat → Nat} {N : Nat} (h : ∀ i < N, f i < 2 ^ 64) : pack f N < 2 ^ (64 * N) := by
  induction N with
  | zero => simp [pack]
  | succ N ih =>
    have h1 := ih fun i hi => h i (by omega)
    have h2 : f N + 1 ≤ 2 ^ 64 := h N (by omega)
    have h3 : 2 ^ (64 * N) * (f N + 1) ≤ 2 ^ (64 * N) * 2 ^ 64 := Nat.mul_le_mul_left _ h2
    have h4 : 2 ^ (64 * (N + 1)) = 2 ^ (64 * N) * 2 ^ 64 := by rw [Nat.mul_add, pow_add]
    have h5 : 2 ^ (64 * N) * (f N + 1) = 2 ^ (64 * N) * f N + 2 ^ (64 * N) := by ring
    simp only [pack]; omega

theorem pack_testBit {f : Nat → Nat} {N : Nat} (h : ∀ i < N, f i < 2 ^ 64) (j : Nat) :
    (pack f N).testBit j = (decide (j / 64 < N) && (f (j / 64)).testBit (j % 64)) := by
  induction N with
  | zero => simp [pack]
  | succ N ih =>
    rw [pack, Nat.add_comm, Nat.testBit_two_pow_mul_add _ (pack_lt fun i hi => h i (by omega)), ih fun i hi => h i (by omega)]
    by_cases hj : j < 64 * N
    · rw [if_pos hj]
      have : j / 64 < N := by omega
      simp [this, show j / 64 < N + 1 by omega]
    · rw [if_neg hj]
      by_cases hj' : j < 64 * N + 64
      · have e : j / 64 = N := by omega
        have e' : j % 64 = j - 64 * N := by omega
        rw [e, e']; simp
      · have : ¬ j / 64 < N + 1 := by omega
        simp only [this, decide_false, Bool.false_and]
        refine Nat.testBit_lt_two_pow (lt_of_lt_of_le (h N (by omega)) (Nat.pow_le_pow_right (by omega) (by omega)))

/-- The numbers of a family of words. -/
def packW (x : Nat → W) (N : Nat) : Nat := pack (fun i => (x i).toNat) N

theorem packW_testBit (x : Nat → W) (N j : Nat) :
    (packW x N).testBit j = (decide (j / 64 < N) && (x (j / 64)).getLsbD (j % 64)) := by
  rw [packW, pack_testBit fun i _ => lt_trans (x i).isLt (by norm_num)]; rfl

/-- The mask of the low halves. -/
def mask (N : Nat) : Nat := pack (fun _ => 2 ^ 32 - 1) N

theorem mask_testBit (N j : Nat) : (mask N).testBit j = (decide (j / 64 < N) && decide (j % 64 < 32)) := by
  rw [mask, pack_testBit fun _ _ => by norm_num, Nat.testBit_two_pow_sub_one]

theorem packW_xor (x y : Nat → W) (N : Nat) : packW x N ^^^ packW y N = packW (fun i => x i ^^^ y i) N := by
  apply Nat.eq_of_testBit_eq; intro j
  rw [Nat.testBit_xor, packW_testBit, packW_testBit, packW_testBit, BitVec.getLsbD_xor]
  cases decide (j / 64 < N) <;> simp

theorem pack_mask {f : Nat → Nat} {N : Nat} (h : ∀ i < N, f i < 2 ^ 64) :
    pack f N &&& mask N = pack (fun i => f i % 2 ^ 32) N := by
  apply Nat.eq_of_testBit_eq; intro j
  rw [Nat.testBit_and, pack_testBit h, mask_testBit,
    pack_testBit fun i _ => lt_trans (Nat.mod_lt _ (by norm_num)) (by norm_num : 2 ^ 32 < 2 ^ 64), Nat.testBit_mod_two_pow]
  cases decide (j / 64 < N) <;> cases decide (j % 64 < 32) <;> simp

theorem packW_add (x y : Nat → W) (N : Nat) : (packW x N + packW y N) &&& mask N = packW (fun i => x i + y i) N := by
  rw [packW, packW, pack_add, pack_mask]
  · rfl
  · intro i _
    have h1 := (x i).isLt; have h2 := (y i).isLt
    show (x i).toNat + (y i).toNat < 2 ^ 64
    have : (2 : Nat) ^ 64 = 2 ^ 32 * 2 ^ 32 := by norm_num
    omega

theorem packW_rot (x : Nat → W) (N r : Nat) (hr : r ≤ 32) :
    (packW x N <<< r ||| packW x N >>> (32 - r)) &&& mask N = packW (fun i => rot r (x i)) N := by
  apply Nat.eq_of_testBit_eq; intro j
  rw [Nat.testBit_and, Nat.testBit_or, Nat.testBit_shiftLeft, Nat.testBit_shiftRight, mask_testBit, packW_testBit, packW_testBit,
    packW_testBit, rot, BitVec.getLsbD_or, BitVec.getLsbD_shiftLeft, BitVec.getLsbD_ushiftRight]
  by_cases hN : j / 64 < N
  · by_cases hp : j % 64 < 32
    · have e2 : (32 - r + j) / 64 = j / 64 := by omega
      have e3 : (32 - r + j) % 64 = 32 - r + j % 64 := by omega
      rw [e2, e3]
      by_cases hs : r ≤ j % 64
      · have e0 : (j - r) / 64 = j / 64 := by omega
        have e1 : (j - r) % 64 = j % 64 - r := by omega
        rw [e0, e1]
        have : (x (j / 64)).getLsbD (32 - r + j % 64) = false := BitVec.getLsbD_of_ge _ _ (by omega)
        simp [hN, hp, this, show r ≤ j by omega, show ¬ j % 64 < r by omega]
      · have : (x ((j - r) / 64)).getLsbD ((j - r) % 64) = false ∨ ¬ r ≤ j := by
          by_cases h : r ≤ j
          · left; exact BitVec.getLsbD_of_ge _ _ (by omega)
          · right; exact h
        rcases this with h | h <;> simp [hN, hp, h, show j % 64 < r by omega]
    · have h1 : (x (j / 64) <<< r).getLsbD (j % 64) = false := BitVec.getLsbD_of_ge _ _ (by omega)
      have h2 : (x (j / 64)).getLsbD (32 - r + j % 64) = false := BitVec.getLsbD_of_ge _ _ (by omega)
      simp [hp, h2]
  · simp [hN]

end Cert.Threefry

end
-- ==== Proof.Order.lean ====
module

public import proofs.«01_k».proof.Proof.Threefry
public import Idealize.ShloMosaic.Lib.SortFacts

/-! # The order of the positions -/

set_option maxRecDepth 16384

@[expose] public section

namespace Cert.Order

open Idealize.ShloMosaic

/-- The key of a position: the resampled positions come first. -/
def key (h : Fin 8192 → Bool) (n : Fin 8192) : BitVec 32 :=
  if h n = true then BitVec.ofNat 32 n.val else BitVec.ofNat 32 (n.val + 8192)

/-- The positions, ordered by their keys. -/
def ord (h : Fin 8192 → Bool) : Fin 8192 → Fin 8192 :=
  sortedFrom fun k k' => IntOp.cmpi .slt (key h k) (key h k') == 1#1

/-- How many positions are resampled. -/
def num (h : Fin 8192 → Bool) : Nat := (Finset.univ.filter fun n : Fin 8192 => h n = true).card

theorem ord_injective (h : Fin 8192 → Bool) : Function.Injective (ord h) := sortedFrom_injective _

theorem ord_surjective (h : Fin 8192 → Bool) : Function.Surjective (ord h) := sortedFrom_surjective _

theorem key_nat (h : Fin 8192 → Bool) (n : Fin 8192) : (key h n).toNat = if h n = true then n.val else n.val + 8192 := by
  have := n.isLt
  unfold key
  split <;> rw [BitVec.toNat_ofNat] <;> omega

theorem slt_nat (h : Fin 8192 → Bool) (x y : Fin 8192) :
    (IntOp.cmpi .slt (key h x) (key h y) == 1#1) = decide ((key h x).toNat < (key h y).toNat) := by
  have hx : (key h x).toNat < 2 ^ 31 := by rw [key_nat]; have := x.isLt; split <;> omega
  have hy : (key h y).toNat < 2 ^ 31 := by rw [key_nat]; have := y.isLt; split <;> omega
  have e : BitVec.slt (key h x) (key h y) = decide ((key h x).toNat < (key h y).toNat) := by
    rw [BitVec.slt_eq_decide, BitVec.toInt_eq_toNat_of_lt (by omega), BitVec.toInt_eq_toNat_of_lt (by omega)]
    simp
  show (BitVec.ofBool (BitVec.slt (key h x) (key h y)) == 1#1) = _
  rw [e]
  cases decide ((key h x).toNat < (key h y).toNat) <;> rfl

theorem ord_le (h : Fin 8192 → Bool) {i j : Fin 8192} (hij : i < j) :
    (key h (ord h i)).toNat ≤ (key h (ord h j)).toNat := by
  have := sortedFrom_noInversion (fun k k' => IntOp.cmpi .slt (key h k) (key h k') == 1#1)
    (fun k k' => IntOp.cmpi .slt (key h k) (key h k') == 1#1)
    (fun a b => by rw [slt_nat, slt_nat]; simp only [decide_eq_true_eq, decide_eq_false_iff_not]; omega)
    (fun _ _ q => q)
    (fun a b c => by rw [slt_nat, slt_nat, slt_nat]; simp only [decide_eq_false_iff_not]; omega) i j hij
  rw [slt_nat] at this
  exact Nat.le_of_not_lt (of_decide_eq_false this)

/-- The first positions of the order, and only they, are resampled. -/
theorem hit_iff (h : Fin 8192 → Bool) (j : Fin 8192) : h (ord h j) = true ↔ j.val < num h := by
  have hc : num h = (Finset.univ.filter fun j : Fin 8192 => h (ord h j) = true).card := by
    unfold num
    refine (Finset.card_bij (fun j _ => ord h j) ?_ ?_ ?_).symm
    · intro a ha; simpa using ha
    · intro a _ b _ q; exact ord_injective h q
    · intro n hn
      obtain ⟨a, rfl⟩ := ord_surjective h n
      exact ⟨a, by simpa using hn, rfl⟩
  have low : ∀ i j : Fin 8192, i < j → h (ord h j) = true → h (ord h i) = true := by
    intro i j hij q
    have := ord_le h hij
    rw [key_nat, key_nat, if_pos q] at this
    by_contra q'
    rw [if_neg q'] at this
    have := (ord h j).isLt
    omega
  constructor
  · intro q
    have : (Finset.Iic j) ⊆ (Finset.univ.filter fun j : Fin 8192 => h (ord h j) = true) := by
      intro i hi
      simp only [Finset.mem_Iic] at hi
      simp only [Finset.mem_filter, Finset.mem_univ, true_and]
      rcases lt_or_eq_of_le hi with r | r
      · exact low i j r q
      · rw [r]; exact q
    have := Finset.card_le_card this
    rw [Fin.card_Iic, ← hc] at this
    omega
  · intro q
    by_contra q'
    have : (Finset.univ.filter fun j : Fin 8192 => h (ord h j) = true) ⊆ Finset.Iio j := by
      intro i hi
      simp only [Finset.mem_filter, Finset.mem_univ, true_and] at hi
      simp only [Finset.mem_Iio]
      by_contra r
      rcases lt_or_eq_of_le (not_lt.mp r) with s | s
      · exact q' (low j i s hi)
      · exact q' (s ▸ hi)
    have := Finset.card_le_card this
    rw [Fin.card_Iio, ← hc] at this
    omega

/-- The low bits of a key are its position. -/
theorem key_and (h : Fin 8192 → Bool) (n : Fin 8192) : key h n &&& 8191#32 = BitVec.ofNat 32 n.val := by
  apply BitVec.eq_of_toNat_eq
  rw [BitVec.toNat_and, key_nat, show (8191#32 : BitVec 32).toNat = 2 ^ 13 - 1 from rfl, Nat.and_two_pow_sub_one_eq_mod,
    BitVec.toNat_ofNat]
  have := n.isLt
  split <;> omega

theorem key_slt (h : Fin 8192 → Bool) (n : Fin 8192) : IntOp.cmpi .slt (key h n) 8192#32 = BitVec.ofBool (h n) := by
  have hx : (key h n).toNat < 2 ^ 31 := by rw [key_nat]; have := n.isLt; split <;> omega
  have e : BitVec.slt (key h n) 8192#32 = decide ((key h n).toNat < 8192) := by
    rw [BitVec.slt_eq_decide, BitVec.toInt_eq_toNat_of_lt (by omega)]
    simp [BitVec.toInt]
  show BitVec.ofBool (BitVec.slt (key h n) 8192#32) = _
  rw [e, key_nat]
  have := n.isLt
  cases q : h n
  · rw [if_neg (by decide), decide_eq_false (by omega)]
  · rw [if_pos rfl, decide_eq_true (by omega)]

end Cert.Order
-- ==== Proof.Best.lean ====
module

public import proofs.«01_k».proof.Proof.Threefry
public import Idealize.ShloMosaic.PureOps.Ideal
public import Idealize.ShloMosaic.Lib.Pointwise
public import Idealize.ShloMosaic.Lib.StableHlo.Predicate

/-! # The first place of the greatest value

Both programs pick, among 1024 extended reals, the first place where the greatest one stands: the reference by a fold over
pairs of a value and its place, the kernel by a greatest value and then the least place that holds it. -/

@[expose] public section

noncomputable section

namespace Cert.Best

open Idealize.ShloMosaic Cert.Threefry

/-- `x` is the word of the first place where `f` is greatest. -/
def IsBest (f : Fin 1024 → EReal) (x : W) : Prop :=
  ∃ v : Fin 1024, x = BitVec.ofNat 32 v.val ∧ ∀ u, f u < f v ∨ (f u = f v ∧ v ≤ u)

theorem IsBest.unique {f : Fin 1024 → EReal} {x y : W} (hx : IsBest f x) (hy : IsBest f y) : x = y := by
  obtain ⟨v, rfl, hv⟩ := hx
  obtain ⟨w, rfl, hw⟩ := hy
  have : v = w := by
    rcases hv w with h | ⟨h, h'⟩
    · rcases hw v with g | ⟨g, g'⟩
      · exact absurd (h.trans g) (lt_irrefl _)
      · rw [g] at h; exact absurd h (lt_irrefl _)
    · rcases hw v with g | ⟨g, g'⟩
      · rw [h] at g; exact absurd g (lt_irrefl _)
      · exact le_antisymm h' g'
  rw [this]

/-- The first pair stands before the second. -/
def better (a b : EReal × W) : Prop := b.1 < a.1 ∨ (a.1 = b.1 ∧ a.2.toInt < b.2.toInt)

/-- The first pair does not stand before the second. -/
def le (p r : EReal × W) : Prop := p.1 < r.1 ∨ (p.1 = r.1 ∧ r.2.toInt ≤ p.2.toInt)

theorem le_refl (p : EReal × W) : le p p := Or.inr ⟨rfl, Int.le_refl _⟩

theorem le.trans {p q r : EReal × W} (h : le p q) (g : le q r) : le p r := by
  rcases h with h | ⟨h, h'⟩
  · rcases g with g | ⟨g, g'⟩
    · exact Or.inl (h.trans g)
    · exact Or.inl (g ▸ h)
  · rcases g with g | ⟨g, g'⟩
    · exact Or.inl (h ▸ g)
    · exact Or.inr ⟨h.trans g, g'.trans h'⟩

section Pairs

variable {B : EReal × W → EReal × W → EReal × W} (hB : ∀ a b, (better a b ∧ B a b = a) ∨ (¬ better a b ∧ B a b = b))
include hB

theorem not_better {a b : EReal × W} (h : ¬ better a b) : le a b := by
  rcases lt_trichotomy a.1 b.1 with g | g | g
  · exact Or.inl g
  · refine Or.inr ⟨g, ?_⟩
    by_contra hc
    exact h (Or.inr ⟨g, by omega⟩)
  · exact absurd (Or.inl g) h

theorem body_le (a b : EReal × W) : le a (B a b) ∧ le b (B a b) ∧ (B a b = a ∨ B a b = b) := by
  rcases hB a b with ⟨h, e⟩ | ⟨h, e⟩
  · rw [e]
    refine ⟨le_refl a, ?_, Or.inl rfl⟩
    rcases h with h | ⟨h, h'⟩
    · exact Or.inl h
    · exact Or.inr ⟨h.symm, by omega⟩
  · rw [e]
    exact ⟨not_better hB h, le_refl b, Or.inr rfl⟩

theorem fold_le (l : List (EReal × W)) (a : EReal × W) :
    le a (l.foldl B a) ∧ (∀ p ∈ l, le p (l.foldl B a)) ∧ (l.foldl B a = a ∨ l.foldl B a ∈ l) := by
  induction l generalizing a with
  | nil => exact ⟨le_refl a, fun p hp => absurd hp (List.not_mem_nil), Or.inl rfl⟩
  | cons b l ih =>
    obtain ⟨h1, h2, h3⟩ := ih (B a b)
    obtain ⟨g1, g2, g3⟩ := body_le hB a b
    refine ⟨g1.trans h1, fun p hp => ?_, ?_⟩
    · rcases List.mem_cons.1 hp with rfl | hp
      · exact g2.trans h1
      · exact h2 p hp
    · rcases h3 with h3 | h3
      · rcases g3 with g3 | g3
        · exact Or.inl (h3.trans g3)
        · exact Or.inr (List.mem_cons.2 (Or.inl (h3.trans g3)))
      · exact Or.inr (List.mem_cons.2 (Or.inr h3))

theorem fold_best {f : Fin 1024 → EReal} {l : List (EReal × W)} (hl : ∀ p, p ∈ l ↔ ∃ v : Fin 1024, p = (f v, BitVec.ofNat 32 v.val)) :
    IsBest f (l.foldl B (⊥, 0#32)).2 := by
  obtain ⟨-, h2, h3⟩ := fold_le hB l (⊥, 0#32)
  have hi : ∀ v : Fin 1024, (BitVec.ofNat 32 v.val).toInt = v.val := fun v => by
    have := v.isLt
    rw [BitVec.toInt_eq_toNat_of_lt (by rw [BitVec.toNat_ofNat]; omega), BitVec.toNat_ofNat]; omega
  rcases h3 with h3 | h3
  · rw [h3] at h2 ⊢
    refine ⟨0, rfl, fun u => ?_⟩
    have hb : ∀ u, f u = ⊥ := fun u => by
      rcases h2 _ ((hl _).2 ⟨u, rfl⟩) with h | ⟨h, -⟩
      · exact absurd h not_lt_bot
      · exact h
    exact Or.inr ⟨(hb u).trans (hb 0).symm, Fin.zero_le u⟩
  · obtain ⟨v, e⟩ := (hl _).1 h3
    rw [e] at h2 ⊢
    refine ⟨v, rfl, fun u => ?_⟩
    rcases h2 _ ((hl _).2 ⟨u, rfl⟩) with h | ⟨h, h'⟩
    · exact Or.inl h
    · refine Or.inr ⟨h, ?_⟩
      have h'' : (BitVec.ofNat 32 v.val).toInt ≤ (BitVec.ofNat 32 u.val).toInt := h'
      rw [hi, hi] at h''
      exact Fin.le_def.2 (by omega)

end Pairs

section Least

theorem minsi_cases (a b : W) : (IntOp.minsi a b).toInt ≤ a.toInt ∧ (IntOp.minsi a b).toInt ≤ b.toInt ∧
    (IntOp.minsi a b = a ∨ IntOp.minsi a b = b) := by
  unfold IntOp.minsi
  split
  · rename_i h
    have : a.toInt < b.toInt ∨ a.toInt ≤ b.toInt := by
      simp only [BitVec.slt_iff_toInt_lt, BitVec.sle_iff_toInt_le] at h; omega
    exact ⟨Int.le_refl _, by omega, Or.inl rfl⟩
  · rename_i h
    have : b.toInt ≤ a.toInt := by
      simp only [BitVec.slt_iff_toInt_lt, BitVec.sle_iff_toInt_le] at h; omega
    exact ⟨this, Int.le_refl _, Or.inr rfl⟩

theorem fold_minsi (g : Fin 1024 → W) (s : Finset (Fin 1024)) (a : W) :
    (∀ v ∈ s, (s.fold IntOp.minsi a g).toInt ≤ (g v).toInt) ∧
      (s.fold IntOp.minsi a g = a ∨ ∃ v ∈ s, s.fold IntOp.minsi a g = g v) := by
  classical
  induction s using Finset.induction_on with
  | empty => exact ⟨fun v hv => absurd hv (Finset.notMem_empty v), Or.inl rfl⟩
  | insert w s hw ih =>
    rw [Finset.fold_insert hw]
    obtain ⟨c1, c2, c3⟩ := minsi_cases (g w) (s.fold IntOp.minsi a g)
    refine ⟨fun v hv => ?_, ?_⟩
    · rcases Finset.mem_insert.1 hv with rfl | hv
      · exact c1
      · exact c2.trans (ih.1 v hv)
    · rcases c3 with c3 | c3
      · exact Or.inr ⟨w, Finset.mem_insert_self w s, c3⟩
      · rcases ih.2 with h | ⟨v, hv, h⟩
        · exact Or.inl (c3.trans h)
        · exact Or.inr ⟨v, Finset.mem_insert_of_mem hv, c3.trans h⟩

theorem fold_max (f : Fin 1024 → EReal) : ∃ v, Finset.univ.fold max ⊥ f = f v ∧ ∀ u, f u ≤ f v := by
  obtain ⟨v, -, hv⟩ := Finset.exists_max_image (Finset.univ : Finset (Fin 1024)) f ⟨0, Finset.mem_univ 0⟩
  refine ⟨v, le_antisymm ?_ ?_, fun u => hv u (Finset.mem_univ u)⟩
  · exact Finset.fold_max_le _ |>.2 ⟨bot_le, fun u _ => hv u (Finset.mem_univ u)⟩
  · exact (Finset.le_fold_max _).2 (Or.inr ⟨v, Finset.mem_univ v, le_rfl⟩)

theorem least_best (f : Fin 1024 → EReal) :
    IsBest f (Finset.univ.fold IntOp.minsi 2147483647#32
      fun v => if f v = Finset.univ.fold max ⊥ f then BitVec.ofNat 32 v.val else 1024#32) := by
  obtain ⟨m, hm, hmax⟩ := fold_max f
  rw [hm]
  have hi : ∀ v : Fin 1024, (BitVec.ofNat 32 v.val).toInt = v.val := fun v => by
    have := v.isLt
    rw [BitVec.toInt_eq_toNat_of_lt (by rw [BitVec.toNat_ofNat]; omega), BitVec.toNat_ofNat]; omega
  obtain ⟨h1, h2⟩ := fold_minsi (fun v => if f v = f m then BitVec.ofNat 32 v.val else 1024#32) Finset.univ 2147483647#32
  have hM := h1 m (Finset.mem_univ m)
  simp only [if_true] at hM
  rw [hi] at hM
  have hlt := m.isLt
  rcases h2 with h2 | ⟨v, -, h2⟩
  · rw [h2] at hM
    have : (2147483647#32).toInt = 2147483647 := by decide
    omega
  · by_cases hv : f v = f m
    · rw [h2] at h1 ⊢
      simp only [hv, if_true] at h1 ⊢
      refine ⟨v, rfl, fun u => ?_⟩
      rcases lt_or_eq_of_le (hmax u) with g | g
      · exact Or.inl (hv ▸ g)
      · refine Or.inr ⟨g.trans hv.symm, ?_⟩
        have := h1 u (Finset.mem_univ u)
        simp only [g, if_true] at this
        rw [hi, hi] at this
        exact Fin.le_def.2 (by omega)
    · rw [h2] at hM
      simp only [hv, if_false] at hM
      have : (1024#32).toInt = 1024 := by decide
      omega

end Least

end Cert.Best

end
-- ==== Proof.HashOps.lean ====
module

public import proofs.«01_k».proof.Proof.Threefry
public import Idealize.ShloMosaic.PureOps.Ideal
public import Idealize.ShloMosaic.PureOps.ShapeOps

/-! # The hash, an operation of the program at a time

What a program's lines of additions, shifts and exclusive ors leave at an index: a step of the hash of what they are given
there. -/

@[expose] public section

namespace Cert.Threefry

open Idealize.ShloMosaic

theorem shl_small (u : ArithUnit) (x : W) {r : Nat} (hr : r < 32) : IntOp.shli u x (BitVec.ofNat 32 r) = x <<< r := by
  have e : (BitVec.ofNat 32 r).toNat = r := by rw [BitVec.toNat_ofNat]; omega
  rw [IntOp.shli, if_pos (by omega), BitVec.shiftLeft_eq', e]

theorem shr_small (u : ArithUnit) (x : W) {r : Nat} (hr : r < 32) : IntOp.shrui u x (BitVec.ofNat 32 r) = x >>> r := by
  have e : (BitVec.ofNat 32 r).toNat = r := by rw [BitVec.toNat_ofNat]; omega
  rw [IntOp.shrui, if_pos (by omega), BitVec.ushiftRight_eq', e]

section Steps

variable {S Z Z' : Shape} {r n : Nat} {d : Fin Z.rank → Fin S.rank} {hb : Z.BroadcastsInDim S d}
  {d' : Fin Z'.rank → Fin S.rank} {hb' : Z'.BroadcastsInDim S d'}
  {x0 x1 s br l bt q o y : S.Idx → W} {cr : Z.Idx → W} {ct : Z'.Idx → W} {P : S.Idx → W × W}

theorem round_step (hr : (Nat.blt r 32 && Nat.blt 0 r) = true) (hP : ∀ j, (x0 j, x1 j) = P j) (h1 : s = addi x0 x1)
    (h2 : cr = constantI Z 32 (BitVec.ofNat 32 r)) (h3 : br = broadcastInDim S d hb cr) (h4 : l = Host.shli x1 br)
    (h5 : ct = constantI Z' 32 (BitVec.ofNat 32 (32 - r))) (h6 : bt = broadcastInDim S d' hb' ct) (h7 : q = Host.shrui x1 bt)
    (h8 : o = ori l q) (h9 : y = xori s o) : ∀ j, (s j, y j) = rnd r (P j) := by
  intro j
  rw [Bool.and_eq_true] at hr
  have hr1 : r < 32 := Nat.le_of_ble_eq_true hr.1
  have hr2 : 0 < r := Nat.le_of_ble_eq_true hr.2
  subst h9 h8 h7 h6 h5 h4 h3 h2 h1
  rw [← hP j]
  change (x0 j + x1 j, (x0 j + x1 j) ^^^ (IntOp.shli .host (x1 j) (BitVec.ofNat 32 r)
    ||| IntOp.shrui .host (x1 j) (BitVec.ofNat 32 (32 - r)))) = _
  rw [shl_small _ _ hr1, shr_small _ _ (by omega), BitVec.xor_comm]
  rfl

theorem first_step {a b : W} {ka : Z.Idx → W} {kb : Z'.Idx → W} (hP : ∀ j, (x0 j, x1 j) = P j)
    (h1 : br = broadcastInDim S d hb ka) (h2 : s = addi x0 br) (h3 : bt = broadcastInDim S d' hb' kb) (h4 : y = addi x1 bt)
    (ha : ∀ i, ka i = a) (hk : ∀ i, kb i = b) : ∀ j, (s j, y j) = inj a b (P j) := by
  intro j
  subst h4 h3 h2 h1
  rw [← hP j]
  change (x0 j + ka _, x1 j + kb _) = _
  rw [ha, hk]; rfl

theorem inject_step {a b : W} {ka : Z.Idx → W} {kb : Z'.Idx → W} {Z'' : Shape} {d'' : Fin Z''.rank → Fin S.rank}
    {hb'' : Z''.BroadcastsInDim S d''} {cn : Z''.Idx → W} (hP : ∀ j, (x0 j, x1 j) = P j)
    (h1 : br = broadcastInDim S d hb ka) (h2 : s = addi x0 br) (h3 : bt = broadcastInDim S d' hb' kb) (h4 : l = addi x1 bt)
    (h5 : cn = constantI Z'' 32 (BitVec.ofNat 32 n)) (h6 : q = broadcastInDim S d'' hb'' cn) (h7 : y = addi l q)
    (ha : ∀ i, ka i = a) (hk : ∀ i, kb i = b) : ∀ j, (s j, y j) = inj a (b + BitVec.ofNat 32 n) (P j) := by
  intro j
  subst h7 h6 h5 h4 h3 h2 h1
  rw [← hP j]
  change (x0 j + ka _, x1 j + kb _ + BitVec.ofNat 32 n) = _
  rw [ha, hk, BitVec.add_assoc]; rfl

theorem key2_step {a b : W} {ka kb t c k : Z.Idx → W} (ha : ∀ i, ka i = a) (hk : ∀ i, kb i = b) (h1 : t = xori ka kb)
    (h2 : c = constantI Z 32 466688986#32) (h3 : k = xori t c) : ∀ i, k i = key2 a b := by
  intro i
  subst h3 h2 h1
  change ka i ^^^ kb i ^^^ 466688986#32 = _
  rw [ha, hk]; rfl

theorem word_step {k c : W} (hP : ∀ j, (x0 j, x1 j) = P j) (h : y = xori x0 x1) (j : S.Idx) (hj : P j = tf 0#32 k 0#32 c) :
    y j = word k c := by
  subst h
  have := (hP j).trans hj
  change x0 j ^^^ x1 j = _
  rw [word, ← this]

end Steps

end Cert.Threefry

end
-- ==== Proof.SmallOps.lean ====
module

public import proofs.«01_k».proof.Proof.HashOps
public import Idealize.ShloMosaic.PureOps.Ideal
public import Idealize.ShloMosaic.Lib.Pointwise

/-! # Keys, counters and the uniform number of a word

What the lines around the hash leave at an index: the two words of the key, the two words of the counter, and the number
between zero and one that the random word stands for. -/

set_option maxRecDepth 16384

@[expose] public section

noncomputable section

namespace Cert.Threefry

open Idealize.ShloMosaic

abbrev s0 : Shape := ⟨0, ![]⟩
abbrev s1 : Shape := ⟨1, ![1]⟩
abbrev s2 : Shape := ⟨1, ![2]⟩
abbrev s111 : Shape := ⟨3, ![1, 1, 1]⟩
abbrev s11 : Shape := ⟨2, ![1, 1]⟩
abbrev sMask : Shape := ⟨3, ![4, 2048, 8]⟩
abbrev sRow : Shape := ⟨2, ![65536, 1024]⟩

section Key

variable {k : W} {hb hb' : s0.BroadcastsInDim s1 ![]} {hc : Shape.Concatenates [s1, s1] s2 0}
  {h0 : s2.Slices ![0] s1} {h1 : s2.Slices ![1] s1} {hs hs' : s1.ShapeCasts s0}
  {a b c d e f p q r : s0.Idx → W} {u v x y : s1.Idx → W} {z : s2.Idx → W}

theorem key_step (e0 : a = constantI s0 32 k) (e1 : b = constantI s0 32 32#32) (e2 : c = Host.shrui a b)
    (e3 : d = id c) (e4 : u = broadcastInDim s1 ![] hb d) (e5 : e = constantI s0 32 4294967295#32) (e6 : f = andi a e)
    (e7 : p = id f) (e8 : v = broadcastInDim s1 ![] hb' p)
    (e9 : z = concatenate s2 0 [⟨s1, u⟩, ⟨s1, v⟩] hc) (e10 : x = extractStridedSlice s1 ![0] z h0)
    (e11 : q = shapeCast s0 x hs) (e12 : y = extractStridedSlice s1 ![1] z h1) (e13 : r = shapeCast s0 y hs')
    (i : s0.Idx) : q i = 0#32 ∧ r i = k := by
  have t : IntOp.shrui .host k 32#32 = 0#32 := by rfl
  have t' : k &&& 4294967295#32 = k := by
    apply BitVec.eq_of_getLsbD_eq; intro i hi
    interval_cases i <;> simp
  subst e0 e1 e2 e3 e4 e5 e6 e7 e8 e9 e10 e11 e12 e13
  constructor
  · pointwise
    exact t
  · pointwise
    exact t'

end Key

theorem split_word {n : Nat} (h : n < 2 ^ 32) :
    (BitVec.setWidth 32 (IntOp.shrui .host (BitVec.ofNat 64 n) 32#64), BitVec.setWidth 32 (BitVec.ofNat 64 n))
      = (0#32, BitVec.ofNat 32 n) := by
  have e : IntOp.shrui .host (BitVec.ofNat 64 n) 32#64 = 0#64 := by
    rw [IntOp.shrui, if_pos (by decide)]
    have e32 : (32#64).toNat = 32 := rfl
    apply BitVec.eq_of_toNat_eq
    rw [BitVec.ushiftRight_eq', BitVec.toNat_ushiftRight, e32, Nat.shiftRight_eq_div_pow, BitVec.toNat_ofNat]
    rw [Nat.mod_eq_of_lt (by omega), Nat.div_eq_of_lt h]; rfl
  rw [e]
  refine Prod.ext rfl ?_
  apply BitVec.eq_of_toNat_eq
  simp only [BitVec.toNat_setWidth, BitVec.toNat_ofNat]
  omega

section Counters

variable {B32 : s0.BroadcastsInDim sMask ![]}

theorem counter_mask {h h1 h2 h3 : s0.BroadcastsInDim sMask ![]} {hn hn' : 32 < 64} {a b c d f g p q r t u v : sMask.Idx → BitVec 64}
    {x y z w : s0.Idx → BitVec 64} {hi lo : sMask.Idx → W} (e0 : a = iotaInDim sMask 64 0) (e1 : b = iotaInDim sMask 64 1)
    (e2 : c = iotaInDim sMask 64 2) (e3 : x = constantI s0 64 16384#64) (e4 : d = broadcastInDim sMask ![] h x)
    (e5 : f = muli d a) (e6 : y = constantI s0 64 8#64) (e7 : g = broadcastInDim sMask ![] h1 y) (e8 : p = muli g b)
    (e9 : z = constantI s0 64 1#64) (e10 : q = broadcastInDim sMask ![] h2 z) (e11 : r = muli q c)
    (e12 : t = addi f p) (e13 : u = addi t r) (e14 : w = constantI s0 64 32#64) (e15 : v = broadcastInDim sMask ![] h3 w)
    {o : sMask.Idx → BitVec 64} (e16 : o = Host.shrui u v) (e17 : lo = trunci 32 u hn) (e18 : hi = trunci 32 o hn') (j : sMask.Idx) :
    (hi j, lo j) = (0#32, BitVec.ofNat 32 ((j 2).val + 8 * (2048 * (j 0).val + (j 1).val))) := by
  subst e0 e1 e2 e3 e4 e5 e6 e7 e8 e9 e10 e11 e12 e13 e14 e15 e16 e17 e18
  have h0 : (j 0).val < 4 := (j 0).isLt
  have h1 : (j 1).val < 2048 := (j 1).isLt
  have h2 : (j 2).val < 8 := (j 2).isLt
  have e : IntOp.addi (IntOp.addi (IntOp.muli (16384#64) (BitVec.ofNat 64 (j 0).val)) (IntOp.muli (8#64) (BitVec.ofNat 64 (j 1).val)))
      (IntOp.muli (1#64) (BitVec.ofNat 64 (j 2).val)) = BitVec.ofNat 64 ((j 2).val + 8 * (2048 * (j 0).val + (j 1).val)) := by
    simp only [IntOp.addi, IntOp.muli, ← BitVec.ofNat_add, ← BitVec.ofNat_mul]
    congr 1; ring
  have hlt : (j 2).val + 8 * (2048 * (j 0).val + (j 1).val) < 2 ^ 32 := by omega
  pointwise
  rw [e]
  exact split_word hlt

theorem counter_row {h h1 h3 : s0.BroadcastsInDim sRow ![]} {hn hn' : 32 < 64} {a b d f g p u v : sRow.Idx → BitVec 64}
    {x y w : s0.Idx → BitVec 64} {hi lo : sRow.Idx → W} (e0 : a = iotaInDim sRow 64 0) (e1 : b = iotaInDim sRow 64 1)
    (e3 : x = constantI s0 64 1024#64) (e4 : d = broadcastInDim sRow ![] h x)
    (e5 : f = muli d a) (e6 : y = constantI s0 64 1#64) (e7 : g = broadcastInDim sRow ![] h1 y) (e8 : p = muli g b)
    (e13 : u = addi f p) (e14 : w = constantI s0 64 32#64) (e15 : v = broadcastInDim sRow ![] h3 w)
    {o : sRow.Idx → BitVec 64} (e16 : o = Host.shrui u v) (e17 : lo = trunci 32 u hn) (e18 : hi = trunci 32 o hn') (j : sRow.Idx) :
    (hi j, lo j) = (0#32, BitVec.ofNat 32 (1024 * (j 0).val + (j 1).val)) := by
  subst e0 e1 e3 e4 e5 e6 e7 e8 e13 e14 e15 e16 e17 e18
  have h0 : (j 0).val < 65536 := (j 0).isLt
  have h1 : (j 1).val < 1024 := (j 1).isLt
  have e : IntOp.addi (IntOp.muli (1024#64) (BitVec.ofNat 64 (j 0).val)) (IntOp.muli (1#64) (BitVec.ofNat 64 (j 1).val))
      = BitVec.ofNat 64 (1024 * (j 0).val + (j 1).val) := by
    simp only [IntOp.addi, IntOp.muli, ← BitVec.ofNat_add, ← BitVec.ofNat_mul]
    congr 1; ring
  have hlt : 1024 * (j 0).val + (j 1).val < 2 ^ 32 := by omega
  pointwise
  rw [e]
  exact split_word hlt

end Counters

/-- The number in [0, 1) of a word's high 23 bits. -/
def unit (w : W) : EReal := Ideal.ofBits .f32 ((w >>> 9) ||| 1065353216#32) - 1

/-- The mask's bit of a word. -/
def mbit (w : W) : Bool := decide (max 0 (unit w) < Ideal.ofBits .f32 1045220557#32)

/-- The noise of a word. -/
def gum (w : W) : EReal :=
  -Ideal.log (-Ideal.log (max (Ideal.ofBits .f32 8388608#32)
    (unit w * (1 - Ideal.ofBits .f32 8388608#32) + Ideal.ofBits .f32 8388608#32)))

section Unit

variable {w : sMask.Idx → W}

theorem mask_step {h h1 h2 h9 : s0.BroadcastsInDim sMask ![]} {g g' : s0.BroadcastsInDim s111 ![]} {f f' f'' : s111.BroadcastsInDim sMask ![0, 1, 2]}
    {z z' o o' cO : FVec Ideal s0 .f32} {Z O D : FVec Ideal s111 .f32} {c9 cB : s0.Idx → W} {b9 q bB r : sMask.Idx → W}
    {F One S Db M Zb A Zc U T : FVec Ideal sMask .f32} {cT : FVec Ideal s0 .f32} {R : sMask.Idx → BitVec 1}
    (e0 : z = constant s0 .f32 0x00000000#32) (e1 : o = constant s0 .f32 0x3F800000#32) (e2 : z' = z) (e3 : o' = o)
    (e4 : Z = broadcastInDim s111 ![] g z') (e5 : O = broadcastInDim s111 ![] g' o')
    (e6 : c9 = constantI s0 32 9#32) (e7 : b9 = broadcastInDim sMask ![] h c9) (e8 : q = Host.shrui w b9)
    (e9 : cB = constantI s0 32 1065353216#32) (e10 : bB = broadcastInDim sMask ![] h1 cB) (e11 : r = ori q bB)
    (e12 : F = bitcastToFloat .f32 r) (e13 : cO = constant s0 .f32 0x3F800000#32) (e14 : One = broadcastInDim sMask ![] h2 cO)
    (e15 : S = subf F One) (e16 : D = subf O Z) (e17 : Db = broadcastInDim sMask ![0, 1, 2] f D) (e18 : M = mulf S Db)
    (e19 : Zb = broadcastInDim sMask ![0, 1, 2] f' Z) (e20 : A = addf M Zb) (e21 : Zc = broadcastInDim sMask ![0, 1, 2] f'' Z)
    (e22 : U = maximumf Zc A) (e23 : cT = constant s0 .f32 0x3E4CCCCD#32) (e24 : T = broadcastInDim sMask ![] h9 cT)
    (e25 : R = cmpf .olt U T) (j : sMask.Idx) : R j = BitVec.ofBool (mbit (w j)) := by
  subst e0 e1 e2 e3 e4 e5 e6 e7 e8 e9 e10 e11 e12 e13 e14 e15 e16 e17 e18 e19 e20 e21 e22 e23 e24 e25
  have e : IntOp.shrui .host (w j) 9#32 = w j >>> 9 := shr_small .host (w j) (r := 9) (by decide)
  pointwise
  rw [e]
  rfl

theorem gum_step {w : sRow.Idx → W} {h h1 h2 : s0.BroadcastsInDim sRow ![]} {g g' : s0.BroadcastsInDim s11 ![]} {f f' f'' : s11.BroadcastsInDim sRow ![0, 1]}
    {t o o' cO : FVec Ideal s0 .f32} {T O D : FVec Ideal s11 .f32} {c9 cB : s0.Idx → W} {b9 q bB r : sRow.Idx → W}
    {F One S Db M Tb A Tc U L N L' N' : FVec Ideal sRow .f32}
    (e0 : o = constant s0 .f32 0x3F800000#32) (e1 : t = constant s0 .f32 0x00800000#32) (e2 : o' = o)
    (e4 : T = broadcastInDim s11 ![] g t) (e5 : O = broadcastInDim s11 ![] g' o')
    (e6 : c9 = constantI s0 32 9#32) (e7 : b9 = broadcastInDim sRow ![] h c9) (e8 : q = Host.shrui w b9)
    (e9 : cB = constantI s0 32 1065353216#32) (e10 : bB = broadcastInDim sRow ![] h1 cB) (e11 : r = ori q bB)
    (e12 : F = bitcastToFloat .f32 r) (e13 : cO = constant s0 .f32 0x3F800000#32) (e14 : One = broadcastInDim sRow ![] h2 cO)
    (e15 : S = subf F One) (e16 : D = subf O T) (e17 : Db = broadcastInDim sRow ![0, 1] f D) (e18 : M = mulf S Db)
    (e19 : Tb = broadcastInDim sRow ![0, 1] f' T) (e20 : A = addf M Tb) (e21 : Tc = broadcastInDim sRow ![0, 1] f'' T)
    (e22 : U = maximumf Tc A) (e23 : L = Host.log U) (e24 : N = Host.negf L) (e25 : L' = Host.log N)
    (e26 : N' = Host.negf L') (j : sRow.Idx) : N' j = gum (w j) := by
  subst e0 e1 e2 e4 e5 e6 e7 e8 e9 e10 e11 e12 e13 e14 e15 e16 e17 e18 e19 e20 e21 e22 e23 e24 e25 e26
  have e : IntOp.shrui .host (w j) 9#32 = w j >>> 9 := shr_small .host (w j) (r := 9) (by decide)
  pointwise
  rw [e]
  rfl

end Unit

end Cert.Threefry

end
-- ==== Proof.Spec.lean ====
module

public import proofs.«01_k».proof.Proof.Best
public import proofs.«01_k».proof.Proof.SmallOps

/-! # What both programs compute -/

@[expose] public section

noncomputable section

namespace Cert.Spec

open Idealize.ShloMosaic Cert.Threefry Cert.Best

/-- The shape of the embeddings. -/
abbrev sEmb : Shape := ⟨3, ![8, 1024, 128]⟩

/-- The square of an embedding. -/
def sq (e : sEmb.Idx → EReal) (c : Fin 8) (v : Fin 1024) : EReal := ∑ k : Fin 128, e (ix3 c v k) * e (ix3 c v k)

/-- The product of two embeddings. -/
def inner (e : sEmb.Idx → EReal) (c : Fin 8) (w v : Fin 1024) : EReal := ∑ k : Fin 128, e (ix3 c w k) * e (ix3 c v k)

/-- Minus the distance of two embeddings, minus infinity from an embedding to itself. -/
def logit (e : sEmb.Idx → EReal) (c : Fin 8) (w v : Fin 1024) : EReal :=
  if w = v then ⊥ else -Ideal.sqrt (max (sq e c w + sq e c v - Ideal.ofBits .f32 1073741824#32 * inner e c w v) 0)

/-- The noise of a lane. -/
def noise (c : Fin 8) (n : Fin 8192) (v : Fin 1024) : EReal :=
  gum (word 42#32 (BitVec.ofNat 32 (1024 * (8192 * c.val + n.val) + v.val)))

/-- What the sampler takes the greatest of. -/
def score (e : sEmb.Idx → EReal) (c : Fin 8) (n : Fin 8192) (w v : Fin 1024) : EReal := noise c n v + logit e c w v

/-- Whether a position is resampled. -/
def hit (c : Fin 8) (n : Fin 8192) : Bool := mbit (word 7#32 (BitVec.ofNat 32 (c.val + 8 * n.val)))

/-- The result at a position that held the token `w`: `x`. -/
def Res (e : sEmb.Idx → EReal) (c : Fin 8) (n : Fin 8192) (w : Fin 1024) (x : W) : Prop :=
  if hit c n = true then IsBest (score e c n w) x else x = BitVec.ofNat 32 w.val

theorem Res.unique {e : sEmb.Idx → EReal} {c : Fin 8} {n : Fin 8192} {w : Fin 1024} {x y : W} (hx : Res e c n w x)
    (hy : Res e c n w y) : x = y := by
  unfold Res at hx hy
  split at hx
  · rename_i h; rw [if_pos h] at hy; exact hx.unique hy
  · rename_i h; rw [if_neg h] at hy; exact hx.trans hy.symm

theorem Res.of_select {e : sEmb.Idx → EReal} {c : Fin 8} {n : Fin 8192} {w : Fin 1024} {q : BitVec 1} {x y o : W}
    (hq : q = BitVec.ofBool (hit c n)) (hx : IsBest (score e c n w) x) (hy : y = BitVec.ofNat 32 w.val)
    (ho : o = Scalar.select q x y) : Res e c n w o := by
  subst hq ho
  unfold Res
  cases h : hit c n
  · rw [if_neg (by decide)]; exact hy
  · rw [if_pos rfl]; exact hx

end Cert.Spec

end
-- ==== Proof.RefWords.lean ====
module

public import proofs.«01_k».proof.Proof.HashOps
public import proofs.«01_k».proof.Proof.RefLines

/-! # The random words of the reference -/

set_option maxRecDepth 16384

@[expose] public section

noncomputable section

namespace Cert.ReferenceIdeal.Words

open Idealize.ShloMosaic Idealize.ShloMosaic.StableHlo Cert.Ssa Cert.Threefry Cert.ReferenceIdeal.Lines
open Cert.ReferenceIdeal.Gen

set_option maxHeartbeats 4000000 in
theorem gumbel_word (V : Valuation τ sig (Elt Ideal)) {k : W} {c : S65536x1024.Idx → W}
    (hk0 : ∀ i, (val (after n19 V) main_call2_call0.v4 : S_.Idx → W) i = 0#32)
    (hk1 : ∀ i, (val (after n19 V) main_call2_call0.v6 : S_.Idx → W) i = k)
    (hP : ∀ j, ((val (after n19 V) main_call2_call0.v17 : S65536x1024.Idx → W) j,
      (val (after n19 V) main_call2_call0.v16 : S65536x1024.Idx → W) j) = (0#32, c j)) :
    ∀ j, (val (after n19 V) main_call2_call0.v19 : S65536x1024.Idx → W) j = word k (c j) := by
  have e92 := Line.tbinary line_n19 V 92 rfl rfl
  have e93 := Line.tnullary line_n19 V 93 rfl
  have e94 := Line.tbinary line_n19 V 94 rfl rfl
  have k2 := key2_step hk0 hk1 e92 e93 e94
  have e95 := Line.tunary line_n19 V 95 rfl rfl
  have e96 := Line.tbinary line_n19 V 96 rfl rfl
  have e97 := Line.tunary line_n19 V 97 rfl rfl
  have e98 := Line.tbinary line_n19 V 98 rfl rfl
  have p0 := first_step hP e95 e96 e97 e98 hk0 hk1
  have e99 := Line.tbinary line_n19 V 99 rfl rfl
  have e100 := Line.tnullary line_n19 V 100 rfl
  have e101 := Line.tunary line_n19 V 101 rfl rfl
  have e102 := Line.tbinary line_n19 V 102 rfl rfl
  have e103 := Line.tnullary line_n19 V 103 rfl
  have e104 := Line.tunary line_n19 V 104 rfl rfl
  have e105 := Line.tbinary line_n19 V 105 rfl rfl
  have e106 := Line.tbinary line_n19 V 106 rfl rfl
  have e107 := Line.tbinary line_n19 V 107 rfl rfl
  have p1 := round_step rfl p0 e99 e100 e101 e102 e103 e104 e105 e106 e107
  have e108 := Line.tbinary line_n19 V 108 rfl rfl
  have e109 := Line.tnullary line_n19 V 109 rfl
  have e110 := Line.tunary line_n19 V 110 rfl rfl
  have e111 := Line.tbinary line_n19 V 111 rfl rfl
  have e112 := Line.tnullary line_n19 V 112 rfl
  have e113 := Line.tunary line_n19 V 113 rfl rfl
  have e114 := Line.tbinary line_n19 V 114 rfl rfl
  have e115 := Line.tbinary line_n19 V 115 rfl rfl
  have e116 := Line.tbinary line_n19 V 116 rfl rfl
  have p2 := round_step rfl p1 e108 e109 e110 e111 e112 e113 e114 e115 e116
  have e117 := Line.tbinary line_n19 V 117 rfl rfl
  have e118 := Line.tnullary line_n19 V 118 rfl
  have e119 := Line.tunary line_n19 V 119 rfl rfl
  have e120 := Line.tbinary line_n19 V 120 rfl rfl
  have e121 := Line.tnullary line_n19 V 121 rfl
  have e122 := Line.tunary line_n19 V 122 rfl rfl
  have e123 := Line.tbinary line_n19 V 123 rfl rfl
  have e124 := Line.tbinary line_n19 V 124 rfl rfl
  have e125 := Line.tbinary line_n19 V 125 rfl rfl
  have p3 := round_step rfl p2 e117 e118 e119 e120 e121 e122 e123 e124 e125
  have e126 := Line.tbinary line_n19 V 126 rfl rfl
  have e127 := Line.tnullary line_n19 V 127 rfl
  have e128 := Line.tunary line_n19 V 128 rfl rfl
  have e129 := Line.tbinary line_n19 V 129 rfl rfl
  have e130 := Line.tnullary line_n19 V 130 rfl
  have e131 := Line.tunary line_n19 V 131 rfl rfl
  have e132 := Line.tbinary line_n19 V 132 rfl rfl
  have e133 := Line.tbinary line_n19 V 133 rfl rfl
  have e134 := Line.tbinary line_n19 V 134 rfl rfl
  have p4 := round_step rfl p3 e126 e127 e128 e129 e130 e131 e132 e133 e134
  have e135 := Line.tunary line_n19 V 135 rfl rfl
  have e136 := Line.tbinary line_n19 V 136 rfl rfl
  have e137 := Line.tunary line_n19 V 137 rfl rfl
  have e138 := Line.tbinary line_n19 V 138 rfl rfl
  have e139 := Line.tnullary line_n19 V 139 rfl
  have e140 := Line.tunary line_n19 V 140 rfl rfl
  have e141 := Line.tbinary line_n19 V 141 rfl rfl
  have p5 := inject_step p4 e135 e136 e137 e138 e139 e140 e141 hk1 k2
  have e142 := Line.tbinary line_n19 V 142 rfl rfl
  have e143 := Line.tnullary line_n19 V 143 rfl
  have e144 := Line.tunary line_n19 V 144 rfl rfl
  have e145 := Line.tbinary line_n19 V 145 rfl rfl
  have e146 := Line.tnullary line_n19 V 146 rfl
  have e147 := Line.tunary line_n19 V 147 rfl rfl
  have e148 := Line.tbinary line_n19 V 148 rfl rfl
  have e149 := Line.tbinary line_n19 V 149 rfl rfl
  have e150 := Line.tbinary line_n19 V 150 rfl rfl
  have p6 := round_step rfl p5 e142 e143 e144 e145 e146 e147 e148 e149 e150
  have e151 := Line.tbinary line_n19 V 151 rfl rfl
  have e152 := Line.tnullary line_n19 V 152 rfl
  have e153 := Line.tunary line_n19 V 153 rfl rfl
  have e154 := Line.tbinary line_n19 V 154 rfl rfl
  have e155 := Line.tnullary line_n19 V 155 rfl
  have e156 := Line.tunary line_n19 V 156 rfl rfl
  have e157 := Line.tbinary line_n19 V 157 rfl rfl
  have e158 := Line.tbinary line_n19 V 158 rfl rfl
  have e159 := Line.tbinary line_n19 V 159 rfl rfl
  have p7 := round_step rfl p6 e151 e152 e153 e154 e155 e156 e157 e158 e159
  have e160 := Line.tbinary line_n19 V 160 rfl rfl
  have e161 := Line.tnullary line_n19 V 161 rfl
  have e162 := Line.tunary line_n19 V 162 rfl rfl
  have e163 := Line.tbinary line_n19 V 163 rfl rfl
  have e164 := Line.tnullary line_n19 V 164 rfl
  have e165 := Line.tunary line_n19 V 165 rfl rfl
  have e166 := Line.tbinary line_n19 V 166 rfl rfl
  have e167 := Line.tbinary line_n19 V 167 rfl rfl
  have e168 := Line.tbinary line_n19 V 168 rfl rfl
  have p8 := round_step rfl p7 e160 e161 e162 e163 e164 e165 e166 e167 e168
  have e169 := Line.tbinary line_n19 V 169 rfl rfl
  have e170 := Line.tnullary line_n19 V 170 rfl
  have e171 := Line.tunary line_n19 V 171 rfl rfl
  have e172 := Line.tbinary line_n19 V 172 rfl rfl
  have e173 := Line.tnullary line_n19 V 173 rfl
  have e174 := Line.tunary line_n19 V 174 rfl rfl
  have e175 := Line.tbinary line_n19 V 175 rfl rfl
  have e176 := Line.tbinary line_n19 V 176 rfl rfl
  have e177 := Line.tbinary line_n19 V 177 rfl rfl
  have p9 := round_step rfl p8 e169 e170 e171 e172 e173 e174 e175 e176 e177
  have e178 := Line.tunary line_n19 V 178 rfl rfl
  have e179 := Line.tbinary line_n19 V 179 rfl rfl
  have e180 := Line.tunary line_n19 V 180 rfl rfl
  have e181 := Line.tbinary line_n19 V 181 rfl rfl
  have e182 := Line.tnullary line_n19 V 182 rfl
  have e183 := Line.tunary line_n19 V 183 rfl rfl
  have e184 := Line.tbinary line_n19 V 184 rfl rfl
  have p10 := inject_step p9 e178 e179 e180 e181 e182 e183 e184 k2 hk0
  have e185 := Line.tbinary line_n19 V 185 rfl rfl
  have e186 := Line.tnullary line_n19 V 186 rfl
  have e187 := Line.tunary line_n19 V 187 rfl rfl
  have e188 := Line.tbinary line_n19 V 188 rfl rfl
  have e189 := Line.tnullary line_n19 V 189 rfl
  have e190 := Line.tunary line_n19 V 190 rfl rfl
  have e191 := Line.tbinary line_n19 V 191 rfl rfl
  have e192 := Line.tbinary line_n19 V 192 rfl rfl
  have e193 := Line.tbinary line_n19 V 193 rfl rfl
  have p11 := round_step rfl p10 e185 e186 e187 e188 e189 e190 e191 e192 e193
  have e194 := Line.tbinary line_n19 V 194 rfl rfl
  have e195 := Line.tnullary line_n19 V 195 rfl
  have e196 := Line.tunary line_n19 V 196 rfl rfl
  have e197 := Line.tbinary line_n19 V 197 rfl rfl
  have e198 := Line.tnullary line_n19 V 198 rfl
  have e199 := Line.tunary line_n19 V 199 rfl rfl
  have e200 := Line.tbinary line_n19 V 200 rfl rfl
  have e201 := Line.tbinary line_n19 V 201 rfl rfl
  have e202 := Line.tbinary line_n19 V 202 rfl rfl
  have p12 := round_step rfl p11 e194 e195 e196 e197 e198 e199 e200 e201 e202
  have e203 := Line.tbinary line_n19 V 203 rfl rfl
  have e204 := Line.tnullary line_n19 V 204 rfl
  have e205 := Line.tunary line_n19 V 205 rfl rfl
  have e206 := Line.tbinary line_n19 V 206 rfl rfl
  have e207 := Line.tnullary line_n19 V 207 rfl
  have e208 := Line.tunary line_n19 V 208 rfl rfl
  have e209 := Line.tbinary line_n19 V 209 rfl rfl
  have e210 := Line.tbinary line_n19 V 210 rfl rfl
  have e211 := Line.tbinary line_n19 V 211 rfl rfl
  have p13 := round_step rfl p12 e203 e204 e205 e206 e207 e208 e209 e210 e211
  have e212 := Line.tbinary line_n19 V 212 rfl rfl
  have e213 := Line.tnullary line_n19 V 213 rfl
  have e214 := Line.tunary line_n19 V 214 rfl rfl
  have e215 := Line.tbinary line_n19 V 215 rfl rfl
  have e216 := Line.tnullary line_n19 V 216 rfl
  have e217 := Line.tunary line_n19 V 217 rfl rfl
  have e218 := Line.tbinary line_n19 V 218 rfl rfl
  have e219 := Line.tbinary line_n19 V 219 rfl rfl
  have e220 := Line.tbinary line_n19 V 220 rfl rfl
  have p14 := round_step rfl p13 e212 e213 e214 e215 e216 e217 e218 e219 e220
  have e221 := Line.tunary line_n19 V 221 rfl rfl
  have e222 := Line.tbinary line_n19 V 222 rfl rfl
  have e223 := Line.tunary line_n19 V 223 rfl rfl
  have e224 := Line.tbinary line_n19 V 224 rfl rfl
  have e225 := Line.tnullary line_n19 V 225 rfl
  have e226 := Line.tunary line_n19 V 226 rfl rfl
  have e227 := Line.tbinary line_n19 V 227 rfl rfl
  have p15 := inject_step p14 e221 e222 e223 e224 e225 e226 e227 hk0 hk1
  have e228 := Line.tbinary line_n19 V 228 rfl rfl
  have e229 := Line.tnullary line_n19 V 229 rfl
  have e230 := Line.tunary line_n19 V 230 rfl rfl
  have e231 := Line.tbinary line_n19 V 231 rfl rfl
  have e232 := Line.tnullary line_n19 V 232 rfl
  have e233 := Line.tunary line_n19 V 233 rfl rfl
  have e234 := Line.tbinary line_n19 V 234 rfl rfl
  have e235 := Line.tbinary line_n19 V 235 rfl rfl
  have e236 := Line.tbinary line_n19 V 236 rfl rfl
  have p16 := round_step rfl p15 e228 e229 e230 e231 e232 e233 e234 e235 e236
  have e237 := Line.tbinary line_n19 V 237 rfl rfl
  have e238 := Line.tnullary line_n19 V 238 rfl
  have e239 := Line.tunary line_n19 V 239 rfl rfl
  have e240 := Line.tbinary line_n19 V 240 rfl rfl
  have e241 := Line.tnullary line_n19 V 241 rfl
  have e242 := Line.tunary line_n19 V 242 rfl rfl
  have e243 := Line.tbinary line_n19 V 243 rfl rfl
  have e244 := Line.tbinary line_n19 V 244 rfl rfl
  have e245 := Line.tbinary line_n19 V 245 rfl rfl
  have p17 := round_step rfl p16 e237 e238 e239 e240 e241 e242 e243 e244 e245
  have e246 := Line.tbinary line_n19 V 246 rfl rfl
  have e247 := Line.tnullary line_n19 V 247 rfl
  have e248 := Line.tunary line_n19 V 248 rfl rfl
  have e249 := Line.tbinary line_n19 V 249 rfl rfl
  have e250 := Line.tnullary line_n19 V 250 rfl
  have e251 := Line.tunary line_n19 V 251 rfl rfl
  have e252 := Line.tbinary line_n19 V 252 rfl rfl
  have e253 := Line.tbinary line_n19 V 253 rfl rfl
  have e254 := Line.tbinary line_n19 V 254 rfl rfl
  have p18 := round_step rfl p17 e246 e247 e248 e249 e250 e251 e252 e253 e254
  have e255 := Line.tbinary line_n19 V 255 rfl rfl
  have e256 := Line.tnullary line_n19 V 256 rfl
  have e257 := Line.tunary line_n19 V 257 rfl rfl
  have e258 := Line.tbinary line_n19 V 258 rfl rfl
  have e259 := Line.tnullary line_n19 V 259 rfl
  have e260 := Line.tunary line_n19 V 260 rfl rfl
  have e261 := Line.tbinary line_n19 V 261 rfl rfl
  have e262 := Line.tbinary line_n19 V 262 rfl rfl
  have e263 := Line.tbinary line_n19 V 263 rfl rfl
  have p19 := round_step rfl p18 e255 e256 e257 e258 e259 e260 e261 e262 e263
  have e264 := Line.tunary line_n19 V 264 rfl rfl
  have e265 := Line.tbinary line_n19 V 265 rfl rfl
  have e266 := Line.tunary line_n19 V 266 rfl rfl
  have e267 := Line.tbinary line_n19 V 267 rfl rfl
  have e268 := Line.tnullary line_n19 V 268 rfl
  have e269 := Line.tunary line_n19 V 269 rfl rfl
  have e270 := Line.tbinary line_n19 V 270 rfl rfl
  have p20 := inject_step p19 e264 e265 e266 e267 e268 e269 e270 hk1 k2
  have e271 := Line.tbinary line_n19 V 271 rfl rfl
  have e272 := Line.tnullary line_n19 V 272 rfl
  have e273 := Line.tunary line_n19 V 273 rfl rfl
  have e274 := Line.tbinary line_n19 V 274 rfl rfl
  have e275 := Line.tnullary line_n19 V 275 rfl
  have e276 := Line.tunary line_n19 V 276 rfl rfl
  have e277 := Line.tbinary line_n19 V 277 rfl rfl
  have e278 := Line.tbinary line_n19 V 278 rfl rfl
  have e279 := Line.tbinary line_n19 V 279 rfl rfl
  have p21 := round_step rfl p20 e271 e272 e273 e274 e275 e276 e277 e278 e279
  have e280 := Line.tbinary line_n19 V 280 rfl rfl
  have e281 := Line.tnullary line_n19 V 281 rfl
  have e282 := Line.tunary line_n19 V 282 rfl rfl
  have e283 := Line.tbinary line_n19 V 283 rfl rfl
  have e284 := Line.tnullary line_n19 V 284 rfl
  have e285 := Line.tunary line_n19 V 285 rfl rfl
  have e286 := Line.tbinary line_n19 V 286 rfl rfl
  have e287 := Line.tbinary line_n19 V 287 rfl rfl
  have e288 := Line.tbinary line_n19 V 288 rfl rfl
  have p22 := round_step rfl p21 e280 e281 e282 e283 e284 e285 e286 e287 e288
  have e289 := Line.tbinary line_n19 V 289 rfl rfl
  have e290 := Line.tnullary line_n19 V 290 rfl
  have e291 := Line.tunary line_n19 V 291 rfl rfl
  have e292 := Line.tbinary line_n19 V 292 rfl rfl
  have e293 := Line.tnullary line_n19 V 293 rfl
  have e294 := Line.tunary line_n19 V 294 rfl rfl
  have e295 := Line.tbinary line_n19 V 295 rfl rfl
  have e296 := Line.tbinary line_n19 V 296 rfl rfl
  have e297 := Line.tbinary line_n19 V 297 rfl rfl
  have p23 := round_step rfl p22 e289 e290 e291 e292 e293 e294 e295 e296 e297
  have e298 := Line.tbinary line_n19 V 298 rfl rfl
  have e299 := Line.tnullary line_n19 V 299 rfl
  have e300 := Line.tunary line_n19 V 300 rfl rfl
  have e301 := Line.tbinary line_n19 V 301 rfl rfl
  have e302 := Line.tnullary line_n19 V 302 rfl
  have e303 := Line.tunary line_n19 V 303 rfl rfl
  have e304 := Line.tbinary line_n19 V 304 rfl rfl
  have e305 := Line.tbinary line_n19 V 305 rfl rfl
  have e306 := Line.tbinary line_n19 V 306 rfl rfl
  have p24 := round_step rfl p23 e298 e299 e300 e301 e302 e303 e304 e305 e306
  have e307 := Line.tunary line_n19 V 307 rfl rfl
  have e308 := Line.tbinary line_n19 V 308 rfl rfl
  have e309 := Line.tunary line_n19 V 309 rfl rfl
  have e310 := Line.tbinary line_n19 V 310 rfl rfl
  have e311 := Line.tnullary line_n19 V 311 rfl
  have e312 := Line.tunary line_n19 V 312 rfl rfl
  have e313 := Line.tbinary line_n19 V 313 rfl rfl
  have p25 := inject_step p24 e307 e308 e309 e310 e311 e312 e313 k2 hk0
  have e314 := Line.tbinary line_n19 V 314 rfl rfl
  exact fun j => word_step p25 e314 j rfl

set_option maxHeartbeats 4000000 in
theorem mask_word (V : Valuation τ sig (Elt Ideal)) {k : W} {c : S4x2048x8.Idx → W}
    (hk0 : ∀ i, (val (after n19 V) main_call4.v5 : S_.Idx → W) i = 0#32)
    (hk1 : ∀ i, (val (after n19 V) main_call4.v7 : S_.Idx → W) i = k)
    (hP : ∀ j, ((val (after n19 V) main_call4.v22 : S4x2048x8.Idx → W) j,
      (val (after n19 V) main_call4.v21 : S4x2048x8.Idx → W) j) = (0#32, c j)) :
    ∀ j, (val (after n19 V) main_call4.v24 : S4x2048x8.Idx → W) j = word k (c j) := by
  have e384 := Line.tbinary line_n19 V 384 rfl rfl
  have e385 := Line.tnullary line_n19 V 385 rfl
  have e386 := Line.tbinary line_n19 V 386 rfl rfl
  have k2 := key2_step hk0 hk1 e384 e385 e386
  have e387 := Line.tunary line_n19 V 387 rfl rfl
  have e388 := Line.tbinary line_n19 V 388 rfl rfl
  have e389 := Line.tunary line_n19 V 389 rfl rfl
  have e390 := Line.tbinary line_n19 V 390 rfl rfl
  have p0 := first_step hP e387 e388 e389 e390 hk0 hk1
  have e391 := Line.tbinary line_n19 V 391 rfl rfl
  have e392 := Line.tnullary line_n19 V 392 rfl
  have e393 := Line.tunary line_n19 V 393 rfl rfl
  have e394 := Line.tbinary line_n19 V 394 rfl rfl
  have e395 := Line.tnullary line_n19 V 395 rfl
  have e396 := Line.tunary line_n19 V 396 rfl rfl
  have e397 := Line.tbinary line_n19 V 397 rfl rfl
  have e398 := Line.tbinary line_n19 V 398 rfl rfl
  have e399 := Line.tbinary line_n19 V 399 rfl rfl
  have p1 := round_step rfl p0 e391 e392 e393 e394 e395 e396 e397 e398 e399
  have e400 := Line.tbinary line_n19 V 400 rfl rfl
  have e401 := Line.tnullary line_n19 V 401 rfl
  have e402 := Line.tunary line_n19 V 402 rfl rfl
  have e403 := Line.tbinary line_n19 V 403 rfl rfl
  have e404 := Line.tnullary line_n19 V 404 rfl
  have e405 := Line.tunary line_n19 V 405 rfl rfl
  have e406 := Line.tbinary line_n19 V 406 rfl rfl
  have e407 := Line.tbinary line_n19 V 407 rfl rfl
  have e408 := Line.tbinary line_n19 V 408 rfl rfl
  have p2 := round_step rfl p1 e400 e401 e402 e403 e404 e405 e406 e407 e408
  have e409 := Line.tbinary line_n19 V 409 rfl rfl
  have e410 := Line.tnullary line_n19 V 410 rfl
  have e411 := Line.tunary line_n19 V 411 rfl rfl
  have e412 := Line.tbinary line_n19 V 412 rfl rfl
  have e413 := Line.tnullary line_n19 V 413 rfl
  have e414 := Line.tunary line_n19 V 414 rfl rfl
  have e415 := Line.tbinary line_n19 V 415 rfl rfl
  have e416 := Line.tbinary line_n19 V 416 rfl rfl
  have e417 := Line.tbinary line_n19 V 417 rfl rfl
  have p3 := round_step rfl p2 e409 e410 e411 e412 e413 e414 e415 e416 e417
  have e418 := Line.tbinary line_n19 V 418 rfl rfl
  have e419 := Line.tnullary line_n19 V 419 rfl
  have e420 := Line.tunary line_n19 V 420 rfl rfl
  have e421 := Line.tbinary line_n19 V 421 rfl rfl
  have e422 := Line.tnullary line_n19 V 422 rfl
  have e423 := Line.tunary line_n19 V 423 rfl rfl
  have e424 := Line.tbinary line_n19 V 424 rfl rfl
  have e425 := Line.tbinary line_n19 V 425 rfl rfl
  have e426 := Line.tbinary line_n19 V 426 rfl rfl
  have p4 := round_step rfl p3 e418 e419 e420 e421 e422 e423 e424 e425 e426
  have e427 := Line.tunary line_n19 V 427 rfl rfl
  have e428 := Line.tbinary line_n19 V 428 rfl rfl
  have e429 := Line.tunary line_n19 V 429 rfl rfl
  have e430 := Line.tbinary line_n19 V 430 rfl rfl
  have e431 := Line.tnullary line_n19 V 431 rfl
  have e432 := Line.tunary line_n19 V 432 rfl rfl
  have e433 := Line.tbinary line_n19 V 433 rfl rfl
  have p5 := inject_step p4 e427 e428 e429 e430 e431 e432 e433 hk1 k2
  have e434 := Line.tbinary line_n19 V 434 rfl rfl
  have e435 := Line.tnullary line_n19 V 435 rfl
  have e436 := Line.tunary line_n19 V 436 rfl rfl
  have e437 := Line.tbinary line_n19 V 437 rfl rfl
  have e438 := Line.tnullary line_n19 V 438 rfl
  have e439 := Line.tunary line_n19 V 439 rfl rfl
  have e440 := Line.tbinary line_n19 V 440 rfl rfl
  have e441 := Line.tbinary line_n19 V 441 rfl rfl
  have e442 := Line.tbinary line_n19 V 442 rfl rfl
  have p6 := round_step rfl p5 e434 e435 e436 e437 e438 e439 e440 e441 e442
  have e443 := Line.tbinary line_n19 V 443 rfl rfl
  have e444 := Line.tnullary line_n19 V 444 rfl
  have e445 := Line.tunary line_n19 V 445 rfl rfl
  have e446 := Line.tbinary line_n19 V 446 rfl rfl
  have e447 := Line.tnullary line_n19 V 447 rfl
  have e448 := Line.tunary line_n19 V 448 rfl rfl
  have e449 := Line.tbinary line_n19 V 449 rfl rfl
  have e450 := Line.tbinary line_n19 V 450 rfl rfl
  have e451 := Line.tbinary line_n19 V 451 rfl rfl
  have p7 := round_step rfl p6 e443 e444 e445 e446 e447 e448 e449 e450 e451
  have e452 := Line.tbinary line_n19 V 452 rfl rfl
  have e453 := Line.tnullary line_n19 V 453 rfl
  have e454 := Line.tunary line_n19 V 454 rfl rfl
  have e455 := Line.tbinary line_n19 V 455 rfl rfl
  have e456 := Line.tnullary line_n19 V 456 rfl
  have e457 := Line.tunary line_n19 V 457 rfl rfl
  have e458 := Line.tbinary line_n19 V 458 rfl rfl
  have e459 := Line.tbinary line_n19 V 459 rfl rfl
  have e460 := Line.tbinary line_n19 V 460 rfl rfl
  have p8 := round_step rfl p7 e452 e453 e454 e455 e456 e457 e458 e459 e460
  have e461 := Line.tbinary line_n19 V 461 rfl rfl
  have e462 := Line.tnullary line_n19 V 462 rfl
  have e463 := Line.tunary line_n19 V 463 rfl rfl
  have e464 := Line.tbinary line_n19 V 464 rfl rfl
  have e465 := Line.tnullary line_n19 V 465 rfl
  have e466 := Line.tunary line_n19 V 466 rfl rfl
  have e467 := Line.tbinary line_n19 V 467 rfl rfl
  have e468 := Line.tbinary line_n19 V 468 rfl rfl
  have e469 := Line.tbinary line_n19 V 469 rfl rfl
  have p9 := round_step rfl p8 e461 e462 e463 e464 e465 e466 e467 e468 e469
  have e470 := Line.tunary line_n19 V 470 rfl rfl
  have e471 := Line.tbinary line_n19 V 471 rfl rfl
  have e472 := Line.tunary line_n19 V 472 rfl rfl
  have e473 := Line.tbinary line_n19 V 473 rfl rfl
  have e474 := Line.tnullary line_n19 V 474 rfl
  have e475 := Line.tunary line_n19 V 475 rfl rfl
  have e476 := Line.tbinary line_n19 V 476 rfl rfl
  have p10 := inject_step p9 e470 e471 e472 e473 e474 e475 e476 k2 hk0
  have e477 := Line.tbinary line_n19 V 477 rfl rfl
  have e478 := Line.tnullary line_n19 V 478 rfl
  have e479 := Line.tunary line_n19 V 479 rfl rfl
  have e480 := Line.tbinary line_n19 V 480 rfl rfl
  have e481 := Line.tnullary line_n19 V 481 rfl
  have e482 := Line.tunary line_n19 V 482 rfl rfl
  have e483 := Line.tbinary line_n19 V 483 rfl rfl
  have e484 := Line.tbinary line_n19 V 484 rfl rfl
  have e485 := Line.tbinary line_n19 V 485 rfl rfl
  have p11 := round_step rfl p10 e477 e478 e479 e480 e481 e482 e483 e484 e485
  have e486 := Line.tbinary line_n19 V 486 rfl rfl
  have e487 := Line.tnullary line_n19 V 487 rfl
  have e488 := Line.tunary line_n19 V 488 rfl rfl
  have e489 := Line.tbinary line_n19 V 489 rfl rfl
  have e490 := Line.tnullary line_n19 V 490 rfl
  have e491 := Line.tunary line_n19 V 491 rfl rfl
  have e492 := Line.tbinary line_n19 V 492 rfl rfl
  have e493 := Line.tbinary line_n19 V 493 rfl rfl
  have e494 := Line.tbinary line_n19 V 494 rfl rfl
  have p12 := round_step rfl p11 e486 e487 e488 e489 e490 e491 e492 e493 e494
  have e495 := Line.tbinary line_n19 V 495 rfl rfl
  have e496 := Line.tnullary line_n19 V 496 rfl
  have e497 := Line.tunary line_n19 V 497 rfl rfl
  have e498 := Line.tbinary line_n19 V 498 rfl rfl
  have e499 := Line.tnullary line_n19 V 499 rfl
  have e500 := Line.tunary line_n19 V 500 rfl rfl
  have e501 := Line.tbinary line_n19 V 501 rfl rfl
  have e502 := Line.tbinary line_n19 V 502 rfl rfl
  have e503 := Line.tbinary line_n19 V 503 rfl rfl
  have p13 := round_step rfl p12 e495 e496 e497 e498 e499 e500 e501 e502 e503
  have e504 := Line.tbinary line_n19 V 504 rfl rfl
  have e505 := Line.tnullary line_n19 V 505 rfl
  have e506 := Line.tunary line_n19 V 506 rfl rfl
  have e507 := Line.tbinary line_n19 V 507 rfl rfl
  have e508 := Line.tnullary line_n19 V 508 rfl
  have e509 := Line.tunary line_n19 V 509 rfl rfl
  have e510 := Line.tbinary line_n19 V 510 rfl rfl
  have e511 := Line.tbinary line_n19 V 511 rfl rfl
  have e512 := Line.tbinary line_n19 V 512 rfl rfl
  have p14 := round_step rfl p13 e504 e505 e506 e507 e508 e509 e510 e511 e512
  have e513 := Line.tunary line_n19 V 513 rfl rfl
  have e514 := Line.tbinary line_n19 V 514 rfl rfl
  have e515 := Line.tunary line_n19 V 515 rfl rfl
  have e516 := Line.tbinary line_n19 V 516 rfl rfl
  have e517 := Line.tnullary line_n19 V 517 rfl
  have e518 := Line.tunary line_n19 V 518 rfl rfl
  have e519 := Line.tbinary line_n19 V 519 rfl rfl
  have p15 := inject_step p14 e513 e514 e515 e516 e517 e518 e519 hk0 hk1
  have e520 := Line.tbinary line_n19 V 520 rfl rfl
  have e521 := Line.tnullary line_n19 V 521 rfl
  have e522 := Line.tunary line_n19 V 522 rfl rfl
  have e523 := Line.tbinary line_n19 V 523 rfl rfl
  have e524 := Line.tnullary line_n19 V 524 rfl
  have e525 := Line.tunary line_n19 V 525 rfl rfl
  have e526 := Line.tbinary line_n19 V 526 rfl rfl
  have e527 := Line.tbinary line_n19 V 527 rfl rfl
  have e528 := Line.tbinary line_n19 V 528 rfl rfl
  have p16 := round_step rfl p15 e520 e521 e522 e523 e524 e525 e526 e527 e528
  have e529 := Line.tbinary line_n19 V 529 rfl rfl
  have e530 := Line.tnullary line_n19 V 530 rfl
  have e531 := Line.tunary line_n19 V 531 rfl rfl
  have e532 := Line.tbinary line_n19 V 532 rfl rfl
  have e533 := Line.tnullary line_n19 V 533 rfl
  have e534 := Line.tunary line_n19 V 534 rfl rfl
  have e535 := Line.tbinary line_n19 V 535 rfl rfl
  have e536 := Line.tbinary line_n19 V 536 rfl rfl
  have e537 := Line.tbinary line_n19 V 537 rfl rfl
  have p17 := round_step rfl p16 e529 e530 e531 e532 e533 e534 e535 e536 e537
  have e538 := Line.tbinary line_n19 V 538 rfl rfl
  have e539 := Line.tnullary line_n19 V 539 rfl
  have e540 := Line.tunary line_n19 V 540 rfl rfl
  have e541 := Line.tbinary line_n19 V 541 rfl rfl
  have e542 := Line.tnullary line_n19 V 542 rfl
  have e543 := Line.tunary line_n19 V 543 rfl rfl
  have e544 := Line.tbinary line_n19 V 544 rfl rfl
  have e545 := Line.tbinary line_n19 V 545 rfl rfl
  have e546 := Line.tbinary line_n19 V 546 rfl rfl
  have p18 := round_step rfl p17 e538 e539 e540 e541 e542 e543 e544 e545 e546
  have e547 := Line.tbinary line_n19 V 547 rfl rfl
  have e548 := Line.tnullary line_n19 V 548 rfl
  have e549 := Line.tunary line_n19 V 549 rfl rfl
  have e550 := Line.tbinary line_n19 V 550 rfl rfl
  have e551 := Line.tnullary line_n19 V 551 rfl
  have e552 := Line.tunary line_n19 V 552 rfl rfl
  have e553 := Line.tbinary line_n19 V 553 rfl rfl
  have e554 := Line.tbinary line_n19 V 554 rfl rfl
  have e555 := Line.tbinary line_n19 V 555 rfl rfl
  have p19 := round_step rfl p18 e547 e548 e549 e550 e551 e552 e553 e554 e555
  have e556 := Line.tunary line_n19 V 556 rfl rfl
  have e557 := Line.tbinary line_n19 V 557 rfl rfl
  have e558 := Line.tunary line_n19 V 558 rfl rfl
  have e559 := Line.tbinary line_n19 V 559 rfl rfl
  have e560 := Line.tnullary line_n19 V 560 rfl
  have e561 := Line.tunary line_n19 V 561 rfl rfl
  have e562 := Line.tbinary line_n19 V 562 rfl rfl
  have p20 := inject_step p19 e556 e557 e558 e559 e560 e561 e562 hk1 k2
  have e563 := Line.tbinary line_n19 V 563 rfl rfl
  have e564 := Line.tnullary line_n19 V 564 rfl
  have e565 := Line.tunary line_n19 V 565 rfl rfl
  have e566 := Line.tbinary line_n19 V 566 rfl rfl
  have e567 := Line.tnullary line_n19 V 567 rfl
  have e568 := Line.tunary line_n19 V 568 rfl rfl
  have e569 := Line.tbinary line_n19 V 569 rfl rfl
  have e570 := Line.tbinary line_n19 V 570 rfl rfl
  have e571 := Line.tbinary line_n19 V 571 rfl rfl
  have p21 := round_step rfl p20 e563 e564 e565 e566 e567 e568 e569 e570 e571
  have e572 := Line.tbinary line_n19 V 572 rfl rfl
  have e573 := Line.tnullary line_n19 V 573 rfl
  have e574 := Line.tunary line_n19 V 574 rfl rfl
  have e575 := Line.tbinary line_n19 V 575 rfl rfl
  have e576 := Line.tnullary line_n19 V 576 rfl
  have e577 := Line.tunary line_n19 V 577 rfl rfl
  have e578 := Line.tbinary line_n19 V 578 rfl rfl
  have e579 := Line.tbinary line_n19 V 579 rfl rfl
  have e580 := Line.tbinary line_n19 V 580 rfl rfl
  have p22 := round_step rfl p21 e572 e573 e574 e575 e576 e577 e578 e579 e580
  have e581 := Line.tbinary line_n19 V 581 rfl rfl
  have e582 := Line.tnullary line_n19 V 582 rfl
  have e583 := Line.tunary line_n19 V 583 rfl rfl
  have e584 := Line.tbinary line_n19 V 584 rfl rfl
  have e585 := Line.tnullary line_n19 V 585 rfl
  have e586 := Line.tunary line_n19 V 586 rfl rfl
  have e587 := Line.tbinary line_n19 V 587 rfl rfl
  have e588 := Line.tbinary line_n19 V 588 rfl rfl
  have e589 := Line.tbinary line_n19 V 589 rfl rfl
  have p23 := round_step rfl p22 e581 e582 e583 e584 e585 e586 e587 e588 e589
  have e590 := Line.tbinary line_n19 V 590 rfl rfl
  have e591 := Line.tnullary line_n19 V 591 rfl
  have e592 := Line.tunary line_n19 V 592 rfl rfl
  have e593 := Line.tbinary line_n19 V 593 rfl rfl
  have e594 := Line.tnullary line_n19 V 594 rfl
  have e595 := Line.tunary line_n19 V 595 rfl rfl
  have e596 := Line.tbinary line_n19 V 596 rfl rfl
  have e597 := Line.tbinary line_n19 V 597 rfl rfl
  have e598 := Line.tbinary line_n19 V 598 rfl rfl
  have p24 := round_step rfl p23 e590 e591 e592 e593 e594 e595 e596 e597 e598
  have e599 := Line.tunary line_n19 V 599 rfl rfl
  have e600 := Line.tbinary line_n19 V 600 rfl rfl
  have e601 := Line.tunary line_n19 V 601 rfl rfl
  have e602 := Line.tbinary line_n19 V 602 rfl rfl
  have e603 := Line.tnullary line_n19 V 603 rfl
  have e604 := Line.tunary line_n19 V 604 rfl rfl
  have e605 := Line.tbinary line_n19 V 605 rfl rfl
  have p25 := inject_step p24 e599 e600 e601 e602 e603 e604 e605 k2 hk0
  have e606 := Line.tbinary line_n19 V 606 rfl rfl
  exact fun j => word_step p25 e606 j rfl

end Cert.ReferenceIdeal.Words

end
-- ==== Proof.RefHost.lean ====
module

public import proofs.«01_k».proof.Proof.RefWords
public import proofs.«01_k».proof.Proof.SmallOps

/-! # The reference's mask and noise -/

set_option maxRecDepth 16384

@[expose] public section

noncomputable section

namespace Cert.ReferenceIdeal.Host

open Idealize.ShloMosaic Idealize.ShloMosaic.StableHlo Cert.Ssa Cert.Threefry
open Cert.ReferenceIdeal.Gen Cert.ReferenceIdeal.Lines Cert.ReferenceIdeal.Words

set_option maxHeartbeats 4000000 in
theorem mask (V : Valuation τ sig (Elt Ideal)) (j : S4x2048x8.Idx) :
    (after n19 V (Proc.devRef .tc main_v51) : S4x2048x8.Idx → BitVec 1) j
      = BitVec.ofBool (mbit (word 7#32 (BitVec.ofNat 32 ((j 2).val + 8 * (2048 * (j 0).val + (j 1).val))))) := by
  have e345 := Line.nullary line_n19 V 345 rfl
  have e346 := Line.nullary line_n19 V 346 rfl
  have e347 := Line.binary line_n19 V 347 rfl rfl
  have e348 := Line.unary line_n19 V 348 rfl rfl
  have e349 := Line.unary line_n19 V 349 rfl rfl
  have e350 := Line.nullary line_n19 V 350 rfl
  have e351 := Line.binary line_n19 V 351 rfl rfl
  have e352 := Line.unary line_n19 V 352 rfl rfl
  have e353 := Line.unary line_n19 V 353 rfl rfl
  have e354 := Line.binary line_n19 V 354 rfl rfl
  have e361 := Line.tunary line_n19 V 361 rfl rfl
  have e362 := Line.treshape line_n19 V 362 rfl rfl
  have e363 := Line.tunary line_n19 V 363 rfl rfl
  have e364 := Line.treshape line_n19 V 364 rfl rfl
  have hk := key_step e345 e346 e347 e348 e349 e350 e351 e352 e353 e354 e361 e362 e363 e364
  have e365 := Line.tnullary line_n19 V 365 rfl
  have e366 := Line.tnullary line_n19 V 366 rfl
  have e367 := Line.tnullary line_n19 V 367 rfl
  have e368 := Line.tnullary line_n19 V 368 rfl
  have e369 := Line.tunary line_n19 V 369 rfl rfl
  have e370 := Line.tbinary line_n19 V 370 rfl rfl
  have e371 := Line.tnullary line_n19 V 371 rfl
  have e372 := Line.tunary line_n19 V 372 rfl rfl
  have e373 := Line.tbinary line_n19 V 373 rfl rfl
  have e374 := Line.tnullary line_n19 V 374 rfl
  have e375 := Line.tunary line_n19 V 375 rfl rfl
  have e376 := Line.tbinary line_n19 V 376 rfl rfl
  have e377 := Line.tbinary line_n19 V 377 rfl rfl
  have e378 := Line.tbinary line_n19 V 378 rfl rfl
  have e379 := Line.tnullary line_n19 V 379 rfl
  have e380 := Line.tunary line_n19 V 380 rfl rfl
  have e381 := Line.tbinary line_n19 V 381 rfl rfl
  have e382 := Line.tunary line_n19 V 382 rfl rfl
  have e383 := Line.tunary line_n19 V 383 rfl rfl
  have hc := counter_mask e365 e366 e367 e368 e369 e370 e371 e372 e373 e374 e375 e376 e377 e378 e379 e380 e381 e382 e383
  have hw := mask_word V (fun i => (hk i).1) (fun i => (hk i).2) hc
  have e355 := Line.nullary line_n19 V 355 rfl
  have e356 := Line.nullary line_n19 V 356 rfl
  have e357 := Line.tunary line_n19 V 357 rfl rfl
  have e358 := Line.tunary line_n19 V 358 rfl rfl
  have e359 := Line.tunary line_n19 V 359 rfl rfl
  have e360 := Line.tunary line_n19 V 360 rfl rfl
  have e607 := Line.tnullary line_n19 V 607 rfl
  have e608 := Line.tunary line_n19 V 608 rfl rfl
  have e609 := Line.tbinary line_n19 V 609 rfl rfl
  have e610 := Line.tnullary line_n19 V 610 rfl
  have e611 := Line.tunary line_n19 V 611 rfl rfl
  have e612 := Line.tbinary line_n19 V 612 rfl rfl
  have e613 := Line.tunary line_n19 V 613 rfl rfl
  have e614 := Line.tnullary line_n19 V 614 rfl
  have e615 := Line.tunary line_n19 V 615 rfl rfl
  have e616 := Line.tbinary line_n19 V 616 rfl rfl
  have e617 := Line.tbinary line_n19 V 617 rfl rfl
  have e618 := Line.tunary line_n19 V 618 rfl rfl
  have e619 := Line.tbinary line_n19 V 619 rfl rfl
  have e620 := Line.tunary line_n19 V 620 rfl rfl
  have e621 := Line.tbinary line_n19 V 621 rfl rfl
  have e622 := Line.tunary line_n19 V 622 rfl rfl
  have e623 := Line.tbinary line_n19 V 623 rfl rfl
  have e624 := Line.nullary line_n19 V 624 rfl
  have e625 := Line.unary line_n19 V 625 rfl rfl
  have e626 := Line.binary line_n19 V 626 rfl rfl
  have hm := mask_step e355 e356 e357 e358 e359 e360 e607 e608 e609 e610 e611 e612 e613 e614 e615 e616 e617 e618 e619 e620 e621 e622 e623 e624 e625 e626 j
  exact hm.trans (congrArg (fun w => BitVec.ofBool (mbit w)) (hw j))

set_option maxHeartbeats 4000000 in
theorem noise (V : Valuation τ sig (Elt Ideal)) (j : S65536x1024.Idx) :
    (after n19 V (Proc.devRef .tc main_v36) : S65536x1024.Idx → EReal) j
      = gum (word 42#32 (BitVec.ofNat 32 (1024 * (j 0).val + (j 1).val))) := by
  have e55 := Line.nullary line_n19 V 55 rfl
  have e56 := Line.nullary line_n19 V 56 rfl
  have e57 := Line.binary line_n19 V 57 rfl rfl
  have e58 := Line.unary line_n19 V 58 rfl rfl
  have e59 := Line.unary line_n19 V 59 rfl rfl
  have e60 := Line.nullary line_n19 V 60 rfl
  have e61 := Line.binary line_n19 V 61 rfl rfl
  have e62 := Line.unary line_n19 V 62 rfl rfl
  have e63 := Line.unary line_n19 V 63 rfl rfl
  have e64 := Line.binary line_n19 V 64 rfl rfl
  have e74 := Line.tunary line_n19 V 74 rfl rfl
  have e75 := Line.treshape line_n19 V 75 rfl rfl
  have e76 := Line.tunary line_n19 V 76 rfl rfl
  have e77 := Line.treshape line_n19 V 77 rfl rfl
  have hk := key_step e55 e56 e57 e58 e59 e60 e61 e62 e63 e64 e74 e75 e76 e77
  have e78 := Line.tnullary line_n19 V 78 rfl
  have e79 := Line.tnullary line_n19 V 79 rfl
  have e80 := Line.tnullary line_n19 V 80 rfl
  have e81 := Line.tunary line_n19 V 81 rfl rfl
  have e82 := Line.tbinary line_n19 V 82 rfl rfl
  have e83 := Line.tnullary line_n19 V 83 rfl
  have e84 := Line.tunary line_n19 V 84 rfl rfl
  have e85 := Line.tbinary line_n19 V 85 rfl rfl
  have e86 := Line.tbinary line_n19 V 86 rfl rfl
  have e87 := Line.tnullary line_n19 V 87 rfl
  have e88 := Line.tunary line_n19 V 88 rfl rfl
  have e89 := Line.tbinary line_n19 V 89 rfl rfl
  have e90 := Line.tunary line_n19 V 90 rfl rfl
  have e91 := Line.tunary line_n19 V 91 rfl rfl
  have hc := counter_row e78 e79 e80 e81 e82 e83 e84 e85 e86 e87 e88 e89 e90 e91
  have hw := gumbel_word V (fun i => (hk i).1) (fun i => (hk i).2) hc
  have e69 := Line.nullary line_n19 V 69 rfl
  have e70 := Line.nullary line_n19 V 70 rfl
  have e71 := Line.tunary line_n19 V 71 rfl rfl
  have e72 := Line.tunary line_n19 V 72 rfl rfl
  have e73 := Line.tunary line_n19 V 73 rfl rfl
  have e315 := Line.tnullary line_n19 V 315 rfl
  have e316 := Line.tunary line_n19 V 316 rfl rfl
  have e317 := Line.tbinary line_n19 V 317 rfl rfl
  have e318 := Line.tnullary line_n19 V 318 rfl
  have e319 := Line.tunary line_n19 V 319 rfl rfl
  have e320 := Line.tbinary line_n19 V 320 rfl rfl
  have e321 := Line.tunary line_n19 V 321 rfl rfl
  have e322 := Line.tnullary line_n19 V 322 rfl
  have e323 := Line.tunary line_n19 V 323 rfl rfl
  have e324 := Line.tbinary line_n19 V 324 rfl rfl
  have e325 := Line.tbinary line_n19 V 325 rfl rfl
  have e326 := Line.tunary line_n19 V 326 rfl rfl
  have e327 := Line.tbinary line_n19 V 327 rfl rfl
  have e328 := Line.tunary line_n19 V 328 rfl rfl
  have e329 := Line.tbinary line_n19 V 329 rfl rfl
  have e330 := Line.tunary line_n19 V 330 rfl rfl
  have e331 := Line.tbinary line_n19 V 331 rfl rfl
  have e332 := Line.tunary line_n19 V 332 rfl rfl
  have e333 := Line.tunary line_n19 V 333 rfl rfl
  have e334 := Line.tunary line_n19 V 334 rfl rfl
  have e335 := Line.tunary line_n19 V 335 rfl rfl
  have hm := gum_step e69 e70 e71 e72 e73 e315 e316 e317 e318 e319 e320 e321 e322 e323 e324 e325 e326 e327 e328 e329 e330 e331 e332 e333 e334 e335 j
  exact hm.trans (congrArg gum (hw j))

end Cert.ReferenceIdeal.Host

end
-- ==== Proof.RefDist.lean ====
module

public import proofs.«01_k».proof.Proof.Spec
public import proofs.«01_k».proof.Proof.RefLines

/-! # The reference's distances, rows and samples -/

set_option maxRecDepth 16384

@[expose] public section

noncomputable section

namespace Cert.ReferenceIdeal.Dist

open Idealize.ShloMosaic Cert.Threefry Cert.Best Cert.Spec
open Cert.ReferenceIdeal.Gen

theorem dist {E P : FVec Ideal S8x1024x128 .f32} {z z0 two ninf ninf' : FVec Ideal S_ .f32} {Q : FVec Ideal S8x1024 .f32}
    {I A B C T TI D Z M R N NI L : FVec Ideal S8x1024x1024 .f32} {Qa : FVec Ideal S8x1024x1 .f32} {Qb : FVec Ideal S8x1x1024 .f32}
    {i0 i1 zb i2 : IVec S1024x1024 32} {z1 : IVec S_ 32} {q : IVec S1024x1024 1} {q1 : IVec S1x1024x1024 1} {q2 : IVec S8x1024x1024 1}
    (e2 : P = mulf E E) (e3 : z = constant S_ .f32 0x00000000#32)
    (e4 : Q = Host.reduceAdd P z reducesTo_S8x1024x128_S8x1024_d2 h_S_)
    (e5 : I = Host.dotGeneral dot_S8x1024x128_S8x1024x128_S8x1024x1024_2_2_1_1_0_0 none E E)
    (e6 : Qa = broadcastInDim S8x1024x1 ![0, 1] bcast_S8x1024_S8x1024x1_0_1 Q)
    (e7 : Qb = broadcastInDim S8x1x1024 ![0, 2] bcast_S8x1024_S8x1x1024_0_2 Q)
    (e8 : A = broadcastInDim S8x1024x1024 ![0, 1, 2] bcast_S8x1024x1_S8x1024x1024_0_1_2 Qa)
    (e9 : B = broadcastInDim S8x1024x1024 ![0, 1, 2] bcast_S8x1x1024_S8x1024x1024_0_1_2 Qb)
    (e10 : C = addf A B) (e11 : two = constant S_ .f32 0x40000000#32)
    (e12 : T = broadcastInDim S8x1024x1024 ![] bcast_S_S8x1024x1024 two) (e13 : TI = mulf T I) (e14 : D = subf C TI)
    (e15 : z0 = constant S_ .f32 0x00000000#32) (e16 : Z = broadcastInDim S8x1024x1024 ![] bcast_S_S8x1024x1024 z0)
    (e17 : M = maximumf D Z) (e18 : R = Host.sqrt M) (e19 : N = Host.negf R)
    (e20 : i0 = iotaInDim S1024x1024 32 0) (e21 : i1 = iotaInDim S1024x1024 32 1) (e22 : z1 = constantI S_ 32 0#32)
    (e23 : zb = broadcastInDim S1024x1024 ![] bcast_S_S1024x1024 z1) (e24 : i2 = addi i0 zb) (e25 : q = cmpi .eq i2 i1)
    (e26 : q1 = broadcastInDim S1x1024x1024 ![1, 2] bcast_S1024x1024_S1x1024x1024_1_2 q)
    (e27 : ninf = constant S_ .f32 0xFF800000#32) (e28 : ninf' = ninf)
    (e29 : q2 = broadcastInDim S8x1024x1024 ![0, 1, 2] bcast_S1x1024x1024_S8x1024x1024_0_1_2 q1)
    (e30 : NI = broadcastInDim S8x1024x1024 ![] bcast_S_S8x1024x1024 ninf') (e31 : L = select q2 NI N)
    (c : Fin 8) (w v : Fin 1024) : L (ix3 c w v) = logit E c w v := by
  subst e2 e3 e4 e5 e6 e7 e8 e9 e10 e11 e12 e13 e14 e15 e16 e17 e18 e19 e20 e21 e22 e23 e24 e25 e26 e27 e28 e29 e30 e31
  have hw := w.isLt
  have hv := v.isLt
  have hb : Ideal.ofBits .f32 4286578688#32 = ⊥ := by simp [Ideal.ofBits, Ideal.ieee]
  pointwise
  rw [hb]
  unfold logit
  by_cases h : w = v
  · subst h
    rw [if_pos rfl]
    simp [Scalar.select, IntOp.cmpi, IntOp.addi]
  · rw [if_neg h]
    have hne : ¬ BitVec.ofNat 32 w.val = BitVec.ofNat 32 v.val := fun g => h (Fin.ext (by
      have := congrArg BitVec.toNat g
      rw [BitVec.toNat_ofNat, BitVec.toNat_ofNat] at this
      omega))
    have hc : BitVec.ofBool (BitVec.ofNat 32 w.val == BitVec.ofNat 32 v.val) ≠ 1#1 := by
      rw [beq_eq_false_iff_ne.2 hne]; decide
    simp only [Scalar.select, IntOp.cmpi, IntOp.addi, BitVec.add_zero]
    exact if_neg hc

theorem small_nonneg {n : Nat} (h : n < 2 ^ 31) : IntOp.cmpi .slt (BitVec.ofNat 32 n) 0#32 = 0#1 := by
  have : (BitVec.ofNat 32 n).slt 0#32 = false := by
    rw [BitVec.slt_eq_decide, BitVec.toInt_eq_toNat_of_lt (by rw [BitVec.toNat_ofNat]; omega)]
    exact decide_eq_false (by simp; omega)
  simp [IntOp.cmpi, this]

/-- The gather of rows. -/
abbrev gd := gather_S8x1024x1024_S8x8192x1_S8x8192x1024_2_1_0_0_1_2_111024

theorem place {y : IVec S8x8192x1 32} {c : Fin 8} {n : Fin 8192} {w v : Fin 1024} (h : y (ix3 c n 0) = BitVec.ofNat 32 w.val)
    (hw : w.val < 1024) :
    GatherDims.operandIdx gather_S8x1024x1024_S8x8192x1_S8x8192x1024_2_1_0_0_1_2_111024 (ix3 c n v) y = ix3 c w v := by
  funext a
  refine Fin.ext ?_
  show GatherDims.start gd (ix3 c n v) y a + GatherDims.batchCoord gd (ix3 c n v) a + GatherDims.offCoord gd (ix3 c n v) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ GatherDims.operandBatchingDims gd from List.mem_singleton.mpr rfl)]
    simp only [Nat.zero_add, Nat.add_zero]
    rfl
  · rw [GatherDims.batchCoord_eq_zero _ _ _ (fun h => by simp [gather_S8x1024x1024_S8x8192x1_S8x8192x1024_2_1_0_0_1_2_111024] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gd from List.mem_singleton.mpr rfl)]
    have hsi : GatherDims.siIdx gd (ix3 c n v) ⟨List.idxOf (1 : Fin 3) (GatherDims.startIndexMap gd),
        List.idxOf_lt_length_iff.2 (List.mem_singleton.mpr rfl)⟩ = ix3 c n 0 := by
      funext b; refine Fin.ext ?_
      match b with
      | ⟨0, _⟩ => rfl
      | ⟨1, _⟩ => rfl
      | ⟨2, _⟩ => rfl
    refine (congrArg (fun i => min (y i).toInt.toNat (1024 - 1)) hsi).trans ?_
    show min (y (ix3 c n 0)).toInt.toNat (1024 - 1) = w.val
    rw [h, BitVec.toInt_eq_toNat_of_lt (by rw [BitVec.toNat_ofNat]; omega), BitVec.toNat_ofNat]
    omega
  · rw [GatherDims.batchCoord_eq_zero _ _ _ (fun h => by simp [gather_S8x1024x1024_S8x8192x1_S8x8192x1024_2_1_0_0_1_2_111024] at h)]
    unfold GatherDims.start GatherDims.offCoord
    rw [dif_neg (fun h => by simp [gather_S8x1024x1024_S8x8192x1_S8x8192x1024_2_1_0_0_1_2_111024] at h),
      dif_pos (by rw [GatherDims.mem_sKept]; simp [gather_S8x1024x1024_S8x8192x1_S8x8192x1024_2_1_0_0_1_2_111024])]
    simp only [Nat.zero_add, Nat.add_zero]
    rfl

theorem row {L : FVec Ideal S8x1024x1024 .f32} {t : IVec S8x8192 32} {x zb p y ub : IVec S8x8192x1 32} {zc c k0 : IVec S_ 32}
    {lb b0 : IVec S8x8192x1 32} {k1 : IVec S1 32} {k111 : IVec S1x1x1 32} {q ge le an : IVec S8x8192x1 1} {one : IVec S_ 1}
    {rd : IVec S8x8192 1} {G NF O : FVec Ideal S8x8192x1024 .f32} {rb : IVec S8x8192x1024 1} {nan : FVec Ideal S_ .f32}
    (e32 : x = broadcastInDim S8x8192x1 ![0, 1] bcast_S8x8192_S8x8192x1_0_1 t)
    (e33 : zc = constantI S_ 32 0#32) (e34 : zb = broadcastInDim S8x8192x1 ![] bcast_S_S8x8192x1 zc)
    (e35 : q = cmpi .slt x zb) (e36 : c = constantI S_ 32 1024#32) (e37 : b0 = broadcastInDim S8x8192x1 ![] bcast_S_S8x8192x1 c)
    (e38 : p = addi x b0) (e39 : y = select q p x) (e40 : k1 = constantI S1 32 1023#32) (e41 : k0 = constantI S_ 32 0#32)
    (e42 : lb = broadcastInDim S8x8192x1 ![] bcast_S_S8x8192x1 k0) (e43 : ge = cmpi .sge y lb)
    (e44 : k111 = broadcastInDim S1x1x1 ![2] bcast_S1_S1x1x1_2 k1)
    (e45 : ub = broadcastInDim S8x8192x1 ![0, 1, 2] bcast_S1x1x1_S8x8192x1_0_1_2 k111) (e46 : le = cmpi .sle y ub)
    (e47 : an = andi ge le) (e48 : one = constantI S_ 1 1#1)
    (e49 : rd = Host.reduce IntOp.andi an one reducesTo_S8x8192x1_S8x8192_d2 h_S_)
    (e50 : G = Host.gather gather_S8x1024x1024_S8x8192x1_S8x8192x1024_2_1_0_0_1_2_111024 L y)
    (e51 : rb = broadcastInDim S8x8192x1024 ![0, 1] bcast_S8x8192_S8x8192x1024_0_1 rd)
    (e52 : nan = constant S_ .f32 0x7FC00000#32) (e53 : NF = broadcastInDim S8x8192x1024 ![] bcast_S_S8x8192x1024 nan)
    (e54 : O = select rb G NF) (c : Fin 8) (n : Fin 8192) (w v : Fin 1024) (hT : t (ix2 c n) = BitVec.ofNat 32 w.val) :
    O (ix3 c n v) = L (ix3 c w v) := by
  have hw := w.isLt
  have hy : ∀ z : Fin 1, y (ix3 c n z) = BitVec.ofNat 32 w.val := fun z => by
    subst e32 e33 e34 e35 e36 e37 e38 e39
    pointwise
    rw [hT, small_nonneg (by omega)]
    simp [Scalar.select]
  have hr : rd (ix2 c n) = 1#1 := by
    subst e40 e41 e42 e43 e44 e45 e46 e47 e48 e49
    pointwise
    have hn : (BitVec.ofNat 32 w.val).toNat = w.val := by rw [BitVec.toNat_ofNat]; omega
    have ht : (BitVec.ofNat 32 w.val).toInt = w.val := by
      rw [BitVec.toInt_eq_toNat_of_lt (by omega), hn]
    have h0 : IntOp.cmpi .sge (BitVec.ofNat 32 w.val) 0#32 = 1#1 := by
      have : (0#32).sle (BitVec.ofNat 32 w.val) = true := by
        rw [BitVec.sle_eq_decide, ht]; exact decide_eq_true (by simp)
      simp [IntOp.cmpi, this]
    have h1 : IntOp.cmpi .sle (BitVec.ofNat 32 w.val) 1023#32 = 1#1 := by
      have : (BitVec.ofNat 32 w.val).sle 1023#32 = true := by
        rw [BitVec.sle_eq_decide, ht, show (1023#32).toInt = 1023 from rfl]; exact decide_eq_true (by omega)
      simp [IntOp.cmpi, this]
    simp only [hy, h0, h1]
    decide
  have hG : G (ix3 c n v) = L (ix3 c w v) := by
    subst e50
    unfold Host.gather
    exact congrArg L (place (hy 0) hw)
  subst e51 e54
  pointwise
  rw [hr, hG]
  simp [Scalar.select]

end Cert.ReferenceIdeal.Dist

end
-- ==== Proof.RefPick.lean ====
module

public import proofs.«01_k».proof.Proof.Best
public import proofs.«01_k».proof.Proof.RefLines
public import Idealize.ShloMosaic.PureOps.Ideal.Laws

/-! # The reference's pick of the greatest score -/

set_option maxRecDepth 16384

@[expose] public section

noncomputable section

namespace Cert.ReferenceIdeal.Pick

open Idealize.ShloMosaic Cert.Threefry Cert.Best
open Cert.ReferenceIdeal.Gen

theorem body_cases (a b : EReal × W) :
    (better a b ∧ reducer_argmax_f32_i32 (F := Ideal) a b = a) ∨ (¬ better a b ∧ reducer_argmax_f32_i32 (F := Ideal) a b = b) := by
  obtain ⟨x, i⟩ := a
  obtain ⟨y, k⟩ := b
  have hb : (reducer_argmax_f32_i32 (F := Ideal) (x, i) (y, k)) =
      (if y < x then x else y, if y < x ∨ (x = y ∧ i.toInt < k.toInt) then i else k) := by
    unfold reducer_argmax_f32_i32
    simp only [Ideal.cmpf_def, Ideal.cmp, IntOp.cmpi, BitVec.slt_eq_decide]
    by_cases h1 : y < x <;> by_cases h2 : x = y <;> by_cases h3 : i.toInt < k.toInt <;>
      simp [h1, h2, h3, Scalar.select, IntOp.ori, IntOp.andi]
  rw [hb]
  unfold better
  by_cases h : y < x ∨ (x = y ∧ i.toInt < k.toInt)
  · refine Or.inl ⟨h, ?_⟩
    rw [if_pos h]
    rcases h with h | ⟨h, -⟩
    · rw [if_pos h]
    · subst h; rw [if_neg (lt_irrefl _)]
  · refine Or.inr ⟨h, ?_⟩
    rw [if_neg h, if_neg (fun g => h (Or.inl g))]

theorem pick {X : FVec Ideal S65536x1024 .f32} {I : IVec S65536x1024 32} {u : FVec Ideal S_ .f32} {z : IVec S_ 32} {O : IVec S65536 32}
    (e1 : I = iotaInDim S65536x1024 32 1) (e2 : u = constant S_ .f32 0xFF800000#32) (e3 : z = constantI S_ 32 0#32)
    (e4 : O = fun j => (Host.argReduce reducer_argmax_f32_i32 X I u z reducesTo_S65536x1024_S65536_d1 h_S_ j).2)
    (r : Fin 65536) : IsBest (fun v => X (ix2 r v)) (O (ix1 r)) := by
  have hb : Ideal.ofBits .f32 4286578688#32 = ⊥ := by simp [Ideal.ofBits, Ideal.ieee]
  subst e1 e2 e3 e4
  show IsBest _ (Host.argReduce reducer_argmax_f32_i32 X _ _ _ reducesTo_S65536x1024_S65536_d1 h_S_ (ix1 r)).2
  rw [Ideal.argReduce_eq_reduce2, Host.reduce2_eq_foldl_fiber]
  have hi : ((constant S_ .f32 0xFF800000#32 : FVec Ideal S_ .f32) (Shape.Idx.first h_S_), constantI S_ 32 0#32 (Shape.Idx.first h_S_))
      = ((⊥ : EReal), 0#32) := Prod.ext hb rfl
  rw [hi]
  refine fold_best body_cases (fun p => ?_)
  simp only [Host.argReduceFiber, List.mem_map, List.mem_filter, List.mem_finRange, true_and, decide_eq_true_eq]
  constructor
  · rintro ⟨n, hn, rfl⟩
    generalize S65536x1024.rowMajor.symm n = i at hn ⊢
    have h0 : i 0 = r := congrFun hn 0
    refine ⟨i 1, Prod.ext ?_ rfl⟩
    show X i = X (ix2 r (i 1))
    congr 1
    funext a
    match a with
    | ⟨0, _⟩ => exact h0
    | ⟨1, _⟩ => rfl
  · rintro ⟨v, rfl⟩
    refine ⟨S65536x1024.rowMajor (ix2 r v), ?_, ?_⟩
    · rw [Equiv.symm_apply_apply]
      funext a
      match a with
      | ⟨0, _⟩ => rfl
    · rw [Equiv.symm_apply_apply]
      rfl

end Cert.ReferenceIdeal.Pick

end
-- ==== Proof.RefValue.lean ====
module

public import proofs.«01_k».proof.Proof.RefHost
public import proofs.«01_k».proof.Proof.RefDist
public import proofs.«01_k».proof.Proof.RefPick

/-! # The reference's result -/

set_option maxRecDepth 16384

@[expose] public section

noncomputable section

namespace Cert.ReferenceIdeal.Value

open Idealize.ShloMosaic Idealize.ShloMosaic.StableHlo Cert.Ssa Cert.Threefry
open Cert.Best Cert.ReferenceIdeal.Dist Cert.ReferenceIdeal.Pick Cert.ReferenceIdeal.Host Cert.Spec Cert.ReferenceIdeal.Gen Cert.ReferenceIdeal.Lines

theorem tokens {a : IVec S4x2048x8 32} {x : IVec S8192x8 32} {y : IVec S8x8192 32} (e0 : x = shapeCast S8192x8 a shapeCasts_S4x2048x8_S8192x8)
    (e1 : y = transpose S8x8192 [1, 0] x transposes_S8192x8_S8x8192_1_0) (b : Fin 4) (t : Fin 2048) (c : Fin 8) (n : Fin 8192)
    (hn : n.val = 2048 * b.val + t.val) : y (ix2 c n) = a (ix3 b t c) := by
  subst e0 e1
  have hb := b.isLt
  have ht := t.isLt
  have hc := c.isLt
  pointwise
  have h1 : (⟨n.val / 2048, by omega⟩ : Fin 4) = b := Fin.ext (by show n.val / 2048 = b.val; omega)
  have h2 : (⟨n.val % 2048, by omega⟩ : Fin 2048) = t := Fin.ext (by show n.val % 2048 = t.val; omega)
  rw [h1, h2]

theorem scores {R : FVec Ideal S8x8192x1024 .f32} {x o1 d G s : FVec Ideal S65536x1024 .f32} {o : FVec Ideal S_ .f32}
    (e65 : x = shapeCast S65536x1024 R shapeCasts_S8x8192x1024_S65536x1024) (e66 : o = constant S_ .f32 0x3F800000#32)
    (e67 : o1 = broadcastInDim S65536x1024 ![] bcast_S_S65536x1024 o) (e68 : d = Host.divf x o1) (e336 : s = addf G d)
    (c : Fin 8) (n : Fin 8192) (r : Fin 65536) (hr : r.val = 8192 * c.val + n.val) (v : Fin 1024) :
    s (ix2 r v) = G (ix2 r v) + R (ix3 c n v) := by
  subst e65 e66 e67 e68 e336
  have hb := n.isLt
  have ht := v.isLt
  have hc := c.isLt
  have h1 : (⟨r.val / 8192, by omega⟩ : Fin 8) = c := Fin.ext (by show r.val / 8192 = c.val; omega)
  have h2 : (⟨r.val % 8192, by omega⟩ : Fin 8192) = n := Fin.ext (by show r.val % 8192 = n.val; omega)
  have hd : ∀ x : EReal, Ideal.div x 1 = x := fun x => by
    unfold Ideal.div; rw [if_neg one_ne_zero]; simp
  pointwise
  rw [h1, h2, hd]

theorem samples {x : IVec S65536 32} {y : IVec S8x8192 32} {z : IVec S8192x8 32} {o : IVec S4x2048x8 32}
    (e342 : y = shapeCast S8x8192 x shapeCasts_S65536_S8x8192) (e343 : z = transpose S8192x8 [1, 0] y transposes_S8x8192_S8192x8_1_0)
    (e344 : o = shapeCast S4x2048x8 z shapeCasts_S8192x8_S4x2048x8) (b : Fin 4) (t : Fin 2048) (c : Fin 8) (r : Fin 65536)
    (hr : r.val = 8192 * c.val + (2048 * b.val + t.val)) : o (ix3 b t c) = x (ix1 r) := by
  subst e342 e343 e344
  have hb := b.isLt
  have ht := t.isLt
  have hc := c.isLt
  pointwise
  exact congrArg (fun r => x (ix1 r)) (Fin.ext (by show c.val * 8192 + (b.val * 2048 + t.val) = r.val; omega))

theorem assemble {E : FVec Ideal S8x1024x128 .f32} {L : FVec Ideal S8x1024x1024 .f32} {O : FVec Ideal S8x8192x1024 .f32}
    {G s : FVec Ideal S65536x1024 .f32} {A : IVec S65536 32} {o toks out : IVec S4x2048x8 32} {q : IVec S4x2048x8 1}
    (w : S4x2048x8.Idx → Fin 1024) (b : Fin 4) (t : Fin 2048) (c : Fin 8) (n : Fin 8192) (r : Fin 65536)
    (hn : n.val = 2048 * b.val + t.val) (hr : r.val = 8192 * c.val + n.val)
    (k2 : ∀ v, L (ix3 c (w (ix3 b t c)) v) = logit E c (w (ix3 b t c)) v)
    (k3 : ∀ v, O (ix3 c n v) = L (ix3 c (w (ix3 b t c)) v))
    (k4 : ∀ v, s (ix2 r v) = G (ix2 r v) + O (ix3 c n v))
    (hG : ∀ j : S65536x1024.Idx, G j = gum (word 42#32 (BitVec.ofNat 32 (1024 * (j 0).val + (j 1).val))))
    {I : IVec S65536x1024 32} {u : FVec Ideal S_ .f32} {z : IVec S_ 32}
    (e337 : I = iotaInDim S65536x1024 32 1) (e338 : u = constant S_ .f32 0xFF800000#32) (e339 : z = constantI S_ 32 0#32)
    (e341 : A = fun j => (Host.argReduce reducer_argmax_f32_i32 s I u z reducesTo_S65536x1024_S65536_d1 h_S_ j).2)
    (k6 : o (ix3 b t c) = A (ix1 r))
    (hq : ∀ j : S4x2048x8.Idx, q j = BitVec.ofBool (mbit (word 7#32 (BitVec.ofNat 32 ((j 2).val + 8 * (2048 * (j 0).val + (j 1).val))))))
    (hT : toks (ix3 b t c) = BitVec.ofNat 32 (w (ix3 b t c)).val) (e627 : out = select q o toks) :
    Res E c n (w (ix3 b t c)) (out (ix3 b t c)) := by
  have kf : (fun v => s (ix2 r v)) = score E c n (w (ix3 b t c)) := by
    funext v
    rw [k4 v, hG, k3 v, k2 v]
    show gum (word 42#32 (BitVec.ofNat 32 (1024 * r.val + v.val))) + _ = _
    rw [hr]
    rfl
  have k5 := pick e337 e338 e339 e341 r
  rw [kf] at k5
  refine Res.of_select (q := q (ix3 b t c)) (x := o (ix3 b t c)) ?_ (by rw [k6]; exact k5) hT (by rw [e627]; rfl)
  rw [hq, hit, hn]
  rfl

set_option maxHeartbeats 4000000 in
theorem value (V : Valuation τ sig (Elt Ideal)) (w : S4x2048x8.Idx → Fin 1024)
    (hT : ∀ j, (after n19 V (Proc.devRef .tc main_arg0) : S4x2048x8.Idx → W) j = BitVec.ofNat 32 (w j).val)
    (b : Fin 4) (t : Fin 2048) (c : Fin 8) (n : Fin 8192) (hn : n.val = 2048 * b.val + t.val) :
    Res (after n19 V (Proc.devRef .tc main_arg1) : S8x1024x128.Idx → EReal) c n (w (ix3 b t c))
      ((after n19 V (Proc.devRef .tc main_v52) : S4x2048x8.Idx → W) (ix3 b t c)) := by
  have e0 := Line.reshape line_n19 V 0 rfl rfl
  have e1 := Line.unary line_n19 V 1 rfl rfl
  have e2 := Line.binary line_n19 V 2 rfl rfl
  have e3 := Line.nullary line_n19 V 3 rfl
  have e4 := Line.binary line_n19 V 4 rfl rfl
  have e5 := Line.binary line_n19 V 5 rfl rfl
  have e6 := Line.unary line_n19 V 6 rfl rfl
  have e7 := Line.unary line_n19 V 7 rfl rfl
  have e8 := Line.unary line_n19 V 8 rfl rfl
  have e9 := Line.unary line_n19 V 9 rfl rfl
  have e10 := Line.binary line_n19 V 10 rfl rfl
  have e11 := Line.nullary line_n19 V 11 rfl
  have e12 := Line.unary line_n19 V 12 rfl rfl
  have e13 := Line.binary line_n19 V 13 rfl rfl
  have e14 := Line.binary line_n19 V 14 rfl rfl
  have e15 := Line.nullary line_n19 V 15 rfl
  have e16 := Line.unary line_n19 V 16 rfl rfl
  have e17 := Line.binary line_n19 V 17 rfl rfl
  have e18 := Line.unary line_n19 V 18 rfl rfl
  have e19 := Line.unary line_n19 V 19 rfl rfl
  have e20 := Line.nullary line_n19 V 20 rfl
  have e21 := Line.nullary line_n19 V 21 rfl
  have e22 := Line.nullary line_n19 V 22 rfl
  have e23 := Line.unary line_n19 V 23 rfl rfl
  have e24 := Line.binary line_n19 V 24 rfl rfl
  have e25 := Line.binary line_n19 V 25 rfl rfl
  have e26 := Line.unary line_n19 V 26 rfl rfl
  have e27 := Line.nullary line_n19 V 27 rfl
  have e28 := Line.tunary line_n19 V 28 rfl rfl
  have e29 := Line.tunary line_n19 V 29 rfl rfl
  have e30 := Line.tunary line_n19 V 30 rfl rfl
  have e31 := Line.tternary line_n19 V 31 rfl rfl
  have e32 := Line.unary line_n19 V 32 rfl rfl
  have e33 := Line.tnullary line_n19 V 33 rfl
  have e34 := Line.tunary line_n19 V 34 rfl rfl
  have e35 := Line.tbinary line_n19 V 35 rfl rfl
  have e36 := Line.tnullary line_n19 V 36 rfl
  have e37 := Line.tunary line_n19 V 37 rfl rfl
  have e38 := Line.tbinary line_n19 V 38 rfl rfl
  have e39 := Line.tternary line_n19 V 39 rfl rfl
  have e40 := Line.tnullary line_n19 V 40 rfl
  have e41 := Line.tnullary line_n19 V 41 rfl
  have e42 := Line.tunary line_n19 V 42 rfl rfl
  have e43 := Line.tbinary line_n19 V 43 rfl rfl
  have e44 := Line.tunary line_n19 V 44 rfl rfl
  have e45 := Line.tunary line_n19 V 45 rfl rfl
  have e46 := Line.tbinary line_n19 V 46 rfl rfl
  have e47 := Line.tbinary line_n19 V 47 rfl rfl
  have e48 := Line.tnullary line_n19 V 48 rfl
  have e49 := Line.tbinary line_n19 V 49 rfl rfl
  have e50 := Line.tbinary line_n19 V 50 rfl rfl
  have e51 := Line.tunary line_n19 V 51 rfl rfl
  have e52 := Line.tnullary line_n19 V 52 rfl
  have e53 := Line.tunary line_n19 V 53 rfl rfl
  have e54 := Line.tternary line_n19 V 54 rfl rfl
  have e65 := Line.reshape line_n19 V 65 rfl rfl
  have e66 := Line.nullary line_n19 V 66 rfl
  have e67 := Line.unary line_n19 V 67 rfl rfl
  have e68 := Line.binary line_n19 V 68 rfl rfl
  have e336 := Line.binary line_n19 V 336 rfl rfl
  have e337 := Line.tnullary line_n19 V 337 rfl
  have e338 := Line.tnullary line_n19 V 338 rfl
  have e339 := Line.tnullary line_n19 V 339 rfl
  have e340 := Line.tquaternary line_n19 V 340 rfl rfl
  have e341 := Line.tquaternary line_n19 V 341 rfl rfl
  have e342 := Line.reshape line_n19 V 342 rfl rfl
  have e343 := Line.unary line_n19 V 343 rfl rfl
  have e344 := Line.reshape line_n19 V 344 rfl rfl
  have e627 := Line.tternary line_n19 V 627 rfl rfl
  have k7 := mask V
  have k8 := Host.noise V
  generalize after n19 V = U at *
  have hb := b.isLt
  have ht := t.isLt
  have hc := c.isLt
  have hnn := n.isLt
  have k1 := tokens e0 e1 b t c n hn
  have k2 := fun v => dist e2 e3 e4 e5 e6 e7 e8 e9 e10 e11 e12 e13 e14 e15 e16 e17 e18 e19 e20 e21 e22 e23 e24 e25 e26 e27 e28 e29 e30 e31 c (w (ix3 b t c)) v
  have k3 := fun v => row e32 e33 e34 e35 e36 e37 e38 e39 e40 e41 e42 e43 e44 e45 e46 e47 e48 e49 e50 e51 e52 e53 e54 c n (w (ix3 b t c)) v (k1.trans (hT _))
  obtain ⟨r, hr⟩ : ∃ r : Fin 65536, r.val = 8192 * c.val + n.val := ⟨⟨8192 * c.val + n.val, by omega⟩, rfl⟩
  have k4 := fun v => scores e65 e66 e67 e68 e336 c n r hr v
  have k6 := samples e342 e343 e344 b t c r (by rw [hr, hn])
  exact assemble w b t c n r hn hr k2 k3 k4 k8 e337 e338 e339 e341 k6 k7 (hT _) e627

end Cert.ReferenceIdeal.Value

end
-- ==== Proof.IdealWords.lean ====
module

public import proofs.«01_k».proof.Proof.HashOps
public import proofs.«01_k».proof.Proof.IdealLines

/-! # The random words of the kernel's mask -/

set_option maxRecDepth 16384

@[expose] public section

noncomputable section

namespace Cert.KernelIdeal.Words

open Idealize.ShloMosaic Idealize.ShloMosaic.StableHlo Cert.Ssa Cert.Threefry Cert.KernelIdeal.Lines
open Cert.KernelIdeal.Gen Cert.KernelIdeal.Run

set_option maxHeartbeats 4000000 in
theorem mask_word (V : Valuation τ sig (Elt Ideal)) {k : W} {c : S4x2048x8.Idx → W}
    (hk0 : ∀ i, (val (after before.flatten V) (.of main_call0_v5 : StableHlo.TRef sig ⟨S_, .i32⟩) : S_.Idx → W) i = 0#32)
    (hk1 : ∀ i, (val (after before.flatten V) (.of main_call0_v7 : StableHlo.TRef sig ⟨S_, .i32⟩) : S_.Idx → W) i = k)
    (hP : ∀ j, ((val (after before.flatten V) (.of main_call0_v22 : StableHlo.TRef sig ⟨S4x2048x8, .i32⟩) : S4x2048x8.Idx → W) j,
      (val (after before.flatten V) (.of main_call0_v21 : StableHlo.TRef sig ⟨S4x2048x8, .i32⟩) : S4x2048x8.Idx → W) j) = (0#32, c j)) :
    ∀ j, (val (after before.flatten V) (.of main_call0_v24 : StableHlo.TRef sig ⟨S4x2048x8, .i32⟩) : S4x2048x8.Idx → W) j = word k (c j) := by
  have e45 := Line.tbinary line_before V 45 rfl rfl
  have e46 := Line.tnullary line_before V 46 rfl
  have e47 := Line.tbinary line_before V 47 rfl rfl
  have k2 := key2_step hk0 hk1 e45 e46 e47
  have e48 := Line.tunary line_before V 48 rfl rfl
  have e49 := Line.tbinary line_before V 49 rfl rfl
  have e50 := Line.tunary line_before V 50 rfl rfl
  have e51 := Line.tbinary line_before V 51 rfl rfl
  have p0 := first_step hP e48 e49 e50 e51 hk0 hk1
  have e52 := Line.tbinary line_before V 52 rfl rfl
  have e53 := Line.tnullary line_before V 53 rfl
  have e54 := Line.tunary line_before V 54 rfl rfl
  have e55 := Line.tbinary line_before V 55 rfl rfl
  have e56 := Line.tnullary line_before V 56 rfl
  have e57 := Line.tunary line_before V 57 rfl rfl
  have e58 := Line.tbinary line_before V 58 rfl rfl
  have e59 := Line.tbinary line_before V 59 rfl rfl
  have e60 := Line.tbinary line_before V 60 rfl rfl
  have p1 := round_step rfl p0 e52 e53 e54 e55 e56 e57 e58 e59 e60
  have e61 := Line.tbinary line_before V 61 rfl rfl
  have e62 := Line.tnullary line_before V 62 rfl
  have e63 := Line.tunary line_before V 63 rfl rfl
  have e64 := Line.tbinary line_before V 64 rfl rfl
  have e65 := Line.tnullary line_before V 65 rfl
  have e66 := Line.tunary line_before V 66 rfl rfl
  have e67 := Line.tbinary line_before V 67 rfl rfl
  have e68 := Line.tbinary line_before V 68 rfl rfl
  have e69 := Line.tbinary line_before V 69 rfl rfl
  have p2 := round_step rfl p1 e61 e62 e63 e64 e65 e66 e67 e68 e69
  have e70 := Line.tbinary line_before V 70 rfl rfl
  have e71 := Line.tnullary line_before V 71 rfl
  have e72 := Line.tunary line_before V 72 rfl rfl
  have e73 := Line.tbinary line_before V 73 rfl rfl
  have e74 := Line.tnullary line_before V 74 rfl
  have e75 := Line.tunary line_before V 75 rfl rfl
  have e76 := Line.tbinary line_before V 76 rfl rfl
  have e77 := Line.tbinary line_before V 77 rfl rfl
  have e78 := Line.tbinary line_before V 78 rfl rfl
  have p3 := round_step rfl p2 e70 e71 e72 e73 e74 e75 e76 e77 e78
  have e79 := Line.tbinary line_before V 79 rfl rfl
  have e80 := Line.tnullary line_before V 80 rfl
  have e81 := Line.tunary line_before V 81 rfl rfl
  have e82 := Line.tbinary line_before V 82 rfl rfl
  have e83 := Line.tnullary line_before V 83 rfl
  have e84 := Line.tunary line_before V 84 rfl rfl
  have e85 := Line.tbinary line_before V 85 rfl rfl
  have e86 := Line.tbinary line_before V 86 rfl rfl
  have e87 := Line.tbinary line_before V 87 rfl rfl
  have p4 := round_step rfl p3 e79 e80 e81 e82 e83 e84 e85 e86 e87
  have e88 := Line.tunary line_before V 88 rfl rfl
  have e89 := Line.tbinary line_before V 89 rfl rfl
  have e90 := Line.tunary line_before V 90 rfl rfl
  have e91 := Line.tbinary line_before V 91 rfl rfl
  have e92 := Line.tnullary line_before V 92 rfl
  have e93 := Line.tunary line_before V 93 rfl rfl
  have e94 := Line.tbinary line_before V 94 rfl rfl
  have p5 := inject_step p4 e88 e89 e90 e91 e92 e93 e94 hk1 k2
  have e95 := Line.tbinary line_before V 95 rfl rfl
  have e96 := Line.tnullary line_before V 96 rfl
  have e97 := Line.tunary line_before V 97 rfl rfl
  have e98 := Line.tbinary line_before V 98 rfl rfl
  have e99 := Line.tnullary line_before V 99 rfl
  have e100 := Line.tunary line_before V 100 rfl rfl
  have e101 := Line.tbinary line_before V 101 rfl rfl
  have e102 := Line.tbinary line_before V 102 rfl rfl
  have e103 := Line.tbinary line_before V 103 rfl rfl
  have p6 := round_step rfl p5 e95 e96 e97 e98 e99 e100 e101 e102 e103
  have e104 := Line.tbinary line_before V 104 rfl rfl
  have e105 := Line.tnullary line_before V 105 rfl
  have e106 := Line.tunary line_before V 106 rfl rfl
  have e107 := Line.tbinary line_before V 107 rfl rfl
  have e108 := Line.tnullary line_before V 108 rfl
  have e109 := Line.tunary line_before V 109 rfl rfl
  have e110 := Line.tbinary line_before V 110 rfl rfl
  have e111 := Line.tbinary line_before V 111 rfl rfl
  have e112 := Line.tbinary line_before V 112 rfl rfl
  have p7 := round_step rfl p6 e104 e105 e106 e107 e108 e109 e110 e111 e112
  have e113 := Line.tbinary line_before V 113 rfl rfl
  have e114 := Line.tnullary line_before V 114 rfl
  have e115 := Line.tunary line_before V 115 rfl rfl
  have e116 := Line.tbinary line_before V 116 rfl rfl
  have e117 := Line.tnullary line_before V 117 rfl
  have e118 := Line.tunary line_before V 118 rfl rfl
  have e119 := Line.tbinary line_before V 119 rfl rfl
  have e120 := Line.tbinary line_before V 120 rfl rfl
  have e121 := Line.tbinary line_before V 121 rfl rfl
  have p8 := round_step rfl p7 e113 e114 e115 e116 e117 e118 e119 e120 e121
  have e122 := Line.tbinary line_before V 122 rfl rfl
  have e123 := Line.tnullary line_before V 123 rfl
  have e124 := Line.tunary line_before V 124 rfl rfl
  have e125 := Line.tbinary line_before V 125 rfl rfl
  have e126 := Line.tnullary line_before V 126 rfl
  have e127 := Line.tunary line_before V 127 rfl rfl
  have e128 := Line.tbinary line_before V 128 rfl rfl
  have e129 := Line.tbinary line_before V 129 rfl rfl
  have e130 := Line.tbinary line_before V 130 rfl rfl
  have p9 := round_step rfl p8 e122 e123 e124 e125 e126 e127 e128 e129 e130
  have e131 := Line.tunary line_before V 131 rfl rfl
  have e132 := Line.tbinary line_before V 132 rfl rfl
  have e133 := Line.tunary line_before V 133 rfl rfl
  have e134 := Line.tbinary line_before V 134 rfl rfl
  have e135 := Line.tnullary line_before V 135 rfl
  have e136 := Line.tunary line_before V 136 rfl rfl
  have e137 := Line.tbinary line_before V 137 rfl rfl
  have p10 := inject_step p9 e131 e132 e133 e134 e135 e136 e137 k2 hk0
  have e138 := Line.tbinary line_before V 138 rfl rfl
  have e139 := Line.tnullary line_before V 139 rfl
  have e140 := Line.tunary line_before V 140 rfl rfl
  have e141 := Line.tbinary line_before V 141 rfl rfl
  have e142 := Line.tnullary line_before V 142 rfl
  have e143 := Line.tunary line_before V 143 rfl rfl
  have e144 := Line.tbinary line_before V 144 rfl rfl
  have e145 := Line.tbinary line_before V 145 rfl rfl
  have e146 := Line.tbinary line_before V 146 rfl rfl
  have p11 := round_step rfl p10 e138 e139 e140 e141 e142 e143 e144 e145 e146
  have e147 := Line.tbinary line_before V 147 rfl rfl
  have e148 := Line.tnullary line_before V 148 rfl
  have e149 := Line.tunary line_before V 149 rfl rfl
  have e150 := Line.tbinary line_before V 150 rfl rfl
  have e151 := Line.tnullary line_before V 151 rfl
  have e152 := Line.tunary line_before V 152 rfl rfl
  have e153 := Line.tbinary line_before V 153 rfl rfl
  have e154 := Line.tbinary line_before V 154 rfl rfl
  have e155 := Line.tbinary line_before V 155 rfl rfl
  have p12 := round_step rfl p11 e147 e148 e149 e150 e151 e152 e153 e154 e155
  have e156 := Line.tbinary line_before V 156 rfl rfl
  have e157 := Line.tnullary line_before V 157 rfl
  have e158 := Line.tunary line_before V 158 rfl rfl
  have e159 := Line.tbinary line_before V 159 rfl rfl
  have e160 := Line.tnullary line_before V 160 rfl
  have e161 := Line.tunary line_before V 161 rfl rfl
  have e162 := Line.tbinary line_before V 162 rfl rfl
  have e163 := Line.tbinary line_before V 163 rfl rfl
  have e164 := Line.tbinary line_before V 164 rfl rfl
  have p13 := round_step rfl p12 e156 e157 e158 e159 e160 e161 e162 e163 e164
  have e165 := Line.tbinary line_before V 165 rfl rfl
  have e166 := Line.tnullary line_before V 166 rfl
  have e167 := Line.tunary line_before V 167 rfl rfl
  have e168 := Line.tbinary line_before V 168 rfl rfl
  have e169 := Line.tnullary line_before V 169 rfl
  have e170 := Line.tunary line_before V 170 rfl rfl
  have e171 := Line.tbinary line_before V 171 rfl rfl
  have e172 := Line.tbinary line_before V 172 rfl rfl
  have e173 := Line.tbinary line_before V 173 rfl rfl
  have p14 := round_step rfl p13 e165 e166 e167 e168 e169 e170 e171 e172 e173
  have e174 := Line.tunary line_before V 174 rfl rfl
  have e175 := Line.tbinary line_before V 175 rfl rfl
  have e176 := Line.tunary line_before V 176 rfl rfl
  have e177 := Line.tbinary line_before V 177 rfl rfl
  have e178 := Line.tnullary line_before V 178 rfl
  have e179 := Line.tunary line_before V 179 rfl rfl
  have e180 := Line.tbinary line_before V 180 rfl rfl
  have p15 := inject_step p14 e174 e175 e176 e177 e178 e179 e180 hk0 hk1
  have e181 := Line.tbinary line_before V 181 rfl rfl
  have e182 := Line.tnullary line_before V 182 rfl
  have e183 := Line.tunary line_before V 183 rfl rfl
  have e184 := Line.tbinary line_before V 184 rfl rfl
  have e185 := Line.tnullary line_before V 185 rfl
  have e186 := Line.tunary line_before V 186 rfl rfl
  have e187 := Line.tbinary line_before V 187 rfl rfl
  have e188 := Line.tbinary line_before V 188 rfl rfl
  have e189 := Line.tbinary line_before V 189 rfl rfl
  have p16 := round_step rfl p15 e181 e182 e183 e184 e185 e186 e187 e188 e189
  have e190 := Line.tbinary line_before V 190 rfl rfl
  have e191 := Line.tnullary line_before V 191 rfl
  have e192 := Line.tunary line_before V 192 rfl rfl
  have e193 := Line.tbinary line_before V 193 rfl rfl
  have e194 := Line.tnullary line_before V 194 rfl
  have e195 := Line.tunary line_before V 195 rfl rfl
  have e196 := Line.tbinary line_before V 196 rfl rfl
  have e197 := Line.tbinary line_before V 197 rfl rfl
  have e198 := Line.tbinary line_before V 198 rfl rfl
  have p17 := round_step rfl p16 e190 e191 e192 e193 e194 e195 e196 e197 e198
  have e199 := Line.tbinary line_before V 199 rfl rfl
  have e200 := Line.tnullary line_before V 200 rfl
  have e201 := Line.tunary line_before V 201 rfl rfl
  have e202 := Line.tbinary line_before V 202 rfl rfl
  have e203 := Line.tnullary line_before V 203 rfl
  have e204 := Line.tunary line_before V 204 rfl rfl
  have e205 := Line.tbinary line_before V 205 rfl rfl
  have e206 := Line.tbinary line_before V 206 rfl rfl
  have e207 := Line.tbinary line_before V 207 rfl rfl
  have p18 := round_step rfl p17 e199 e200 e201 e202 e203 e204 e205 e206 e207
  have e208 := Line.tbinary line_before V 208 rfl rfl
  have e209 := Line.tnullary line_before V 209 rfl
  have e210 := Line.tunary line_before V 210 rfl rfl
  have e211 := Line.tbinary line_before V 211 rfl rfl
  have e212 := Line.tnullary line_before V 212 rfl
  have e213 := Line.tunary line_before V 213 rfl rfl
  have e214 := Line.tbinary line_before V 214 rfl rfl
  have e215 := Line.tbinary line_before V 215 rfl rfl
  have e216 := Line.tbinary line_before V 216 rfl rfl
  have p19 := round_step rfl p18 e208 e209 e210 e211 e212 e213 e214 e215 e216
  have e217 := Line.tunary line_before V 217 rfl rfl
  have e218 := Line.tbinary line_before V 218 rfl rfl
  have e219 := Line.tunary line_before V 219 rfl rfl
  have e220 := Line.tbinary line_before V 220 rfl rfl
  have e221 := Line.tnullary line_before V 221 rfl
  have e222 := Line.tunary line_before V 222 rfl rfl
  have e223 := Line.tbinary line_before V 223 rfl rfl
  have p20 := inject_step p19 e217 e218 e219 e220 e221 e222 e223 hk1 k2
  have e224 := Line.tbinary line_before V 224 rfl rfl
  have e225 := Line.tnullary line_before V 225 rfl
  have e226 := Line.tunary line_before V 226 rfl rfl
  have e227 := Line.tbinary line_before V 227 rfl rfl
  have e228 := Line.tnullary line_before V 228 rfl
  have e229 := Line.tunary line_before V 229 rfl rfl
  have e230 := Line.tbinary line_before V 230 rfl rfl
  have e231 := Line.tbinary line_before V 231 rfl rfl
  have e232 := Line.tbinary line_before V 232 rfl rfl
  have p21 := round_step rfl p20 e224 e225 e226 e227 e228 e229 e230 e231 e232
  have e233 := Line.tbinary line_before V 233 rfl rfl
  have e234 := Line.tnullary line_before V 234 rfl
  have e235 := Line.tunary line_before V 235 rfl rfl
  have e236 := Line.tbinary line_before V 236 rfl rfl
  have e237 := Line.tnullary line_before V 237 rfl
  have e238 := Line.tunary line_before V 238 rfl rfl
  have e239 := Line.tbinary line_before V 239 rfl rfl
  have e240 := Line.tbinary line_before V 240 rfl rfl
  have e241 := Line.tbinary line_before V 241 rfl rfl
  have p22 := round_step rfl p21 e233 e234 e235 e236 e237 e238 e239 e240 e241
  have e242 := Line.tbinary line_before V 242 rfl rfl
  have e243 := Line.tnullary line_before V 243 rfl
  have e244 := Line.tunary line_before V 244 rfl rfl
  have e245 := Line.tbinary line_before V 245 rfl rfl
  have e246 := Line.tnullary line_before V 246 rfl
  have e247 := Line.tunary line_before V 247 rfl rfl
  have e248 := Line.tbinary line_before V 248 rfl rfl
  have e249 := Line.tbinary line_before V 249 rfl rfl
  have e250 := Line.tbinary line_before V 250 rfl rfl
  have p23 := round_step rfl p22 e242 e243 e244 e245 e246 e247 e248 e249 e250
  have e251 := Line.tbinary line_before V 251 rfl rfl
  have e252 := Line.tnullary line_before V 252 rfl
  have e253 := Line.tunary line_before V 253 rfl rfl
  have e254 := Line.tbinary line_before V 254 rfl rfl
  have e255 := Line.tnullary line_before V 255 rfl
  have e256 := Line.tunary line_before V 256 rfl rfl
  have e257 := Line.tbinary line_before V 257 rfl rfl
  have e258 := Line.tbinary line_before V 258 rfl rfl
  have e259 := Line.tbinary line_before V 259 rfl rfl
  have p24 := round_step rfl p23 e251 e252 e253 e254 e255 e256 e257 e258 e259
  have e260 := Line.tunary line_before V 260 rfl rfl
  have e261 := Line.tbinary line_before V 261 rfl rfl
  have e262 := Line.tunary line_before V 262 rfl rfl
  have e263 := Line.tbinary line_before V 263 rfl rfl
  have e264 := Line.tnullary line_before V 264 rfl
  have e265 := Line.tunary line_before V 265 rfl rfl
  have e266 := Line.tbinary line_before V 266 rfl rfl
  have p25 := inject_step p24 e260 e261 e262 e263 e264 e265 e266 k2 hk0
  have e267 := Line.tbinary line_before V 267 rfl rfl
  exact fun j => word_step p25 e267 j rfl

end Cert.KernelIdeal.Words

end
-- ==== Proof.IdealHost.lean ====
module

public import proofs.«01_k».proof.Proof.IdealWords
public import proofs.«01_k».proof.Proof.SmallOps

/-! # The kernel's mask -/

set_option maxRecDepth 16384

@[expose] public section

noncomputable section

namespace Cert.KernelIdeal.Host

open Idealize.ShloMosaic Idealize.ShloMosaic.StableHlo Cert.Ssa Cert.Threefry
open Cert.KernelIdeal.Gen Cert.KernelIdeal.Run Cert.KernelIdeal.Lines Cert.KernelIdeal.Words

set_option maxHeartbeats 4000000 in
theorem mask (V : Valuation τ sig (Elt Ideal)) (j : S4x2048x8.Idx) :
    (after before.flatten V (Proc.devRef .tc main_v14) : S4x2048x8.Idx → BitVec 1) j
      = BitVec.ofBool (mbit (word 7#32 (BitVec.ofNat 32 ((j 2).val + 8 * (2048 * (j 0).val + (j 1).val))))) := by
  have e6 := Line.nullary line_before V 6 rfl
  have e7 := Line.nullary line_before V 7 rfl
  have e8 := Line.binary line_before V 8 rfl rfl
  have e9 := Line.unary line_before V 9 rfl rfl
  have e10 := Line.unary line_before V 10 rfl rfl
  have e11 := Line.nullary line_before V 11 rfl
  have e12 := Line.binary line_before V 12 rfl rfl
  have e13 := Line.unary line_before V 13 rfl rfl
  have e14 := Line.unary line_before V 14 rfl rfl
  have e15 := Line.binary line_before V 15 rfl rfl
  have e22 := Line.tunary line_before V 22 rfl rfl
  have e23 := Line.treshape line_before V 23 rfl rfl
  have e24 := Line.tunary line_before V 24 rfl rfl
  have e25 := Line.treshape line_before V 25 rfl rfl
  have hk := key_step e6 e7 e8 e9 e10 e11 e12 e13 e14 e15 e22 e23 e24 e25
  have e26 := Line.tnullary line_before V 26 rfl
  have e27 := Line.tnullary line_before V 27 rfl
  have e28 := Line.tnullary line_before V 28 rfl
  have e29 := Line.tnullary line_before V 29 rfl
  have e30 := Line.tunary line_before V 30 rfl rfl
  have e31 := Line.tbinary line_before V 31 rfl rfl
  have e32 := Line.tnullary line_before V 32 rfl
  have e33 := Line.tunary line_before V 33 rfl rfl
  have e34 := Line.tbinary line_before V 34 rfl rfl
  have e35 := Line.tnullary line_before V 35 rfl
  have e36 := Line.tunary line_before V 36 rfl rfl
  have e37 := Line.tbinary line_before V 37 rfl rfl
  have e38 := Line.tbinary line_before V 38 rfl rfl
  have e39 := Line.tbinary line_before V 39 rfl rfl
  have e40 := Line.tnullary line_before V 40 rfl
  have e41 := Line.tunary line_before V 41 rfl rfl
  have e42 := Line.tbinary line_before V 42 rfl rfl
  have e43 := Line.tunary line_before V 43 rfl rfl
  have e44 := Line.tunary line_before V 44 rfl rfl
  have hc := counter_mask e26 e27 e28 e29 e30 e31 e32 e33 e34 e35 e36 e37 e38 e39 e40 e41 e42 e43 e44
  have hw := mask_word V (fun i => (hk i).1) (fun i => (hk i).2) hc
  have e16 := Line.nullary line_before V 16 rfl
  have e17 := Line.nullary line_before V 17 rfl
  have e18 := Line.tunary line_before V 18 rfl rfl
  have e19 := Line.tunary line_before V 19 rfl rfl
  have e20 := Line.tunary line_before V 20 rfl rfl
  have e21 := Line.tunary line_before V 21 rfl rfl
  have e268 := Line.tnullary line_before V 268 rfl
  have e269 := Line.tunary line_before V 269 rfl rfl
  have e270 := Line.tbinary line_before V 270 rfl rfl
  have e271 := Line.tnullary line_before V 271 rfl
  have e272 := Line.tunary line_before V 272 rfl rfl
  have e273 := Line.tbinary line_before V 273 rfl rfl
  have e274 := Line.tunary line_before V 274 rfl rfl
  have e275 := Line.tnullary line_before V 275 rfl
  have e276 := Line.tunary line_before V 276 rfl rfl
  have e277 := Line.tbinary line_before V 277 rfl rfl
  have e278 := Line.tbinary line_before V 278 rfl rfl
  have e279 := Line.tunary line_before V 279 rfl rfl
  have e280 := Line.tbinary line_before V 280 rfl rfl
  have e281 := Line.tunary line_before V 281 rfl rfl
  have e282 := Line.tbinary line_before V 282 rfl rfl
  have e283 := Line.tunary line_before V 283 rfl rfl
  have e284 := Line.tbinary line_before V 284 rfl rfl
  have e285 := Line.nullary line_before V 285 rfl
  have e286 := Line.unary line_before V 286 rfl rfl
  have e287 := Line.binary line_before V 287 rfl rfl
  have hm := mask_step e16 e17 e18 e19 e20 e21 e268 e269 e270 e271 e272 e273 e274 e275 e276 e277 e278 e279 e280 e281 e282 e283 e284 e285 e286 e287 j
  exact hm.trans (congrArg (fun w => BitVec.ofBool (mbit w)) (hw j))

end Cert.KernelIdeal.Host

end
-- ==== Proof.IdealOrder.lean ====
module

public import proofs.«01_k».proof.Proof.Order
public import proofs.«01_k».proof.Proof.Spec
public import proofs.«01_k».proof.Proof.RefValue
public import proofs.«01_k».proof.Proof.IdealHost
public import Idealize.ShloMosaic.Lib.IndicatorCount

/-! # The positions the kernel picks -/

set_option maxRecDepth 16384

@[expose] public section

noncomputable section

namespace Cert.KernelIdeal.Pick

open Idealize.ShloMosaic Cert.Order Cert.KernelIdeal Cert.KernelIdeal.Gen

theorem keys {m : IVec S8x8192 1} {x17 x18 x19 x20 : IVec S8x8192 32} {z : IVec S_ 32} (e290 : x17 = iotaInDim S8x8192 32 1)
    (e291 : z = constantI S_ 32 8192#32) (e292 : x18 = broadcastInDim S8x8192 ![] bcast_S_S8x8192 z) (e293 : x19 = addi x17 x18)
    (e294 : x20 = select m x17 x19) (h : Fin 8 → Fin 8192 → Bool) (hm : ∀ c n, m (ix2 c n) = BitVec.ofBool (h c n)) (c : Fin 8) (n : Fin 8192) :
    x20 (ix2 c n) = key (h c) n := by
  subst e290 e291 e292 e293 e294
  pointwise
  rw [hm]
  unfold key
  cases q : h c n
  · rw [if_neg (by decide)]
    show BitVec.ofNat 32 n.val + 8192#32 = _
    rw [BitVec.ofNat_add]
  · rw [if_pos rfl]; rfl

theorem prefix_key {x20 x21 : IVec S8x8192 32} {x22 : IVec S8x2048 32} (e295 : x21 = Host.sort S8x8192 1 comparator_i32_d1 x20)
    (e296 : x22 = extractStridedSlice S8x2048 ![0, 0] x21 slices_S8x8192_S8x2048_0_0) (h : Fin 8 → Fin 8192 → Bool)
    (hk : ∀ c n, x20 (ix2 c n) = key (h c) n) (c : Fin 8) (j : Fin 2048) :
    x22 (ix2 c j) = key (h c) (ord (h c) ⟨j.val, by omega⟩) := by
  subst e295 e296
  pointwise
  have hs : ∀ n : Fin 8192, Host.sort S8x8192 1 comparator_i32_d1 x20 (ix2 c n)
      = x20 (ix2 c (sortedFrom (fun k k' => comparator_i32_d1 (x20 (ix2 c k)) (x20 (ix2 c k')) == 1#1) n)) := by
    intro n
    have ha : ∀ k : Fin 8192, Shape.Idx.along (s := S8x8192) (ix2 c n) 1 k = ix2 c k := by
      intro k
      funext a
      match a with
      | ⟨0, _⟩ => rfl
      | ⟨1, _⟩ => rfl
    unfold Host.sort
    rw [dif_pos (by decide)]
    exact (congrArg x20 (ha _)).trans (congrArg (fun B : Fin 8192 → Fin 8192 → Bool => x20 (ix2 c (sortedFrom B n)))
      (funext fun k => funext fun k' => congrArg₂ (fun a b => comparator_i32_d1 (x20 a) (x20 b) == 1#1) (ha k) (ha k')))
  rw [hs]
  simp only [hk]
  rfl

theorem total {m : IVec S8x8192 1} {x28 : IVec S8x8192 32} {z : IVec S_ 32} {x29 : IVec S8 32} (e325 : x28 = extui 32 m (by decide))
    (e326 : z = constantI S_ 32 0#32) (e327 : x29 = Host.reduce IntOp.addi x28 z reducesTo_S8x8192_S8_d1 h_S_)
    (h : Fin 8 → Fin 8192 → Bool) (hm : ∀ c n, m (ix2 c n) = BitVec.ofBool (h c n)) (c : Fin 8) :
    x29 (ix1 c) = BitVec.ofNat 32 (num (h c)) := by
  subst e325 e326 e327
  pointwise
  rw [IndicatorCount.fold_addi_setWidth_eq_card (fun x => m (ix2 c x))]
  unfold num
  congr 2
  ext n
  simp only [hm, Finset.mem_filter, Finset.mem_univ, true_and]
  cases h c n <;> decide

/-- The gather of the picked positions' tokens. -/
abbrev gk := gather_S8x8192_S8x2048x1_S8x2048_n_1_0_0_1_2_11

theorem place {y : IVec S8x2048x1 32} {c : Fin 8} {j : Fin 2048} {n : Fin 8192} (h : y (ix3 c j 0) = BitVec.ofNat 32 n.val)
    (hn : n.val < 8192) : GatherDims.operandIdx gk (ix2 c j) y = ix2 c n := by
  funext a
  refine Fin.ext ?_
  show GatherDims.start gk (ix2 c j) y a + GatherDims.batchCoord gk (ix2 c j) a + GatherDims.offCoord gk (ix2 c j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ GatherDims.operandBatchingDims gk from List.mem_singleton.mpr rfl)]
    simp only [Nat.zero_add, Nat.add_zero]
    rfl
  · rw [GatherDims.batchCoord_eq_zero _ _ _ (fun h => by simp [gather_S8x8192_S8x2048x1_S8x2048_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gk from List.mem_singleton.mpr rfl)]
    have hsi : GatherDims.siIdx gk (ix2 c j) ⟨List.idxOf (1 : Fin 2) (GatherDims.startIndexMap gk),
        List.idxOf_lt_length_iff.2 (List.mem_singleton.mpr rfl)⟩ = ix3 c j 0 := by
      funext b; refine Fin.ext ?_
      match b with
      | ⟨0, _⟩ => rfl
      | ⟨1, _⟩ => rfl
      | ⟨2, _⟩ => rfl
    refine (congrArg (fun i => min (y i).toInt.toNat (8192 - 1)) hsi).trans ?_
    show min (y (ix3 c j 0)).toInt.toNat (8192 - 1) = n.val
    rw [h, BitVec.toInt_eq_toNat_of_lt (by rw [BitVec.toNat_ofNat]; omega), BitVec.toNat_ofNat]
    omega

/-- The tokens of the picked positions. -/
theorem picked {x1 : IVec S8x8192 32} {x24 a2 b2 p x4 G NF O : IVec S8x2048 32} {zc c0 k0 nan : IVec S_ 32} {q rd : IVec S8x2048 1}
    {y lb ub : IVec S8x2048x1 32} {k1 : IVec S1 32} {k111 : IVec S1x1x1 32} {ge le an : IVec S8x2048x1 1} {one : IVec S_ 1}
    (e303 : zc = constantI S_ 32 0#32) (e304 : a2 = broadcastInDim S8x2048 ![] bcast_S_S8x2048 zc) (e305 : q = cmpi .slt x24 a2)
    (e306 : c0 = constantI S_ 32 8192#32) (e307 : b2 = broadcastInDim S8x2048 ![] bcast_S_S8x2048 c0) (e308 : p = addi x24 b2)
    (e309 : x4 = select q p x24) (e310 : y = shapeCast S8x2048x1 x4 shapeCasts_S8x2048_S8x2048x1)
    (e311 : k1 = constantI S1 32 8191#32) (e312 : k0 = constantI S_ 32 0#32) (e313 : lb = broadcastInDim S8x2048x1 ![] bcast_S_S8x2048x1 k0)
    (e314 : ge = cmpi .sge y lb) (e315 : k111 = broadcastInDim S1x1x1 ![2] bcast_S1_S1x1x1_2 k1)
    (e316 : ub = broadcastInDim S8x2048x1 ![0, 1, 2] bcast_S1x1x1_S8x2048x1_0_1_2 k111) (e317 : le = cmpi .sle y ub)
    (e318 : an = andi ge le) (e319 : one = constantI S_ 1 1#1)
    (e320 : rd = Host.reduce IntOp.andi an one reducesTo_S8x2048x1_S8x2048_d2 h_S_) (e321 : G = Host.gather gk x1 y)
    (e322 : nan = constantI S_ 32 2147483648#32) (e323 : NF = broadcastInDim S8x2048 ![] bcast_S_S8x2048 nan)
    (e324 : O = select rd G NF) (c : Fin 8) (j : Fin 2048) (n : Fin 8192) (hI : x24 (ix2 c j) = BitVec.ofNat 32 n.val) :
    O (ix2 c j) = x1 (ix2 c n) := by
  have hw := n.isLt
  have hj := j.isLt
  have hc := c.isLt
  have hy : ∀ z : Fin 1, y (ix3 c j z) = BitVec.ofNat 32 n.val := fun z => by
    subst e303 e304 e305 e306 e307 e308 e309 e310
    have h3 : (shapeCast S8x2048x1 (select (cmpi .slt x24 (broadcastInDim S8x2048 ![] bcast_S_S8x2048 (constantI S_ 32 0#32)))
        (addi x24 (broadcastInDim S8x2048 ![] bcast_S_S8x2048 (constantI S_ 32 8192#32))) x24) shapeCasts_S8x2048_S8x2048x1) (ix3 c j z)
        = Scalar.select (IntOp.cmpi .slt (x24 (ix2 c j)) 0#32) (x24 (ix2 c j) + 8192#32) (x24 (ix2 c j)) := by
      pointwise
      rfl
    rw [h3, hI, Cert.ReferenceIdeal.Dist.small_nonneg (by omega)]
    simp [Scalar.select]
  have hr : rd (ix2 c j) = 1#1 := by
    subst e311 e312 e313 e314 e315 e316 e317 e318 e319 e320
    pointwise
    have hn : (BitVec.ofNat 32 n.val).toNat = n.val := by rw [BitVec.toNat_ofNat]; omega
    have ht : (BitVec.ofNat 32 n.val).toInt = n.val := by
      rw [BitVec.toInt_eq_toNat_of_lt (by omega), hn]
    have h0 : IntOp.cmpi .sge (BitVec.ofNat 32 n.val) 0#32 = 1#1 := by
      have : (0#32).sle (BitVec.ofNat 32 n.val) = true := by
        rw [BitVec.sle_eq_decide, ht]; exact decide_eq_true (by simp)
      simp [IntOp.cmpi, this]
    have h1 : IntOp.cmpi .sle (BitVec.ofNat 32 n.val) 8191#32 = 1#1 := by
      have : (BitVec.ofNat 32 n.val).sle 8191#32 = true := by
        rw [BitVec.sle_eq_decide, ht, show (8191#32).toInt = 8191 from rfl]; exact decide_eq_true (by omega)
      simp [IntOp.cmpi, this]
    simp only [hy, h0, h1]
    decide
  have hG : G (ix2 c j) = x1 (ix2 c n) := by
    subst e321
    unfold Host.gather
    exact congrArg x1 (place (hy 0) hw)
  subst e324
  pointwise
  rw [hr, hG]
  simp [Scalar.select]

end Cert.KernelIdeal.Pick

end
-- ==== Proof.Count.lean ====
module

public import proofs.«01_k».proof.Proof.Threefry
public import Mathlib.Algebra.Order.BigOperators.Group.Finset

/-! # How many random words are small

The words at the counters `0, …, 65535` under the key `(0, 7)`, those at the counters equal modulo 8 counted together: at most
2048 of each class of 8192 lie below `858993664` (the bound the draw `u < 0.2` amounts to). All the words are computed at once,
packed in one natural number. -/

@[expose] public section

namespace Cert.Threefry

def ones (N : Nat) : Nat := pack (fun _ => 1) N

theorem ones_testBit (N j : Nat) : (ones N).testBit j = (decide (j / 64 < N) && decide (j % 64 = 0)) := by
  rw [ones, pack_testBit fun _ _ => by norm_num]
  congr 1
  rcases h : j % 64 with _ | k
  · rfl
  · simp [Nat.testBit_succ]

theorem mask_eq (N : Nat) : mask N = ones N * (2 ^ 32 - 1) := by
  rw [ones, pack_mul]; exact pack_congr fun i _ => by norm_num

theorem packW_const (w : W) (N : Nat) : ones N * w.toNat = packW (fun _ => w) N := by
  rw [ones, pack_mul]; exact pack_congr fun i _ => by simp

theorem pack_zero (N : Nat) : pack (fun _ => 0) N = 0 := by
  induction N with
  | zero => rfl
  | succ N ih => rw [pack, ih]; simp

/-- The pair of packed words `P` holds the pairs `x`. -/
def Rel (N : Nat) (P : Nat × Nat) (x : Nat → W × W) : Prop := P.1 = packW (fun i => (x i).1) N ∧ P.2 = packW (fun i => (x i).2) N

def prnd (M r : Nat) (P : Nat × Nat) : Nat × Nat :=
  ((P.1 + P.2) &&& M, ((P.2 <<< r ||| P.2 >>> (32 - r)) &&& M) ^^^ ((P.1 + P.2) &&& M))

def pinj (M O a b : Nat) (P : Nat × Nat) : Nat × Nat := ((P.1 + O * a) &&& M, (P.2 + O * b) &&& M)

theorem Rel.rnd {N : Nat} {P : Nat × Nat} {x : Nat → W × W} (h : Rel N P x) {r : Nat} (hr : r ≤ 32) :
    Rel N (prnd (mask N) r P) (fun i => Threefry.rnd r (x i)) := by
  unfold Rel prnd Threefry.rnd
  rw [h.1, h.2, packW_add, packW_rot _ _ _ hr, packW_xor]
  exact ⟨rfl, rfl⟩

theorem Rel.inj {N : Nat} {P : Nat × Nat} {x : Nat → W × W} (h : Rel N P x) (a b : W) :
    Rel N (pinj (mask N) (ones N) a.toNat b.toNat P) (fun i => Threefry.inj a b (x i)) := by
  unfold Rel pinj Threefry.inj
  rw [h.1, h.2, packW_const, packW_const, packW_add, packW_add]
  exact ⟨rfl, rfl⟩

def pfour (M r s t u : Nat) (P : Nat × Nat) : Nat × Nat := prnd M u (prnd M t (prnd M s (prnd M r P)))

theorem Rel.four {N : Nat} {P : Nat × Nat} {x : Nat → W × W} (h : Rel N P x) {r s t u : Nat} (hr : r ≤ 32) (hs : s ≤ 32)
    (ht : t ≤ 32) (hu : u ≤ 32) : Rel N (pfour (mask N) r s t u P) (fun i => Threefry.four r s t u (x i)) :=
  (((h.rnd hr).rnd hs).rnd ht).rnd hu

/-- The hash of all of them. -/
def ptf (M O : Nat) (k0 k1 : W) (P : Nat × Nat) : Nat × Nat :=
  pinj M O (key2 k0 k1).toNat (k0 + 5#32).toNat (pfour M 13 15 26 6 (pinj M O k1.toNat (key2 k0 k1 + 4#32).toNat
    (pfour M 17 29 16 24 (pinj M O k0.toNat (k1 + 3#32).toNat (pfour M 13 15 26 6 (pinj M O (key2 k0 k1).toNat (k0 + 2#32).toNat
      (pfour M 17 29 16 24 (pinj M O k1.toNat (key2 k0 k1 + 1#32).toNat (pfour M 13 15 26 6 (pinj M O k0.toNat k1.toNat P))))))))))

theorem Rel.tf {N : Nat} {P : Nat × Nat} {x : Nat → W × W} (h : Rel N P x) (k0 k1 : W) :
    Rel N (ptf (mask N) (ones N) k0 k1 P) (fun i => Threefry.tf k0 k1 (x i).1 (x i).2) := by
  have e : ∀ {P x}, Rel N P x → Rel N (pfour (mask N) 13 15 26 6 P) (fun i => Threefry.even (x i)) :=
    fun h => h.four (by norm_num) (by norm_num) (by norm_num) (by norm_num)
  have o : ∀ {P x}, Rel N P x → Rel N (pfour (mask N) 17 29 16 24 P) (fun i => Threefry.odd (x i)) :=
    fun h => h.four (by norm_num) (by norm_num) (by norm_num) (by norm_num)
  exact (e ((o ((e ((o ((e (h.inj _ _)).inj _ _)).inj _ _)).inj _ _)).inj _ _)).inj _ _

/-! ## The packed counters, by doubling -/

/-- `(ones, counters)` for `2 ^ k` places. -/
def base : Nat → Nat × Nat
  | 0 => (1, 0)
  | k + 1 => ((base k).1 + (base k).1 <<< (64 * 2 ^ k), (base k).2 + ((base k).2 + (base k).1 * 2 ^ k) <<< (64 * 2 ^ k))

theorem base_eq (k : Nat) : base k = (ones (2 ^ k), pack (fun i => i) (2 ^ k)) := by
  induction k with
  | zero => rfl
  | succ k ih =>
    have h2 : 2 ^ (k + 1) = 2 ^ k + 2 ^ k := by ring
    rw [base, ih, h2, ones, ones, pack_append, pack_append, pack_mul, pack_add, Nat.shiftLeft_eq, Nat.shiftLeft_eq]
    simp only [Nat.one_mul, Nat.mul_comm (2 ^ (64 * 2 ^ k))]

theorem packW_count {k : Nat} (hk : k ≤ 32) : packW (fun i => BitVec.ofNat 32 i) (2 ^ k) = (base k).2 := by
  rw [base_eq]
  refine pack_congr fun i hi => ?_
  rw [BitVec.toNat_ofNat, Nat.mod_eq_of_lt (lt_of_lt_of_le hi (Nat.pow_le_pow_right (by norm_num) hk))]

/-! ## Counting -/

theorem pack_top {f : Nat → Nat} {N : Nat} (h : ∀ i < N, f i < 2 ^ 33) :
    (pack f N >>> 32) &&& ones N = pack (fun i => f i / 2 ^ 32) N := by
  have h64 : ∀ i < N, f i < 2 ^ 64 := fun i hi => lt_trans (h i hi) (by norm_num)
  apply Nat.eq_of_testBit_eq; intro j
  rw [Nat.testBit_and, Nat.testBit_shiftRight, ones_testBit, pack_testBit h64, pack_testBit fun i hi => ?_]
  · by_cases hN : j / 64 < N
    · by_cases hp : j % 64 = 0
      · have e1 : (32 + j) / 64 = j / 64 := by omega
        have e2 : (32 + j) % 64 = 32 := by omega
        rw [e1, e2, hp, Nat.testBit_div_two_pow]
        simp [hN]
      · have : (f (j / 64) / 2 ^ 32).testBit (j % 64) = false := by
          refine Nat.testBit_lt_two_pow (lt_of_lt_of_le (b := 2 ^ 1) ?_ (Nat.pow_le_pow_right (by norm_num) (by omega)))
          have := h _ hN
          omega
        rw [this]; simp [hp]
    · simp [hN]
  · exact lt_of_le_of_lt (Nat.div_le_self _ _) (h64 i hi)

/-- Halving: the upper half added to the lower. -/
def fold (X h : Nat) : Nat := X % 2 ^ (64 * h) + X >>> (64 * h)

theorem fold_eq {f : Nat → Nat} {h : Nat} (hf : ∀ i < h + h, f i < 2 ^ 64) :
    fold (pack f (h + h)) h = pack (fun i => f i + f (i + h)) h := by
  have hl := pack_lt (f := f) (N := h) fun i hi => hf i (by omega)
  rw [fold, pack_append, Nat.shiftRight_eq_div_pow, Nat.add_mul_mod_self_left, Nat.mod_eq_of_lt hl,
    Nat.add_mul_div_left _ _ (Nat.two_pow_pos _), Nat.div_eq_of_lt hl, Nat.zero_add, pack_add]

def folds (X : Nat) : Nat → Nat
  | 0 => X
  | k + 1 => folds (fold X (8 * 2 ^ k)) k

theorem folds_eq (k : Nat) : ∀ {f : Nat → Nat} {B : Nat}, (∀ i, f i ≤ B) → B * 2 ^ k < 2 ^ 64 →
    folds (pack f (8 * 2 ^ k)) k = pack (fun i => ∑ n ∈ Finset.range (2 ^ k), f (i + 8 * n)) 8 := by
  induction k with
  | zero => intro f B _ _; simp [folds]
  | succ k ih =>
    intro f B hB hb
    have h2 : 8 * 2 ^ (k + 1) = 8 * 2 ^ k + 8 * 2 ^ k := by ring
    have hp : 1 ≤ 2 ^ (k + 1) := Nat.one_le_two_pow
    rw [folds, h2, fold_eq fun i _ => lt_of_le_of_lt ((hB i).trans (Nat.le_mul_of_pos_right _ hp)) hb,
      ih (B := B + B) (fun i => Nat.add_le_add (hB _) (hB _)) (by rw [pow_succ] at hb; calc (B + B) * 2 ^ k = B * (2 ^ k * 2) := by ring
        _ < _ := hb)]
    refine pack_congr fun i _ => ?_
    rw [Finset.sum_add_distrib, show 2 ^ (k + 1) = 2 ^ k + 2 ^ k by ring, Finset.sum_range_add]
    congr 1
    exact Finset.sum_congr rfl fun n _ => by congr 1; ring

/-- The bound on the words. -/
def bound : Nat := 858993664

/-- The numbers of words not below the bound, of the eight classes. -/
def large (k : Nat) : Nat :=
  folds ((((ptf ((base (k + 3)).1 * (2 ^ 32 - 1)) (base (k + 3)).1 0#32 7#32 (0, (base (k + 3)).2)).1
      ^^^ (ptf ((base (k + 3)).1 * (2 ^ 32 - 1)) (base (k + 3)).1 0#32 7#32 (0, (base (k + 3)).2)).2)
    + (base (k + 3)).1 * (2 ^ 32 - bound)) >>> 32 &&& (base (k + 3)).1) k

theorem large_eq (k : Nat) (hk : k + 3 ≤ 32) : large k
    = pack (fun i => ∑ n ∈ Finset.range (2 ^ k), ((word 7#32 (BitVec.ofNat 32 (i + 8 * n))).toNat + (2 ^ 32 - bound)) / 2 ^ 32) 8 := by
  have h := Rel.tf (N := 2 ^ (k + 3)) (P := (0, (base (k + 3)).2)) (x := fun i => (0#32, BitVec.ofNat 32 i))
    ⟨(by simp [packW, pack_zero]), (packW_count hk).symm⟩ 0#32 7#32
  have hb : bound ≤ 2 ^ 32 := by norm_num [bound]
  have h8 : 2 ^ (k + 3) = 8 * 2 ^ k := by ring
  have h33 : ∀ w : W, w.toNat + (2 ^ 32 - bound) < 2 ^ 33 := fun w => by have := w.isLt; omega
  rw [large, show (base (k + 3)).1 = ones (2 ^ (k + 3)) by rw [base_eq], ← mask_eq, h.1, h.2, packW_xor, packW, ones, pack_mul,
    pack_add, ← ones, h8]
  simp only [Nat.one_mul]
  change folds ((pack (fun i => (word 7#32 (BitVec.ofNat 32 i)).toNat + (2 ^ 32 - bound)) (8 * 2 ^ k)) >>> 32
    &&& ones (8 * 2 ^ k)) k = _
  rw [pack_top fun i _ => h33 _]
  have hle : ∀ i, ((word 7#32 (BitVec.ofNat 32 i)).toNat + (2 ^ 32 - bound)) / 2 ^ 32 ≤ 1 := fun i => by
    have := h33 (word 7#32 (BitVec.ofNat 32 i))
    omega
  rw [folds_eq k hle (by rw [Nat.one_mul]; exact Nat.pow_lt_pow_right (by norm_num) (by omega))]

def enough (X : Nat) : Bool :=
  (List.range 8).all fun i => Nat.ble 6144 (X >>> (64 * i) % 2 ^ 64)

theorem large_enough : enough (large 13) = true := by decide +kernel

theorem pack_at {f : Nat → Nat} {N i : Nat} (hf : ∀ i < N, f i < 2 ^ 64) (hi : i < N) : pack f N >>> (64 * i) % 2 ^ 64 = f i := by
  apply Nat.eq_of_testBit_eq; intro j
  rw [Nat.testBit_mod_two_pow, Nat.testBit_shiftRight, pack_testBit hf]
  by_cases hj : j < 64
  · have e1 : (64 * i + j) / 64 = i := by omega
    have e2 : (64 * i + j) % 64 = j := by omega
    simp [e1, e2, hi, hj]
  · rw [Nat.testBit_lt_two_pow (lt_of_lt_of_le (hf i hi) (Nat.pow_le_pow_right (by norm_num) (by omega)))]
    simp [hj]

/-- At most 2048 of a class's words are below the bound. -/
theorem few {c : Nat} (hc : c < 8) :
    ((Finset.range 8192).filter fun n => (word 7#32 (BitVec.ofNat 32 (c + 8 * n))).toNat < bound).card ≤ 2048 := by
  have h1 : ∀ n, ((word 7#32 (BitVec.ofNat 32 (c + 8 * n))).toNat + (2 ^ 32 - bound)) / 2 ^ 32
      = if (word 7#32 (BitVec.ofNat 32 (c + 8 * n))).toNat < bound then 0 else 1 := fun n => by
    have := (word 7#32 (BitVec.ofNat 32 (c + 8 * n))).isLt
    unfold bound
    split <;> omega
  have hl := large_enough
  rw [large_eq 13 (by norm_num)] at hl
  have hc' := List.all_eq_true.mp hl c (List.mem_range.mpr hc)
  have hs : ∀ i, ∑ n ∈ Finset.range (2 ^ 13), ((word 7#32 (BitVec.ofNat 32 (i + 8 * n))).toNat + (2 ^ 32 - bound)) / 2 ^ 32 < 2 ^ 64 :=
    fun i => by
      have hle : ∑ n ∈ Finset.range (2 ^ 13), ((word 7#32 (BitVec.ofNat 32 (i + 8 * n))).toNat + (2 ^ 32 - bound)) / 2 ^ 32
          ≤ ∑ _n ∈ Finset.range (2 ^ 13), 1 := Finset.sum_le_sum fun n _ => by
        have := (word 7#32 (BitVec.ofNat 32 (i + 8 * n))).isLt
        unfold bound
        omega
      refine lt_of_le_of_lt hle ?_
      rw [Finset.sum_const, Finset.card_range]
      norm_num
  rw [pack_at (fun i _ => hs i) hc] at hc'
  have hge := Nat.le_of_ble_eq_true hc'
  simp only [h1] at hge
  have hcard := Finset.card_filter_add_card_filter_not (s := Finset.range 8192)
    (fun n => (word 7#32 (BitVec.ofNat 32 (c + 8 * n))).toNat < bound)
  have h2 : ∑ n ∈ Finset.range (2 ^ 13), (if (word 7#32 (BitVec.ofNat 32 (c + 8 * n))).toNat < bound then 0 else 1)
      = ((Finset.range 8192).filter fun n => ¬ (word 7#32 (BitVec.ofNat 32 (c + 8 * n))).toNat < bound).card := by
    rw [Finset.card_filter]
    exact Finset.sum_congr (by norm_num) fun n _ => by split <;> rfl
  rw [h2] at hge
  rw [Finset.card_range] at hcard
  omega

end Cert.Threefry

end
-- ==== Proof.MaskBit.lean ====
module

public import proofs.«01_k».proof.Proof.SmallOps
public import proofs.«01_k».proof.Proof.Count

/-! # The mask's bit bounds its word -/

set_option maxRecDepth 16384

@[expose] public section

noncomputable section

namespace Cert.Threefry

open Idealize.ShloMosaic

theorem one_to_two (w : W) : Ideal.ofBits .f32 ((w >>> 9) ||| 1065353216#32)
    = (((2 ^ 23 + (w >>> 9).toNat : ℕ) : ℝ) * (2 : ℝ) ^ (-23 : ℤ) : ℝ) := by
  have e1 : ((w >>> 9) ||| 1065353216#32).extractLsb' 31 1 = 0#1 := by
    apply BitVec.eq_of_getLsbD_eq; intro i hi
    interval_cases i <;> simp [BitVec.getLsbD_extractLsb']
  have e2 : ((w >>> 9) ||| 1065353216#32).extractLsb' 23 8 = 127#8 := by
    apply BitVec.eq_of_getLsbD_eq; intro i hi
    interval_cases i <;> simp [BitVec.getLsbD_extractLsb']
  have e3 : (((w >>> 9) ||| 1065353216#32).extractLsb' 0 23) = (w >>> 9).setWidth 23 := by
    apply BitVec.eq_of_getLsbD_eq; intro i hi
    interval_cases i <;> simp [BitVec.getLsbD_extractLsb']
  have e4 : ((w >>> 9).setWidth 23).toNat = (w >>> 9).toNat := by
    have := w.isLt
    rw [BitVec.toNat_setWidth, BitVec.toNat_ushiftRight, Nat.shiftRight_eq_div_pow]
    omega
  simp only [Ideal.ofBits, Ideal.ieee, e1, e2, e3, e4]
  norm_num

theorem fifth : Ideal.ofBits .f32 1045220557#32 = ((13421773 : ℝ) * (2 : ℝ) ^ (-26 : ℤ) : ℝ) := by
  simp [Ideal.ofBits, Ideal.ieee, -EReal.coe_mul]

theorem mbit_small {w : W} (h : mbit w = true) : w.toNat < bound := by
  have h1 := of_decide_eq_true h
  have h2 : unit w < Ideal.ofBits .f32 1045220557#32 := lt_of_le_of_lt (le_max_right _ _) h1
  rw [unit, one_to_two, fifth, show (1 : EReal) = ((1 : ℝ) : EReal) from rfl, ← EReal.coe_sub, EReal.coe_lt_coe_iff] at h2
  have e : ((2 ^ 23 + (w >>> 9).toNat : ℕ) : ℝ) * (2 : ℝ) ^ (-23 : ℤ) - (1 : ℝ) = ((8 * (w >>> 9).toNat : ℕ) : ℝ) * (2 : ℝ) ^ (-26 : ℤ) := by
    push_cast; norm_num; ring
  rw [e] at h2
  have h3 : ((8 * (w >>> 9).toNat : ℕ) : ℝ) < ((13421773 : ℕ) : ℝ) := by
    have := lt_of_mul_lt_mul_right h2 (by positivity)
    exact_mod_cast this
  have h4 : 8 * (w >>> 9).toNat < 13421773 := by exact_mod_cast h3
  rw [BitVec.toNat_ushiftRight, Nat.shiftRight_eq_div_pow] at h4
  have := w.isLt
  show w.toNat < 858993664
  omega

end Cert.Threefry

end
-- ==== Proof.IdealFound.lean ====
module

public import proofs.«01_k».proof.Proof.IdealOrder
public import proofs.«01_k».proof.Proof.MaskBit

/-! # What the region finds -/

set_option maxRecDepth 16384

@[expose] public section

noncomputable section

namespace Cert.KernelIdeal.Found

open Idealize.ShloMosaic Idealize.ShloMosaic.StableHlo Cert.Ssa Cert.Threefry
open Cert.Order Cert.Spec Cert.KernelIdeal Cert.KernelIdeal.Gen Cert.KernelIdeal.Run Cert.KernelIdeal.Lines Cert.KernelIdeal.Pick

theorem masks {a : IVec S4x2048x8 1} {x : IVec S8192x8 1} {y : IVec S8x8192 1} (e0 : x = shapeCast S8192x8 a shapeCasts_S4x2048x8_S8192x8)
    (e1 : y = transpose S8x8192 [1, 0] x transposes_S8192x8_S8x8192_1_0)
    (hq : ∀ j : S4x2048x8.Idx, a j = BitVec.ofBool (mbit (word 7#32 (BitVec.ofNat 32 ((j 2).val + 8 * (2048 * (j 0).val + (j 1).val))))))
    (c : Fin 8) (n : Fin 8192) : y (ix2 c n) = BitVec.ofBool (hit c n) := by
  subst e0 e1
  have hb := n.isLt
  have hc := c.isLt
  pointwise
  rw [hq]
  unfold hit
  have h : ∀ q r : Nat, q = n.val / 2048 → r = n.val % 2048 → c.val + 8 * (2048 * q + r) = c.val + 8 * n.val := by
    rintro q r rfl rfl; omega
  exact congrArg (fun k => BitVec.ofBool (mbit (word 7#32 (BitVec.ofNat 32 k)))) (h _ _ rfl rfl)

theorem norms {E P : FVec Ideal S8x1024x128 .f32} {z : FVec Ideal S_ .f32} {x : FVec Ideal S8x1024 .f32} {y : FVec Ideal S8x1x1024 .f32}
    (e2 : P = mulf E E) (e3 : z = constant S_ .f32 0x0#32) (e4 : x = Host.reduceAdd P z reducesTo_S8x1024x128_S8x1024_d2 h_S_)
    (e5 : y = shapeCast S8x1x1024 x shapeCasts_S8x1024_S8x1x1024) (c : Fin 8) (v : Fin 1024) : y (ix3 c 0 v) = sq E c v := by
  subst e2 e3 e4 e5
  pointwise
  rfl

theorem places {x22 x23 x24 : IVec S8x2048 32} {z : IVec S_ 32} (e297 : z = constantI S_ 32 8191#32)
    (e298 : x23 = broadcastInDim S8x2048 ![] bcast_S_S8x2048 z) (e299 : x24 = andi x22 x23) (h : Fin 8 → Fin 8192 → Bool)
    (hk : ∀ c j, x22 (ix2 c j) = key (h c) (ord (h c) ⟨j.val, by omega⟩)) (c : Fin 8) (j : Fin 2048) :
    x24 (ix2 c j) = BitVec.ofNat 32 (ord (h c) ⟨j.val, by omega⟩).val := by
  subst e297 e298 e299
  pointwise
  rw [hk]
  exact key_and _ _

theorem valids {x22 x25 : IVec S8x2048 32} {z : IVec S_ 32} {x26 : IVec S8x2048 1} (e300 : z = constantI S_ 32 8192#32)
    (e301 : x25 = broadcastInDim S8x2048 ![] bcast_S_S8x2048 z) (e302 : x26 = cmpi .slt x22 x25) (h : Fin 8 → Fin 8192 → Bool)
    (hk : ∀ c j, x22 (ix2 c j) = key (h c) (ord (h c) ⟨j.val, by omega⟩)) (c : Fin 8) (j : Fin 2048) :
    x26 (ix2 c j) = BitVec.ofBool (h c (ord (h c) ⟨j.val, by omega⟩)) := by
  subst e300 e301 e302
  pointwise
  rw [hk]
  exact key_slt _ _

theorem tiles {x : IVec S8x2048 32} {y : IVec S64x1x256 32} (e : y = shapeCast S64x1x256 x shapeCasts_S8x2048_S64x1x256)
    (c : Fin 8) (j : Fin 2048) (q : Fin 64) (r : Fin 256) (hj : 2048 * c.val + j.val = 256 * q.val + r.val) :
    y (ix3 q 0 r) = x (ix2 c j) := by
  subst e
  have hq := q.isLt
  have hr := r.isLt
  have hc := c.isLt
  have hb := j.isLt
  pointwise
  have h1 : (⟨q.val / 8, by omega⟩ : Fin 8) = c := Fin.ext (by show q.val / 8 = c.val; omega)
  have h2 : (⟨q.val % 8 * 256 + r.val, by omega⟩ : Fin 2048) = j := Fin.ext (by show q.val % 8 * 256 + r.val = j.val; omega)
  rw [h1, h2]

/-- No codebook has more resampled positions than the kernel makes room for. -/
theorem num_le (c : Fin 8) : num (hit c) ≤ 2048 := by
  refine le_trans ?_ (Cert.Threefry.few c.isLt)
  unfold num
  refine Finset.card_le_card_of_injOn (fun n => n.val) ?_ (fun a _ b _ q => Fin.ext q)
  intro n hn
  have hn' : hit c n = true := by simpa using hn
  simp only [Finset.coe_filter, Finset.mem_range, Set.mem_setOf_eq]
  exact ⟨n.isLt, mbit_small hn'⟩

/-- What the buffers the region and the later lines read hold, `h` saying which positions are resampled. -/
structure Found (h : Fin 8 → Fin 8192 → Bool) (A : IVec S4x2048x8 32) (E : FVec Ideal S8x1024x128 .f32) (x1 : IVec S8x8192 32)
    (x4 : FVec Ideal S8x1x1024 .f32) (x24 : IVec S8x2048 32) (x26 : IVec S8x2048 1) (x29 : IVec S8 32) (x30 x31 : IVec S64x1x256 32) : Prop where
  toks : ∀ (b : Fin 4) (t : Fin 2048) (c : Fin 8) (n : Fin 8192), n.val = 2048 * b.val + t.val → x1 (ix2 c n) = A (ix3 b t c)
  sqs : ∀ (c : Fin 8) (v : Fin 1024), x4 (ix3 c 0 v) = sq E c v
  idx : ∀ (c : Fin 8) (j : Fin 2048), x24 (ix2 c j) = BitVec.ofNat 32 (ord (h c) ⟨j.val, by omega⟩).val
  valid : ∀ (c : Fin 8) (j : Fin 2048), x26 (ix2 c j) = BitVec.ofBool (h c (ord (h c) ⟨j.val, by omega⟩))
  count : ∀ c : Fin 8, x29 (ix1 c) = BitVec.ofNat 32 (num (h c))
  tile : ∀ (c : Fin 8) (j : Fin 2048) (q : Fin 64) (r : Fin 256), 2048 * c.val + j.val = 256 * q.val + r.val →
    x30 (ix3 q 0 r) = x1 (ix2 c (ord (h c) ⟨j.val, by omega⟩))
  tileIdx : ∀ (c : Fin 8) (j : Fin 2048) (q : Fin 64) (r : Fin 256), 2048 * c.val + j.val = 256 * q.val + r.val →
    x31 (ix3 q 0 r) = BitVec.ofNat 32 (ord (h c) ⟨j.val, by omega⟩).val

theorem found_of (h : Fin 8 → Fin 8192 → Bool) {A : IVec S4x2048x8 32} {x0 : IVec S8192x8 32} {x1 : IVec S8x8192 32}
    {E P : FVec Ideal S8x1024x128 .f32} {zf : FVec Ideal S_ .f32} {x3 : FVec Ideal S8x1024 .f32} {x4 : FVec Ideal S8x1x1024 .f32}
    {m : IVec S8x8192 1} {x17 x18 x19 x20 x21 x28 : IVec S8x8192 32} {z5 z6 z7 z8 zc c0 k0 nan : IVec S_ 32}
    {x22 x23 x24 x25 a2 b2 p c4 G NF x27 : IVec S8x2048 32} {x26 q rd : IVec S8x2048 1} {x29 : IVec S8 32} {x30 x31 : IVec S64x1x256 32}
    {y lb ub : IVec S8x2048x1 32} {k1 : IVec S1 32} {k111 : IVec S1x1x1 32} {ge le an : IVec S8x2048x1 1} {one : IVec S_ 1}
    (e0 : x0 = shapeCast S8192x8 A shapeCasts_S4x2048x8_S8192x8)
    (e1 : x1 = transpose S8x8192 [1, 0] x0 transposes_S8192x8_S8x8192_1_0) (e2 : P = mulf E E) (e3 : zf = constant S_ .f32 0x0#32)
    (e4 : x3 = Host.reduceAdd P zf reducesTo_S8x1024x128_S8x1024_d2 h_S_) (e5 : x4 = shapeCast S8x1x1024 x3 shapeCasts_S8x1024_S8x1x1024)
    (hm : ∀ c n, m (ix2 c n) = BitVec.ofBool (h c n))
    (e290 : x17 = iotaInDim S8x8192 32 1) (e291 : z5 = constantI S_ 32 8192#32)
    (e292 : x18 = broadcastInDim S8x8192 ![] bcast_S_S8x8192 z5) (e293 : x19 = addi x17 x18) (e294 : x20 = select m x17 x19)
    (e295 : x21 = Host.sort S8x8192 1 comparator_i32_d1 x20)
    (e296 : x22 = extractStridedSlice S8x2048 ![0, 0] x21 slices_S8x8192_S8x2048_0_0) (e297 : z6 = constantI S_ 32 8191#32)
    (e298 : x23 = broadcastInDim S8x2048 ![] bcast_S_S8x2048 z6) (e299 : x24 = andi x22 x23) (e300 : z7 = constantI S_ 32 8192#32)
    (e301 : x25 = broadcastInDim S8x2048 ![] bcast_S_S8x2048 z7) (e302 : x26 = cmpi .slt x22 x25)
    (e303 : zc = constantI S_ 32 0#32) (e304 : a2 = broadcastInDim S8x2048 ![] bcast_S_S8x2048 zc) (e305 : q = cmpi .slt x24 a2)
    (e306 : c0 = constantI S_ 32 8192#32) (e307 : b2 = broadcastInDim S8x2048 ![] bcast_S_S8x2048 c0) (e308 : p = addi x24 b2)
    (e309 : c4 = select q p x24) (e310 : y = shapeCast S8x2048x1 c4 shapeCasts_S8x2048_S8x2048x1)
    (e311 : k1 = constantI S1 32 8191#32) (e312 : k0 = constantI S_ 32 0#32) (e313 : lb = broadcastInDim S8x2048x1 ![] bcast_S_S8x2048x1 k0)
    (e314 : ge = cmpi .sge y lb) (e315 : k111 = broadcastInDim S1x1x1 ![2] bcast_S1_S1x1x1_2 k1)
    (e316 : ub = broadcastInDim S8x2048x1 ![0, 1, 2] bcast_S1x1x1_S8x2048x1_0_1_2 k111) (e317 : le = cmpi .sle y ub)
    (e318 : an = andi ge le) (e319 : one = constantI S_ 1 1#1)
    (e320 : rd = Host.reduce IntOp.andi an one reducesTo_S8x2048x1_S8x2048_d2 h_S_) (e321 : G = Host.gather gk x1 y)
    (e322 : nan = constantI S_ 32 2147483648#32) (e323 : NF = broadcastInDim S8x2048 ![] bcast_S_S8x2048 nan)
    (e324 : x27 = select rd G NF) (e325 : x28 = extui 32 m natLt_1_32) (e326 : z8 = constantI S_ 32 0#32)
    (e327 : x29 = Host.reduce IntOp.addi x28 z8 reducesTo_S8x8192_S8_d1 h_S_)
    (e328 : x30 = shapeCast S64x1x256 x27 shapeCasts_S8x2048_S64x1x256) (e329 : x31 = shapeCast S64x1x256 x24 shapeCasts_S8x2048_S64x1x256) :
    Found h A E x1 x4 x24 x26 x29 x30 x31 := by
  have h20 := keys e290 e291 e292 e293 e294 h hm
  have h22 := prefix_key e295 e296 h h20
  have h24 := places e297 e298 e299 h h22
  refine ⟨fun b t c n => Cert.ReferenceIdeal.Value.tokens e0 e1 b t c n, norms e2 e3 e4 e5, h24, valids e300 e301 e302 h h22,
    total e325 e326 e327 h hm, ?_, ?_⟩
  · intro c j q r hj
    rw [tiles e328 c j q r hj]
    exact picked e303 e304 e305 e306 e307 e308 e309 e310 e311 e312 e313 e314 e315 e316 e317 e318 e319 e320 e321 e322 e323 e324 c j _ (h24 c j)
  · intro c j q r hj
    rw [tiles e329 c j q r hj]
    exact h24 c j

set_option maxHeartbeats 4000000 in
theorem found (V : Valuation τ sig (Elt Ideal)) :
    Found hit (after before.flatten V (Proc.devRef .tc main_arg0)) (after before.flatten V (Proc.devRef .tc main_arg1))
      (after before.flatten V (Proc.devRef .tc main_v1)) (after before.flatten V (Proc.devRef .tc main_v4))
      (after before.flatten V (Proc.devRef .tc main_v24)) (after before.flatten V (Proc.devRef .tc main_v26))
      (after before.flatten V (Proc.devRef .tc main_v29)) (after before.flatten V (Proc.devRef .tc main_v30))
      (after before.flatten V (Proc.devRef .tc main_v31)) := by
  have hm := Cert.KernelIdeal.Host.mask V
  have e0 := Line.reshape line_before V 0 rfl rfl
  have e1 := Line.unary line_before V 1 rfl rfl
  have e2 := Line.binary line_before V 2 rfl rfl
  have e3 := Line.nullary line_before V 3 rfl
  have e4 := Line.binary line_before V 4 rfl rfl
  have e5 := Line.reshape line_before V 5 rfl rfl
  have e288 := Line.reshape line_before V 288 rfl rfl
  have e289 := Line.unary line_before V 289 rfl rfl
  have e290 := Line.nullary line_before V 290 rfl
  have e291 := Line.nullary line_before V 291 rfl
  have e292 := Line.unary line_before V 292 rfl rfl
  have e293 := Line.binary line_before V 293 rfl rfl
  have e294 := Line.tternary line_before V 294 rfl rfl
  have e295 := Line.unary line_before V 295 rfl rfl
  have e296 := Line.unary line_before V 296 rfl rfl
  have e297 := Line.nullary line_before V 297 rfl
  have e298 := Line.unary line_before V 298 rfl rfl
  have e299 := Line.binary line_before V 299 rfl rfl
  have e300 := Line.nullary line_before V 300 rfl
  have e301 := Line.unary line_before V 301 rfl rfl
  have e302 := Line.binary line_before V 302 rfl rfl
  have e303 := Line.tnullary line_before V 303 rfl
  have e304 := Line.tunary line_before V 304 rfl rfl
  have e305 := Line.tbinary line_before V 305 rfl rfl
  have e306 := Line.tnullary line_before V 306 rfl
  have e307 := Line.tunary line_before V 307 rfl rfl
  have e308 := Line.tbinary line_before V 308 rfl rfl
  have e309 := Line.tternary line_before V 309 rfl rfl
  have e310 := Line.treshape line_before V 310 rfl rfl
  have e311 := Line.tnullary line_before V 311 rfl
  have e312 := Line.tnullary line_before V 312 rfl
  have e313 := Line.tunary line_before V 313 rfl rfl
  have e314 := Line.tbinary line_before V 314 rfl rfl
  have e315 := Line.tunary line_before V 315 rfl rfl
  have e316 := Line.tunary line_before V 316 rfl rfl
  have e317 := Line.tbinary line_before V 317 rfl rfl
  have e318 := Line.tbinary line_before V 318 rfl rfl
  have e319 := Line.tnullary line_before V 319 rfl
  have e320 := Line.tbinary line_before V 320 rfl rfl
  have e321 := Line.tbinary line_before V 321 rfl rfl
  have e322 := Line.tnullary line_before V 322 rfl
  have e323 := Line.tunary line_before V 323 rfl rfl
  have e324 := Line.tternary line_before V 324 rfl rfl
  have e325 := Line.unary line_before V 325 rfl rfl
  have e326 := Line.nullary line_before V 326 rfl
  have e327 := Line.binary line_before V 327 rfl rfl
  have e328 := Line.reshape line_before V 328 rfl rfl
  have e329 := Line.reshape line_before V 329 rfl rfl
  generalize after before.flatten V = U at *
  have h16 := masks e288 e289 hm
  generalize (hit : Fin 8 → Fin 8192 → Bool) = h at *
  exact found_of h e0 e1 e2 e3 e4 e5 h16 e290 e291 e292 e293 e294 e295 e296 e297 e298 e299 e300 e301 e302 e303 e304 e305 e306 e307 e308 e309 e310 e311 e312 e313 e314 e315 e316 e317 e318 e319 e320 e321 e322 e323 e324 e325 e326 e327 e328 e329

end Cert.KernelIdeal.Found

end
-- ==== Proof.IdealMerge.lean ====
module

public import proofs.«01_k».proof.Proof.IdealFound
public import Idealize.ShloMosaic.Lib.Routing.OpsSet

/-! # What the later lines leave -/

set_option maxRecDepth 16384

@[expose] public section

noncomputable section

namespace Cert.KernelIdeal.Merge

open Idealize.ShloMosaic Idealize.ShloMosaic.StableHlo Cert.Ssa Cert.Threefry
open Idealize.ShloMosaic.Routing (scatter_lands2 scatter_set_hit scatter_set_miss wrap_of_lt)
open Cert.Order Cert.Spec Cert.KernelIdeal Cert.KernelIdeal.Gen Cert.KernelIdeal.Run Cert.KernelIdeal.Lines Cert.KernelIdeal.Pick

theorem nat_int (n : Nat) (h : n < 2 ^ 31) : (BitVec.ofNat 32 n).toInt = (n : Int) := by
  rw [BitVec.toInt_eq_toNat_cond, BitVec.toNat_ofNat, Nat.mod_eq_of_lt (by omega), if_pos (by omega)]

theorem wrap (n : Nat) (h : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; exact h)

theorem same2 {n0 n1 : Nat} (a : Fin n0) (b : Fin n1) : ix2 a b = ValueIdx.ix2 a b := (ValueIdx.eq_ix2 _)

theorem same3 {n0 n1 n2 : Nat} (a : Fin n0) (b : Fin n1) (c : Fin n2) : ValueIdx.ix3 a b c = ix3 a b c := (ValueIdx.eq_ix3 (ix3 a b c)).symm

/-- The row an update is sent to. -/
theorem row_word {x35 : IVec S8 32} {x36 x37 x39 x40 x41 : IVec S8x1 32} {x38 : IVec S8x1 1} {z0 z8 : IVec S_ 32} {x47 : IVec S8x2048 32}
    {x48 : IVec S8x2048x1 32} (e5 : x35 = iotaInDim S8 32 0) (e6 : x36 = broadcastInDim S8x1 ![0] bcast_S8_S8x1_0 x35)
    (e7 : z0 = constantI S_ 32 0#32) (e8 : x37 = broadcastInDim S8x1 ![] bcast_S_S8x1 z0) (e9 : x38 = cmpi .slt x36 x37)
    (e10 : z8 = constantI S_ 32 8#32) (e11 : x39 = broadcastInDim S8x1 ![] bcast_S_S8x1 z8) (e12 : x40 = addi x36 x39)
    (e13 : x41 = select x38 x40 x36) (e21 : x47 = broadcastInDim S8x2048 ![0, 1] bcast_S8x1_S8x2048_0_1 x41)
    (e22 : x48 = broadcastInDim S8x2048x1 ![0, 1] bcast_S8x2048_S8x2048x1_0_1 x47) (c : Fin 8) (j : Fin 2048) :
    x48 (ix3 c j 0) = BitVec.ofNat 32 c.val := by
  subst e5 e6 e7 e8 e9 e10 e11 e12 e13 e21 e22
  pointwise
  exact wrap _ (by have := c.isLt; omega) _

/-- The place in its row an update is sent to: outside the row when the position is not resampled. -/
theorem place_word (h : Fin 8 → Fin 8192 → Bool) {x24 k x34 x42 x44 x45 x46 : IVec S8x2048 32} {x26 x43 : IVec S8x2048 1} {z z' z0 z8 : IVec S_ 32}
    {x49 : IVec S8x2048x1 32} (h24 : ∀ c j, x24 (ix2 c j) = BitVec.ofNat 32 (ord (h c) ⟨j.val, by omega⟩).val)
    (h26 : ∀ c j, x26 (ix2 c j) = BitVec.ofBool (h c (ord (h c) ⟨j.val, by omega⟩)))
    (e1 : z = constantI S_ 32 8192#32) (e2 : z' = z) (e3 : k = broadcastInDim S8x2048 ![] bcast_S_S8x2048 z') (e4 : x34 = select x26 x24 k)
    (e14 : z0 = constantI S_ 32 0#32) (e15 : x42 = broadcastInDim S8x2048 ![] bcast_S_S8x2048 z0) (e16 : x43 = cmpi .slt x34 x42)
    (e17 : z8 = constantI S_ 32 8192#32) (e18 : x44 = broadcastInDim S8x2048 ![] bcast_S_S8x2048 z8) (e19 : x45 = addi x34 x44)
    (e20 : x46 = select x43 x45 x34) (e23 : x49 = broadcastInDim S8x2048x1 ![0, 1] bcast_S8x2048_S8x2048x1_0_1 x46)
    (c : Fin 8) (j : Fin 2048) : x49 (ix3 c j 0)
      = BitVec.ofNat 32 (if h c (ord (h c) ⟨j.val, by omega⟩) = true then (ord (h c) ⟨j.val, by omega⟩).val else 8192) := by
  have h34 : x34 (ix2 c j)
      = BitVec.ofNat 32 (if h c (ord (h c) ⟨j.val, by omega⟩) = true then (ord (h c) ⟨j.val, by omega⟩).val else 8192) := by
    subst e1 e2 e3 e4
    pointwise
    rw [h24, h26]
    cases h c (ord (h c) ⟨j.val, by omega⟩) <;> rfl
  have hb : (if h c (ord (h c) ⟨j.val, by omega⟩) = true then (ord (h c) ⟨j.val, by omega⟩).val else 8192) < 2 ^ 31 := by
    have := (ord (h c) ⟨j.val, by omega⟩).isLt
    split <;> omega
  subst e14 e15 e16 e17 e18 e19 e20 e23
  pointwise
  rw [h34]
  exact wrap _ hb _

theorem pair_words {x48 x49 : IVec S8x2048x1 32} {x50 : IVec S8x2048x2 32}
    (e24 : x50 = concatenate S8x2048x2 2 [⟨S8x2048x1, x48⟩, ⟨S8x2048x1, x49⟩] concatenates_S8x2048x1_S8x2048x1_S8x2048x2_d2)
    (c : Fin 8) (j : Fin 2048) : x50 (ix3 c j 0) = x48 (ix3 c j 0) ∧ x50 (ix3 c j 1) = x49 (ix3 c j 0) := by
  subst e24
  constructor <;> pointwise

/-- The scatter: a resampled position takes its update, every other keeps what it held. -/
theorem scattered (h : Fin 8 → Fin 8192 → Bool) (hn : ∀ c, num (h c) ≤ 2048) {x50 : IVec S8x2048x2 32} {x1 x51 : IVec S8x8192 32} {x33 : IVec S8x2048 32}
    (k0 : ∀ c j, x50 (ix3 c j 0) = BitVec.ofNat 32 c.val)
    (k1 : ∀ (c : Fin 8) (j : Fin 2048), x50 (ix3 c j 1)
      = BitVec.ofNat 32 (if h c (ord (h c) ⟨j.val, by omega⟩) = true then (ord (h c) ⟨j.val, by omega⟩).val else 8192))
    (e25 : x51 = Host.scatter scatter_S8x8192_S8x2048x2_S8x2048_n_01_01_2 (fun _ b => b) x1 x50 x33) (c : Fin 8) (n : Fin 8192) :
    (h c n = true → ∃ j : Fin 2048, ord (h c) ⟨j.val, by omega⟩ = n ∧ x51 (ix2 c n) = x33 (ix2 c j)) ∧
      (h c n = false → x51 (ix2 c n) = x1 (ix2 c n)) := by
  have land : ∀ (c' : Fin 8) (j : Fin 2048), scatter_S8x8192_S8x2048x2_S8x2048_n_01_01_2.resultIdx? (ix2 c' j) x50 = some (ix2 c n) ↔
      c' = c ∧ h c' (ord (h c') ⟨j.val, by omega⟩) = true ∧ ord (h c') ⟨j.val, by omega⟩ = n := fun c' j => by
    have hc := c'.isLt
    have ho := (ord (h c') ⟨j.val, by omega⟩).isLt
    have hnn := n.isLt
    rw [same2, same2]
    refine (scatter_lands2 (R := 8) (C := 8192) (A := 8) (B := 2048) scatter_S8x8192_S8x2048x2_S8x2048_n_01_01_2 rfl rfl rfl x50 c' j c n).trans ?_
    rw [(congrArg x50 (same3 c' j 0)).trans (k0 c' j), (congrArg x50 (same3 c' j 1)).trans (k1 c' j), nat_int _ (by omega), nat_int _ (by split <;> omega)]
    constructor
    · rintro ⟨p, q⟩
      refine ⟨Fin.ext (by omega), ?_⟩
      split at q
      · exact ⟨by assumption, Fin.ext (by omega)⟩
      · omega
    · rintro ⟨rfl, p, q⟩
      rw [if_pos p, q]
      exact ⟨rfl, rfl⟩
  refine ⟨fun hh => ?_, fun hh => ?_⟩
  · obtain ⟨p, hp⟩ := ord_surjective (h c) n
    have hl : p.val < num (h c) := (hit_iff (h c) p).1 (by rw [hp]; exact hh)
    have hl' : p.val < 2048 := lt_of_lt_of_le hl (hn c)
    refine ⟨⟨p.val, hl'⟩, hp, ?_⟩
    rw [e25]
    refine scatter_set_hit _ _ _ _ _ _ (fun k hk => ?_) (ix2 c ⟨p.val, hl'⟩) ((land _ _).2 ⟨rfl, by rw [hp]; exact hh, hp⟩)
    rw [eq_ix2 k] at hk ⊢
    obtain ⟨q1, -, q2⟩ := (land _ _).1 hk
    generalize k 0 = c' at q1 q2 ⊢
    generalize k 1 = j at q2 ⊢
    subst q1
    have := ord_injective _ (q2.trans hp.symm)
    exact congrArg (fun j => x33 (ix2 c' j)) (Fin.ext (show j.val = p.val from congrArg (fun k : Fin 8192 => k.val) this))
  · rw [e25]
    refine scatter_set_miss _ _ _ _ _ fun k hk => ?_
    rw [eq_ix2 k] at hk
    obtain ⟨q1, q2, q3⟩ := (land _ _).1 hk
    rw [q3, q1, hh] at q2
    exact Bool.noConfusion q2

theorem rows {x : IVec S64x1x256 32} {y : IVec S8x2048 32} (e : y = shapeCast S8x2048 x shapeCasts_S64x1x256_S8x2048)
    (c : Fin 8) (j : Fin 2048) (q : Fin 64) (r : Fin 256) (hj : 2048 * c.val + j.val = 256 * q.val + r.val) :
    y (ix2 c j) = x (ix3 q 0 r) := by
  subst e
  have hq := q.isLt
  have hr := r.isLt
  have hc := c.isLt
  have hb := j.isLt
  pointwise
  have h1 : (⟨c.val * 8 + j.val / 256, by omega⟩ : Fin 64) = q := Fin.ext (by show c.val * 8 + j.val / 256 = q.val; omega)
  have h2 : (⟨j.val % 256, by omega⟩ : Fin 256) = r := Fin.ext (by show j.val % 256 = r.val; omega)
  rw [h1, h2]

theorem results {y : IVec S8x8192 32} {z : IVec S8192x8 32} {o : IVec S4x2048x8 32}
    (e26 : z = transpose S8192x8 [1, 0] y transposes_S8x8192_S8192x8_1_0)
    (e27 : o = shapeCast S4x2048x8 z shapeCasts_S8192x8_S4x2048x8) (b : Fin 4) (t : Fin 2048) (c : Fin 8) (n : Fin 8192)
    (hn : n.val = 2048 * b.val + t.val) : o (ix3 b t c) = y (ix2 c n) := by
  subst e26 e27
  have hb := b.isLt
  have ht := t.isLt
  have hc := c.isLt
  pointwise
  exact congrArg (fun r => y (ix2 c r)) (Fin.ext (by show b.val * 2048 + t.val = n.val; omega))

/-- What the later lines leave of the region's result `x32`, `h` saying which positions are resampled. -/
def Merged (h : Fin 8 → Fin 8192 → Bool) (x1 : IVec S8x8192 32) (x32 : IVec S64x1x256 32) (x53 : IVec S4x2048x8 32) : Prop :=
  ∀ (b : Fin 4) (t : Fin 2048) (c : Fin 8) (n : Fin 8192), n.val = 2048 * b.val + t.val →
    (h c n = true → ∃ (j : Fin 2048) (q : Fin 64) (r : Fin 256), ord (h c) ⟨j.val, by omega⟩ = n ∧ 2048 * c.val + j.val = 256 * q.val + r.val ∧
      x53 (ix3 b t c) = x32 (ix3 q 0 r)) ∧ (h c n = false → x53 (ix3 b t c) = x1 (ix2 c n))

theorem merged_of (h : Fin 8 → Fin 8192 → Bool) (hn : ∀ c, num (h c) ≤ 2048)
    {x1 x51 : IVec S8x8192 32} {x24 x33 k x34 x42 x44 x45 x46 x47 : IVec S8x2048 32} {x26 x43 : IVec S8x2048 1} {x32 : IVec S64x1x256 32}
    {z z' z0 z8 za zb : IVec S_ 32} {x35 : IVec S8 32} {x36 x37 x39 x40 x41 : IVec S8x1 32} {x38 : IVec S8x1 1}
    {x48 x49 : IVec S8x2048x1 32} {x50 : IVec S8x2048x2 32} {x52 : IVec S8192x8 32} {x53 : IVec S4x2048x8 32}
    (h24 : ∀ (c : Fin 8) (j : Fin 2048), x24 (ix2 c j) = BitVec.ofNat 32 (ord (h c) ⟨j.val, by omega⟩).val)
    (h26 : ∀ (c : Fin 8) (j : Fin 2048), x26 (ix2 c j) = BitVec.ofBool (h c (ord (h c) ⟨j.val, by omega⟩)))
    (e0 : x33 = shapeCast S8x2048 x32 shapeCasts_S64x1x256_S8x2048)
    (e1 : z = constantI S_ 32 8192#32) (e2 : z' = z) (e3 : k = broadcastInDim S8x2048 ![] bcast_S_S8x2048 z') (e4 : x34 = select x26 x24 k)
    (e5 : x35 = iotaInDim S8 32 0) (e6 : x36 = broadcastInDim S8x1 ![0] bcast_S8_S8x1_0 x35)
    (e7 : za = constantI S_ 32 0#32) (e8 : x37 = broadcastInDim S8x1 ![] bcast_S_S8x1 za) (e9 : x38 = cmpi .slt x36 x37)
    (e10 : zb = constantI S_ 32 8#32) (e11 : x39 = broadcastInDim S8x1 ![] bcast_S_S8x1 zb) (e12 : x40 = addi x36 x39)
    (e13 : x41 = select x38 x40 x36)
    (e14 : z0 = constantI S_ 32 0#32) (e15 : x42 = broadcastInDim S8x2048 ![] bcast_S_S8x2048 z0) (e16 : x43 = cmpi .slt x34 x42)
    (e17 : z8 = constantI S_ 32 8192#32) (e18 : x44 = broadcastInDim S8x2048 ![] bcast_S_S8x2048 z8) (e19 : x45 = addi x34 x44)
    (e20 : x46 = select x43 x45 x34) (e21 : x47 = broadcastInDim S8x2048 ![0, 1] bcast_S8x1_S8x2048_0_1 x41)
    (e22 : x48 = broadcastInDim S8x2048x1 ![0, 1] bcast_S8x2048_S8x2048x1_0_1 x47)
    (e23 : x49 = broadcastInDim S8x2048x1 ![0, 1] bcast_S8x2048_S8x2048x1_0_1 x46)
    (e24 : x50 = concatenate S8x2048x2 2 [⟨S8x2048x1, x48⟩, ⟨S8x2048x1, x49⟩] concatenates_S8x2048x1_S8x2048x1_S8x2048x2_d2)
    (e25 : x51 = Host.scatter scatter_S8x8192_S8x2048x2_S8x2048_n_01_01_2 (fun _ b => b) x1 x50 x33)
    (e26 : x52 = transpose S8192x8 [1, 0] x51 transposes_S8x8192_S8192x8_1_0)
    (e27 : x53 = shapeCast S4x2048x8 x52 shapeCasts_S8192x8_S4x2048x8) : Merged h x1 x32 x53 := by
  have k0 := row_word e5 e6 e7 e8 e9 e10 e11 e12 e13 e21 e22
  have k1 := place_word h h24 h26 e1 e2 e3 e4 e14 e15 e16 e17 e18 e19 e20 e23
  have k2 := pair_words e24
  intro b t c n hbn
  obtain ⟨s1, s2⟩ := scattered h hn (fun c j => (k2 c j).1.trans (k0 c j)) (fun c j => (k2 c j).2.trans (k1 c j)) e25 c n
  have k3 := results e26 e27 b t c n hbn
  constructor
  · intro hh
    obtain ⟨j, hj, hx⟩ := s1 hh
    have hc := c.isLt
    have hjl := j.isLt
    refine ⟨j, ⟨8 * c.val + j.val / 256, by omega⟩, ⟨j.val % 256, by omega⟩, hj, by show _ = 256 * (8 * c.val + j.val / 256) + j.val % 256; omega, ?_⟩
    rw [k3, hx]
    exact rows e0 c j _ _ (by show _ = 256 * (8 * c.val + j.val / 256) + j.val % 256; omega)
  · intro hh
    rw [k3, s2 hh]

set_option maxHeartbeats 4000000 in
theorem merged (U : Valuation τ sig (Elt Ideal)) (h : Fin 8 → Fin 8192 → Bool) (hn : ∀ c, num (h c) ≤ 2048)
    {x1 : IVec S8x8192 32} {x24 : IVec S8x2048 32} {x26 : IVec S8x2048 1} {x32 : IVec S64x1x256 32}
    (u1 : U (Proc.devRef .tc main_v1) = x1) (u24 : U (Proc.devRef .tc main_v24) = x24) (u26 : U (Proc.devRef .tc main_v26) = x26)
    (u32 : U (Proc.devRef .tc main_v32) = x32)
    (h24 : ∀ (c : Fin 8) (j : Fin 2048), x24 (ix2 c j) = BitVec.ofNat 32 (ord (h c) ⟨j.val, by omega⟩).val)
    (h26 : ∀ (c : Fin 8) (j : Fin 2048), x26 (ix2 c j) = BitVec.ofBool (h c (ord (h c) ⟨j.val, by omega⟩))) :
    Merged h x1 x32 (after later.flatten U (Proc.devRef .tc main_v53)) := by
  have k1 : after later.flatten U (Proc.devRef .tc main_v1) = x1 := (line_later.keep U (by decide)).trans u1
  have k24 : after later.flatten U (Proc.devRef .tc main_v24) = x24 := (line_later.keep U (by decide)).trans u24
  have k26 : after later.flatten U (Proc.devRef .tc main_v26) = x26 := (line_later.keep U (by decide)).trans u26
  have k32 : after later.flatten U (Proc.devRef .tc main_v32) = x32 := (line_later.keep U (by decide)).trans u32
  have e0 := Line.reshape line_later U 0 rfl rfl
  have e1 := Line.nullary line_later U 1 rfl
  have e2 := Line.tunary line_later U 2 rfl rfl
  have e3 := Line.tunary line_later U 3 rfl rfl
  have e4 := Line.tternary line_later U 4 rfl rfl
  have e5 := Line.nullary line_later U 5 rfl
  have e6 := Line.unary line_later U 6 rfl rfl
  have e7 := Line.nullary line_later U 7 rfl
  have e8 := Line.unary line_later U 8 rfl rfl
  have e9 := Line.binary line_later U 9 rfl rfl
  have e10 := Line.nullary line_later U 10 rfl
  have e11 := Line.unary line_later U 11 rfl rfl
  have e12 := Line.binary line_later U 12 rfl rfl
  have e13 := Line.ternary line_later U 13 rfl rfl
  have e14 := Line.nullary line_later U 14 rfl
  have e15 := Line.unary line_later U 15 rfl rfl
  have e16 := Line.binary line_later U 16 rfl rfl
  have e17 := Line.nullary line_later U 17 rfl
  have e18 := Line.unary line_later U 18 rfl rfl
  have e19 := Line.binary line_later U 19 rfl rfl
  have e20 := Line.ternary line_later U 20 rfl rfl
  have e21 := Line.unary line_later U 21 rfl rfl
  have e22 := Line.unary line_later U 22 rfl rfl
  have e23 := Line.unary line_later U 23 rfl rfl
  have e24 := Line.binary line_later U 24 rfl rfl
  have e25 := Line.ternary line_later U 25 rfl rfl
  have e26 := Line.unary line_later U 26 rfl rfl
  have e27 := Line.reshape line_later U 27 rfl rfl
  generalize after later.flatten U = W at *
  subst k1 k24 k26 k32
  exact merged_of h hn h24 h26 e0 e1 e2 e3 e4 e5 e6 e7 e8 e9 e10 e11 e12 e13 e14 e15 e16 e17 e18 e19 e20 e21 e22 e23 e24 e25 e26 e27

end Cert.KernelIdeal.Merge

end
-- ==== Proof.IdealBits.lean ====
module

public import proofs.«01_k».proof.Proof.HashOps
public import proofs.«01_k».proof.Proof.IdealBody

/-! # The random words of a tile

The kernel computes the hash of its own counters, lane by lane. -/

set_option maxRecDepth 16384

@[expose] public section

noncomputable section

namespace Cert.KernelIdeal.Bits

open Idealize.ShloMosaic Cert.Threefry Cert.KernelIdeal Cert.KernelIdeal.Gen Cert.KernelIdeal.Body

section Steps

variable {S : Shape} {j : S.Idx} {x0 x1 s br l bt q o y : IVec S 32} {Q : W × W} {r n : Nat}

theorem round_lane (hr : (Nat.blt r 32 && Nat.blt 0 r) = true) (h1 : y = xori o s) (h2 : o = ori l q) (h3 : l = shli x1 br)
    (h4 : q = shrui x1 bt) (h5 : br = broadcast S (BitVec.ofNat 32 r)) (h6 : bt = broadcast S (BitVec.ofNat 32 (32 - r)))
    (h7 : s = addi x0 x1) (h : (x0 j, x1 j) = Q) : (s j, y j) = rnd r Q := by
  rw [Bool.and_eq_true] at hr
  have hr1 : r < 32 := Nat.le_of_ble_eq_true hr.1
  have hr2 : 0 < r := Nat.le_of_ble_eq_true hr.2
  subst h1 h2 h3 h4 h5 h6 h7
  rw [← h]
  change (x0 j + x1 j, (IntOp.shli .vector (x1 j) (BitVec.ofNat 32 r)
    ||| IntOp.shrui .vector (x1 j) (BitVec.ofNat 32 (32 - r))) ^^^ (x0 j + x1 j)) = _
  rw [shl_small _ _ hr1, shr_small _ _ (by omega)]
  rfl

theorem inject_lane {a b : W} (h1 : y = addi l q) (h2 : l = addi x1 bt) (h3 : q = broadcast S (BitVec.ofNat 32 n))
    (h4 : bt = broadcast S b) (h5 : s = addi x0 br) (h6 : br = broadcast S a) (h : (x0 j, x1 j) = Q) :
    (s j, y j) = inj a (b + BitVec.ofNat 32 n) Q := by
  subst h1 h2 h3 h4 h5 h6
  rw [← h]
  change (x0 j + a, x1 j + b + BitVec.ofNat 32 n) = _
  rw [BitVec.add_assoc]; rfl

theorem word_lane {z br' : IVec S 32} {k c : W} (h1 : z = shrui y br') (h2 : br' = broadcast S 9#32) (h3 : y = xori x0 x1)
    (h : (x0 j, x1 j) = tf 0#32 k 0#32 c) : z j = Threefry.word k c >>> 9 := by
  subst h1 h2 h3
  rw [Threefry.word, ← h]
  exact shr_small .vector _ (by decide)

end Steps

/-- The hash at a lane, from the counter with the key's second word added. -/
theorem bits_lane (v9 v44 : IVec S256 32) (j : S256x1024.Idx) (c : W)
    (hc : k0_pay5 v9 (iota .tc S256x1024 32 [1] iota_S256x1024_d1_w32) v44 j = c + 42#32) :
    bits v9 v44 j = Threefry.word 42#32 c >>> 9 := by
  refine word_lane (k := 42#32) (br' := broadcast S256x1024 9#32) rfl rfl rfl ?_
  unfold tf even odd four
  refine inject_lane rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine inject_lane rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine inject_lane rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine inject_lane rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  refine inject_lane rfl rfl rfl rfl rfl rfl ?_
  refine round_lane rfl rfl rfl rfl rfl rfl rfl rfl ?_
  refine round_lane rfl rfl rfl rfl rfl rfl rfl rfl ?_
  refine round_lane rfl rfl rfl rfl rfl rfl rfl rfl ?_
  have hr : ∀ x : W, IntOp.shli .vector x 13#32 ||| IntOp.shrui .vector x 19#32 = rot 13 x := fun x => by
    rw [shl_small _ _ (by decide : 13 < 32), shr_small _ _ (by decide : 19 < 32)]; rfl
  have e5 : k0_pay5 v9 (iota .tc S256x1024 32 [1] iota_S256x1024_d1_w32) v44 j = c + 42#32 := hc
  change (k0_pay5 v9 (iota .tc S256x1024 32 [1] iota_S256x1024_d1_w32) v44 j,
    (IntOp.shli .vector (k0_pay5 v9 (iota .tc S256x1024 32 [1] iota_S256x1024_d1_w32) v44 j) 13#32
      ||| IntOp.shrui .vector (k0_pay5 v9 (iota .tc S256x1024 32 [1] iota_S256x1024_d1_w32) v44 j) 19#32)
      ^^^ k0_pay5 v9 (iota .tc S256x1024 32 [1] iota_S256x1024_d1_w32) v44 j) = _
  rw [e5, hr]
  simp only [inj, rnd, BitVec.zero_add]

end Cert.KernelIdeal.Bits

end
-- ==== Proof.IdealTile.lean ====
module

public import proofs.«01_k».proof.Proof.Spec
public import proofs.«01_k».proof.Proof.IdealBits

/-! # What a tile holds -/

set_option maxRecDepth 16384

@[expose] public section

noncomputable section

namespace Cert.KernelIdeal.Tile

open Idealize.ShloMosaic Cert.Threefry Cert.Best Cert.Spec Cert.KernelIdeal Cert.KernelIdeal.Gen Cert.KernelIdeal.Body Cert.KernelIdeal.Bits

theorem counter_lane (v9 v44 : IVec S256 32) (r : Fin 256) (v : Fin 1024) :
    k0_pay5 v9 (iota .tc S256x1024 32 [1] iota_S256x1024_d1_w32) v44 (ix2 r v)
      = (v44 (ix1 r) + v9 (ix1 r)) * 1024#32 + BitVec.ofNat 32 v.val + 42#32 := by
  pointwise [k0_pay5]
  rfl

theorem eq_bit (x w : Fin 1024) :
    IntOp.cmpi CmpIPredicate.eq (BitVec.ofNat 32 x.val) (BitVec.ofNat 32 w.val) = BitVec.ofBool (decide (x = w)) := by
  have : (BitVec.ofNat 32 x.val = BitVec.ofNat 32 w.val) ↔ x = w := by
    constructor
    · intro h
      have := congrArg BitVec.toNat h
      simp only [BitVec.toNat_ofNat] at this
      exact Fin.ext (by omega)
    · rintro rfl; rfl
  show BitVec.ofBool (BitVec.ofNat 32 x.val == BitVec.ofNat 32 w.val) = _
  by_cases h : x = w
  · subst h; simp
  · have h2 : (BitVec.ofNat 32 x.val == BitVec.ofNat 32 w.val) = false := beq_eq_false_iff_ne.mpr fun q => h (this.1 q)
    rw [h2, decide_eq_false h]

theorem sel_bit {α : Type} (p : Prop) [Decidable p] (a b : α) :
    Scalar.select (BitVec.ofBool (decide p)) a b = if p then a else b := by
  by_cases h : p <;> simp [h, Scalar.select]

theorem hot (p : Prop) [Decidable p] :
    (FloatOps.sitofp (F := Ideal) FTy.f32 (BitVec.setWidth 32 (BitVec.ofBool (decide p))) : EReal) = if p then 1 else 0 := by
  by_cases h : p
  · simp only [h, decide_true, if_true]
    show (((BitVec.setWidth 32 (BitVec.ofBool true)).toInt : ℝ) : EReal) = 1
    have : (BitVec.setWidth 32 (BitVec.ofBool true)).toInt = 1 := by decide
    rw [this]; simp
  · simp only [h, decide_false, if_false]
    show (((BitVec.setWidth 32 (BitVec.ofBool false)).toInt : ℝ) : EReal) = 0
    have : (BitVec.setWidth 32 (BitVec.ofBool false)).toInt = 0 := by decide
    rw [this]; simp

theorem ninf : Ideal.ofBits FTy.f32 4286578688#32 = (⊥ : EReal) := by simp [Ideal.ofBits, Ideal.ieee]

/-- The payload of distances, one lane. -/
theorem logit_lane (toks : Vec Ideal S1x1x256 .i32) (embs : Vec Ideal S1x1024x128 .f32) (sq : Vec Ideal S1x1x1024 .f32)
    (e : sEmb.Idx → EReal) (c : Fin 8) (w : Fin 1024) (r : Fin 256) (hT : toks (ix3 0 0 r) = BitVec.ofNat 32 w.val)
    (hE : ∀ v k, embs (ix3 0 v k) = e (ix3 c v k)) (hS : ∀ v, sq (ix3 0 0 v) = Spec.sq e c v) (v : Fin 1024) :
    k0_pay3 toks embs sq (ix2 r v) = logit e c w v := by
  pointwise [k0_pay3]
  simp only [hT, hE, hS, eq_bit, sel_bit, hot, ninf, ite_mul, one_mul, zero_mul, Finset.sum_ite_eq', Finset.mem_univ,
    if_true, zero_sub]
  unfold logit Spec.inner
  by_cases h : w = v
  · rw [if_pos h, if_pos h.symm]
  · rw [if_neg h, if_neg (Ne.symm h)]

/-- The payload of the greatest score, one lane. -/
theorem best_lane (x : FVec Ideal S256x1024 .f32) (bt : IVec S256x1024 32) (r : Fin 256) (f : Fin 1024 → EReal)
    (W : Fin 1024 → BitVec 32) (hW : ∀ v, bt (ix2 r v) = W v >>> 9)
    (hf : ∀ v, x (ix2 r v) + gum (W v) = f v) :
    IsBest f (k0_pay1 (iota .tc S256x1024 32 [1] iota_S256x1024_d1_w32) x bt 1065353216#32 (ix3 0 0 r)) := by
  have hg : ∀ v, x (ix2 r v) + (0 - Ideal.log (0 - Ideal.log (max (Ideal.ofBits FTy.f32 8388608#32)
      ((Ideal.ofBits FTy.f32 (IntOp.ori (bt (ix2 r v)) 1065353216#32) - 1) * (1 - Ideal.ofBits FTy.f32 8388608#32) +
        Ideal.ofBits FTy.f32 8388608#32)))) = f v := by
    intro v
    rw [← hf v, hW v, zero_sub, zero_sub]
    rfl
  pointwise [k0_pay1]
  simp only [hg, ninf]
  exact least_best f

/-- One lane of a tile holds the place of the greatest score of its position. -/
theorem out_best (i : (grid0).Coords) (toks : Vec Ideal S1x1x256 .i32) (idx : Vec Ideal S1x1x256 .i32)
    (sq : Vec Ideal S1x1x1024 .f32) (embs : Vec Ideal S1x1024x128 .f32)
    (e : sEmb.Idx → EReal) (c : Fin 8) (n : Fin 8192) (w : Fin 1024) (r : Fin 256)
    (hI : BitVec.ofNat 32 (i 0).val = BitVec.ofNat 32 c.val)
    (hT : toks (ix3 0 0 r) = BitVec.ofNat 32 w.val) (hN : idx (ix3 0 0 r) = BitVec.ofNat 32 n.val)
    (hE : ∀ v k, embs (ix3 0 v k) = e (ix3 c v k)) (hS : ∀ v, sq (ix3 0 0 v) = Spec.sq e c v) :
    IsBest (score e c n w) (out i toks idx sq embs (ix3 0 0 r)) := by
  unfold out
  refine best_lane _ _ r _ (fun v => Threefry.word 42#32 (BitVec.ofNat 32 (1024 * (8192 * c.val + n.val) + v.val))) ?_ ?_
  · intro v
    refine bits_lane _ _ _ _ ?_
    rw [counter_lane]
    have h1 : k0_pay2 idx (ix1 r) = BitVec.ofNat 32 n.val := by
      rw [← hN]; pointwise [k0_pay2]
    have h2 : k0_pay4 (BitVec.ofNat 32 (i 0).val) (ix1 r) = BitVec.ofNat 32 c.val * 8192#32 := by
      rw [hI]; pointwise [k0_pay4]; rfl
    rw [h1, h2]
    apply BitVec.eq_of_toNat_eq
    simp only [BitVec.toNat_add, BitVec.toNat_mul, BitVec.toNat_ofNat]
    have := c.isLt; have := n.isLt; have := v.isLt
    omega
  · intro v
    rw [logit_lane toks embs sq e c w r hT hE hS v]
    exact add_comm _ _

end Cert.KernelIdeal.Tile

end
-- ==== Proof.IdealArray.lean ====
module

public import proofs.«01_k».proof.Proof.IdealTile
public import proofs.«01_k».proof.Proof.IdealFrame
public import Idealize.ShloMosaic.Lib.Pipeline.ArrRel
public import Idealize.ShloMosaic.Lib.Pipeline.ValueKit.Geometry

/-! # What the region leaves -/

set_option maxRecDepth 16384

@[expose] public section

noncomputable section

namespace Cert.KernelIdeal.Array

open Idealize.ShloMosaic Idealize.ShloMosaic.StableHlo Idealize.ShloMosaic.TcCoe
open Cert.Best Cert.Spec Cert.KernelIdeal Cert.KernelIdeal.Gen Cert.KernelIdeal.Body Cert.KernelIdeal.Run
open Idealize.ShloMosaic.Pipeline (Dat RDat)

/-- The count a grid point reads. -/
theorem word_at (i : grid0.Coords) (T : S8.Idx → BitVec 32) (c : Fin 8) (hc : (i 0).val = c.val) :
    Body.word (F := Ideal) i T = T (ix1 c) := by
  have h : ∀ n : Fin 8, (Scalar.indexCast (BitVec.ofNat 32 n.val)).toNat = n.val := by decide +kernel
  refine congrArg T (funext fun a => Fin.ext ?_)
  match a with
  | ⟨0, _⟩ =>
    show (Scalar.indexCast (BitVec.ofNat 32 (i 0).val)).toNat + 1 * 0 = c.val
    rw [hc, h c]
    rfl

/-- A tile that begins below the count is computed. -/
theorem live (i : grid0.Coords) (k : Nat) (h : 256 * (i 1).val < k) (hk : k ≤ 8192) : k0_cond1 i (BitVec.ofNat 32 k) = 1#1 := by
  have e : Scalar.cmpi .slt (Scalar.muli (BitVec.ofNat 32 (i 1).val) 256#32) (BitVec.ofNat 32 k) = 1#1 := by
    show BitVec.ofBool (BitVec.slt (BitVec.ofNat 32 (i 1).val * 256#32) (BitVec.ofNat 32 k)) = 1#1
    have h1 : BitVec.ofNat 32 (i 1).val * 256#32 = BitVec.ofNat 32 (256 * (i 1).val) := by
      apply BitVec.eq_of_toNat_eq; simp [Nat.mul_comm]
    have h2 : BitVec.slt (BitVec.ofNat 32 (256 * (i 1).val)) (BitVec.ofNat 32 k) = true := by
      rw [BitVec.slt_eq_decide, decide_eq_true_iff, BitVec.toInt_eq_toNat_cond, BitVec.toInt_eq_toNat_cond]
      simp only [BitVec.toNat_ofNat]
      rw [Nat.mod_eq_of_lt (by omega), Nat.mod_eq_of_lt (by omega), if_pos (by omega), if_pos (by omega)]
      omega
    rw [h1, h2]
    rfl
  show Scalar.cmpi .ne (Scalar.extui (Scalar.cmpi .slt (Scalar.muli (BitVec.ofNat 32 (i 1).val) 256#32) (BitVec.ofNat 32 k))) 0#32 = 1#1
  rw [e]
  rfl

theorem coords_at : ∀ t : Fin grid0.N, ((grid0.coords t) 0).val = t.val / 8 ∧ ((grid0.coords t) 1).val = t.val % 8 := by decide +kernel

theorem index_at : ∀ t : Fin grid0.N, cc0_transform_0 (grid0.coords t) = ![t.val, 0, 0] ∧ cc0_transform_1 (grid0.coords t) = ![t.val, 0, 0]
    ∧ cc0_transform_2 (grid0.coords t) = ![t.val / 8, 0, 0] ∧ cc0_transform_3 (grid0.coords t) = ![t.val / 8, 0, 0]
    ∧ cc0_transform_4 (grid0.coords t) = ![t.val, 0, 0] := by decide +kernel

variable (V : Dev nD → Valuation τ sig (Elt Ideal))

theorem blk0_at (c : Dev nD) (t : Fin grid0.N) (q : Fin 64) (hq : q.val = t.val) (r : Fin 256) :
    blk0 V c t (ix3 0 0 r) = (V c (Proc.devRef .tc main_v30) : S64x1x256.Idx → BitVec 32) (ix3 q 0 r) := by
  have e : ((cfgm V).win 0).index t = ![t.val, 0, 0] := (index_at t).1
  blk_ext [blk0, e]

theorem blk1_at (c : Dev nD) (t : Fin grid0.N) (q : Fin 64) (hq : q.val = t.val) (r : Fin 256) :
    blk1 V c t (ix3 0 0 r) = (V c (Proc.devRef .tc main_v31) : S64x1x256.Idx → BitVec 32) (ix3 q 0 r) := by
  have e : ((cfgm V).win 1).index t = ![t.val, 0, 0] := (index_at t).2.1
  blk_ext [blk1, e]

theorem blk2_at (c : Dev nD) (t : Fin grid0.N) (k : Fin 8) (hk : k.val = t.val / 8) (v : Fin 1024) :
    blk2 V c t (ix3 0 0 v) = (V c (Proc.devRef .tc main_v4) : S8x1x1024.Idx → EReal) (ix3 k 0 v) := by
  have e : ((cfgm V).win 2).index t = ![t.val / 8, 0, 0] := (index_at t).2.2.1
  blk_ext [blk2, e]

theorem blk3_at (c : Dev nD) (t : Fin grid0.N) (k : Fin 8) (hk : k.val = t.val / 8) (v : Fin 1024) (d : Fin 128) :
    blk3 V c t (ix3 0 v d) = (V c (Proc.devRef .tc main_arg1) : S8x1024x128.Idx → EReal) (ix3 k v d) := by
  have e : ((cfgm V).win 3).index t = ![t.val / 8, 0, 0] := (index_at t).2.2.2.1
  blk_ext [blk3, e]

theorem flush_at (t : Fin grid0.N) : ((cfgm V).win 4).flush t = true := by
  have h : ∀ t : Fin grid0.N, Pipeline.Window.flushOf grid0 true cc0_transform_4 t = true := by decide +kernel
  rw [Pipeline.Window.flush_eq_flushOf]
  exact h t

theorem index_inj (t t' : Fin grid0.N) (h : ((cfgm V).win 4).index t = ((cfgm V).win 4).index t') : t = t' := by
  have e : ∀ t : Fin grid0.N, ((cfgm V).win 4).index t = ![t.val, 0, 0] := fun t => (index_at t).2.2.2.2
  rw [e, e] at h
  exact Fin.ext (congrFun h 0)

/-- The region's result at a computed tile: what the body stores there. -/
theorem result_at (c : Dev nD) (Y : S64x1x256.Idx → BitVec 32) (hY : (rdat V c).ArrAt 4 (cfgm V).N Y) (t : Fin grid0.N) (q : Fin 64)
    (hq : q.val = t.val) (hl : k0_cond1 (grid0.coords t) (Body.word (F := Ideal) (grid0.coords t) (tbl V c)) = 1#1) (r : Fin 256) :
    Y (ix3 q 0 r) = out (grid0.coords t) (blk0 V c t) (blk1 V c t) (blk2 V c t) (blk3 V c t) (ix3 0 0 r) := by
  obtain ⟨X, hX, hG⟩ := hY.exists_exact
  have hx : Rl V c 4 t (X t) := (dat V c).toRRel_leaves (w := 4) rfl (hX t t.isLt (flush_at V t))
  have hy := hG (Function.update (fun _ _ _ => Classical.arbitrary _) 4 X) fun _ _ _ => by rw [Function.update_self]
  have he := Dat.arrAt_emb_eq_flushed (((rdat V c)).withAfter (Function.update (fun _ _ _ => Classical.arbitrary _) 4 X)) 4
    (Pipeline.Window.hdisj_of_index_inj _ fun t t' _ _ h => index_inj V t t' h) t (flush_at V t) (ix3 0 0 r)
  have hi : (((cfgm V).win 4).blk t).view.emb (ix3 0 0 r) = (ix3 q 0 r : S64x1x256.Idx) := by
    have e : ((cfgm V).win 4).index t = ![t.val, 0, 0] := (index_at t).2.2.2.2
    blk_ext [e]
  rw [← hx hl]
  rw [hi, ← hy] at he
  refine he.trans (Eq.trans (b := Function.update (β := fun w => Fin (cfgm V).N → ((cfgm V).win w).block.Idx → Elt Ideal ((cfgm V).win w).elt)
    (fun _ _ _ => Classical.arbitrary _) 4 X 4 t (((cfgm V).win 4).xinj ((cfgm V).grid.coords t) (ix3 0 0 r))) rfl ?_)
  rw [Function.update_self]
  exact congrArg (X t) (funext fun a => Fin.ext rfl)

end Cert.KernelIdeal.Array

end
-- ==== Proof.IdealValue.lean ====
module

public import proofs.«01_k».proof.Proof.IdealMerge
public import proofs.«01_k».proof.Proof.IdealArray

/-! # The kernel's result -/

set_option maxRecDepth 16384

@[expose] public section

noncomputable section

namespace Cert.KernelIdeal.Value

open Idealize.ShloMosaic Idealize.ShloMosaic.StableHlo Idealize.ShloMosaic.TcCoe
open Cert.Ssa Cert.Best Cert.Order Cert.Spec Cert.KernelIdeal Cert.KernelIdeal.Gen Cert.KernelIdeal.Body Cert.KernelIdeal.Run
open Cert.KernelIdeal.Lines Cert.KernelIdeal.Found Cert.KernelIdeal.Merge Cert.KernelIdeal.Array Cert.KernelIdeal.Tile

/-- The result at a position, `h` saying which positions are resampled: the best lane where the position is resampled, the token it held elsewhere. -/
theorem value_of (V : Dev nD → Valuation τ sig (Elt Ideal)) (d : Dev nD) (U : Valuation τ sig (Elt Ideal)) (h : Fin 8 → Fin 8192 → Bool)
    (hn : ∀ c, num (h c) ≤ 2048) (hA : (rdat V d).ArrAt 4 (cfgm V).N (U (Proc.devRef .tc main_v32)))
    (hU : ∀ b : Ref sig .tc, b ≠ main_v32 → U (Proc.devRef .tc b) = V d (Proc.devRef .tc b))
    {A : IVec S4x2048x8 32} {E : FVec Ideal S8x1024x128 .f32} (hE : V d (Proc.devRef .tc main_arg1) = E)
    (H : Found h A E (V d (Proc.devRef .tc main_v1)) (V d (Proc.devRef .tc main_v4)) (V d (Proc.devRef .tc main_v24))
      (V d (Proc.devRef .tc main_v26)) (V d (Proc.devRef .tc main_v29)) (V d (Proc.devRef .tc main_v30)) (V d (Proc.devRef .tc main_v31)))
    (w : S4x2048x8.Idx → Fin 1024) (hT : ∀ j, A j = BitVec.ofNat 32 (w j).val)
    (b : Fin 4) (t : Fin 2048) (c : Fin 8) (n : Fin 8192) (hbn : n.val = 2048 * b.val + t.val) :
    if h c n = true then IsBest (score E c n (w (ix3 b t c))) ((after later.flatten U (Proc.devRef .tc main_v53) : S4x2048x8.Idx → BitVec 32) (ix3 b t c))
    else (after later.flatten U (Proc.devRef .tc main_v53) : S4x2048x8.Idx → BitVec 32) (ix3 b t c) = BitVec.ofNat 32 (w (ix3 b t c)).val := by
  obtain ⟨M1, M2⟩ := merged U h hn (hU main_v1 (by decide)) (hU main_v24 (by decide)) (hU main_v26 (by decide)) rfl H.idx H.valid b t c n hbn
  generalize after later.flatten U (Proc.devRef .tc main_v53) = o at M1 M2 ⊢
  have ht := H.toks b t c n hbn
  split
  · rename_i hh
    obtain ⟨j, q, r, hj, hqr, hx⟩ := M1 hh
    have hjl := j.isLt
    have hq := q.isLt
    have hr := r.isLt
    have hc := c.isLt
    have hl : j.val < num (h c) := (hit_iff (h c) ⟨j.val, by omega⟩).1 (by rw [hj]; exact hh)
    have hm := hn c
    let p : Fin grid0.N := ⟨q.val, by rw [Gen.N_0]; exact hq⟩
    have hp : q.val = p.val := rfl
    have hp8 : c.val = p.val / 8 := by omega
    have hi0 : ((grid0.coords p) 0).val = c.val := (coords_at p).1.trans hp8.symm
    have hi1 : ((grid0.coords p) 1).val = q.val % 8 := (coords_at p).2
    have hw : Body.word (F := Ideal) (grid0.coords p) (tbl V d) = BitVec.ofNat 32 (num (h c)) := (word_at _ _ c hi0).trans (H.count c)
    have hlive : k0_cond1 (grid0.coords p) (Body.word (F := Ideal) (grid0.coords p) (tbl V d)) = 1#1 := by
      rw [hw]
      exact live _ _ (by rw [hi1]; omega) (by omega)
    rw [hx, result_at V d _ hA p q hp hlive r]
    refine out_best _ _ _ _ _ E c n (w (ix3 b t c)) r (by rw [hi0]) ?_ ?_ ?_ ?_
    · rw [blk0_at V d p q hp r, H.tile c j q r hqr, hj, ht, hT]
    · rw [blk1_at V d p q hp r, H.tileIdx c j q r hqr, hj]
    · intro v k
      rw [blk3_at V d p c hp8 v k, hE]
    · intro v
      rw [blk2_at V d p c hp8 v, H.sqs]
  · rename_i hh
    rw [M2 (by simpa using hh), ht, hT]

end Cert.KernelIdeal.Value

end
-- ==== Proof.Equal.lean ====
module

public import proofs.«01_k».proof.Defs
public import proofs.«01_k».proof.Proof.IdealValue
public import proofs.«01_k».proof.Proof.RefValue

/-! # Both programs leave the same result -/

set_option maxRecDepth 16384

@[expose] public section

noncomputable section

namespace Cert.Equal

open Idealize.ShloMosaic Idealize.ShloMosaic.StableHlo Idealize.ShloMosaic.TcCoe Idealize.SL.Sem
open Cert.Ssa Cert.Spec Cert.KernelIdeal.Gen

/-- The side conditions of the precondition. -/
instance pre_facts : Cert.Pre_tokens_in_range.Facts where
  bcast_S_S4x2048x8 := by decide

/-- A word between nought and the number of codes is one of their numbers. -/
theorem code_of (x : BitVec 32) (h : IntOp.andi (IntOp.cmpi .sge x 0#32) (IntOp.cmpi .slt x 1024#32) = 1#1) :
    ∃ w : Fin 1024, x = BitVec.ofNat 32 w.val := by
  have h' : BitVec.ofBool (BitVec.sle 0#32 x) &&& BitVec.ofBool (BitVec.slt x 1024#32) = 1#1 := h
  have e1 : BitVec.sle 0#32 x = true := by
    cases e : BitVec.sle 0#32 x
    · rw [e] at h'; cases e' : BitVec.slt x 1024#32 <;> rw [e'] at h' <;> exact absurd h' (by decide)
    · rfl
  have e2 : BitVec.slt x 1024#32 = true := by
    cases e : BitVec.slt x 1024#32
    · rw [e, e1] at h'; exact absurd h' (by decide)
    · rfl
  rw [BitVec.sle_eq_decide, decide_eq_true_iff] at e1
  rw [BitVec.slt_eq_decide, decide_eq_true_iff] at e2
  have h0 : (0#32 : BitVec 32).toInt = 0 := by decide
  have h1 : (1024#32 : BitVec 32).toInt = 1024 := by decide
  rw [h0] at e1
  rw [h1] at e2
  have hx := x.isLt
  have ht : x.toNat < 1024 := by
    rw [BitVec.toInt_eq_toNat_cond] at e1 e2
    split at e1 <;> omega
  exact ⟨⟨x.toNat, ht⟩, BitVec.eq_of_toNat_eq (by simp [Nat.mod_eq_of_lt hx])⟩

theorem codes {A : IVec Cert.Pre_tokens_in_range.S4x2048x8 32} {E : FVec Ideal Cert.Pre_tokens_in_range.S8x1024x128 .f32}
    (h : Cert.Pre_tokens_in_range.fn (F := Ideal) A E = fun _ => 1#1) :
    ∃ w : Cert.Pre_tokens_in_range.S4x2048x8.Idx → Fin 1024, ∀ j, A j = BitVec.ofNat 32 (w j).val := by
  have hj : ∀ j, ∃ w : Fin 1024, A j = BitVec.ofNat 32 w.val := fun j => code_of _ (congrFun h j)
  exact ⟨fun j => (hj j).choose, fun j => (hj j).choose_spec⟩

/-- A position's number in its codebook's row. -/
theorem place_of (b : Fin 4) (t : Fin 2048) : ∃ n : Fin 8192, n.val = 2048 * b.val + t.val :=
  ⟨⟨2048 * b.val + t.val, by have := b.isLt; have := t.isLt; omega⟩, rfl⟩

theorem kernel_value (m : (ℓ : Loc Cert.KernelIdeal.nD Cert.KernelIdeal.τ Cert.KernelIdeal.sig) → Buf (Elt Ideal) ℓ)
    (d : Dev Cert.KernelIdeal.nD) (U : Valuation Cert.KernelIdeal.τ Cert.KernelIdeal.sig (Elt Ideal))
    (hA : (Cert.KernelIdeal.Run.rdat (Cert.KernelIdeal.Run.V₀ m) d).ArrAt 4 (Cert.KernelIdeal.Run.cfgm (Cert.KernelIdeal.Run.V₀ m)).N
      (U (Proc.devRef .tc Cert.KernelIdeal.main_v32)))
    (hU : ∀ b : Ref Cert.KernelIdeal.sig .tc, b ≠ Cert.KernelIdeal.main_v32 →
      U (Proc.devRef .tc b) = Cert.KernelIdeal.Run.V₀ m d (Proc.devRef .tc b))
    {A : IVec Cert.KernelIdeal.S4x2048x8 32} {E : FVec Ideal Cert.KernelIdeal.S8x1024x128 .f32}
    (kA : m ((d.tc : Thread _ _).loc Cert.KernelIdeal.main_arg0) = A) (kE : m ((d.tc : Thread _ _).loc Cert.KernelIdeal.main_arg1) = E)
    (w : Cert.KernelIdeal.S4x2048x8.Idx → Fin 1024) (hT : ∀ j, A j = BitVec.ofNat 32 (w j).val)
    (b : Fin 4) (t : Fin 2048) (c : Fin 8) (n : Fin 8192) (hbn : n.val = 2048 * b.val + t.val) :
    Res E c n (w (ix3 b t c))
      ((after Cert.KernelIdeal.Run.later.flatten U (Proc.devRef .tc Cert.KernelIdeal.main_v53) : Cert.KernelIdeal.S4x2048x8.Idx → BitVec 32) (ix3 b t c)) := by
  have vA : Cert.KernelIdeal.Run.V₀ m d (Proc.devRef .tc Cert.KernelIdeal.main_arg0) = A :=
    (Cert.KernelIdeal.Lines.line_before.keep _ (by decide)).trans kA
  have vE : Cert.KernelIdeal.Run.V₀ m d (Proc.devRef .tc Cert.KernelIdeal.main_arg1) = E :=
    (Cert.KernelIdeal.Lines.line_before.keep _ (by decide)).trans kE
  have H : Cert.KernelIdeal.Found.Found hit (Cert.KernelIdeal.Run.V₀ m d (Proc.devRef .tc Cert.KernelIdeal.main_arg0))
      (Cert.KernelIdeal.Run.V₀ m d (Proc.devRef .tc Cert.KernelIdeal.main_arg1)) _ _ _ _ _ _ _ :=
    Cert.KernelIdeal.Found.found (fun b => m (d, b))
  rw [vA, vE] at H
  have hn := Cert.KernelIdeal.Found.num_le
  unfold Res
  generalize (hit : Fin 8 → Fin 8192 → Bool) = h at H hn ⊢
  exact Cert.KernelIdeal.Value.value_of (Cert.KernelIdeal.Run.V₀ m) d U h hn hA hU vE H w hT b t c n hbn

theorem reference_value (m : (ℓ : Loc Cert.ReferenceIdeal.nD Cert.ReferenceIdeal.τ Cert.ReferenceIdeal.sig) → Buf (Elt Ideal) ℓ)
    (d : Dev Cert.ReferenceIdeal.nD) {A : IVec Cert.ReferenceIdeal.S4x2048x8 32} {E : FVec Ideal Cert.ReferenceIdeal.S8x1024x128 .f32}
    (kA : m ((d.tc : Thread _ _).loc Cert.ReferenceIdeal.main_arg0) = A) (kE : m ((d.tc : Thread _ _).loc Cert.ReferenceIdeal.main_arg1) = E)
    (w : Cert.ReferenceIdeal.S4x2048x8.Idx → Fin 1024) (hT : ∀ j, A j = BitVec.ofNat 32 (w j).val)
    (b : Fin 4) (t : Fin 2048) (c : Fin 8) (n : Fin 8192) (hbn : n.val = 2048 * b.val + t.val) :
    Res E c n (w (ix3 b t c))
      ((after Cert.ReferenceIdeal.Lines.n19 (launchContents m d) (Proc.devRef .tc Cert.ReferenceIdeal.main_v52) : Cert.ReferenceIdeal.S4x2048x8.Idx → BitVec 32)
        (ix3 b t c)) := by
  have vA : after Cert.ReferenceIdeal.Lines.n19 (launchContents m d) (Proc.devRef .tc Cert.ReferenceIdeal.main_arg0) = A :=
    (Cert.ReferenceIdeal.Lines.line_n19.keep _ (by decide)).trans kA
  have vE : after Cert.ReferenceIdeal.Lines.n19 (launchContents m d) (Proc.devRef .tc Cert.ReferenceIdeal.main_arg1) = E :=
    (Cert.ReferenceIdeal.Lines.line_n19.keep _ (by decide)).trans kE
  have H := Cert.ReferenceIdeal.Value.value (launchContents m d) w (fun j => (congrFun vA j).trans (hT j)) b t c n hbn
  rw [vE] at H
  exact H

/-- The kernel and the reference, from the same arguments, leave the same result. -/
theorem algebraic : Cert.algebraic_KernelIdeal_ReferenceIdeal_pre_tokens_in_range := by
  intro m g m' g' hpre hargs
  refine ⟨fun c => after Cert.ReferenceIdeal.Lines.n19 (launchContents m' c) (Proc.devRef .tc Cert.ReferenceIdeal.main_v52), ?_, ?_⟩
  · refine (θ_run _ _ _).mono (fun r h c => ?_) (Cert.KernelIdeal.Frame.run m g)
    obtain ⟨k0, k1, U, hA, hU, hr⟩ := Cert.KernelIdeal.Frame.ends m r h.1 c
    refine ⟨hr.trans ?_, k0, k1⟩
    obtain ⟨w, hT⟩ := codes (hpre c)
    refine funext fun j => ?_
    obtain ⟨b, t, k, rfl⟩ : ∃ (b : Fin 4) (t : Fin 2048) (k : Fin 8), j = ix3 b t k := ⟨_, _, _, eq_ix3 j⟩
    obtain ⟨n, hn⟩ := place_of b t
    exact (kernel_value m c U hA hU rfl rfl w hT b t k n hn).unique
      (reference_value m' c (hargs c).1 (hargs c).2 w hT b t k n hn)
  · refine (θ_run _ _ _).mono (fun r h c => ?_) (Cert.ReferenceIdeal.Lines.run m' g')
    exact ⟨h.1 c _, (h.1 c _).trans (Cert.ReferenceIdeal.Lines.line_n19.keep _ (by decide)),
      (h.1 c _).trans (Cert.ReferenceIdeal.Lines.line_n19.keep _ (by decide))⟩

end Cert.Equal

end
-- ==== Proof.lean ====
/- The proof of the claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.IdealFrame
public import proofs.«01_k».proof.Proof.KernelFrame
public import proofs.«01_k».proof.Proof.RefLines
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Equal.pre_facts,
  fun m g _ => Cert.Kernel.Frame.frame m g, fun m g _ => Cert.KernelIdeal.Frame.frame m g, fun m g _ => Cert.KernelIdeal.Frame.frame m g,
  fun m g _ => Cert.ReferenceIdeal.Lines.frame m g, fun m g _ => Cert.ReferenceIdeal.Lines.frame m g, trivial, Cert.Equal.algebraic⟩

end Cert.Proof

end
